-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_KernelDiffQ (m : (ℓ : Loc Cert.KernelDiffQ.nD Cert.KernelDiffQ.τ Cert.KernelDiffQ.sig) → Buf (Elt Bits) ℓ) : Prop :=
  True

def Pre_KernelDiffQIdeal (m : (ℓ : Loc Cert.KernelDiffQIdeal.nD Cert.KernelDiffQIdeal.τ Cert.KernelDiffQIdeal.sig) → Buf (Elt Ideal) ℓ) : Prop :=
  True

def Pre_ReferenceDiffQIdeal (m : (ℓ : Loc Cert.ReferenceDiffQIdeal.nD Cert.ReferenceDiffQIdeal.τ Cert.ReferenceDiffQIdeal.sig) → Buf (Elt Ideal) ℓ) : Prop :=
  True

def Pre_KernelDiffKv (m : (ℓ : Loc Cert.KernelDiffKv.nD Cert.KernelDiffKv.τ Cert.KernelDiffKv.sig) → Buf (Elt Bits) ℓ) : Prop :=
  True

def Pre_KernelDiffKvIdeal (m : (ℓ : Loc Cert.KernelDiffKvIdeal.nD Cert.KernelDiffKvIdeal.τ Cert.KernelDiffKvIdeal.sig) → Buf (Elt Ideal) ℓ) : Prop :=
  True

def Pre_ReferenceDiffKvIdeal (m : (ℓ : Loc Cert.ReferenceDiffKvIdeal.nD Cert.ReferenceDiffKvIdeal.τ Cert.ReferenceDiffKvIdeal.sig) → Buf (Elt Ideal) ℓ) : Prop :=
  True

def Pre_KernelDiffZ (m : (ℓ : Loc Cert.KernelDiffZ.nD Cert.KernelDiffZ.τ Cert.KernelDiffZ.sig) → Buf (Elt Bits) ℓ) : Prop :=
  True

def Pre_KernelDiffZIdeal (m : (ℓ : Loc Cert.KernelDiffZIdeal.nD Cert.KernelDiffZIdeal.τ Cert.KernelDiffZIdeal.sig) → Buf (Elt Ideal) ℓ) : Prop :=
  True

def Pre_ReferenceDiffZIdeal (m : (ℓ : Loc Cert.ReferenceDiffZIdeal.nD Cert.ReferenceDiffZIdeal.τ Cert.ReferenceDiffZIdeal.sig) → Buf (Elt Ideal) ℓ) : Prop :=
  True

def Pre_KernelSbQ (m : (ℓ : Loc Cert.KernelSbQ.nD Cert.KernelSbQ.τ Cert.KernelSbQ.sig) → Buf (Elt Bits) ℓ) : Prop :=
  True

def Pre_KernelSbQIdeal (m : (ℓ : Loc Cert.KernelSbQIdeal.nD Cert.KernelSbQIdeal.τ Cert.KernelSbQIdeal.sig) → Buf (Elt Ideal) ℓ) : Prop :=
  True

def Pre_ReferenceSbQIdeal (m : (ℓ : Loc Cert.ReferenceSbQIdeal.nD Cert.ReferenceSbQIdeal.τ Cert.ReferenceSbQIdeal.sig) → Buf (Elt Ideal) ℓ) : Prop :=
  True

def Pre_KernelSbKv (m : (ℓ : Loc Cert.KernelSbKv.nD Cert.KernelSbKv.τ Cert.KernelSbKv.sig) → Buf (Elt Bits) ℓ) : Prop :=
  True

def Pre_KernelSbKvIdeal (m : (ℓ : Loc Cert.KernelSbKvIdeal.nD Cert.KernelSbKvIdeal.τ Cert.KernelSbKvIdeal.sig) → Buf (Elt Ideal) ℓ) : Prop :=
  True

def Pre_ReferenceSbKvIdeal (m : (ℓ : Loc Cert.ReferenceSbKvIdeal.nD Cert.ReferenceSbKvIdeal.τ Cert.ReferenceSbKvIdeal.sig) → Buf (Elt Ideal) ℓ) : Prop :=
  True

def Pre_KernelSbZ (m : (ℓ : Loc Cert.KernelSbZ.nD Cert.KernelSbZ.τ Cert.KernelSbZ.sig) → Buf (Elt Bits) ℓ) : Prop :=
  True

def Pre_KernelSbZIdeal (m : (ℓ : Loc Cert.KernelSbZIdeal.nD Cert.KernelSbZIdeal.τ Cert.KernelSbZIdeal.sig) → Buf (Elt Ideal) ℓ) : Prop :=
  True

def Pre_ReferenceSbZIdeal (m : (ℓ : Loc Cert.ReferenceSbZIdeal.nD Cert.ReferenceSbZIdeal.τ Cert.ReferenceSbZIdeal.sig) → Buf (Elt Ideal) ℓ) : Prop :=
  True

def Pre_KernelNsaQ (m : (ℓ : Loc Cert.KernelNsaQ.nD Cert.KernelNsaQ.τ Cert.KernelNsaQ.sig) → Buf (Elt Bits) ℓ) : Prop :=
  True

def Pre_KernelNsaQIdeal (m : (ℓ : Loc Cert.KernelNsaQIdeal.nD Cert.KernelNsaQIdeal.τ Cert.KernelNsaQIdeal.sig) → Buf (Elt Ideal) ℓ) : Prop :=
  True

def Pre_ReferenceNsaQIdeal (m : (ℓ : Loc Cert.ReferenceNsaQIdeal.nD Cert.ReferenceNsaQIdeal.τ Cert.ReferenceNsaQIdeal.sig) → Buf (Elt Ideal) ℓ) : Prop :=
  True

def Pre_KernelNsaKv (m : (ℓ : Loc Cert.KernelNsaKv.nD Cert.KernelNsaKv.τ Cert.KernelNsaKv.sig) → Buf (Elt Bits) ℓ) : Prop :=
  True

def Pre_KernelNsaKvIdeal (m : (ℓ : Loc Cert.KernelNsaKvIdeal.nD Cert.KernelNsaKvIdeal.τ Cert.KernelNsaKvIdeal.sig) → Buf (Elt Ideal) ℓ) : Prop :=
  True

def Pre_ReferenceNsaKvIdeal (m : (ℓ : Loc Cert.ReferenceNsaKvIdeal.nD Cert.ReferenceNsaKvIdeal.τ Cert.ReferenceNsaKvIdeal.sig) → Buf (Elt Ideal) ℓ) : Prop :=
  True

def Pre_KernelNsaWin (m : (ℓ : Loc Cert.KernelNsaWin.nD Cert.KernelNsaWin.τ Cert.KernelNsaWin.sig) → Buf (Elt Bits) ℓ) : Prop :=
  True

def Pre_KernelNsaWinIdeal (m : (ℓ : Loc Cert.KernelNsaWinIdeal.nD Cert.KernelNsaWinIdeal.τ Cert.KernelNsaWinIdeal.sig) → Buf (Elt Ideal) ℓ) : Prop :=
  True

def Pre_ReferenceNsaWinIdeal (m : (ℓ : Loc Cert.ReferenceNsaWinIdeal.nD Cert.ReferenceNsaWinIdeal.τ Cert.ReferenceNsaWinIdeal.sig) → Buf (Elt Ideal) ℓ) : Prop :=
  True

def Pre_KernelNsaZ (m : (ℓ : Loc Cert.KernelNsaZ.nD Cert.KernelNsaZ.τ Cert.KernelNsaZ.sig) → Buf (Elt Bits) ℓ) : Prop :=
  True

def Pre_KernelNsaZIdeal (m : (ℓ : Loc Cert.KernelNsaZIdeal.nD Cert.KernelNsaZIdeal.τ Cert.KernelNsaZIdeal.sig) → Buf (Elt Ideal) ℓ) : Prop :=
  True

def Pre_ReferenceNsaZIdeal (m : (ℓ : Loc Cert.ReferenceNsaZIdeal.nD Cert.ReferenceNsaZIdeal.τ Cert.ReferenceNsaZIdeal.sig) → Buf (Elt Ideal) ℓ) : Prop :=
  True

def Pre_KernelOutC (m : (ℓ : Loc Cert.KernelOutC.nD Cert.KernelOutC.τ Cert.KernelOutC.sig) → Buf (Elt Bits) ℓ) : Prop :=
  True

def Pre_KernelOutCIdeal (m : (ℓ : Loc Cert.KernelOutCIdeal.nD Cert.KernelOutCIdeal.τ Cert.KernelOutCIdeal.sig) → Buf (Elt Ideal) ℓ) : Prop :=
  True

def Pre_ReferenceOutCIdeal (m : (ℓ : Loc Cert.ReferenceOutCIdeal.nD Cert.ReferenceOutCIdeal.τ Cert.ReferenceOutCIdeal.sig) → Buf (Elt Ideal) ℓ) : Prop :=
  True

def Pre_KernelOutAB (m : (ℓ : Loc Cert.KernelOutAB.nD Cert.KernelOutAB.τ Cert.KernelOutAB.sig) → Buf (Elt Bits) ℓ) : Prop :=
  True

def Pre_KernelOutABIdeal (m : (ℓ : Loc Cert.KernelOutABIdeal.nD Cert.KernelOutABIdeal.τ Cert.KernelOutABIdeal.sig) → Buf (Elt Ideal) ℓ) : Prop :=
  True

def Pre_ReferenceOutABIdeal (m : (ℓ : Loc Cert.ReferenceOutABIdeal.nD Cert.ReferenceOutABIdeal.τ Cert.ReferenceOutABIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelDiffKvS (m : (ℓ : Loc Cert.KernelDiffKvS.nD Cert.KernelDiffKvS.τ Cert.KernelDiffKvS.sig) → Buf (Elt Bits) ℓ) : Prop :=
  True

def Pre_KernelDiffKvSIdeal (m : (ℓ : Loc Cert.KernelDiffKvSIdeal.nD Cert.KernelDiffKvSIdeal.τ Cert.KernelDiffKvSIdeal.sig) → Buf (Elt Ideal) ℓ) : Prop :=
  True

def Pre_ReferenceDiffKvSIdeal (m : (ℓ : Loc Cert.ReferenceDiffKvSIdeal.nD Cert.ReferenceDiffKvSIdeal.τ Cert.ReferenceDiffKvSIdeal.sig) → Buf (Elt Ideal) ℓ) : Prop :=
  True

def Pre_KernelSbKvS (m : (ℓ : Loc Cert.KernelSbKvS.nD Cert.KernelSbKvS.τ Cert.KernelSbKvS.sig) → Buf (Elt Bits) ℓ) : Prop :=
  True

def Pre_KernelSbKvSIdeal (m : (ℓ : Loc Cert.KernelSbKvSIdeal.nD Cert.KernelSbKvSIdeal.τ Cert.KernelSbKvSIdeal.sig) → Buf (Elt Ideal) ℓ) : Prop :=
  True

def Pre_ReferenceSbKvSIdeal (m : (ℓ : Loc Cert.ReferenceSbKvSIdeal.nD Cert.ReferenceSbKvSIdeal.τ Cert.ReferenceSbKvSIdeal.sig) → Buf (Elt Ideal) ℓ) : Prop :=
  True

def Pre_KernelNsaKvS (m : (ℓ : Loc Cert.KernelNsaKvS.nD Cert.KernelNsaKvS.τ Cert.KernelNsaKvS.sig) → Buf (Elt Bits) ℓ) : Prop :=
  True

def Pre_KernelNsaKvSIdeal (m : (ℓ : Loc Cert.KernelNsaKvSIdeal.nD Cert.KernelNsaKvSIdeal.τ Cert.KernelNsaKvSIdeal.sig) → Buf (Elt Ideal) ℓ) : Prop :=
  True

def Pre_ReferenceNsaKvSIdeal (m : (ℓ : Loc Cert.ReferenceNsaKvSIdeal.nD Cert.ReferenceNsaKvSIdeal.τ Cert.ReferenceNsaKvSIdeal.sig) → Buf (Elt Ideal) ℓ) : Prop :=
  True

def Pre_KernelNsaWinS (m : (ℓ : Loc Cert.KernelNsaWinS.nD Cert.KernelNsaWinS.τ Cert.KernelNsaWinS.sig) → Buf (Elt Bits) ℓ) : Prop :=
  True

def Pre_KernelNsaWinSIdeal (m : (ℓ : Loc Cert.KernelNsaWinSIdeal.nD Cert.KernelNsaWinSIdeal.τ Cert.KernelNsaWinSIdeal.sig) → Buf (Elt Ideal) ℓ) : Prop :=
  True

def Pre_ReferenceNsaWinSIdeal (m : (ℓ : Loc Cert.ReferenceNsaWinSIdeal.nD Cert.ReferenceNsaWinSIdeal.τ Cert.ReferenceNsaWinSIdeal.sig) → Buf (Elt Ideal) ℓ) : Prop :=
  True

def Pre_KernelNormS (m : (ℓ : Loc Cert.KernelNormS.nD Cert.KernelNormS.τ Cert.KernelNormS.sig) → Buf (Elt Bits) ℓ) : Prop :=
  True

def Pre_KernelNormSIdeal (m : (ℓ : Loc Cert.KernelNormSIdeal.nD Cert.KernelNormSIdeal.τ Cert.KernelNormSIdeal.sig) → Buf (Elt Ideal) ℓ) : Prop :=
  True

def Pre_ReferenceNormSIdeal (m : (ℓ : Loc Cert.ReferenceNormSIdeal.nD Cert.ReferenceNormSIdeal.τ Cert.ReferenceNormSIdeal.sig) → Buf (Elt Ideal) ℓ) : Prop :=
  True

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_sb_finite [hPre_sb_finite : Cert.Pre_sb_finite.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_sb_finite.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2))) = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_sb_finite [hPre_sb_finite : Cert.Pre_sb_finite.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_sb_finite.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2))) = (fun _ => 1#1)

def Pre_KernelLayerNorm (m : (ℓ : Loc Cert.KernelLayerNorm.nD Cert.KernelLayerNorm.τ Cert.KernelLayerNorm.sig) → Buf (Elt Bits) ℓ) : Prop :=
  True

def Pre_KernelLayerNormIdeal (m : (ℓ : Loc Cert.KernelLayerNormIdeal.nD Cert.KernelLayerNormIdeal.τ Cert.KernelLayerNormIdeal.sig) → Buf (Elt Ideal) ℓ) : Prop :=
  True

def Pre_ReferenceLayerNormIdeal (m : (ℓ : Loc Cert.ReferenceLayerNormIdeal.nD Cert.ReferenceLayerNormIdeal.τ Cert.ReferenceLayerNormIdeal.sig) → Buf (Elt Ideal) ℓ) : Prop :=
  True

def Pre_KernelLayerNormS (m : (ℓ : Loc Cert.KernelLayerNormS.nD Cert.KernelLayerNormS.τ Cert.KernelLayerNormS.sig) → Buf (Elt Bits) ℓ) : Prop :=
  True

def Pre_KernelLayerNormSIdeal (m : (ℓ : Loc Cert.KernelLayerNormSIdeal.nD Cert.KernelLayerNormSIdeal.τ Cert.KernelLayerNormSIdeal.sig) → Buf (Elt Ideal) ℓ) : Prop :=
  True

def Pre_ReferenceLayerNormSIdeal (m : (ℓ : Loc Cert.ReferenceLayerNormSIdeal.nD Cert.ReferenceLayerNormSIdeal.τ Cert.ReferenceLayerNormSIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelDiffQ [hKernelDiffQ : Cert.KernelDiffQ.Facts] : Prop :=
  ∀ (m : (ℓ : Loc Cert.KernelDiffQ.nD Cert.KernelDiffQ.τ Cert.KernelDiffQ.sig) → Buf (Elt Bits) ℓ) (g : Dev Cert.KernelDiffQ.nD → PrngReg), Pre_KernelDiffQ m →
    θ_run (Cert.KernelDiffQ.defs (F := Bits)) (onTc (τ := Cert.KernelDiffQ.τ) (Cert.KernelDiffQ.main (F := Bits))) ⟨m, fun _ => 0, g⟩ (fun r => (∀ c : Dev Cert.KernelDiffQ.nD,
      r.2.mem ((c.tc : Thread Cert.KernelDiffQ.nD Cert.KernelDiffQ.τ).loc Cert.KernelDiffQ.main_arg0) = m ((c.tc : Thread Cert.KernelDiffQ.nD Cert.KernelDiffQ.τ).loc Cert.KernelDiffQ.main_arg0)
      ∧ r.2.mem ((c.tc : Thread Cert.KernelDiffQ.nD Cert.KernelDiffQ.τ).loc Cert.KernelDiffQ.main_arg1) = m ((c.tc : Thread Cert.KernelDiffQ.nD Cert.KernelDiffQ.τ).loc Cert.KernelDiffQ.main_arg1))
      ∧ r.2.sem = fun _ => 0)

def quiescent_KernelDiffQIdeal [hKernelDiffQIdeal : Cert.KernelDiffQIdeal.Facts] : Prop :=
  ∀ (m : (ℓ : Loc Cert.KernelDiffQIdeal.nD Cert.KernelDiffQIdeal.τ Cert.KernelDiffQIdeal.sig) → Buf (Elt Ideal) ℓ) (g : Dev Cert.KernelDiffQIdeal.nD → PrngReg), Pre_KernelDiffQIdeal m →
    θ_run (Cert.KernelDiffQIdeal.defs (F := Ideal)) (onTc (τ := Cert.KernelDiffQIdeal.τ) (Cert.KernelDiffQIdeal.main (F := Ideal))) ⟨m, fun _ => 0, g⟩ (fun r => (∀ c : Dev Cert.KernelDiffQIdeal.nD,
      r.2.mem ((c.tc : Thread Cert.KernelDiffQIdeal.nD Cert.KernelDiffQIdeal.τ).loc Cert.KernelDiffQIdeal.main_arg0) = m ((c.tc : Thread Cert.KernelDiffQIdeal.nD Cert.KernelDiffQIdeal.τ).loc Cert.KernelDiffQIdeal.main_arg0)
      ∧ r.2.mem ((c.tc : Thread Cert.KernelDiffQIdeal.nD Cert.KernelDiffQIdeal.τ).loc Cert.KernelDiffQIdeal.main_arg1) = m ((c.tc : Thread Cert.KernelDiffQIdeal.nD Cert.KernelDiffQIdeal.τ).loc Cert.KernelDiffQIdeal.main_arg1))
      ∧ r.2.sem = fun _ => 0)

def quiescent_ReferenceDiffQIdeal [hReferenceDiffQIdeal : Cert.ReferenceDiffQIdeal.Facts] : Prop :=
  ∀ (m : (ℓ : Loc Cert.ReferenceDiffQIdeal.nD Cert.ReferenceDiffQIdeal.τ Cert.ReferenceDiffQIdeal.sig) → Buf (Elt Ideal) ℓ) (g : Dev Cert.ReferenceDiffQIdeal.nD → PrngReg), Pre_ReferenceDiffQIdeal m →
    θ_run (Cert.ReferenceDiffQIdeal.defs (F := Ideal)) (onTc (τ := Cert.ReferenceDiffQIdeal.τ) (Cert.ReferenceDiffQIdeal.main (F := Ideal))) ⟨m, fun _ => 0, g⟩ (fun r => (∀ c : Dev Cert.ReferenceDiffQIdeal.nD,
      r.2.mem ((c.tc : Thread Cert.ReferenceDiffQIdeal.nD Cert.ReferenceDiffQIdeal.τ).loc Cert.ReferenceDiffQIdeal.main_arg0) = m ((c.tc : Thread Cert.ReferenceDiffQIdeal.nD Cert.ReferenceDiffQIdeal.τ).loc Cert.ReferenceDiffQIdeal.main_arg0)
      ∧ r.2.mem ((c.tc : Thread Cert.ReferenceDiffQIdeal.nD Cert.ReferenceDiffQIdeal.τ).loc Cert.ReferenceDiffQIdeal.main_arg1) = m ((c.tc : Thread Cert.ReferenceDiffQIdeal.nD Cert.ReferenceDiffQIdeal.τ).loc Cert.ReferenceDiffQIdeal.main_arg1))
      ∧ r.2.sem = fun _ => 0)

def quiescent_KernelDiffKv [hKernelDiffKv : Cert.KernelDiffKv.Facts] : Prop :=
  ∀ (m : (ℓ : Loc Cert.KernelDiffKv.nD Cert.KernelDiffKv.τ Cert.KernelDiffKv.sig) → Buf (Elt Bits) ℓ) (g : Dev Cert.KernelDiffKv.nD → PrngReg), Pre_KernelDiffKv m →
    θ_run (Cert.KernelDiffKv.defs (F := Bits)) (onTc (τ := Cert.KernelDiffKv.τ) (Cert.KernelDiffKv.main (F := Bits))) ⟨m, fun _ => 0, g⟩ (fun r => (∀ c : Dev Cert.KernelDiffKv.nD,
      r.2.mem ((c.tc : Thread Cert.KernelDiffKv.nD Cert.KernelDiffKv.τ).loc Cert.KernelDiffKv.main_arg0) = m ((c.tc : Thread Cert.KernelDiffKv.nD Cert.KernelDiffKv.τ).loc Cert.KernelDiffKv.main_arg0)
      ∧ r.2.mem ((c.tc : Thread Cert.KernelDiffKv.nD Cert.KernelDiffKv.τ).loc Cert.KernelDiffKv.main_arg1) = m ((c.tc : Thread Cert.KernelDiffKv.nD Cert.KernelDiffKv.τ).loc Cert.KernelDiffKv.main_arg1))
      ∧ r.2.sem = fun _ => 0)

def quiescent_KernelDiffKvIdeal [hKernelDiffKvIdeal : Cert.KernelDiffKvIdeal.Facts] : Prop :=
  ∀ (m : (ℓ : Loc Cert.KernelDiffKvIdeal.nD Cert.KernelDiffKvIdeal.τ Cert.KernelDiffKvIdeal.sig) → Buf (Elt Ideal) ℓ) (g : Dev Cert.KernelDiffKvIdeal.nD → PrngReg), Pre_KernelDiffKvIdeal m →
    θ_run (Cert.KernelDiffKvIdeal.defs (F := Ideal)) (onTc (τ := Cert.KernelDiffKvIdeal.τ) (Cert.KernelDiffKvIdeal.main (F := Ideal))) ⟨m, fun _ => 0, g⟩ (fun r => (∀ c : Dev Cert.KernelDiffKvIdeal.nD,
      r.2.mem ((c.tc : Thread Cert.KernelDiffKvIdeal.nD Cert.KernelDiffKvIdeal.τ).loc Cert.KernelDiffKvIdeal.main_arg0) = m ((c.tc : Thread Cert.KernelDiffKvIdeal.nD Cert.KernelDiffKvIdeal.τ).loc Cert.KernelDiffKvIdeal.main_arg0)
      ∧ r.2.mem ((c.tc : Thread Cert.KernelDiffKvIdeal.nD Cert.KernelDiffKvIdeal.τ).loc Cert.KernelDiffKvIdeal.main_arg1) = m ((c.tc : Thread Cert.KernelDiffKvIdeal.nD Cert.KernelDiffKvIdeal.τ).loc Cert.KernelDiffKvIdeal.main_arg1))
      ∧ r.2.sem = fun _ => 0)

def quiescent_ReferenceDiffKvIdeal [hReferenceDiffKvIdeal : Cert.ReferenceDiffKvIdeal.Facts] : Prop :=
  ∀ (m : (ℓ : Loc Cert.ReferenceDiffKvIdeal.nD Cert.ReferenceDiffKvIdeal.τ Cert.ReferenceDiffKvIdeal.sig) → Buf (Elt Ideal) ℓ) (g : Dev Cert.ReferenceDiffKvIdeal.nD → PrngReg), Pre_ReferenceDiffKvIdeal m →
    θ_run (Cert.ReferenceDiffKvIdeal.defs (F := Ideal)) (onTc (τ := Cert.ReferenceDiffKvIdeal.τ) (Cert.ReferenceDiffKvIdeal.main (F := Ideal))) ⟨m, fun _ => 0, g⟩ (fun r => (∀ c : Dev Cert.ReferenceDiffKvIdeal.nD,
      r.2.mem ((c.tc : Thread Cert.ReferenceDiffKvIdeal.nD Cert.ReferenceDiffKvIdeal.τ).loc Cert.ReferenceDiffKvIdeal.main_arg0) = m ((c.tc : Thread Cert.ReferenceDiffKvIdeal.nD Cert.ReferenceDiffKvIdeal.τ).loc Cert.ReferenceDiffKvIdeal.main_arg0)
      ∧ r.2.mem ((c.tc : Thread Cert.ReferenceDiffKvIdeal.nD Cert.ReferenceDiffKvIdeal.τ).loc Cert.ReferenceDiffKvIdeal.main_arg1) = m ((c.tc : Thread Cert.ReferenceDiffKvIdeal.nD Cert.ReferenceDiffKvIdeal.τ).loc Cert.ReferenceDiffKvIdeal.main_arg1))
      ∧ r.2.sem = fun _ => 0)

def quiescent_KernelDiffZ [hKernelDiffZ : Cert.KernelDiffZ.Facts] : Prop :=
  ∀ (m : (ℓ : Loc Cert.KernelDiffZ.nD Cert.KernelDiffZ.τ Cert.KernelDiffZ.sig) → Buf (Elt Bits) ℓ) (g : Dev Cert.KernelDiffZ.nD → PrngReg), Pre_KernelDiffZ m →
    θ_run (Cert.KernelDiffZ.defs (F := Bits)) (onTc (τ := Cert.KernelDiffZ.τ) (Cert.KernelDiffZ.main (F := Bits))) ⟨m, fun _ => 0, g⟩ (fun r => (∀ c : Dev Cert.KernelDiffZ.nD,
      r.2.mem ((c.tc : Thread Cert.KernelDiffZ.nD Cert.KernelDiffZ.τ).loc Cert.KernelDiffZ.main_arg0) = m ((c.tc : Thread Cert.KernelDiffZ.nD Cert.KernelDiffZ.τ).loc Cert.KernelDiffZ.main_arg0)
      ∧ r.2.mem ((c.tc : Thread Cert.KernelDiffZ.nD Cert.KernelDiffZ.τ).loc Cert.KernelDiffZ.main_arg1) = m ((c.tc : Thread Cert.KernelDiffZ.nD Cert.KernelDiffZ.τ).loc Cert.KernelDiffZ.main_arg1))
      ∧ r.2.sem = fun _ => 0)

def quiescent_KernelDiffZIdeal [hKernelDiffZIdeal : Cert.KernelDiffZIdeal.Facts] : Prop :=
  ∀ (m : (ℓ : Loc Cert.KernelDiffZIdeal.nD Cert.KernelDiffZIdeal.τ Cert.KernelDiffZIdeal.sig) → Buf (Elt Ideal) ℓ) (g : Dev Cert.KernelDiffZIdeal.nD → PrngReg), Pre_KernelDiffZIdeal m →
    θ_run (Cert.KernelDiffZIdeal.defs (F := Ideal)) (onTc (τ := Cert.KernelDiffZIdeal.τ) (Cert.KernelDiffZIdeal.main (F := Ideal))) ⟨m, fun _ => 0, g⟩ (fun r => (∀ c : Dev Cert.KernelDiffZIdeal.nD,
      r.2.mem ((c.tc : Thread Cert.KernelDiffZIdeal.nD Cert.KernelDiffZIdeal.τ).loc Cert.KernelDiffZIdeal.main_arg0) = m ((c.tc : Thread Cert.KernelDiffZIdeal.nD Cert.KernelDiffZIdeal.τ).loc Cert.KernelDiffZIdeal.main_arg0)
      ∧ r.2.mem ((c.tc : Thread Cert.KernelDiffZIdeal.nD Cert.KernelDiffZIdeal.τ).loc Cert.KernelDiffZIdeal.main_arg1) = m ((c.tc : Thread Cert.KernelDiffZIdeal.nD Cert.KernelDiffZIdeal.τ).loc Cert.KernelDiffZIdeal.main_arg1))
      ∧ r.2.sem = fun _ => 0)

def quiescent_ReferenceDiffZIdeal [hReferenceDiffZIdeal : Cert.ReferenceDiffZIdeal.Facts] : Prop :=
  ∀ (m : (ℓ : Loc Cert.ReferenceDiffZIdeal.nD Cert.ReferenceDiffZIdeal.τ Cert.ReferenceDiffZIdeal.sig) → Buf (Elt Ideal) ℓ) (g : Dev Cert.ReferenceDiffZIdeal.nD → PrngReg), Pre_ReferenceDiffZIdeal m →
    θ_run (Cert.ReferenceDiffZIdeal.defs (F := Ideal)) (onTc (τ := Cert.ReferenceDiffZIdeal.τ) (Cert.ReferenceDiffZIdeal.main (F := Ideal))) ⟨m, fun _ => 0, g⟩ (fun r => (∀ c : Dev Cert.ReferenceDiffZIdeal.nD,
      r.2.mem ((c.tc : Thread Cert.ReferenceDiffZIdeal.nD Cert.ReferenceDiffZIdeal.τ).loc Cert.ReferenceDiffZIdeal.main_arg0) = m ((c.tc : Thread Cert.ReferenceDiffZIdeal.nD Cert.ReferenceDiffZIdeal.τ).loc Cert.ReferenceDiffZIdeal.main_arg0)
      ∧ r.2.mem ((c.tc : Thread Cert.ReferenceDiffZIdeal.nD Cert.ReferenceDiffZIdeal.τ).loc Cert.ReferenceDiffZIdeal.main_arg1) = m ((c.tc : Thread Cert.ReferenceDiffZIdeal.nD Cert.ReferenceDiffZIdeal.τ).loc Cert.ReferenceDiffZIdeal.main_arg1))
      ∧ r.2.sem = fun _ => 0)

def quiescent_KernelSbQ [hKernelSbQ : Cert.KernelSbQ.Facts] : Prop :=
  ∀ (m : (ℓ : Loc Cert.KernelSbQ.nD Cert.KernelSbQ.τ Cert.KernelSbQ.sig) → Buf (Elt Bits) ℓ) (g : Dev Cert.KernelSbQ.nD → PrngReg), Pre_KernelSbQ m →
    θ_run (Cert.KernelSbQ.defs (F := Bits)) (onTc (τ := Cert.KernelSbQ.τ) (Cert.KernelSbQ.main (F := Bits))) ⟨m, fun _ => 0, g⟩ (fun r => (∀ c : Dev Cert.KernelSbQ.nD,
      r.2.mem ((c.tc : Thread Cert.KernelSbQ.nD Cert.KernelSbQ.τ).loc Cert.KernelSbQ.main_arg0) = m ((c.tc : Thread Cert.KernelSbQ.nD Cert.KernelSbQ.τ).loc Cert.KernelSbQ.main_arg0)
      ∧ r.2.mem ((c.tc : Thread Cert.KernelSbQ.nD Cert.KernelSbQ.τ).loc Cert.KernelSbQ.main_arg1) = m ((c.tc : Thread Cert.KernelSbQ.nD Cert.KernelSbQ.τ).loc Cert.KernelSbQ.main_arg1))
      ∧ r.2.sem = fun _ => 0)

def quiescent_KernelSbQIdeal [hKernelSbQIdeal : Cert.KernelSbQIdeal.Facts] : Prop :=
  ∀ (m : (ℓ : Loc Cert.KernelSbQIdeal.nD Cert.KernelSbQIdeal.τ Cert.KernelSbQIdeal.sig) → Buf (Elt Ideal) ℓ) (g : Dev Cert.KernelSbQIdeal.nD → PrngReg), Pre_KernelSbQIdeal m →
    θ_run (Cert.KernelSbQIdeal.defs (F := Ideal)) (onTc (τ := Cert.KernelSbQIdeal.τ) (Cert.KernelSbQIdeal.main (F := Ideal))) ⟨m, fun _ => 0, g⟩ (fun r => (∀ c : Dev Cert.KernelSbQIdeal.nD,
      r.2.mem ((c.tc : Thread Cert.KernelSbQIdeal.nD Cert.KernelSbQIdeal.τ).loc Cert.KernelSbQIdeal.main_arg0) = m ((c.tc : Thread Cert.KernelSbQIdeal.nD Cert.KernelSbQIdeal.τ).loc Cert.KernelSbQIdeal.main_arg0)
      ∧ r.2.mem ((c.tc : Thread Cert.KernelSbQIdeal.nD Cert.KernelSbQIdeal.τ).loc Cert.KernelSbQIdeal.main_arg1) = m ((c.tc : Thread Cert.KernelSbQIdeal.nD Cert.KernelSbQIdeal.τ).loc Cert.KernelSbQIdeal.main_arg1))
      ∧ r.2.sem = fun _ => 0)

def quiescent_ReferenceSbQIdeal [hReferenceSbQIdeal : Cert.ReferenceSbQIdeal.Facts] : Prop :=
  ∀ (m : (ℓ : Loc Cert.ReferenceSbQIdeal.nD Cert.ReferenceSbQIdeal.τ Cert.ReferenceSbQIdeal.sig) → Buf (Elt Ideal) ℓ) (g : Dev Cert.ReferenceSbQIdeal.nD → PrngReg), Pre_ReferenceSbQIdeal m →
    θ_run (Cert.ReferenceSbQIdeal.defs (F := Ideal)) (onTc (τ := Cert.ReferenceSbQIdeal.τ) (Cert.ReferenceSbQIdeal.main (F := Ideal))) ⟨m, fun _ => 0, g⟩ (fun r => (∀ c : Dev Cert.ReferenceSbQIdeal.nD,
      r.2.mem ((c.tc : Thread Cert.ReferenceSbQIdeal.nD Cert.ReferenceSbQIdeal.τ).loc Cert.ReferenceSbQIdeal.main_arg0) = m ((c.tc : Thread Cert.ReferenceSbQIdeal.nD Cert.ReferenceSbQIdeal.τ).loc Cert.ReferenceSbQIdeal.main_arg0)
      ∧ r.2.mem ((c.tc : Thread Cert.ReferenceSbQIdeal.nD Cert.ReferenceSbQIdeal.τ).loc Cert.ReferenceSbQIdeal.main_arg1) = m ((c.tc : Thread Cert.ReferenceSbQIdeal.nD Cert.ReferenceSbQIdeal.τ).loc Cert.ReferenceSbQIdeal.main_arg1))
      ∧ r.2.sem = fun _ => 0)

def quiescent_KernelSbKv [hKernelSbKv : Cert.KernelSbKv.Facts] : Prop :=
  ∀ (m : (ℓ : Loc Cert.KernelSbKv.nD Cert.KernelSbKv.τ Cert.KernelSbKv.sig) → Buf (Elt Bits) ℓ) (g : Dev Cert.KernelSbKv.nD → PrngReg), Pre_KernelSbKv m →
    θ_run (Cert.KernelSbKv.defs (F := Bits)) (onTc (τ := Cert.KernelSbKv.τ) (Cert.KernelSbKv.main (F := Bits))) ⟨m, fun _ => 0, g⟩ (fun r => (∀ c : Dev Cert.KernelSbKv.nD,
      r.2.mem ((c.tc : Thread Cert.KernelSbKv.nD Cert.KernelSbKv.τ).loc Cert.KernelSbKv.main_arg0) = m ((c.tc : Thread Cert.KernelSbKv.nD Cert.KernelSbKv.τ).loc Cert.KernelSbKv.main_arg0)
      ∧ r.2.mem ((c.tc : Thread Cert.KernelSbKv.nD Cert.KernelSbKv.τ).loc Cert.KernelSbKv.main_arg1) = m ((c.tc : Thread Cert.KernelSbKv.nD Cert.KernelSbKv.τ).loc Cert.KernelSbKv.main_arg1))
      ∧ r.2.sem = fun _ => 0)

def quiescent_KernelSbKvIdeal [hKernelSbKvIdeal : Cert.KernelSbKvIdeal.Facts] : Prop :=
  ∀ (m : (ℓ : Loc Cert.KernelSbKvIdeal.nD Cert.KernelSbKvIdeal.τ Cert.KernelSbKvIdeal.sig) → Buf (Elt Ideal) ℓ) (g : Dev Cert.KernelSbKvIdeal.nD → PrngReg), Pre_KernelSbKvIdeal m →
    θ_run (Cert.KernelSbKvIdeal.defs (F := Ideal)) (onTc (τ := Cert.KernelSbKvIdeal.τ) (Cert.KernelSbKvIdeal.main (F := Ideal))) ⟨m, fun _ => 0, g⟩ (fun r => (∀ c : Dev Cert.KernelSbKvIdeal.nD,
      r.2.mem ((c.tc : Thread Cert.KernelSbKvIdeal.nD Cert.KernelSbKvIdeal.τ).loc Cert.KernelSbKvIdeal.main_arg0) = m ((c.tc : Thread Cert.KernelSbKvIdeal.nD Cert.KernelSbKvIdeal.τ).loc Cert.KernelSbKvIdeal.main_arg0)
      ∧ r.2.mem ((c.tc : Thread Cert.KernelSbKvIdeal.nD Cert.KernelSbKvIdeal.τ).loc Cert.KernelSbKvIdeal.main_arg1) = m ((c.tc : Thread Cert.KernelSbKvIdeal.nD Cert.KernelSbKvIdeal.τ).loc Cert.KernelSbKvIdeal.main_arg1))
      ∧ r.2.sem = fun _ => 0)

def quiescent_ReferenceSbKvIdeal [hReferenceSbKvIdeal : Cert.ReferenceSbKvIdeal.Facts] : Prop :=
  ∀ (m : (ℓ : Loc Cert.ReferenceSbKvIdeal.nD Cert.ReferenceSbKvIdeal.τ Cert.ReferenceSbKvIdeal.sig) → Buf (Elt Ideal) ℓ) (g : Dev Cert.ReferenceSbKvIdeal.nD → PrngReg), Pre_ReferenceSbKvIdeal m →
    θ_run (Cert.ReferenceSbKvIdeal.defs (F := Ideal)) (onTc (τ := Cert.ReferenceSbKvIdeal.τ) (Cert.ReferenceSbKvIdeal.main (F := Ideal))) ⟨m, fun _ => 0, g⟩ (fun r => (∀ c : Dev Cert.ReferenceSbKvIdeal.nD,
      r.2.mem ((c.tc : Thread Cert.ReferenceSbKvIdeal.nD Cert.ReferenceSbKvIdeal.τ).loc Cert.ReferenceSbKvIdeal.main_arg0) = m ((c.tc : Thread Cert.ReferenceSbKvIdeal.nD Cert.ReferenceSbKvIdeal.τ).loc Cert.ReferenceSbKvIdeal.main_arg0)
      ∧ r.2.mem ((c.tc : Thread Cert.ReferenceSbKvIdeal.nD Cert.ReferenceSbKvIdeal.τ).loc Cert.ReferenceSbKvIdeal.main_arg1) = m ((c.tc : Thread Cert.ReferenceSbKvIdeal.nD Cert.ReferenceSbKvIdeal.τ).loc Cert.ReferenceSbKvIdeal.main_arg1))
      ∧ r.2.sem = fun _ => 0)

def quiescent_KernelSbZ [hKernelSbZ : Cert.KernelSbZ.Facts] : Prop :=
  ∀ (m : (ℓ : Loc Cert.KernelSbZ.nD Cert.KernelSbZ.τ Cert.KernelSbZ.sig) → Buf (Elt Bits) ℓ) (g : Dev Cert.KernelSbZ.nD → PrngReg), Pre_KernelSbZ m →
    θ_run (Cert.KernelSbZ.defs (F := Bits)) (onTc (τ := Cert.KernelSbZ.τ) (Cert.KernelSbZ.main (F := Bits))) ⟨m, fun _ => 0, g⟩ (fun r => (∀ c : Dev Cert.KernelSbZ.nD,
      r.2.mem ((c.tc : Thread Cert.KernelSbZ.nD Cert.KernelSbZ.τ).loc Cert.KernelSbZ.main_arg0) = m ((c.tc : Thread Cert.KernelSbZ.nD Cert.KernelSbZ.τ).loc Cert.KernelSbZ.main_arg0)
      ∧ r.2.mem ((c.tc : Thread Cert.KernelSbZ.nD Cert.KernelSbZ.τ).loc Cert.KernelSbZ.main_arg1) = m ((c.tc : Thread Cert.KernelSbZ.nD Cert.KernelSbZ.τ).loc Cert.KernelSbZ.main_arg1))
      ∧ r.2.sem = fun _ => 0)

def quiescent_KernelSbZIdeal [hKernelSbZIdeal : Cert.KernelSbZIdeal.Facts] : Prop :=
  ∀ (m : (ℓ : Loc Cert.KernelSbZIdeal.nD Cert.KernelSbZIdeal.τ Cert.KernelSbZIdeal.sig) → Buf (Elt Ideal) ℓ) (g : Dev Cert.KernelSbZIdeal.nD → PrngReg), Pre_KernelSbZIdeal m →
    θ_run (Cert.KernelSbZIdeal.defs (F := Ideal)) (onTc (τ := Cert.KernelSbZIdeal.τ) (Cert.KernelSbZIdeal.main (F := Ideal))) ⟨m, fun _ => 0, g⟩ (fun r => (∀ c : Dev Cert.KernelSbZIdeal.nD,
      r.2.mem ((c.tc : Thread Cert.KernelSbZIdeal.nD Cert.KernelSbZIdeal.τ).loc Cert.KernelSbZIdeal.main_arg0) = m ((c.tc : Thread Cert.KernelSbZIdeal.nD Cert.KernelSbZIdeal.τ).loc Cert.KernelSbZIdeal.main_arg0)
      ∧ r.2.mem ((c.tc : Thread Cert.KernelSbZIdeal.nD Cert.KernelSbZIdeal.τ).loc Cert.KernelSbZIdeal.main_arg1) = m ((c.tc : Thread Cert.KernelSbZIdeal.nD Cert.KernelSbZIdeal.τ).loc Cert.KernelSbZIdeal.main_arg1))
      ∧ r.2.sem = fun _ => 0)

def quiescent_ReferenceSbZIdeal [hReferenceSbZIdeal : Cert.ReferenceSbZIdeal.Facts] : Prop :=
  ∀ (m : (ℓ : Loc Cert.ReferenceSbZIdeal.nD Cert.ReferenceSbZIdeal.τ Cert.ReferenceSbZIdeal.sig) → Buf (Elt Ideal) ℓ) (g : Dev Cert.ReferenceSbZIdeal.nD → PrngReg), Pre_ReferenceSbZIdeal m →
    θ_run (Cert.ReferenceSbZIdeal.defs (F := Ideal)) (onTc (τ := Cert.ReferenceSbZIdeal.τ) (Cert.ReferenceSbZIdeal.main (F := Ideal))) ⟨m, fun _ => 0, g⟩ (fun r => (∀ c : Dev Cert.ReferenceSbZIdeal.nD,
      r.2.mem ((c.tc : Thread Cert.ReferenceSbZIdeal.nD Cert.ReferenceSbZIdeal.τ).loc Cert.ReferenceSbZIdeal.main_arg0) = m ((c.tc : Thread Cert.ReferenceSbZIdeal.nD Cert.ReferenceSbZIdeal.τ).loc Cert.ReferenceSbZIdeal.main_arg0)
      ∧ r.2.mem ((c.tc : Thread Cert.ReferenceSbZIdeal.nD Cert.ReferenceSbZIdeal.τ).loc Cert.ReferenceSbZIdeal.main_arg1) = m ((c.tc : Thread Cert.ReferenceSbZIdeal.nD Cert.ReferenceSbZIdeal.τ).loc Cert.ReferenceSbZIdeal.main_arg1))
      ∧ r.2.sem = fun _ => 0)

def quiescent_KernelNsaQ [hKernelNsaQ : Cert.KernelNsaQ.Facts] : Prop :=
  ∀ (m : (ℓ : Loc Cert.KernelNsaQ.nD Cert.KernelNsaQ.τ Cert.KernelNsaQ.sig) → Buf (Elt Bits) ℓ) (g : Dev Cert.KernelNsaQ.nD → PrngReg), Pre_KernelNsaQ m →
    θ_run (Cert.KernelNsaQ.defs (F := Bits)) (onTc (τ := Cert.KernelNsaQ.τ) (Cert.KernelNsaQ.main (F := Bits))) ⟨m, fun _ => 0, g⟩ (fun r => (∀ c : Dev Cert.KernelNsaQ.nD,
      r.2.mem ((c.tc : Thread Cert.KernelNsaQ.nD Cert.KernelNsaQ.τ).loc Cert.KernelNsaQ.main_arg0) = m ((c.tc : Thread Cert.KernelNsaQ.nD Cert.KernelNsaQ.τ).loc Cert.KernelNsaQ.main_arg0)
      ∧ r.2.mem ((c.tc : Thread Cert.KernelNsaQ.nD Cert.KernelNsaQ.τ).loc Cert.KernelNsaQ.main_arg1) = m ((c.tc : Thread Cert.KernelNsaQ.nD Cert.KernelNsaQ.τ).loc Cert.KernelNsaQ.main_arg1))
      ∧ r.2.sem = fun _ => 0)

def quiescent_KernelNsaQIdeal [hKernelNsaQIdeal : Cert.KernelNsaQIdeal.Facts] : Prop :=
  ∀ (m : (ℓ : Loc Cert.KernelNsaQIdeal.nD Cert.KernelNsaQIdeal.τ Cert.KernelNsaQIdeal.sig) → Buf (Elt Ideal) ℓ) (g : Dev Cert.KernelNsaQIdeal.nD → PrngReg), Pre_KernelNsaQIdeal m →
    θ_run (Cert.KernelNsaQIdeal.defs (F := Ideal)) (onTc (τ := Cert.KernelNsaQIdeal.τ) (Cert.KernelNsaQIdeal.main (F := Ideal))) ⟨m, fun _ => 0, g⟩ (fun r => (∀ c : Dev Cert.KernelNsaQIdeal.nD,
      r.2.mem ((c.tc : Thread Cert.KernelNsaQIdeal.nD Cert.KernelNsaQIdeal.τ).loc Cert.KernelNsaQIdeal.main_arg0) = m ((c.tc : Thread Cert.KernelNsaQIdeal.nD Cert.KernelNsaQIdeal.τ).loc Cert.KernelNsaQIdeal.main_arg0)
      ∧ r.2.mem ((c.tc : Thread Cert.KernelNsaQIdeal.nD Cert.KernelNsaQIdeal.τ).loc Cert.KernelNsaQIdeal.main_arg1) = m ((c.tc : Thread Cert.KernelNsaQIdeal.nD Cert.KernelNsaQIdeal.τ).loc Cert.KernelNsaQIdeal.main_arg1))
      ∧ r.2.sem = fun _ => 0)

def quiescent_ReferenceNsaQIdeal [hReferenceNsaQIdeal : Cert.ReferenceNsaQIdeal.Facts] : Prop :=
  ∀ (m : (ℓ : Loc Cert.ReferenceNsaQIdeal.nD Cert.ReferenceNsaQIdeal.τ Cert.ReferenceNsaQIdeal.sig) → Buf (Elt Ideal) ℓ) (g : Dev Cert.ReferenceNsaQIdeal.nD → PrngReg), Pre_ReferenceNsaQIdeal m →
    θ_run (Cert.ReferenceNsaQIdeal.defs (F := Ideal)) (onTc (τ := Cert.ReferenceNsaQIdeal.τ) (Cert.ReferenceNsaQIdeal.main (F := Ideal))) ⟨m, fun _ => 0, g⟩ (fun r => (∀ c : Dev Cert.ReferenceNsaQIdeal.nD,
      r.2.mem ((c.tc : Thread Cert.ReferenceNsaQIdeal.nD Cert.ReferenceNsaQIdeal.τ).loc Cert.ReferenceNsaQIdeal.main_arg0) = m ((c.tc : Thread Cert.ReferenceNsaQIdeal.nD Cert.ReferenceNsaQIdeal.τ).loc Cert.ReferenceNsaQIdeal.main_arg0)
      ∧ r.2.mem ((c.tc : Thread Cert.ReferenceNsaQIdeal.nD Cert.ReferenceNsaQIdeal.τ).loc Cert.ReferenceNsaQIdeal.main_arg1) = m ((c.tc : Thread Cert.ReferenceNsaQIdeal.nD Cert.ReferenceNsaQIdeal.τ).loc Cert.ReferenceNsaQIdeal.main_arg1))
      ∧ r.2.sem = fun _ => 0)

def quiescent_KernelNsaKv [hKernelNsaKv : Cert.KernelNsaKv.Facts] : Prop :=
  ∀ (m : (ℓ : Loc Cert.KernelNsaKv.nD Cert.KernelNsaKv.τ Cert.KernelNsaKv.sig) → Buf (Elt Bits) ℓ) (g : Dev Cert.KernelNsaKv.nD → PrngReg), Pre_KernelNsaKv m →
    θ_run (Cert.KernelNsaKv.defs (F := Bits)) (onTc (τ := Cert.KernelNsaKv.τ) (Cert.KernelNsaKv.main (F := Bits))) ⟨m, fun _ => 0, g⟩ (fun r => (∀ c : Dev Cert.KernelNsaKv.nD,
      r.2.mem ((c.tc : Thread Cert.KernelNsaKv.nD Cert.KernelNsaKv.τ).loc Cert.KernelNsaKv.main_arg0) = m ((c.tc : Thread Cert.KernelNsaKv.nD Cert.KernelNsaKv.τ).loc Cert.KernelNsaKv.main_arg0)
      ∧ r.2.mem ((c.tc : Thread Cert.KernelNsaKv.nD Cert.KernelNsaKv.τ).loc Cert.KernelNsaKv.main_arg1) = m ((c.tc : Thread Cert.KernelNsaKv.nD Cert.KernelNsaKv.τ).loc Cert.KernelNsaKv.main_arg1))
      ∧ r.2.sem = fun _ => 0)

def quiescent_KernelNsaKvIdeal [hKernelNsaKvIdeal : Cert.KernelNsaKvIdeal.Facts] : Prop :=
  ∀ (m : (ℓ : Loc Cert.KernelNsaKvIdeal.nD Cert.KernelNsaKvIdeal.τ Cert.KernelNsaKvIdeal.sig) → Buf (Elt Ideal) ℓ) (g : Dev Cert.KernelNsaKvIdeal.nD → PrngReg), Pre_KernelNsaKvIdeal m →
    θ_run (Cert.KernelNsaKvIdeal.defs (F := Ideal)) (onTc (τ := Cert.KernelNsaKvIdeal.τ) (Cert.KernelNsaKvIdeal.main (F := Ideal))) ⟨m, fun _ => 0, g⟩ (fun r => (∀ c : Dev Cert.KernelNsaKvIdeal.nD,
      r.2.mem ((c.tc : Thread Cert.KernelNsaKvIdeal.nD Cert.KernelNsaKvIdeal.τ).loc Cert.KernelNsaKvIdeal.main_arg0) = m ((c.tc : Thread Cert.KernelNsaKvIdeal.nD Cert.KernelNsaKvIdeal.τ).loc Cert.KernelNsaKvIdeal.main_arg0)
      ∧ r.2.mem ((c.tc : Thread Cert.KernelNsaKvIdeal.nD Cert.KernelNsaKvIdeal.τ).loc Cert.KernelNsaKvIdeal.main_arg1) = m ((c.tc : Thread Cert.KernelNsaKvIdeal.nD Cert.KernelNsaKvIdeal.τ).loc Cert.KernelNsaKvIdeal.main_arg1))
      ∧ r.2.sem = fun _ => 0)

def quiescent_ReferenceNsaKvIdeal [hReferenceNsaKvIdeal : Cert.ReferenceNsaKvIdeal.Facts] : Prop :=
  ∀ (m : (ℓ : Loc Cert.ReferenceNsaKvIdeal.nD Cert.ReferenceNsaKvIdeal.τ Cert.ReferenceNsaKvIdeal.sig) → Buf (Elt Ideal) ℓ) (g : Dev Cert.ReferenceNsaKvIdeal.nD → PrngReg), Pre_ReferenceNsaKvIdeal m →
    θ_run (Cert.ReferenceNsaKvIdeal.defs (F := Ideal)) (onTc (τ := Cert.ReferenceNsaKvIdeal.τ) (Cert.ReferenceNsaKvIdeal.main (F := Ideal))) ⟨m, fun _ => 0, g⟩ (fun r => (∀ c : Dev Cert.ReferenceNsaKvIdeal.nD,
      r.2.mem ((c.tc : Thread Cert.ReferenceNsaKvIdeal.nD Cert.ReferenceNsaKvIdeal.τ).loc Cert.ReferenceNsaKvIdeal.main_arg0) = m ((c.tc : Thread Cert.ReferenceNsaKvIdeal.nD Cert.ReferenceNsaKvIdeal.τ).loc Cert.ReferenceNsaKvIdeal.main_arg0)
      ∧ r.2.mem ((c.tc : Thread Cert.ReferenceNsaKvIdeal.nD Cert.ReferenceNsaKvIdeal.τ).loc Cert.ReferenceNsaKvIdeal.main_arg1) = m ((c.tc : Thread Cert.ReferenceNsaKvIdeal.nD Cert.ReferenceNsaKvIdeal.τ).loc Cert.ReferenceNsaKvIdeal.main_arg1))
      ∧ r.2.sem = fun _ => 0)

def quiescent_KernelNsaWin [hKernelNsaWin : Cert.KernelNsaWin.Facts] : Prop :=
  ∀ (m : (ℓ : Loc Cert.KernelNsaWin.nD Cert.KernelNsaWin.τ Cert.KernelNsaWin.sig) → Buf (Elt Bits) ℓ) (g : Dev Cert.KernelNsaWin.nD → PrngReg), Pre_KernelNsaWin m →
    θ_run (Cert.KernelNsaWin.defs (F := Bits)) (onTc (τ := Cert.KernelNsaWin.τ) (Cert.KernelNsaWin.main (F := Bits))) ⟨m, fun _ => 0, g⟩ (fun r => (∀ c : Dev Cert.KernelNsaWin.nD,
      r.2.mem ((c.tc : Thread Cert.KernelNsaWin.nD Cert.KernelNsaWin.τ).loc Cert.KernelNsaWin.main_arg0) = m ((c.tc : Thread Cert.KernelNsaWin.nD Cert.KernelNsaWin.τ).loc Cert.KernelNsaWin.main_arg0)
      ∧ r.2.mem ((c.tc : Thread Cert.KernelNsaWin.nD Cert.KernelNsaWin.τ).loc Cert.KernelNsaWin.main_arg1) = m ((c.tc : Thread Cert.KernelNsaWin.nD Cert.KernelNsaWin.τ).loc Cert.KernelNsaWin.main_arg1))
      ∧ r.2.sem = fun _ => 0)

def quiescent_KernelNsaWinIdeal [hKernelNsaWinIdeal : Cert.KernelNsaWinIdeal.Facts] : Prop :=
  ∀ (m : (ℓ : Loc Cert.KernelNsaWinIdeal.nD Cert.KernelNsaWinIdeal.τ Cert.KernelNsaWinIdeal.sig) → Buf (Elt Ideal) ℓ) (g : Dev Cert.KernelNsaWinIdeal.nD → PrngReg), Pre_KernelNsaWinIdeal m →
    θ_run (Cert.KernelNsaWinIdeal.defs (F := Ideal)) (onTc (τ := Cert.KernelNsaWinIdeal.τ) (Cert.KernelNsaWinIdeal.main (F := Ideal))) ⟨m, fun _ => 0, g⟩ (fun r => (∀ c : Dev Cert.KernelNsaWinIdeal.nD,
      r.2.mem ((c.tc : Thread Cert.KernelNsaWinIdeal.nD Cert.KernelNsaWinIdeal.τ).loc Cert.KernelNsaWinIdeal.main_arg0) = m ((c.tc : Thread Cert.KernelNsaWinIdeal.nD Cert.KernelNsaWinIdeal.τ).loc Cert.KernelNsaWinIdeal.main_arg0)
      ∧ r.2.mem ((c.tc : Thread Cert.KernelNsaWinIdeal.nD Cert.KernelNsaWinIdeal.τ).loc Cert.KernelNsaWinIdeal.main_arg1) = m ((c.tc : Thread Cert.KernelNsaWinIdeal.nD Cert.KernelNsaWinIdeal.τ).loc Cert.KernelNsaWinIdeal.main_arg1))
      ∧ r.2.sem = fun _ => 0)

def quiescent_ReferenceNsaWinIdeal [hReferenceNsaWinIdeal : Cert.ReferenceNsaWinIdeal.Facts] : Prop :=
  ∀ (m : (ℓ : Loc Cert.ReferenceNsaWinIdeal.nD Cert.ReferenceNsaWinIdeal.τ Cert.ReferenceNsaWinIdeal.sig) → Buf (Elt Ideal) ℓ) (g : Dev Cert.ReferenceNsaWinIdeal.nD → PrngReg), Pre_ReferenceNsaWinIdeal m →
    θ_run (Cert.ReferenceNsaWinIdeal.defs (F := Ideal)) (onTc (τ := Cert.ReferenceNsaWinIdeal.τ) (Cert.ReferenceNsaWinIdeal.main (F := Ideal))) ⟨m, fun _ => 0, g⟩ (fun r => (∀ c : Dev Cert.ReferenceNsaWinIdeal.nD,
      r.2.mem ((c.tc : Thread Cert.ReferenceNsaWinIdeal.nD Cert.ReferenceNsaWinIdeal.τ).loc Cert.ReferenceNsaWinIdeal.main_arg0) = m ((c.tc : Thread Cert.ReferenceNsaWinIdeal.nD Cert.ReferenceNsaWinIdeal.τ).loc Cert.ReferenceNsaWinIdeal.main_arg0)
      ∧ r.2.mem ((c.tc : Thread Cert.ReferenceNsaWinIdeal.nD Cert.ReferenceNsaWinIdeal.τ).loc Cert.ReferenceNsaWinIdeal.main_arg1) = m ((c.tc : Thread Cert.ReferenceNsaWinIdeal.nD Cert.ReferenceNsaWinIdeal.τ).loc Cert.ReferenceNsaWinIdeal.main_arg1))
      ∧ r.2.sem = fun _ => 0)

def quiescent_KernelNsaZ [hKernelNsaZ : Cert.KernelNsaZ.Facts] : Prop :=
  ∀ (m : (ℓ : Loc Cert.KernelNsaZ.nD Cert.KernelNsaZ.τ Cert.KernelNsaZ.sig) → Buf (Elt Bits) ℓ) (g : Dev Cert.KernelNsaZ.nD → PrngReg), Pre_KernelNsaZ m →
    θ_run (Cert.KernelNsaZ.defs (F := Bits)) (onTc (τ := Cert.KernelNsaZ.τ) (Cert.KernelNsaZ.main (F := Bits))) ⟨m, fun _ => 0, g⟩ (fun r => (∀ c : Dev Cert.KernelNsaZ.nD,
      r.2.mem ((c.tc : Thread Cert.KernelNsaZ.nD Cert.KernelNsaZ.τ).loc Cert.KernelNsaZ.main_arg0) = m ((c.tc : Thread Cert.KernelNsaZ.nD Cert.KernelNsaZ.τ).loc Cert.KernelNsaZ.main_arg0)
      ∧ r.2.mem ((c.tc : Thread Cert.KernelNsaZ.nD Cert.KernelNsaZ.τ).loc Cert.KernelNsaZ.main_arg1) = m ((c.tc : Thread Cert.KernelNsaZ.nD Cert.KernelNsaZ.τ).loc Cert.KernelNsaZ.main_arg1))
      ∧ r.2.sem = fun _ => 0)

def quiescent_KernelNsaZIdeal [hKernelNsaZIdeal : Cert.KernelNsaZIdeal.Facts] : Prop :=
  ∀ (m : (ℓ : Loc Cert.KernelNsaZIdeal.nD Cert.KernelNsaZIdeal.τ Cert.KernelNsaZIdeal.sig) → Buf (Elt Ideal) ℓ) (g : Dev Cert.KernelNsaZIdeal.nD → PrngReg), Pre_KernelNsaZIdeal m →
    θ_run (Cert.KernelNsaZIdeal.defs (F := Ideal)) (onTc (τ := Cert.KernelNsaZIdeal.τ) (Cert.KernelNsaZIdeal.main (F := Ideal))) ⟨m, fun _ => 0, g⟩ (fun r => (∀ c : Dev Cert.KernelNsaZIdeal.nD,
      r.2.mem ((c.tc : Thread Cert.KernelNsaZIdeal.nD Cert.KernelNsaZIdeal.τ).loc Cert.KernelNsaZIdeal.main_arg0) = m ((c.tc : Thread Cert.KernelNsaZIdeal.nD Cert.KernelNsaZIdeal.τ).loc Cert.KernelNsaZIdeal.main_arg0)
      ∧ r.2.mem ((c.tc : Thread Cert.KernelNsaZIdeal.nD Cert.KernelNsaZIdeal.τ).loc Cert.KernelNsaZIdeal.main_arg1) = m ((c.tc : Thread Cert.KernelNsaZIdeal.nD Cert.KernelNsaZIdeal.τ).loc Cert.KernelNsaZIdeal.main_arg1))
      ∧ r.2.sem = fun _ => 0)

def quiescent_ReferenceNsaZIdeal [hReferenceNsaZIdeal : Cert.ReferenceNsaZIdeal.Facts] : Prop :=
  ∀ (m : (ℓ : Loc Cert.ReferenceNsaZIdeal.nD Cert.ReferenceNsaZIdeal.τ Cert.ReferenceNsaZIdeal.sig) → Buf (Elt Ideal) ℓ) (g : Dev Cert.ReferenceNsaZIdeal.nD → PrngReg), Pre_ReferenceNsaZIdeal m →
    θ_run (Cert.ReferenceNsaZIdeal.defs (F := Ideal)) (onTc (τ := Cert.ReferenceNsaZIdeal.τ) (Cert.ReferenceNsaZIdeal.main (F := Ideal))) ⟨m, fun _ => 0, g⟩ (fun r => (∀ c : Dev Cert.ReferenceNsaZIdeal.nD,
      r.2.mem ((c.tc : Thread Cert.ReferenceNsaZIdeal.nD Cert.ReferenceNsaZIdeal.τ).loc Cert.ReferenceNsaZIdeal.main_arg0) = m ((c.tc : Thread Cert.ReferenceNsaZIdeal.nD Cert.ReferenceNsaZIdeal.τ).loc Cert.ReferenceNsaZIdeal.main_arg0)
      ∧ r.2.mem ((c.tc : Thread Cert.ReferenceNsaZIdeal.nD Cert.ReferenceNsaZIdeal.τ).loc Cert.ReferenceNsaZIdeal.main_arg1) = m ((c.tc : Thread Cert.ReferenceNsaZIdeal.nD Cert.ReferenceNsaZIdeal.τ).loc Cert.ReferenceNsaZIdeal.main_arg1))
      ∧ r.2.sem = fun _ => 0)

def quiescent_KernelOutC [hKernelOutC : Cert.KernelOutC.Facts] : Prop :=
  ∀ (m : (ℓ : Loc Cert.KernelOutC.nD Cert.KernelOutC.τ Cert.KernelOutC.sig) → Buf (Elt Bits) ℓ) (g : Dev Cert.KernelOutC.nD → PrngReg), Pre_KernelOutC m →
    θ_run (Cert.KernelOutC.defs (F := Bits)) (onTc (τ := Cert.KernelOutC.τ) (Cert.KernelOutC.main (F := Bits))) ⟨m, fun _ => 0, g⟩ (fun r => (∀ c : Dev Cert.KernelOutC.nD,
      r.2.mem ((c.tc : Thread Cert.KernelOutC.nD Cert.KernelOutC.τ).loc Cert.KernelOutC.main_arg0) = m ((c.tc : Thread Cert.KernelOutC.nD Cert.KernelOutC.τ).loc Cert.KernelOutC.main_arg0)
      ∧ r.2.mem ((c.tc : Thread Cert.KernelOutC.nD Cert.KernelOutC.τ).loc Cert.KernelOutC.main_arg1) = m ((c.tc : Thread Cert.KernelOutC.nD Cert.KernelOutC.τ).loc Cert.KernelOutC.main_arg1)
      ∧ r.2.mem ((c.tc : Thread Cert.KernelOutC.nD Cert.KernelOutC.τ).loc Cert.KernelOutC.main_arg2) = m ((c.tc : Thread Cert.KernelOutC.nD Cert.KernelOutC.τ).loc Cert.KernelOutC.main_arg2))
      ∧ r.2.sem = fun _ => 0)

def quiescent_KernelOutCIdeal [hKernelOutCIdeal : Cert.KernelOutCIdeal.Facts] : Prop :=
  ∀ (m : (ℓ : Loc Cert.KernelOutCIdeal.nD Cert.KernelOutCIdeal.τ Cert.KernelOutCIdeal.sig) → Buf (Elt Ideal) ℓ) (g : Dev Cert.KernelOutCIdeal.nD → PrngReg), Pre_KernelOutCIdeal m →
    θ_run (Cert.KernelOutCIdeal.defs (F := Ideal)) (onTc (τ := Cert.KernelOutCIdeal.τ) (Cert.KernelOutCIdeal.main (F := Ideal))) ⟨m, fun _ => 0, g⟩ (fun r => (∀ c : Dev Cert.KernelOutCIdeal.nD,
      r.2.mem ((c.tc : Thread Cert.KernelOutCIdeal.nD Cert.KernelOutCIdeal.τ).loc Cert.KernelOutCIdeal.main_arg0) = m ((c.tc : Thread Cert.KernelOutCIdeal.nD Cert.KernelOutCIdeal.τ).loc Cert.KernelOutCIdeal.main_arg0)
      ∧ r.2.mem ((c.tc : Thread Cert.KernelOutCIdeal.nD Cert.KernelOutCIdeal.τ).loc Cert.KernelOutCIdeal.main_arg1) = m ((c.tc : Thread Cert.KernelOutCIdeal.nD Cert.KernelOutCIdeal.τ).loc Cert.KernelOutCIdeal.main_arg1)
      ∧ r.2.mem ((c.tc : Thread Cert.KernelOutCIdeal.nD Cert.KernelOutCIdeal.τ).loc Cert.KernelOutCIdeal.main_arg2) = m ((c.tc : Thread Cert.KernelOutCIdeal.nD Cert.KernelOutCIdeal.τ).loc Cert.KernelOutCIdeal.main_arg2))
      ∧ r.2.sem = fun _ => 0)

def quiescent_ReferenceOutCIdeal [hReferenceOutCIdeal : Cert.ReferenceOutCIdeal.Facts] : Prop :=
  ∀ (m : (ℓ : Loc Cert.ReferenceOutCIdeal.nD Cert.ReferenceOutCIdeal.τ Cert.ReferenceOutCIdeal.sig) → Buf (Elt Ideal) ℓ) (g : Dev Cert.ReferenceOutCIdeal.nD → PrngReg), Pre_ReferenceOutCIdeal m →
    θ_run (Cert.ReferenceOutCIdeal.defs (F := Ideal)) (onTc (τ := Cert.ReferenceOutCIdeal.τ) (Cert.ReferenceOutCIdeal.main (F := Ideal))) ⟨m, fun _ => 0, g⟩ (fun r => (∀ c : Dev Cert.ReferenceOutCIdeal.nD,
      r.2.mem ((c.tc : Thread Cert.ReferenceOutCIdeal.nD Cert.ReferenceOutCIdeal.τ).loc Cert.ReferenceOutCIdeal.main_arg0) = m ((c.tc : Thread Cert.ReferenceOutCIdeal.nD Cert.ReferenceOutCIdeal.τ).loc Cert.ReferenceOutCIdeal.main_arg0)
      ∧ r.2.mem ((c.tc : Thread Cert.ReferenceOutCIdeal.nD Cert.ReferenceOutCIdeal.τ).loc Cert.ReferenceOutCIdeal.main_arg1) = m ((c.tc : Thread Cert.ReferenceOutCIdeal.nD Cert.ReferenceOutCIdeal.τ).loc Cert.ReferenceOutCIdeal.main_arg1)
      ∧ r.2.mem ((c.tc : Thread Cert.ReferenceOutCIdeal.nD Cert.ReferenceOutCIdeal.τ).loc Cert.ReferenceOutCIdeal.main_arg2) = m ((c.tc : Thread Cert.ReferenceOutCIdeal.nD Cert.ReferenceOutCIdeal.τ).loc Cert.ReferenceOutCIdeal.main_arg2))
      ∧ r.2.sem = fun _ => 0)

def quiescent_KernelOutAB [hKernelOutAB : Cert.KernelOutAB.Facts] : Prop :=
  ∀ (m : (ℓ : Loc Cert.KernelOutAB.nD Cert.KernelOutAB.τ Cert.KernelOutAB.sig) → Buf (Elt Bits) ℓ) (g : Dev Cert.KernelOutAB.nD → PrngReg), Pre_KernelOutAB m →
    θ_run (Cert.KernelOutAB.defs (F := Bits)) (onTc (τ := Cert.KernelOutAB.τ) (Cert.KernelOutAB.main (F := Bits))) ⟨m, fun _ => 0, g⟩ (fun r => (∀ c : Dev Cert.KernelOutAB.nD,
      r.2.mem ((c.tc : Thread Cert.KernelOutAB.nD Cert.KernelOutAB.τ).loc Cert.KernelOutAB.main_arg0) = m ((c.tc : Thread Cert.KernelOutAB.nD Cert.KernelOutAB.τ).loc Cert.KernelOutAB.main_arg0)
      ∧ r.2.mem ((c.tc : Thread Cert.KernelOutAB.nD Cert.KernelOutAB.τ).loc Cert.KernelOutAB.main_arg1) = m ((c.tc : Thread Cert.KernelOutAB.nD Cert.KernelOutAB.τ).loc Cert.KernelOutAB.main_arg1)
      ∧ r.2.mem ((c.tc : Thread Cert.KernelOutAB.nD Cert.KernelOutAB.τ).loc Cert.KernelOutAB.main_arg2) = m ((c.tc : Thread Cert.KernelOutAB.nD Cert.KernelOutAB.τ).loc Cert.KernelOutAB.main_arg2)
      ∧ r.2.mem ((c.tc : Thread Cert.KernelOutAB.nD Cert.KernelOutAB.τ).loc Cert.KernelOutAB.main_arg3) = m ((c.tc : Thread Cert.KernelOutAB.nD Cert.KernelOutAB.τ).loc Cert.KernelOutAB.main_arg3))
      ∧ r.2.sem = fun _ => 0)

def quiescent_KernelOutABIdeal [hKernelOutABIdeal : Cert.KernelOutABIdeal.Facts] : Prop :=
  ∀ (m : (ℓ : Loc Cert.KernelOutABIdeal.nD Cert.KernelOutABIdeal.τ Cert.KernelOutABIdeal.sig) → Buf (Elt Ideal) ℓ) (g : Dev Cert.KernelOutABIdeal.nD → PrngReg), Pre_KernelOutABIdeal m →
    θ_run (Cert.KernelOutABIdeal.defs (F := Ideal)) (onTc (τ := Cert.KernelOutABIdeal.τ) (Cert.KernelOutABIdeal.main (F := Ideal))) ⟨m, fun _ => 0, g⟩ (fun r => (∀ c : Dev Cert.KernelOutABIdeal.nD,
      r.2.mem ((c.tc : Thread Cert.KernelOutABIdeal.nD Cert.KernelOutABIdeal.τ).loc Cert.KernelOutABIdeal.main_arg0) = m ((c.tc : Thread Cert.KernelOutABIdeal.nD Cert.KernelOutABIdeal.τ).loc Cert.KernelOutABIdeal.main_arg0)
      ∧ r.2.mem ((c.tc : Thread Cert.KernelOutABIdeal.nD Cert.KernelOutABIdeal.τ).loc Cert.KernelOutABIdeal.main_arg1) = m ((c.tc : Thread Cert.KernelOutABIdeal.nD Cert.KernelOutABIdeal.τ).loc Cert.KernelOutABIdeal.main_arg1)
      ∧ r.2.mem ((c.tc : Thread Cert.KernelOutABIdeal.nD Cert.KernelOutABIdeal.τ).loc Cert.KernelOutABIdeal.main_arg2) = m ((c.tc : Thread Cert.KernelOutABIdeal.nD Cert.KernelOutABIdeal.τ).loc Cert.KernelOutABIdeal.main_arg2)
      ∧ r.2.mem ((c.tc : Thread Cert.KernelOutABIdeal.nD Cert.KernelOutABIdeal.τ).loc Cert.KernelOutABIdeal.main_arg3) = m ((c.tc : Thread Cert.KernelOutABIdeal.nD Cert.KernelOutABIdeal.τ).loc Cert.KernelOutABIdeal.main_arg3))
      ∧ r.2.sem = fun _ => 0)

def quiescent_ReferenceOutABIdeal [hReferenceOutABIdeal : Cert.ReferenceOutABIdeal.Facts] : Prop :=
  ∀ (m : (ℓ : Loc Cert.ReferenceOutABIdeal.nD Cert.ReferenceOutABIdeal.τ Cert.ReferenceOutABIdeal.sig) → Buf (Elt Ideal) ℓ) (g : Dev Cert.ReferenceOutABIdeal.nD → PrngReg), Pre_ReferenceOutABIdeal m →
    θ_run (Cert.ReferenceOutABIdeal.defs (F := Ideal)) (onTc (τ := Cert.ReferenceOutABIdeal.τ) (Cert.ReferenceOutABIdeal.main (F := Ideal))) ⟨m, fun _ => 0, g⟩ (fun r => (∀ c : Dev Cert.ReferenceOutABIdeal.nD,
      r.2.mem ((c.tc : Thread Cert.ReferenceOutABIdeal.nD Cert.ReferenceOutABIdeal.τ).loc Cert.ReferenceOutABIdeal.main_arg0) = m ((c.tc : Thread Cert.ReferenceOutABIdeal.nD Cert.ReferenceOutABIdeal.τ).loc Cert.ReferenceOutABIdeal.main_arg0)
      ∧ r.2.mem ((c.tc : Thread Cert.ReferenceOutABIdeal.nD Cert.ReferenceOutABIdeal.τ).loc Cert.ReferenceOutABIdeal.main_arg1) = m ((c.tc : Thread Cert.ReferenceOutABIdeal.nD Cert.ReferenceOutABIdeal.τ).loc Cert.ReferenceOutABIdeal.main_arg1)
      ∧ r.2.mem ((c.tc : Thread Cert.ReferenceOutABIdeal.nD Cert.ReferenceOutABIdeal.τ).loc Cert.ReferenceOutABIdeal.main_arg2) = m ((c.tc : Thread Cert.ReferenceOutABIdeal.nD Cert.ReferenceOutABIdeal.τ).loc Cert.ReferenceOutABIdeal.main_arg2)
      ∧ r.2.mem ((c.tc : Thread Cert.ReferenceOutABIdeal.nD Cert.ReferenceOutABIdeal.τ).loc Cert.ReferenceOutABIdeal.main_arg3) = m ((c.tc : Thread Cert.ReferenceOutABIdeal.nD Cert.ReferenceOutABIdeal.τ).loc Cert.ReferenceOutABIdeal.main_arg3))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelDiffKvS [hKernelDiffKvS : Cert.KernelDiffKvS.Facts] : Prop :=
  ∀ (m : (ℓ : Loc Cert.KernelDiffKvS.nD Cert.KernelDiffKvS.τ Cert.KernelDiffKvS.sig) → Buf (Elt Bits) ℓ) (g : Dev Cert.KernelDiffKvS.nD → PrngReg), Pre_KernelDiffKvS m →
    θ_run (Cert.KernelDiffKvS.defs (F := Bits)) (onTc (τ := Cert.KernelDiffKvS.τ) (Cert.KernelDiffKvS.main (F := Bits))) ⟨m, fun _ => 0, g⟩ (fun r => (∀ c : Dev Cert.KernelDiffKvS.nD,
      r.2.mem ((c.tc : Thread Cert.KernelDiffKvS.nD Cert.KernelDiffKvS.τ).loc Cert.KernelDiffKvS.main_arg0) = m ((c.tc : Thread Cert.KernelDiffKvS.nD Cert.KernelDiffKvS.τ).loc Cert.KernelDiffKvS.main_arg0)
      ∧ r.2.mem ((c.tc : Thread Cert.KernelDiffKvS.nD Cert.KernelDiffKvS.τ).loc Cert.KernelDiffKvS.main_arg1) = m ((c.tc : Thread Cert.KernelDiffKvS.nD Cert.KernelDiffKvS.τ).loc Cert.KernelDiffKvS.main_arg1))
      ∧ r.2.sem = fun _ => 0)

def quiescent_KernelDiffKvSIdeal [hKernelDiffKvSIdeal : Cert.KernelDiffKvSIdeal.Facts] : Prop :=
  ∀ (m : (ℓ : Loc Cert.KernelDiffKvSIdeal.nD Cert.KernelDiffKvSIdeal.τ Cert.KernelDiffKvSIdeal.sig) → Buf (Elt Ideal) ℓ) (g : Dev Cert.KernelDiffKvSIdeal.nD → PrngReg), Pre_KernelDiffKvSIdeal m →
    θ_run (Cert.KernelDiffKvSIdeal.defs (F := Ideal)) (onTc (τ := Cert.KernelDiffKvSIdeal.τ) (Cert.KernelDiffKvSIdeal.main (F := Ideal))) ⟨m, fun _ => 0, g⟩ (fun r => (∀ c : Dev Cert.KernelDiffKvSIdeal.nD,
      r.2.mem ((c.tc : Thread Cert.KernelDiffKvSIdeal.nD Cert.KernelDiffKvSIdeal.τ).loc Cert.KernelDiffKvSIdeal.main_arg0) = m ((c.tc : Thread Cert.KernelDiffKvSIdeal.nD Cert.KernelDiffKvSIdeal.τ).loc Cert.KernelDiffKvSIdeal.main_arg0)
      ∧ r.2.mem ((c.tc : Thread Cert.KernelDiffKvSIdeal.nD Cert.KernelDiffKvSIdeal.τ).loc Cert.KernelDiffKvSIdeal.main_arg1) = m ((c.tc : Thread Cert.KernelDiffKvSIdeal.nD Cert.KernelDiffKvSIdeal.τ).loc Cert.KernelDiffKvSIdeal.main_arg1))
      ∧ r.2.sem = fun _ => 0)

def quiescent_ReferenceDiffKvSIdeal [hReferenceDiffKvSIdeal : Cert.ReferenceDiffKvSIdeal.Facts] : Prop :=
  ∀ (m : (ℓ : Loc Cert.ReferenceDiffKvSIdeal.nD Cert.ReferenceDiffKvSIdeal.τ Cert.ReferenceDiffKvSIdeal.sig) → Buf (Elt Ideal) ℓ) (g : Dev Cert.ReferenceDiffKvSIdeal.nD → PrngReg), Pre_ReferenceDiffKvSIdeal m →
    θ_run (Cert.ReferenceDiffKvSIdeal.defs (F := Ideal)) (onTc (τ := Cert.ReferenceDiffKvSIdeal.τ) (Cert.ReferenceDiffKvSIdeal.main (F := Ideal))) ⟨m, fun _ => 0, g⟩ (fun r => (∀ c : Dev Cert.ReferenceDiffKvSIdeal.nD,
      r.2.mem ((c.tc : Thread Cert.ReferenceDiffKvSIdeal.nD Cert.ReferenceDiffKvSIdeal.τ).loc Cert.ReferenceDiffKvSIdeal.main_arg0) = m ((c.tc : Thread Cert.ReferenceDiffKvSIdeal.nD Cert.ReferenceDiffKvSIdeal.τ).loc Cert.ReferenceDiffKvSIdeal.main_arg0)
      ∧ r.2.mem ((c.tc : Thread Cert.ReferenceDiffKvSIdeal.nD Cert.ReferenceDiffKvSIdeal.τ).loc Cert.ReferenceDiffKvSIdeal.main_arg1) = m ((c.tc : Thread Cert.ReferenceDiffKvSIdeal.nD Cert.ReferenceDiffKvSIdeal.τ).loc Cert.ReferenceDiffKvSIdeal.main_arg1))
      ∧ r.2.sem = fun _ => 0)

def quiescent_KernelSbKvS [hKernelSbKvS : Cert.KernelSbKvS.Facts] : Prop :=
  ∀ (m : (ℓ : Loc Cert.KernelSbKvS.nD Cert.KernelSbKvS.τ Cert.KernelSbKvS.sig) → Buf (Elt Bits) ℓ) (g : Dev Cert.KernelSbKvS.nD → PrngReg), Pre_KernelSbKvS m →
    θ_run (Cert.KernelSbKvS.defs (F := Bits)) (onTc (τ := Cert.KernelSbKvS.τ) (Cert.KernelSbKvS.main (F := Bits))) ⟨m, fun _ => 0, g⟩ (fun r => (∀ c : Dev Cert.KernelSbKvS.nD,
      r.2.mem ((c.tc : Thread Cert.KernelSbKvS.nD Cert.KernelSbKvS.τ).loc Cert.KernelSbKvS.main_arg0) = m ((c.tc : Thread Cert.KernelSbKvS.nD Cert.KernelSbKvS.τ).loc Cert.KernelSbKvS.main_arg0)
      ∧ r.2.mem ((c.tc : Thread Cert.KernelSbKvS.nD Cert.KernelSbKvS.τ).loc Cert.KernelSbKvS.main_arg1) = m ((c.tc : Thread Cert.KernelSbKvS.nD Cert.KernelSbKvS.τ).loc Cert.KernelSbKvS.main_arg1))
      ∧ r.2.sem = fun _ => 0)

def quiescent_KernelSbKvSIdeal [hKernelSbKvSIdeal : Cert.KernelSbKvSIdeal.Facts] : Prop :=
  ∀ (m : (ℓ : Loc Cert.KernelSbKvSIdeal.nD Cert.KernelSbKvSIdeal.τ Cert.KernelSbKvSIdeal.sig) → Buf (Elt Ideal) ℓ) (g : Dev Cert.KernelSbKvSIdeal.nD → PrngReg), Pre_KernelSbKvSIdeal m →
    θ_run (Cert.KernelSbKvSIdeal.defs (F := Ideal)) (onTc (τ := Cert.KernelSbKvSIdeal.τ) (Cert.KernelSbKvSIdeal.main (F := Ideal))) ⟨m, fun _ => 0, g⟩ (fun r => (∀ c : Dev Cert.KernelSbKvSIdeal.nD,
      r.2.mem ((c.tc : Thread Cert.KernelSbKvSIdeal.nD Cert.KernelSbKvSIdeal.τ).loc Cert.KernelSbKvSIdeal.main_arg0) = m ((c.tc : Thread Cert.KernelSbKvSIdeal.nD Cert.KernelSbKvSIdeal.τ).loc Cert.KernelSbKvSIdeal.main_arg0)
      ∧ r.2.mem ((c.tc : Thread Cert.KernelSbKvSIdeal.nD Cert.KernelSbKvSIdeal.τ).loc Cert.KernelSbKvSIdeal.main_arg1) = m ((c.tc : Thread Cert.KernelSbKvSIdeal.nD Cert.KernelSbKvSIdeal.τ).loc Cert.KernelSbKvSIdeal.main_arg1))
      ∧ r.2.sem = fun _ => 0)

def quiescent_ReferenceSbKvSIdeal [hReferenceSbKvSIdeal : Cert.ReferenceSbKvSIdeal.Facts] : Prop :=
  ∀ (m : (ℓ : Loc Cert.ReferenceSbKvSIdeal.nD Cert.ReferenceSbKvSIdeal.τ Cert.ReferenceSbKvSIdeal.sig) → Buf (Elt Ideal) ℓ) (g : Dev Cert.ReferenceSbKvSIdeal.nD → PrngReg), Pre_ReferenceSbKvSIdeal m →
    θ_run (Cert.ReferenceSbKvSIdeal.defs (F := Ideal)) (onTc (τ := Cert.ReferenceSbKvSIdeal.τ) (Cert.ReferenceSbKvSIdeal.main (F := Ideal))) ⟨m, fun _ => 0, g⟩ (fun r => (∀ c : Dev Cert.ReferenceSbKvSIdeal.nD,
      r.2.mem ((c.tc : Thread Cert.ReferenceSbKvSIdeal.nD Cert.ReferenceSbKvSIdeal.τ).loc Cert.ReferenceSbKvSIdeal.main_arg0) = m ((c.tc : Thread Cert.ReferenceSbKvSIdeal.nD Cert.ReferenceSbKvSIdeal.τ).loc Cert.ReferenceSbKvSIdeal.main_arg0)
      ∧ r.2.mem ((c.tc : Thread Cert.ReferenceSbKvSIdeal.nD Cert.ReferenceSbKvSIdeal.τ).loc Cert.ReferenceSbKvSIdeal.main_arg1) = m ((c.tc : Thread Cert.ReferenceSbKvSIdeal.nD Cert.ReferenceSbKvSIdeal.τ).loc Cert.ReferenceSbKvSIdeal.main_arg1))
      ∧ r.2.sem = fun _ => 0)

def quiescent_KernelNsaKvS [hKernelNsaKvS : Cert.KernelNsaKvS.Facts] : Prop :=
  ∀ (m : (ℓ : Loc Cert.KernelNsaKvS.nD Cert.KernelNsaKvS.τ Cert.KernelNsaKvS.sig) → Buf (Elt Bits) ℓ) (g : Dev Cert.KernelNsaKvS.nD → PrngReg), Pre_KernelNsaKvS m →
    θ_run (Cert.KernelNsaKvS.defs (F := Bits)) (onTc (τ := Cert.KernelNsaKvS.τ) (Cert.KernelNsaKvS.main (F := Bits))) ⟨m, fun _ => 0, g⟩ (fun r => (∀ c : Dev Cert.KernelNsaKvS.nD,
      r.2.mem ((c.tc : Thread Cert.KernelNsaKvS.nD Cert.KernelNsaKvS.τ).loc Cert.KernelNsaKvS.main_arg0) = m ((c.tc : Thread Cert.KernelNsaKvS.nD Cert.KernelNsaKvS.τ).loc Cert.KernelNsaKvS.main_arg0)
      ∧ r.2.mem ((c.tc : Thread Cert.KernelNsaKvS.nD Cert.KernelNsaKvS.τ).loc Cert.KernelNsaKvS.main_arg1) = m ((c.tc : Thread Cert.KernelNsaKvS.nD Cert.KernelNsaKvS.τ).loc Cert.KernelNsaKvS.main_arg1))
      ∧ r.2.sem = fun _ => 0)

def quiescent_KernelNsaKvSIdeal [hKernelNsaKvSIdeal : Cert.KernelNsaKvSIdeal.Facts] : Prop :=
  ∀ (m : (ℓ : Loc Cert.KernelNsaKvSIdeal.nD Cert.KernelNsaKvSIdeal.τ Cert.KernelNsaKvSIdeal.sig) → Buf (Elt Ideal) ℓ) (g : Dev Cert.KernelNsaKvSIdeal.nD → PrngReg), Pre_KernelNsaKvSIdeal m →
    θ_run (Cert.KernelNsaKvSIdeal.defs (F := Ideal)) (onTc (τ := Cert.KernelNsaKvSIdeal.τ) (Cert.KernelNsaKvSIdeal.main (F := Ideal))) ⟨m, fun _ => 0, g⟩ (fun r => (∀ c : Dev Cert.KernelNsaKvSIdeal.nD,
      r.2.mem ((c.tc : Thread Cert.KernelNsaKvSIdeal.nD Cert.KernelNsaKvSIdeal.τ).loc Cert.KernelNsaKvSIdeal.main_arg0) = m ((c.tc : Thread Cert.KernelNsaKvSIdeal.nD Cert.KernelNsaKvSIdeal.τ).loc Cert.KernelNsaKvSIdeal.main_arg0)
      ∧ r.2.mem ((c.tc : Thread Cert.KernelNsaKvSIdeal.nD Cert.KernelNsaKvSIdeal.τ).loc Cert.KernelNsaKvSIdeal.main_arg1) = m ((c.tc : Thread Cert.KernelNsaKvSIdeal.nD Cert.KernelNsaKvSIdeal.τ).loc Cert.KernelNsaKvSIdeal.main_arg1))
      ∧ r.2.sem = fun _ => 0)

def quiescent_ReferenceNsaKvSIdeal [hReferenceNsaKvSIdeal : Cert.ReferenceNsaKvSIdeal.Facts] : Prop :=
  ∀ (m : (ℓ : Loc Cert.ReferenceNsaKvSIdeal.nD Cert.ReferenceNsaKvSIdeal.τ Cert.ReferenceNsaKvSIdeal.sig) → Buf (Elt Ideal) ℓ) (g : Dev Cert.ReferenceNsaKvSIdeal.nD → PrngReg), Pre_ReferenceNsaKvSIdeal m →
    θ_run (Cert.ReferenceNsaKvSIdeal.defs (F := Ideal)) (onTc (τ := Cert.ReferenceNsaKvSIdeal.τ) (Cert.ReferenceNsaKvSIdeal.main (F := Ideal))) ⟨m, fun _ => 0, g⟩ (fun r => (∀ c : Dev Cert.ReferenceNsaKvSIdeal.nD,
      r.2.mem ((c.tc : Thread Cert.ReferenceNsaKvSIdeal.nD Cert.ReferenceNsaKvSIdeal.τ).loc Cert.ReferenceNsaKvSIdeal.main_arg0) = m ((c.tc : Thread Cert.ReferenceNsaKvSIdeal.nD Cert.ReferenceNsaKvSIdeal.τ).loc Cert.ReferenceNsaKvSIdeal.main_arg0)
      ∧ r.2.mem ((c.tc : Thread Cert.ReferenceNsaKvSIdeal.nD Cert.ReferenceNsaKvSIdeal.τ).loc Cert.ReferenceNsaKvSIdeal.main_arg1) = m ((c.tc : Thread Cert.ReferenceNsaKvSIdeal.nD Cert.ReferenceNsaKvSIdeal.τ).loc Cert.ReferenceNsaKvSIdeal.main_arg1))
      ∧ r.2.sem = fun _ => 0)

def quiescent_KernelNsaWinS [hKernelNsaWinS : Cert.KernelNsaWinS.Facts] : Prop :=
  ∀ (m : (ℓ : Loc Cert.KernelNsaWinS.nD Cert.KernelNsaWinS.τ Cert.KernelNsaWinS.sig) → Buf (Elt Bits) ℓ) (g : Dev Cert.KernelNsaWinS.nD → PrngReg), Pre_KernelNsaWinS m →
    θ_run (Cert.KernelNsaWinS.defs (F := Bits)) (onTc (τ := Cert.KernelNsaWinS.τ) (Cert.KernelNsaWinS.main (F := Bits))) ⟨m, fun _ => 0, g⟩ (fun r => (∀ c : Dev Cert.KernelNsaWinS.nD,
      r.2.mem ((c.tc : Thread Cert.KernelNsaWinS.nD Cert.KernelNsaWinS.τ).loc Cert.KernelNsaWinS.main_arg0) = m ((c.tc : Thread Cert.KernelNsaWinS.nD Cert.KernelNsaWinS.τ).loc Cert.KernelNsaWinS.main_arg0)
      ∧ r.2.mem ((c.tc : Thread Cert.KernelNsaWinS.nD Cert.KernelNsaWinS.τ).loc Cert.KernelNsaWinS.main_arg1) = m ((c.tc : Thread Cert.KernelNsaWinS.nD Cert.KernelNsaWinS.τ).loc Cert.KernelNsaWinS.main_arg1))
      ∧ r.2.sem = fun _ => 0)

def quiescent_KernelNsaWinSIdeal [hKernelNsaWinSIdeal : Cert.KernelNsaWinSIdeal.Facts] : Prop :=
  ∀ (m : (ℓ : Loc Cert.KernelNsaWinSIdeal.nD Cert.KernelNsaWinSIdeal.τ Cert.KernelNsaWinSIdeal.sig) → Buf (Elt Ideal) ℓ) (g : Dev Cert.KernelNsaWinSIdeal.nD → PrngReg), Pre_KernelNsaWinSIdeal m →
    θ_run (Cert.KernelNsaWinSIdeal.defs (F := Ideal)) (onTc (τ := Cert.KernelNsaWinSIdeal.τ) (Cert.KernelNsaWinSIdeal.main (F := Ideal))) ⟨m, fun _ => 0, g⟩ (fun r => (∀ c : Dev Cert.KernelNsaWinSIdeal.nD,
      r.2.mem ((c.tc : Thread Cert.KernelNsaWinSIdeal.nD Cert.KernelNsaWinSIdeal.τ).loc Cert.KernelNsaWinSIdeal.main_arg0) = m ((c.tc : Thread Cert.KernelNsaWinSIdeal.nD Cert.KernelNsaWinSIdeal.τ).loc Cert.KernelNsaWinSIdeal.main_arg0)
      ∧ r.2.mem ((c.tc : Thread Cert.KernelNsaWinSIdeal.nD Cert.KernelNsaWinSIdeal.τ).loc Cert.KernelNsaWinSIdeal.main_arg1) = m ((c.tc : Thread Cert.KernelNsaWinSIdeal.nD Cert.KernelNsaWinSIdeal.τ).loc Cert.KernelNsaWinSIdeal.main_arg1))
      ∧ r.2.sem = fun _ => 0)

def quiescent_ReferenceNsaWinSIdeal [hReferenceNsaWinSIdeal : Cert.ReferenceNsaWinSIdeal.Facts] : Prop :=
  ∀ (m : (ℓ : Loc Cert.ReferenceNsaWinSIdeal.nD Cert.ReferenceNsaWinSIdeal.τ Cert.ReferenceNsaWinSIdeal.sig) → Buf (Elt Ideal) ℓ) (g : Dev Cert.ReferenceNsaWinSIdeal.nD → PrngReg), Pre_ReferenceNsaWinSIdeal m →
    θ_run (Cert.ReferenceNsaWinSIdeal.defs (F := Ideal)) (onTc (τ := Cert.ReferenceNsaWinSIdeal.τ) (Cert.ReferenceNsaWinSIdeal.main (F := Ideal))) ⟨m, fun _ => 0, g⟩ (fun r => (∀ c : Dev Cert.ReferenceNsaWinSIdeal.nD,
      r.2.mem ((c.tc : Thread Cert.ReferenceNsaWinSIdeal.nD Cert.ReferenceNsaWinSIdeal.τ).loc Cert.ReferenceNsaWinSIdeal.main_arg0) = m ((c.tc : Thread Cert.ReferenceNsaWinSIdeal.nD Cert.ReferenceNsaWinSIdeal.τ).loc Cert.ReferenceNsaWinSIdeal.main_arg0)
      ∧ r.2.mem ((c.tc : Thread Cert.ReferenceNsaWinSIdeal.nD Cert.ReferenceNsaWinSIdeal.τ).loc Cert.ReferenceNsaWinSIdeal.main_arg1) = m ((c.tc : Thread Cert.ReferenceNsaWinSIdeal.nD Cert.ReferenceNsaWinSIdeal.τ).loc Cert.ReferenceNsaWinSIdeal.main_arg1))
      ∧ r.2.sem = fun _ => 0)

def quiescent_KernelNormS [hKernelNormS : Cert.KernelNormS.Facts] : Prop :=
  ∀ (m : (ℓ : Loc Cert.KernelNormS.nD Cert.KernelNormS.τ Cert.KernelNormS.sig) → Buf (Elt Bits) ℓ) (g : Dev Cert.KernelNormS.nD → PrngReg), Pre_KernelNormS m →
    θ_run (Cert.KernelNormS.defs (F := Bits)) (onTc (τ := Cert.KernelNormS.τ) (Cert.KernelNormS.main (F := Bits))) ⟨m, fun _ => 0, g⟩ (fun r => (∀ c : Dev Cert.KernelNormS.nD,
      r.2.mem ((c.tc : Thread Cert.KernelNormS.nD Cert.KernelNormS.τ).loc Cert.KernelNormS.main_arg0) = m ((c.tc : Thread Cert.KernelNormS.nD Cert.KernelNormS.τ).loc Cert.KernelNormS.main_arg0)
      ∧ r.2.mem ((c.tc : Thread Cert.KernelNormS.nD Cert.KernelNormS.τ).loc Cert.KernelNormS.main_arg1) = m ((c.tc : Thread Cert.KernelNormS.nD Cert.KernelNormS.τ).loc Cert.KernelNormS.main_arg1))
      ∧ r.2.sem = fun _ => 0)

def quiescent_KernelNormSIdeal [hKernelNormSIdeal : Cert.KernelNormSIdeal.Facts] : Prop :=
  ∀ (m : (ℓ : Loc Cert.KernelNormSIdeal.nD Cert.KernelNormSIdeal.τ Cert.KernelNormSIdeal.sig) → Buf (Elt Ideal) ℓ) (g : Dev Cert.KernelNormSIdeal.nD → PrngReg), Pre_KernelNormSIdeal m →
    θ_run (Cert.KernelNormSIdeal.defs (F := Ideal)) (onTc (τ := Cert.KernelNormSIdeal.τ) (Cert.KernelNormSIdeal.main (F := Ideal))) ⟨m, fun _ => 0, g⟩ (fun r => (∀ c : Dev Cert.KernelNormSIdeal.nD,
      r.2.mem ((c.tc : Thread Cert.KernelNormSIdeal.nD Cert.KernelNormSIdeal.τ).loc Cert.KernelNormSIdeal.main_arg0) = m ((c.tc : Thread Cert.KernelNormSIdeal.nD Cert.KernelNormSIdeal.τ).loc Cert.KernelNormSIdeal.main_arg0)
      ∧ r.2.mem ((c.tc : Thread Cert.KernelNormSIdeal.nD Cert.KernelNormSIdeal.τ).loc Cert.KernelNormSIdeal.main_arg1) = m ((c.tc : Thread Cert.KernelNormSIdeal.nD Cert.KernelNormSIdeal.τ).loc Cert.KernelNormSIdeal.main_arg1))
      ∧ r.2.sem = fun _ => 0)

def quiescent_ReferenceNormSIdeal [hReferenceNormSIdeal : Cert.ReferenceNormSIdeal.Facts] : Prop :=
  ∀ (m : (ℓ : Loc Cert.ReferenceNormSIdeal.nD Cert.ReferenceNormSIdeal.τ Cert.ReferenceNormSIdeal.sig) → Buf (Elt Ideal) ℓ) (g : Dev Cert.ReferenceNormSIdeal.nD → PrngReg), Pre_ReferenceNormSIdeal m →
    θ_run (Cert.ReferenceNormSIdeal.defs (F := Ideal)) (onTc (τ := Cert.ReferenceNormSIdeal.τ) (Cert.ReferenceNormSIdeal.main (F := Ideal))) ⟨m, fun _ => 0, g⟩ (fun r => (∀ c : Dev Cert.ReferenceNormSIdeal.nD,
      r.2.mem ((c.tc : Thread Cert.ReferenceNormSIdeal.nD Cert.ReferenceNormSIdeal.τ).loc Cert.ReferenceNormSIdeal.main_arg0) = m ((c.tc : Thread Cert.ReferenceNormSIdeal.nD Cert.ReferenceNormSIdeal.τ).loc Cert.ReferenceNormSIdeal.main_arg0)
      ∧ r.2.mem ((c.tc : Thread Cert.ReferenceNormSIdeal.nD Cert.ReferenceNormSIdeal.τ).loc Cert.ReferenceNormSIdeal.main_arg1) = m ((c.tc : Thread Cert.ReferenceNormSIdeal.nD Cert.ReferenceNormSIdeal.τ).loc Cert.ReferenceNormSIdeal.main_arg1))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1)
      ∧ r.2.mem ((c.tc : Thread Cert.KernelSb.nD Cert.KernelSb.τ).loc Cert.KernelSb.main_arg2) = m ((c.tc : Thread Cert.KernelSb.nD Cert.KernelSb.τ).loc Cert.KernelSb.main_arg2))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ r.2.sem = fun _ => 0)

def quiescent_KernelSbIdeal_pre_sb_finite [hKernelSbIdeal : Cert.KernelSbIdeal.Facts] [hPre_sb_finite : Cert.Pre_sb_finite.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_sb_finite m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_ReferenceSbIdeal_pre_sb_finite [hReferenceSbIdeal : Cert.ReferenceSbIdeal.Facts] [hPre_sb_finite : Cert.Pre_sb_finite.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_sb_finite m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_KernelLayerNorm [hKernelLayerNorm : Cert.KernelLayerNorm.Facts] : Prop :=
  ∀ (m : (ℓ : Loc Cert.KernelLayerNorm.nD Cert.KernelLayerNorm.τ Cert.KernelLayerNorm.sig) → Buf (Elt Bits) ℓ) (g : Dev Cert.KernelLayerNorm.nD → PrngReg), Pre_KernelLayerNorm m →
    θ_run (Cert.KernelLayerNorm.defs (F := Bits)) (onTc (τ := Cert.KernelLayerNorm.τ) (Cert.KernelLayerNorm.main (F := Bits))) ⟨m, fun _ => 0, g⟩ (fun r => (∀ c : Dev Cert.KernelLayerNorm.nD,
      r.2.mem ((c.tc : Thread Cert.KernelLayerNorm.nD Cert.KernelLayerNorm.τ).loc Cert.KernelLayerNorm.main_arg0) = m ((c.tc : Thread Cert.KernelLayerNorm.nD Cert.KernelLayerNorm.τ).loc Cert.KernelLayerNorm.main_arg0)
      ∧ r.2.mem ((c.tc : Thread Cert.KernelLayerNorm.nD Cert.KernelLayerNorm.τ).loc Cert.KernelLayerNorm.main_arg1) = m ((c.tc : Thread Cert.KernelLayerNorm.nD Cert.KernelLayerNorm.τ).loc Cert.KernelLayerNorm.main_arg1))
      ∧ r.2.sem = fun _ => 0)

def quiescent_KernelLayerNormIdeal [hKernelLayerNormIdeal : Cert.KernelLayerNormIdeal.Facts] : Prop :=
  ∀ (m : (ℓ : Loc Cert.KernelLayerNormIdeal.nD Cert.KernelLayerNormIdeal.τ Cert.KernelLayerNormIdeal.sig) → Buf (Elt Ideal) ℓ) (g : Dev Cert.KernelLayerNormIdeal.nD → PrngReg), Pre_KernelLayerNormIdeal m →
    θ_run (Cert.KernelLayerNormIdeal.defs (F := Ideal)) (onTc (τ := Cert.KernelLayerNormIdeal.τ) (Cert.KernelLayerNormIdeal.main (F := Ideal))) ⟨m, fun _ => 0, g⟩ (fun r => (∀ c : Dev Cert.KernelLayerNormIdeal.nD,
      r.2.mem ((c.tc : Thread Cert.KernelLayerNormIdeal.nD Cert.KernelLayerNormIdeal.τ).loc Cert.KernelLayerNormIdeal.main_arg0) = m ((c.tc : Thread Cert.KernelLayerNormIdeal.nD Cert.KernelLayerNormIdeal.τ).loc Cert.KernelLayerNormIdeal.main_arg0)
      ∧ r.2.mem ((c.tc : Thread Cert.KernelLayerNormIdeal.nD Cert.KernelLayerNormIdeal.τ).loc Cert.KernelLayerNormIdeal.main_arg1) = m ((c.tc : Thread Cert.KernelLayerNormIdeal.nD Cert.KernelLayerNormIdeal.τ).loc Cert.KernelLayerNormIdeal.main_arg1))
      ∧ r.2.sem = fun _ => 0)

def quiescent_ReferenceLayerNormIdeal [hReferenceLayerNormIdeal : Cert.ReferenceLayerNormIdeal.Facts] : Prop :=
  ∀ (m : (ℓ : Loc Cert.ReferenceLayerNormIdeal.nD Cert.ReferenceLayerNormIdeal.τ Cert.ReferenceLayerNormIdeal.sig) → Buf (Elt Ideal) ℓ) (g : Dev Cert.ReferenceLayerNormIdeal.nD → PrngReg), Pre_ReferenceLayerNormIdeal m →
    θ_run (Cert.ReferenceLayerNormIdeal.defs (F := Ideal)) (onTc (τ := Cert.ReferenceLayerNormIdeal.τ) (Cert.ReferenceLayerNormIdeal.main (F := Ideal))) ⟨m, fun _ => 0, g⟩ (fun r => (∀ c : Dev Cert.ReferenceLayerNormIdeal.nD,
      r.2.mem ((c.tc : Thread Cert.ReferenceLayerNormIdeal.nD Cert.ReferenceLayerNormIdeal.τ).loc Cert.ReferenceLayerNormIdeal.main_arg0) = m ((c.tc : Thread Cert.ReferenceLayerNormIdeal.nD Cert.ReferenceLayerNormIdeal.τ).loc Cert.ReferenceLayerNormIdeal.main_arg0)
      ∧ r.2.mem ((c.tc : Thread Cert.ReferenceLayerNormIdeal.nD Cert.ReferenceLayerNormIdeal.τ).loc Cert.ReferenceLayerNormIdeal.main_arg1) = m ((c.tc : Thread Cert.ReferenceLayerNormIdeal.nD Cert.ReferenceLayerNormIdeal.τ).loc Cert.ReferenceLayerNormIdeal.main_arg1))
      ∧ r.2.sem = fun _ => 0)

def quiescent_KernelLayerNormS [hKernelLayerNormS : Cert.KernelLayerNormS.Facts] : Prop :=
  ∀ (m : (ℓ : Loc Cert.KernelLayerNormS.nD Cert.KernelLayerNormS.τ Cert.KernelLayerNormS.sig) → Buf (Elt Bits) ℓ) (g : Dev Cert.KernelLayerNormS.nD → PrngReg), Pre_KernelLayerNormS m →
    θ_run (Cert.KernelLayerNormS.defs (F := Bits)) (onTc (τ := Cert.KernelLayerNormS.τ) (Cert.KernelLayerNormS.main (F := Bits))) ⟨m, fun _ => 0, g⟩ (fun r => (∀ c : Dev Cert.KernelLayerNormS.nD,
      r.2.mem ((c.tc : Thread Cert.KernelLayerNormS.nD Cert.KernelLayerNormS.τ).loc Cert.KernelLayerNormS.main_arg0) = m ((c.tc : Thread Cert.KernelLayerNormS.nD Cert.KernelLayerNormS.τ).loc Cert.KernelLayerNormS.main_arg0)
      ∧ r.2.mem ((c.tc : Thread Cert.KernelLayerNormS.nD Cert.KernelLayerNormS.τ).loc Cert.KernelLayerNormS.main_arg1) = m ((c.tc : Thread Cert.KernelLayerNormS.nD Cert.KernelLayerNormS.τ).loc Cert.KernelLayerNormS.main_arg1))
      ∧ r.2.sem = fun _ => 0)

def quiescent_KernelLayerNormSIdeal [hKernelLayerNormSIdeal : Cert.KernelLayerNormSIdeal.Facts] : Prop :=
  ∀ (m : (ℓ : Loc Cert.KernelLayerNormSIdeal.nD Cert.KernelLayerNormSIdeal.τ Cert.KernelLayerNormSIdeal.sig) → Buf (Elt Ideal) ℓ) (g : Dev Cert.KernelLayerNormSIdeal.nD → PrngReg), Pre_KernelLayerNormSIdeal m →
    θ_run (Cert.KernelLayerNormSIdeal.defs (F := Ideal)) (onTc (τ := Cert.KernelLayerNormSIdeal.τ) (Cert.KernelLayerNormSIdeal.main (F := Ideal))) ⟨m, fun _ => 0, g⟩ (fun r => (∀ c : Dev Cert.KernelLayerNormSIdeal.nD,
      r.2.mem ((c.tc : Thread Cert.KernelLayerNormSIdeal.nD Cert.KernelLayerNormSIdeal.τ).loc Cert.KernelLayerNormSIdeal.main_arg0) = m ((c.tc : Thread Cert.KernelLayerNormSIdeal.nD Cert.KernelLayerNormSIdeal.τ).loc Cert.KernelLayerNormSIdeal.main_arg0)
      ∧ r.2.mem ((c.tc : Thread Cert.KernelLayerNormSIdeal.nD Cert.KernelLayerNormSIdeal.τ).loc Cert.KernelLayerNormSIdeal.main_arg1) = m ((c.tc : Thread Cert.KernelLayerNormSIdeal.nD Cert.KernelLayerNormSIdeal.τ).loc Cert.KernelLayerNormSIdeal.main_arg1))
      ∧ r.2.sem = fun _ => 0)

def quiescent_ReferenceLayerNormSIdeal [hReferenceLayerNormSIdeal : Cert.ReferenceLayerNormSIdeal.Facts] : Prop :=
  ∀ (m : (ℓ : Loc Cert.ReferenceLayerNormSIdeal.nD Cert.ReferenceLayerNormSIdeal.τ Cert.ReferenceLayerNormSIdeal.sig) → Buf (Elt Ideal) ℓ) (g : Dev Cert.ReferenceLayerNormSIdeal.nD → PrngReg), Pre_ReferenceLayerNormSIdeal m →
    θ_run (Cert.ReferenceLayerNormSIdeal.defs (F := Ideal)) (onTc (τ := Cert.ReferenceLayerNormSIdeal.τ) (Cert.ReferenceLayerNormSIdeal.main (F := Ideal))) ⟨m, fun _ => 0, g⟩ (fun r => (∀ c : Dev Cert.ReferenceLayerNormSIdeal.nD,
      r.2.mem ((c.tc : Thread Cert.ReferenceLayerNormSIdeal.nD Cert.ReferenceLayerNormSIdeal.τ).loc Cert.ReferenceLayerNormSIdeal.main_arg0) = m ((c.tc : Thread Cert.ReferenceLayerNormSIdeal.nD Cert.ReferenceLayerNormSIdeal.τ).loc Cert.ReferenceLayerNormSIdeal.main_arg0)
      ∧ r.2.mem ((c.tc : Thread Cert.ReferenceLayerNormSIdeal.nD Cert.ReferenceLayerNormSIdeal.τ).loc Cert.ReferenceLayerNormSIdeal.main_arg1) = m ((c.tc : Thread Cert.ReferenceLayerNormSIdeal.nD Cert.ReferenceLayerNormSIdeal.τ).loc Cert.ReferenceLayerNormSIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelDiffQ_KernelDiffQIdeal : Prop :=
  True

def algebraic_KernelDiffQIdeal_ReferenceDiffQIdeal [hKernelDiffQIdeal : Cert.KernelDiffQIdeal.Facts] [hReferenceDiffQIdeal : Cert.ReferenceDiffQIdeal.Facts] : Prop :=
  ∀ (m : (ℓ : Loc Cert.KernelDiffQIdeal.nD Cert.KernelDiffQIdeal.τ Cert.KernelDiffQIdeal.sig) → Buf (Elt Ideal) ℓ) (g : Dev Cert.KernelDiffQIdeal.nD → PrngReg)
    (m' : (ℓ : Loc Cert.ReferenceDiffQIdeal.nD Cert.ReferenceDiffQIdeal.τ Cert.ReferenceDiffQIdeal.sig) → Buf (Elt Ideal) ℓ) (g' : Dev Cert.ReferenceDiffQIdeal.nD → PrngReg), Pre_KernelDiffQIdeal m →
    (∀ c : Dev Cert.KernelDiffQIdeal.nD,
      m' ((c.tc : Thread Cert.ReferenceDiffQIdeal.nD Cert.ReferenceDiffQIdeal.τ).loc Cert.ReferenceDiffQIdeal.main_arg0) = m ((c.tc : Thread Cert.KernelDiffQIdeal.nD Cert.KernelDiffQIdeal.τ).loc Cert.KernelDiffQIdeal.main_arg0)
      ∧ m' ((c.tc : Thread Cert.ReferenceDiffQIdeal.nD Cert.ReferenceDiffQIdeal.τ).loc Cert.ReferenceDiffQIdeal.main_arg1) = m ((c.tc : Thread Cert.KernelDiffQIdeal.nD Cert.KernelDiffQIdeal.τ).loc Cert.KernelDiffQIdeal.main_arg1)) →
    ∃ (v0 : (c : Dev Cert.KernelDiffQIdeal.nD) → Buf (Elt Ideal) ((c.tc : Thread Cert.KernelDiffQIdeal.nD Cert.KernelDiffQIdeal.τ).loc Cert.KernelDiffQIdeal.main_v0)),
      θ_run (Cert.KernelDiffQIdeal.defs (F := Ideal)) (onTc (τ := Cert.KernelDiffQIdeal.τ) (Cert.KernelDiffQIdeal.main (F := Ideal))) ⟨m, fun _ => 0, g⟩ (fun r => ∀ c : Dev Cert.KernelDiffQIdeal.nD,
          r.2.mem ((c.tc : Thread Cert.KernelDiffQIdeal.nD Cert.KernelDiffQIdeal.τ).loc Cert.KernelDiffQIdeal.main_v0) = v0 c
          ∧ r.2.mem ((c.tc : Thread Cert.KernelDiffQIdeal.nD Cert.KernelDiffQIdeal.τ).loc Cert.KernelDiffQIdeal.main_arg0) = m ((c.tc : Thread Cert.KernelDiffQIdeal.nD Cert.KernelDiffQIdeal.τ).loc Cert.KernelDiffQIdeal.main_arg0)
          ∧ r.2.mem ((c.tc : Thread Cert.KernelDiffQIdeal.nD Cert.KernelDiffQIdeal.τ).loc Cert.KernelDiffQIdeal.main_arg1) = m ((c.tc : Thread Cert.KernelDiffQIdeal.nD Cert.KernelDiffQIdeal.τ).loc Cert.KernelDiffQIdeal.main_arg1))
      ∧ θ_run (Cert.ReferenceDiffQIdeal.defs (F := Ideal)) (onTc (τ := Cert.ReferenceDiffQIdeal.τ) (Cert.ReferenceDiffQIdeal.main (F := Ideal))) ⟨m', fun _ => 0, g'⟩ (fun r => ∀ c : Dev Cert.ReferenceDiffQIdeal.nD,
          r.2.mem ((c.tc : Thread Cert.ReferenceDiffQIdeal.nD Cert.ReferenceDiffQIdeal.τ).loc Cert.ReferenceDiffQIdeal.main_v2) = v0 c
          ∧ r.2.mem ((c.tc : Thread Cert.ReferenceDiffQIdeal.nD Cert.ReferenceDiffQIdeal.τ).loc Cert.ReferenceDiffQIdeal.main_arg0) = m' ((c.tc : Thread Cert.ReferenceDiffQIdeal.nD Cert.ReferenceDiffQIdeal.τ).loc Cert.ReferenceDiffQIdeal.main_arg0)
          ∧ r.2.mem ((c.tc : Thread Cert.ReferenceDiffQIdeal.nD Cert.ReferenceDiffQIdeal.τ).loc Cert.ReferenceDiffQIdeal.main_arg1) = m' ((c.tc : Thread Cert.ReferenceDiffQIdeal.nD Cert.ReferenceDiffQIdeal.τ).loc Cert.ReferenceDiffQIdeal.main_arg1))

def preserves_KernelDiffKv_KernelDiffKvIdeal : Prop :=
  True

def algebraic_KernelDiffKvIdeal_ReferenceDiffKvIdeal [hKernelDiffKvIdeal : Cert.KernelDiffKvIdeal.Facts] [hReferenceDiffKvIdeal : Cert.ReferenceDiffKvIdeal.Facts] : Prop :=
  ∀ (m : (ℓ : Loc Cert.KernelDiffKvIdeal.nD Cert.KernelDiffKvIdeal.τ Cert.KernelDiffKvIdeal.sig) → Buf (Elt Ideal) ℓ) (g : Dev Cert.KernelDiffKvIdeal.nD → PrngReg)
    (m' : (ℓ : Loc Cert.ReferenceDiffKvIdeal.nD Cert.ReferenceDiffKvIdeal.τ Cert.ReferenceDiffKvIdeal.sig) → Buf (Elt Ideal) ℓ) (g' : Dev Cert.ReferenceDiffKvIdeal.nD → PrngReg), Pre_KernelDiffKvIdeal m →
    (∀ c : Dev Cert.KernelDiffKvIdeal.nD,
      m' ((c.tc : Thread Cert.ReferenceDiffKvIdeal.nD Cert.ReferenceDiffKvIdeal.τ).loc Cert.ReferenceDiffKvIdeal.main_arg0) = m ((c.tc : Thread Cert.KernelDiffKvIdeal.nD Cert.KernelDiffKvIdeal.τ).loc Cert.KernelDiffKvIdeal.main_arg0)
      ∧ m' ((c.tc : Thread Cert.ReferenceDiffKvIdeal.nD Cert.ReferenceDiffKvIdeal.τ).loc Cert.ReferenceDiffKvIdeal.main_arg1) = m ((c.tc : Thread Cert.KernelDiffKvIdeal.nD Cert.KernelDiffKvIdeal.τ).loc Cert.KernelDiffKvIdeal.main_arg1)) →
    ∃ (v0 : (c : Dev Cert.KernelDiffKvIdeal.nD) → Buf (Elt Ideal) ((c.tc : Thread Cert.KernelDiffKvIdeal.nD Cert.KernelDiffKvIdeal.τ).loc Cert.KernelDiffKvIdeal.main_v0)),
      θ_run (Cert.KernelDiffKvIdeal.defs (F := Ideal)) (onTc (τ := Cert.KernelDiffKvIdeal.τ) (Cert.KernelDiffKvIdeal.main (F := Ideal))) ⟨m, fun _ => 0, g⟩ (fun r => ∀ c : Dev Cert.KernelDiffKvIdeal.nD,
          r.2.mem ((c.tc : Thread Cert.KernelDiffKvIdeal.nD Cert.KernelDiffKvIdeal.τ).loc Cert.KernelDiffKvIdeal.main_v0) = v0 c
          ∧ r.2.mem ((c.tc : Thread Cert.KernelDiffKvIdeal.nD Cert.KernelDiffKvIdeal.τ).loc Cert.KernelDiffKvIdeal.main_arg0) = m ((c.tc : Thread Cert.KernelDiffKvIdeal.nD Cert.KernelDiffKvIdeal.τ).loc Cert.KernelDiffKvIdeal.main_arg0)
          ∧ r.2.mem ((c.tc : Thread Cert.KernelDiffKvIdeal.nD Cert.KernelDiffKvIdeal.τ).loc Cert.KernelDiffKvIdeal.main_arg1) = m ((c.tc : Thread Cert.KernelDiffKvIdeal.nD Cert.KernelDiffKvIdeal.τ).loc Cert.KernelDiffKvIdeal.main_arg1))
      ∧ θ_run (Cert.ReferenceDiffKvIdeal.defs (F := Ideal)) (onTc (τ := Cert.ReferenceDiffKvIdeal.τ) (Cert.ReferenceDiffKvIdeal.main (F := Ideal))) ⟨m', fun _ => 0, g'⟩ (fun r => ∀ c : Dev Cert.ReferenceDiffKvIdeal.nD,
          r.2.mem ((c.tc : Thread Cert.ReferenceDiffKvIdeal.nD Cert.ReferenceDiffKvIdeal.τ).loc Cert.ReferenceDiffKvIdeal.main_v2) = v0 c
          ∧ r.2.mem ((c.tc : Thread Cert.ReferenceDiffKvIdeal.nD Cert.ReferenceDiffKvIdeal.τ).loc Cert.ReferenceDiffKvIdeal.main_arg0) = m' ((c.tc : Thread Cert.ReferenceDiffKvIdeal.nD Cert.ReferenceDiffKvIdeal.τ).loc Cert.ReferenceDiffKvIdeal.main_arg0)
          ∧ r.2.mem ((c.tc : Thread Cert.ReferenceDiffKvIdeal.nD Cert.ReferenceDiffKvIdeal.τ).loc Cert.ReferenceDiffKvIdeal.main_arg1) = m' ((c.tc : Thread Cert.ReferenceDiffKvIdeal.nD Cert.ReferenceDiffKvIdeal.τ).loc Cert.ReferenceDiffKvIdeal.main_arg1))

def preserves_KernelDiffZ_KernelDiffZIdeal : Prop :=
  True

def algebraic_KernelDiffZIdeal_ReferenceDiffZIdeal [hKernelDiffZIdeal : Cert.KernelDiffZIdeal.Facts] [hReferenceDiffZIdeal : Cert.ReferenceDiffZIdeal.Facts] : Prop :=
  ∀ (m : (ℓ : Loc Cert.KernelDiffZIdeal.nD Cert.KernelDiffZIdeal.τ Cert.KernelDiffZIdeal.sig) → Buf (Elt Ideal) ℓ) (g : Dev Cert.KernelDiffZIdeal.nD → PrngReg)
    (m' : (ℓ : Loc Cert.ReferenceDiffZIdeal.nD Cert.ReferenceDiffZIdeal.τ Cert.ReferenceDiffZIdeal.sig) → Buf (Elt Ideal) ℓ) (g' : Dev Cert.ReferenceDiffZIdeal.nD → PrngReg), Pre_KernelDiffZIdeal m →
    (∀ c : Dev Cert.KernelDiffZIdeal.nD,
      m' ((c.tc : Thread Cert.ReferenceDiffZIdeal.nD Cert.ReferenceDiffZIdeal.τ).loc Cert.ReferenceDiffZIdeal.main_arg0) = m ((c.tc : Thread Cert.KernelDiffZIdeal.nD Cert.KernelDiffZIdeal.τ).loc Cert.KernelDiffZIdeal.main_arg0)
      ∧ m' ((c.tc : Thread Cert.ReferenceDiffZIdeal.nD Cert.ReferenceDiffZIdeal.τ).loc Cert.ReferenceDiffZIdeal.main_arg1) = m ((c.tc : Thread Cert.KernelDiffZIdeal.nD Cert.KernelDiffZIdeal.τ).loc Cert.KernelDiffZIdeal.main_arg1)) →
    ∃ (v0 : (c : Dev Cert.KernelDiffZIdeal.nD) → Buf (Elt Ideal) ((c.tc : Thread Cert.KernelDiffZIdeal.nD Cert.KernelDiffZIdeal.τ).loc Cert.KernelDiffZIdeal.main_v0)),
      θ_run (Cert.KernelDiffZIdeal.defs (F := Ideal)) (onTc (τ := Cert.KernelDiffZIdeal.τ) (Cert.KernelDiffZIdeal.main (F := Ideal))) ⟨m, fun _ => 0, g⟩ (fun r => ∀ c : Dev Cert.KernelDiffZIdeal.nD,
          r.2.mem ((c.tc : Thread Cert.KernelDiffZIdeal.nD Cert.KernelDiffZIdeal.τ).loc Cert.KernelDiffZIdeal.main_v0) = v0 c
          ∧ r.2.mem ((c.tc : Thread Cert.KernelDiffZIdeal.nD Cert.KernelDiffZIdeal.τ).loc Cert.KernelDiffZIdeal.main_arg0) = m ((c.tc : Thread Cert.KernelDiffZIdeal.nD Cert.KernelDiffZIdeal.τ).loc Cert.KernelDiffZIdeal.main_arg0)
          ∧ r.2.mem ((c.tc : Thread Cert.KernelDiffZIdeal.nD Cert.KernelDiffZIdeal.τ).loc Cert.KernelDiffZIdeal.main_arg1) = m ((c.tc : Thread Cert.KernelDiffZIdeal.nD Cert.KernelDiffZIdeal.τ).loc Cert.KernelDiffZIdeal.main_arg1))
      ∧ θ_run (Cert.ReferenceDiffZIdeal.defs (F := Ideal)) (onTc (τ := Cert.ReferenceDiffZIdeal.τ) (Cert.ReferenceDiffZIdeal.main (F := Ideal))) ⟨m', fun _ => 0, g'⟩ (fun r => ∀ c : Dev Cert.ReferenceDiffZIdeal.nD,
          r.2.mem ((c.tc : Thread Cert.ReferenceDiffZIdeal.nD Cert.ReferenceDiffZIdeal.τ).loc Cert.ReferenceDiffZIdeal.main_v2) = v0 c
          ∧ r.2.mem ((c.tc : Thread Cert.ReferenceDiffZIdeal.nD Cert.ReferenceDiffZIdeal.τ).loc Cert.ReferenceDiffZIdeal.main_arg0) = m' ((c.tc : Thread Cert.ReferenceDiffZIdeal.nD Cert.ReferenceDiffZIdeal.τ).loc Cert.ReferenceDiffZIdeal.main_arg0)
          ∧ r.2.mem ((c.tc : Thread Cert.ReferenceDiffZIdeal.nD Cert.ReferenceDiffZIdeal.τ).loc Cert.ReferenceDiffZIdeal.main_arg1) = m' ((c.tc : Thread Cert.ReferenceDiffZIdeal.nD Cert.ReferenceDiffZIdeal.τ).loc Cert.ReferenceDiffZIdeal.main_arg1))

def preserves_KernelSbQ_KernelSbQIdeal : Prop :=
  True

def algebraic_KernelSbQIdeal_ReferenceSbQIdeal [hKernelSbQIdeal : Cert.KernelSbQIdeal.Facts] [hReferenceSbQIdeal : Cert.ReferenceSbQIdeal.Facts] : Prop :=
  ∀ (m : (ℓ : Loc Cert.KernelSbQIdeal.nD Cert.KernelSbQIdeal.τ Cert.KernelSbQIdeal.sig) → Buf (Elt Ideal) ℓ) (g : Dev Cert.KernelSbQIdeal.nD → PrngReg)
    (m' : (ℓ : Loc Cert.ReferenceSbQIdeal.nD Cert.ReferenceSbQIdeal.τ Cert.ReferenceSbQIdeal.sig) → Buf (Elt Ideal) ℓ) (g' : Dev Cert.ReferenceSbQIdeal.nD → PrngReg), Pre_KernelSbQIdeal m →
    (∀ c : Dev Cert.KernelSbQIdeal.nD,
      m' ((c.tc : Thread Cert.ReferenceSbQIdeal.nD Cert.ReferenceSbQIdeal.τ).loc Cert.ReferenceSbQIdeal.main_arg0) = m ((c.tc : Thread Cert.KernelSbQIdeal.nD Cert.KernelSbQIdeal.τ).loc Cert.KernelSbQIdeal.main_arg0)
      ∧ m' ((c.tc : Thread Cert.ReferenceSbQIdeal.nD Cert.ReferenceSbQIdeal.τ).loc Cert.ReferenceSbQIdeal.main_arg1) = m ((c.tc : Thread Cert.KernelSbQIdeal.nD Cert.KernelSbQIdeal.τ).loc Cert.KernelSbQIdeal.main_arg1)) →
    ∃ (v0 : (c : Dev Cert.KernelSbQIdeal.nD) → Buf (Elt Ideal) ((c.tc : Thread Cert.KernelSbQIdeal.nD Cert.KernelSbQIdeal.τ).loc Cert.KernelSbQIdeal.main_v0)),
      θ_run (Cert.KernelSbQIdeal.defs (F := Ideal)) (onTc (τ := Cert.KernelSbQIdeal.τ) (Cert.KernelSbQIdeal.main (F := Ideal))) ⟨m, fun _ => 0, g⟩ (fun r => ∀ c : Dev Cert.KernelSbQIdeal.nD,
          r.2.mem ((c.tc : Thread Cert.KernelSbQIdeal.nD Cert.KernelSbQIdeal.τ).loc Cert.KernelSbQIdeal.main_v0) = v0 c
          ∧ r.2.mem ((c.tc : Thread Cert.KernelSbQIdeal.nD Cert.KernelSbQIdeal.τ).loc Cert.KernelSbQIdeal.main_arg0) = m ((c.tc : Thread Cert.KernelSbQIdeal.nD Cert.KernelSbQIdeal.τ).loc Cert.KernelSbQIdeal.main_arg0)
          ∧ r.2.mem ((c.tc : Thread Cert.KernelSbQIdeal.nD Cert.KernelSbQIdeal.τ).loc Cert.KernelSbQIdeal.main_arg1) = m ((c.tc : Thread Cert.KernelSbQIdeal.nD Cert.KernelSbQIdeal.τ).loc Cert.KernelSbQIdeal.main_arg1))
      ∧ θ_run (Cert.ReferenceSbQIdeal.defs (F := Ideal)) (onTc (τ := Cert.ReferenceSbQIdeal.τ) (Cert.ReferenceSbQIdeal.main (F := Ideal))) ⟨m', fun _ => 0, g'⟩ (fun r => ∀ c : Dev Cert.ReferenceSbQIdeal.nD,
          r.2.mem ((c.tc : Thread Cert.ReferenceSbQIdeal.nD Cert.ReferenceSbQIdeal.τ).loc Cert.ReferenceSbQIdeal.main_v2) = v0 c
          ∧ r.2.mem ((c.tc : Thread Cert.ReferenceSbQIdeal.nD Cert.ReferenceSbQIdeal.τ).loc Cert.ReferenceSbQIdeal.main_arg0) = m' ((c.tc : Thread Cert.ReferenceSbQIdeal.nD Cert.ReferenceSbQIdeal.τ).loc Cert.ReferenceSbQIdeal.main_arg0)
          ∧ r.2.mem ((c.tc : Thread Cert.ReferenceSbQIdeal.nD Cert.ReferenceSbQIdeal.τ).loc Cert.ReferenceSbQIdeal.main_arg1) = m' ((c.tc : Thread Cert.ReferenceSbQIdeal.nD Cert.ReferenceSbQIdeal.τ).loc Cert.ReferenceSbQIdeal.main_arg1))

def preserves_KernelSbKv_KernelSbKvIdeal : Prop :=
  True

def algebraic_KernelSbKvIdeal_ReferenceSbKvIdeal [hKernelSbKvIdeal : Cert.KernelSbKvIdeal.Facts] [hReferenceSbKvIdeal : Cert.ReferenceSbKvIdeal.Facts] : Prop :=
  ∀ (m : (ℓ : Loc Cert.KernelSbKvIdeal.nD Cert.KernelSbKvIdeal.τ Cert.KernelSbKvIdeal.sig) → Buf (Elt Ideal) ℓ) (g : Dev Cert.KernelSbKvIdeal.nD → PrngReg)
    (m' : (ℓ : Loc Cert.ReferenceSbKvIdeal.nD Cert.ReferenceSbKvIdeal.τ Cert.ReferenceSbKvIdeal.sig) → Buf (Elt Ideal) ℓ) (g' : Dev Cert.ReferenceSbKvIdeal.nD → PrngReg), Pre_KernelSbKvIdeal m →
    (∀ c : Dev Cert.KernelSbKvIdeal.nD,
      m' ((c.tc : Thread Cert.ReferenceSbKvIdeal.nD Cert.ReferenceSbKvIdeal.τ).loc Cert.ReferenceSbKvIdeal.main_arg0) = m ((c.tc : Thread Cert.KernelSbKvIdeal.nD Cert.KernelSbKvIdeal.τ).loc Cert.KernelSbKvIdeal.main_arg0)
      ∧ m' ((c.tc : Thread Cert.ReferenceSbKvIdeal.nD Cert.ReferenceSbKvIdeal.τ).loc Cert.ReferenceSbKvIdeal.main_arg1) = m ((c.tc : Thread Cert.KernelSbKvIdeal.nD Cert.KernelSbKvIdeal.τ).loc Cert.KernelSbKvIdeal.main_arg1)) →
    ∃ (v0 : (c : Dev Cert.KernelSbKvIdeal.nD) → Buf (Elt Ideal) ((c.tc : Thread Cert.KernelSbKvIdeal.nD Cert.KernelSbKvIdeal.τ).loc Cert.KernelSbKvIdeal.main_v0)),
      θ_run (Cert.KernelSbKvIdeal.defs (F := Ideal)) (onTc (τ := Cert.KernelSbKvIdeal.τ) (Cert.KernelSbKvIdeal.main (F := Ideal))) ⟨m, fun _ => 0, g⟩ (fun r => ∀ c : Dev Cert.KernelSbKvIdeal.nD,
          r.2.mem ((c.tc : Thread Cert.KernelSbKvIdeal.nD Cert.KernelSbKvIdeal.τ).loc Cert.KernelSbKvIdeal.main_v0) = v0 c
          ∧ r.2.mem ((c.tc : Thread Cert.KernelSbKvIdeal.nD Cert.KernelSbKvIdeal.τ).loc Cert.KernelSbKvIdeal.main_arg0) = m ((c.tc : Thread Cert.KernelSbKvIdeal.nD Cert.KernelSbKvIdeal.τ).loc Cert.KernelSbKvIdeal.main_arg0)
          ∧ r.2.mem ((c.tc : Thread Cert.KernelSbKvIdeal.nD Cert.KernelSbKvIdeal.τ).loc Cert.KernelSbKvIdeal.main_arg1) = m ((c.tc : Thread Cert.KernelSbKvIdeal.nD Cert.KernelSbKvIdeal.τ).loc Cert.KernelSbKvIdeal.main_arg1))
      ∧ θ_run (Cert.ReferenceSbKvIdeal.defs (F := Ideal)) (onTc (τ := Cert.ReferenceSbKvIdeal.τ) (Cert.ReferenceSbKvIdeal.main (F := Ideal))) ⟨m', fun _ => 0, g'⟩ (fun r => ∀ c : Dev Cert.ReferenceSbKvIdeal.nD,
          r.2.mem ((c.tc : Thread Cert.ReferenceSbKvIdeal.nD Cert.ReferenceSbKvIdeal.τ).loc Cert.ReferenceSbKvIdeal.main_v2) = v0 c
          ∧ r.2.mem ((c.tc : Thread Cert.ReferenceSbKvIdeal.nD Cert.ReferenceSbKvIdeal.τ).loc Cert.ReferenceSbKvIdeal.main_arg0) = m' ((c.tc : Thread Cert.ReferenceSbKvIdeal.nD Cert.ReferenceSbKvIdeal.τ).loc Cert.ReferenceSbKvIdeal.main_arg0)
          ∧ r.2.mem ((c.tc : Thread Cert.ReferenceSbKvIdeal.nD Cert.ReferenceSbKvIdeal.τ).loc Cert.ReferenceSbKvIdeal.main_arg1) = m' ((c.tc : Thread Cert.ReferenceSbKvIdeal.nD Cert.ReferenceSbKvIdeal.τ).loc Cert.ReferenceSbKvIdeal.main_arg1))

def preserves_KernelSbZ_KernelSbZIdeal : Prop :=
  True

def algebraic_KernelSbZIdeal_ReferenceSbZIdeal [hKernelSbZIdeal : Cert.KernelSbZIdeal.Facts] [hReferenceSbZIdeal : Cert.ReferenceSbZIdeal.Facts] : Prop :=
  ∀ (m : (ℓ : Loc Cert.KernelSbZIdeal.nD Cert.KernelSbZIdeal.τ Cert.KernelSbZIdeal.sig) → Buf (Elt Ideal) ℓ) (g : Dev Cert.KernelSbZIdeal.nD → PrngReg)
    (m' : (ℓ : Loc Cert.ReferenceSbZIdeal.nD Cert.ReferenceSbZIdeal.τ Cert.ReferenceSbZIdeal.sig) → Buf (Elt Ideal) ℓ) (g' : Dev Cert.ReferenceSbZIdeal.nD → PrngReg), Pre_KernelSbZIdeal m →
    (∀ c : Dev Cert.KernelSbZIdeal.nD,
      m' ((c.tc : Thread Cert.ReferenceSbZIdeal.nD Cert.ReferenceSbZIdeal.τ).loc Cert.ReferenceSbZIdeal.main_arg0) = m ((c.tc : Thread Cert.KernelSbZIdeal.nD Cert.KernelSbZIdeal.τ).loc Cert.KernelSbZIdeal.main_arg0)
      ∧ m' ((c.tc : Thread Cert.ReferenceSbZIdeal.nD Cert.ReferenceSbZIdeal.τ).loc Cert.ReferenceSbZIdeal.main_arg1) = m ((c.tc : Thread Cert.KernelSbZIdeal.nD Cert.KernelSbZIdeal.τ).loc Cert.KernelSbZIdeal.main_arg1)) →
    ∃ (v0 : (c : Dev Cert.KernelSbZIdeal.nD) → Buf (Elt Ideal) ((c.tc : Thread Cert.KernelSbZIdeal.nD Cert.KernelSbZIdeal.τ).loc Cert.KernelSbZIdeal.main_v0)),
      θ_run (Cert.KernelSbZIdeal.defs (F := Ideal)) (onTc (τ := Cert.KernelSbZIdeal.τ) (Cert.KernelSbZIdeal.main (F := Ideal))) ⟨m, fun _ => 0, g⟩ (fun r => ∀ c : Dev Cert.KernelSbZIdeal.nD,
          r.2.mem ((c.tc : Thread Cert.KernelSbZIdeal.nD Cert.KernelSbZIdeal.τ).loc Cert.KernelSbZIdeal.main_v0) = v0 c
          ∧ r.2.mem ((c.tc : Thread Cert.KernelSbZIdeal.nD Cert.KernelSbZIdeal.τ).loc Cert.KernelSbZIdeal.main_arg0) = m ((c.tc : Thread Cert.KernelSbZIdeal.nD Cert.KernelSbZIdeal.τ).loc Cert.KernelSbZIdeal.main_arg0)
          ∧ r.2.mem ((c.tc : Thread Cert.KernelSbZIdeal.nD Cert.KernelSbZIdeal.τ).loc Cert.KernelSbZIdeal.main_arg1) = m ((c.tc : Thread Cert.KernelSbZIdeal.nD Cert.KernelSbZIdeal.τ).loc Cert.KernelSbZIdeal.main_arg1))
      ∧ θ_run (Cert.ReferenceSbZIdeal.defs (F := Ideal)) (onTc (τ := Cert.ReferenceSbZIdeal.τ) (Cert.ReferenceSbZIdeal.main (F := Ideal))) ⟨m', fun _ => 0, g'⟩ (fun r => ∀ c : Dev Cert.ReferenceSbZIdeal.nD,
          r.2.mem ((c.tc : Thread Cert.ReferenceSbZIdeal.nD Cert.ReferenceSbZIdeal.τ).loc Cert.ReferenceSbZIdeal.main_v2) = v0 c
          ∧ r.2.mem ((c.tc : Thread Cert.ReferenceSbZIdeal.nD Cert.ReferenceSbZIdeal.τ).loc Cert.ReferenceSbZIdeal.main_arg0) = m' ((c.tc : Thread Cert.ReferenceSbZIdeal.nD Cert.ReferenceSbZIdeal.τ).loc Cert.ReferenceSbZIdeal.main_arg0)
          ∧ r.2.mem ((c.tc : Thread Cert.ReferenceSbZIdeal.nD Cert.ReferenceSbZIdeal.τ).loc Cert.ReferenceSbZIdeal.main_arg1) = m' ((c.tc : Thread Cert.ReferenceSbZIdeal.nD Cert.ReferenceSbZIdeal.τ).loc Cert.ReferenceSbZIdeal.main_arg1))

def preserves_KernelNsaQ_KernelNsaQIdeal : Prop :=
  True

def algebraic_KernelNsaQIdeal_ReferenceNsaQIdeal [hKernelNsaQIdeal : Cert.KernelNsaQIdeal.Facts] [hReferenceNsaQIdeal : Cert.ReferenceNsaQIdeal.Facts] : Prop :=
  ∀ (m : (ℓ : Loc Cert.KernelNsaQIdeal.nD Cert.KernelNsaQIdeal.τ Cert.KernelNsaQIdeal.sig) → Buf (Elt Ideal) ℓ) (g : Dev Cert.KernelNsaQIdeal.nD → PrngReg)
    (m' : (ℓ : Loc Cert.ReferenceNsaQIdeal.nD Cert.ReferenceNsaQIdeal.τ Cert.ReferenceNsaQIdeal.sig) → Buf (Elt Ideal) ℓ) (g' : Dev Cert.ReferenceNsaQIdeal.nD → PrngReg), Pre_KernelNsaQIdeal m →
    (∀ c : Dev Cert.KernelNsaQIdeal.nD,
      m' ((c.tc : Thread Cert.ReferenceNsaQIdeal.nD Cert.ReferenceNsaQIdeal.τ).loc Cert.ReferenceNsaQIdeal.main_arg0) = m ((c.tc : Thread Cert.KernelNsaQIdeal.nD Cert.KernelNsaQIdeal.τ).loc Cert.KernelNsaQIdeal.main_arg0)
      ∧ m' ((c.tc : Thread Cert.ReferenceNsaQIdeal.nD Cert.ReferenceNsaQIdeal.τ).loc Cert.ReferenceNsaQIdeal.main_arg1) = m ((c.tc : Thread Cert.KernelNsaQIdeal.nD Cert.KernelNsaQIdeal.τ).loc Cert.KernelNsaQIdeal.main_arg1)) →
    ∃ (v0 : (c : Dev Cert.KernelNsaQIdeal.nD) → Buf (Elt Ideal) ((c.tc : Thread Cert.KernelNsaQIdeal.nD Cert.KernelNsaQIdeal.τ).loc Cert.KernelNsaQIdeal.main_v0)),
      θ_run (Cert.KernelNsaQIdeal.defs (F := Ideal)) (onTc (τ := Cert.KernelNsaQIdeal.τ) (Cert.KernelNsaQIdeal.main (F := Ideal))) ⟨m, fun _ => 0, g⟩ (fun r => ∀ c : Dev Cert.KernelNsaQIdeal.nD,
          r.2.mem ((c.tc : Thread Cert.KernelNsaQIdeal.nD Cert.KernelNsaQIdeal.τ).loc Cert.KernelNsaQIdeal.main_v0) = v0 c
          ∧ r.2.mem ((c.tc : Thread Cert.KernelNsaQIdeal.nD Cert.KernelNsaQIdeal.τ).loc Cert.KernelNsaQIdeal.main_arg0) = m ((c.tc : Thread Cert.KernelNsaQIdeal.nD Cert.KernelNsaQIdeal.τ).loc Cert.KernelNsaQIdeal.main_arg0)
          ∧ r.2.mem ((c.tc : Thread Cert.KernelNsaQIdeal.nD Cert.KernelNsaQIdeal.τ).loc Cert.KernelNsaQIdeal.main_arg1) = m ((c.tc : Thread Cert.KernelNsaQIdeal.nD Cert.KernelNsaQIdeal.τ).loc Cert.KernelNsaQIdeal.main_arg1))
      ∧ θ_run (Cert.ReferenceNsaQIdeal.defs (F := Ideal)) (onTc (τ := Cert.ReferenceNsaQIdeal.τ) (Cert.ReferenceNsaQIdeal.main (F := Ideal))) ⟨m', fun _ => 0, g'⟩ (fun r => ∀ c : Dev Cert.ReferenceNsaQIdeal.nD,
          r.2.mem ((c.tc : Thread Cert.ReferenceNsaQIdeal.nD Cert.ReferenceNsaQIdeal.τ).loc Cert.ReferenceNsaQIdeal.main_v2) = v0 c
          ∧ r.2.mem ((c.tc : Thread Cert.ReferenceNsaQIdeal.nD Cert.ReferenceNsaQIdeal.τ).loc Cert.ReferenceNsaQIdeal.main_arg0) = m' ((c.tc : Thread Cert.ReferenceNsaQIdeal.nD Cert.ReferenceNsaQIdeal.τ).loc Cert.ReferenceNsaQIdeal.main_arg0)
          ∧ r.2.mem ((c.tc : Thread Cert.ReferenceNsaQIdeal.nD Cert.ReferenceNsaQIdeal.τ).loc Cert.ReferenceNsaQIdeal.main_arg1) = m' ((c.tc : Thread Cert.ReferenceNsaQIdeal.nD Cert.ReferenceNsaQIdeal.τ).loc Cert.ReferenceNsaQIdeal.main_arg1))

def preserves_KernelNsaKv_KernelNsaKvIdeal : Prop :=
  True

def algebraic_KernelNsaKvIdeal_ReferenceNsaKvIdeal [hKernelNsaKvIdeal : Cert.KernelNsaKvIdeal.Facts] [hReferenceNsaKvIdeal : Cert.ReferenceNsaKvIdeal.Facts] : Prop :=
  ∀ (m : (ℓ : Loc Cert.KernelNsaKvIdeal.nD Cert.KernelNsaKvIdeal.τ Cert.KernelNsaKvIdeal.sig) → Buf (Elt Ideal) ℓ) (g : Dev Cert.KernelNsaKvIdeal.nD → PrngReg)
    (m' : (ℓ : Loc Cert.ReferenceNsaKvIdeal.nD Cert.ReferenceNsaKvIdeal.τ Cert.ReferenceNsaKvIdeal.sig) → Buf (Elt Ideal) ℓ) (g' : Dev Cert.ReferenceNsaKvIdeal.nD → PrngReg), Pre_KernelNsaKvIdeal m →
    (∀ c : Dev Cert.KernelNsaKvIdeal.nD,
      m' ((c.tc : Thread Cert.ReferenceNsaKvIdeal.nD Cert.ReferenceNsaKvIdeal.τ).loc Cert.ReferenceNsaKvIdeal.main_arg0) = m ((c.tc : Thread Cert.KernelNsaKvIdeal.nD Cert.KernelNsaKvIdeal.τ).loc Cert.KernelNsaKvIdeal.main_arg0)
      ∧ m' ((c.tc : Thread Cert.ReferenceNsaKvIdeal.nD Cert.ReferenceNsaKvIdeal.τ).loc Cert.ReferenceNsaKvIdeal.main_arg1) = m ((c.tc : Thread Cert.KernelNsaKvIdeal.nD Cert.KernelNsaKvIdeal.τ).loc Cert.KernelNsaKvIdeal.main_arg1)) →
    ∃ (v0 : (c : Dev Cert.KernelNsaKvIdeal.nD) → Buf (Elt Ideal) ((c.tc : Thread Cert.KernelNsaKvIdeal.nD Cert.KernelNsaKvIdeal.τ).loc Cert.KernelNsaKvIdeal.main_v0)),
      θ_run (Cert.KernelNsaKvIdeal.defs (F := Ideal)) (onTc (τ := Cert.KernelNsaKvIdeal.τ) (Cert.KernelNsaKvIdeal.main (F := Ideal))) ⟨m, fun _ => 0, g⟩ (fun r => ∀ c : Dev Cert.KernelNsaKvIdeal.nD,
          r.2.mem ((c.tc : Thread Cert.KernelNsaKvIdeal.nD Cert.KernelNsaKvIdeal.τ).loc Cert.KernelNsaKvIdeal.main_v0) = v0 c
          ∧ r.2.mem ((c.tc : Thread Cert.KernelNsaKvIdeal.nD Cert.KernelNsaKvIdeal.τ).loc Cert.KernelNsaKvIdeal.main_arg0) = m ((c.tc : Thread Cert.KernelNsaKvIdeal.nD Cert.KernelNsaKvIdeal.τ).loc Cert.KernelNsaKvIdeal.main_arg0)
          ∧ r.2.mem ((c.tc : Thread Cert.KernelNsaKvIdeal.nD Cert.KernelNsaKvIdeal.τ).loc Cert.KernelNsaKvIdeal.main_arg1) = m ((c.tc : Thread Cert.KernelNsaKvIdeal.nD Cert.KernelNsaKvIdeal.τ).loc Cert.KernelNsaKvIdeal.main_arg1))
      ∧ θ_run (Cert.ReferenceNsaKvIdeal.defs (F := Ideal)) (onTc (τ := Cert.ReferenceNsaKvIdeal.τ) (Cert.ReferenceNsaKvIdeal.main (F := Ideal))) ⟨m', fun _ => 0, g'⟩ (fun r => ∀ c : Dev Cert.ReferenceNsaKvIdeal.nD,
          r.2.mem ((c.tc : Thread Cert.ReferenceNsaKvIdeal.nD Cert.ReferenceNsaKvIdeal.τ).loc Cert.ReferenceNsaKvIdeal.main_v2) = v0 c
          ∧ r.2.mem ((c.tc : Thread Cert.ReferenceNsaKvIdeal.nD Cert.ReferenceNsaKvIdeal.τ).loc Cert.ReferenceNsaKvIdeal.main_arg0) = m' ((c.tc : Thread Cert.ReferenceNsaKvIdeal.nD Cert.ReferenceNsaKvIdeal.τ).loc Cert.ReferenceNsaKvIdeal.main_arg0)
          ∧ r.2.mem ((c.tc : Thread Cert.ReferenceNsaKvIdeal.nD Cert.ReferenceNsaKvIdeal.τ).loc Cert.ReferenceNsaKvIdeal.main_arg1) = m' ((c.tc : Thread Cert.ReferenceNsaKvIdeal.nD Cert.ReferenceNsaKvIdeal.τ).loc Cert.ReferenceNsaKvIdeal.main_arg1))

def preserves_KernelNsaWin_KernelNsaWinIdeal : Prop :=
  True

def algebraic_KernelNsaWinIdeal_ReferenceNsaWinIdeal [hKernelNsaWinIdeal : Cert.KernelNsaWinIdeal.Facts] [hReferenceNsaWinIdeal : Cert.ReferenceNsaWinIdeal.Facts] : Prop :=
  ∀ (m : (ℓ : Loc Cert.KernelNsaWinIdeal.nD Cert.KernelNsaWinIdeal.τ Cert.KernelNsaWinIdeal.sig) → Buf (Elt Ideal) ℓ) (g : Dev Cert.KernelNsaWinIdeal.nD → PrngReg)
    (m' : (ℓ : Loc Cert.ReferenceNsaWinIdeal.nD Cert.ReferenceNsaWinIdeal.τ Cert.ReferenceNsaWinIdeal.sig) → Buf (Elt Ideal) ℓ) (g' : Dev Cert.ReferenceNsaWinIdeal.nD → PrngReg), Pre_KernelNsaWinIdeal m →
    (∀ c : Dev Cert.KernelNsaWinIdeal.nD,
      m' ((c.tc : Thread Cert.ReferenceNsaWinIdeal.nD Cert.ReferenceNsaWinIdeal.τ).loc Cert.ReferenceNsaWinIdeal.main_arg0) = m ((c.tc : Thread Cert.KernelNsaWinIdeal.nD Cert.KernelNsaWinIdeal.τ).loc Cert.KernelNsaWinIdeal.main_arg0)
      ∧ m' ((c.tc : Thread Cert.ReferenceNsaWinIdeal.nD Cert.ReferenceNsaWinIdeal.τ).loc Cert.ReferenceNsaWinIdeal.main_arg1) = m ((c.tc : Thread Cert.KernelNsaWinIdeal.nD Cert.KernelNsaWinIdeal.τ).loc Cert.KernelNsaWinIdeal.main_arg1)) →
    ∃ (v0 : (c : Dev Cert.KernelNsaWinIdeal.nD) → Buf (Elt Ideal) ((c.tc : Thread Cert.KernelNsaWinIdeal.nD Cert.KernelNsaWinIdeal.τ).loc Cert.KernelNsaWinIdeal.main_v0)),
      θ_run (Cert.KernelNsaWinIdeal.defs (F := Ideal)) (onTc (τ := Cert.KernelNsaWinIdeal.τ) (Cert.KernelNsaWinIdeal.main (F := Ideal))) ⟨m, fun _ => 0, g⟩ (fun r => ∀ c : Dev Cert.KernelNsaWinIdeal.nD,
          r.2.mem ((c.tc : Thread Cert.KernelNsaWinIdeal.nD Cert.KernelNsaWinIdeal.τ).loc Cert.KernelNsaWinIdeal.main_v0) = v0 c
          ∧ r.2.mem ((c.tc : Thread Cert.KernelNsaWinIdeal.nD Cert.KernelNsaWinIdeal.τ).loc Cert.KernelNsaWinIdeal.main_arg0) = m ((c.tc : Thread Cert.KernelNsaWinIdeal.nD Cert.KernelNsaWinIdeal.τ).loc Cert.KernelNsaWinIdeal.main_arg0)
          ∧ r.2.mem ((c.tc : Thread Cert.KernelNsaWinIdeal.nD Cert.KernelNsaWinIdeal.τ).loc Cert.KernelNsaWinIdeal.main_arg1) = m ((c.tc : Thread Cert.KernelNsaWinIdeal.nD Cert.KernelNsaWinIdeal.τ).loc Cert.KernelNsaWinIdeal.main_arg1))
      ∧ θ_run (Cert.ReferenceNsaWinIdeal.defs (F := Ideal)) (onTc (τ := Cert.ReferenceNsaWinIdeal.τ) (Cert.ReferenceNsaWinIdeal.main (F := Ideal))) ⟨m', fun _ => 0, g'⟩ (fun r => ∀ c : Dev Cert.ReferenceNsaWinIdeal.nD,
          r.2.mem ((c.tc : Thread Cert.ReferenceNsaWinIdeal.nD Cert.ReferenceNsaWinIdeal.τ).loc Cert.ReferenceNsaWinIdeal.main_v2) = v0 c
          ∧ r.2.mem ((c.tc : Thread Cert.ReferenceNsaWinIdeal.nD Cert.ReferenceNsaWinIdeal.τ).loc Cert.ReferenceNsaWinIdeal.main_arg0) = m' ((c.tc : Thread Cert.ReferenceNsaWinIdeal.nD Cert.ReferenceNsaWinIdeal.τ).loc Cert.ReferenceNsaWinIdeal.main_arg0)
          ∧ r.2.mem ((c.tc : Thread Cert.ReferenceNsaWinIdeal.nD Cert.ReferenceNsaWinIdeal.τ).loc Cert.ReferenceNsaWinIdeal.main_arg1) = m' ((c.tc : Thread Cert.ReferenceNsaWinIdeal.nD Cert.ReferenceNsaWinIdeal.τ).loc Cert.ReferenceNsaWinIdeal.main_arg1))

def preserves_KernelNsaZ_KernelNsaZIdeal : Prop :=
  True

def algebraic_KernelNsaZIdeal_ReferenceNsaZIdeal [hKernelNsaZIdeal : Cert.KernelNsaZIdeal.Facts] [hReferenceNsaZIdeal : Cert.ReferenceNsaZIdeal.Facts] : Prop :=
  ∀ (m : (ℓ : Loc Cert.KernelNsaZIdeal.nD Cert.KernelNsaZIdeal.τ Cert.KernelNsaZIdeal.sig) → Buf (Elt Ideal) ℓ) (g : Dev Cert.KernelNsaZIdeal.nD → PrngReg)
    (m' : (ℓ : Loc Cert.ReferenceNsaZIdeal.nD Cert.ReferenceNsaZIdeal.τ Cert.ReferenceNsaZIdeal.sig) → Buf (Elt Ideal) ℓ) (g' : Dev Cert.ReferenceNsaZIdeal.nD → PrngReg), Pre_KernelNsaZIdeal m →
    (∀ c : Dev Cert.KernelNsaZIdeal.nD,
      m' ((c.tc : Thread Cert.ReferenceNsaZIdeal.nD Cert.ReferenceNsaZIdeal.τ).loc Cert.ReferenceNsaZIdeal.main_arg0) = m ((c.tc : Thread Cert.KernelNsaZIdeal.nD Cert.KernelNsaZIdeal.τ).loc Cert.KernelNsaZIdeal.main_arg0)
      ∧ m' ((c.tc : Thread Cert.ReferenceNsaZIdeal.nD Cert.ReferenceNsaZIdeal.τ).loc Cert.ReferenceNsaZIdeal.main_arg1) = m ((c.tc : Thread Cert.KernelNsaZIdeal.nD Cert.KernelNsaZIdeal.τ).loc Cert.KernelNsaZIdeal.main_arg1)) →
    ∃ (v0 : (c : Dev Cert.KernelNsaZIdeal.nD) → Buf (Elt Ideal) ((c.tc : Thread Cert.KernelNsaZIdeal.nD Cert.KernelNsaZIdeal.τ).loc Cert.KernelNsaZIdeal.main_v1)),
      θ_run (Cert.KernelNsaZIdeal.defs (F := Ideal)) (onTc (τ := Cert.KernelNsaZIdeal.τ) (Cert.KernelNsaZIdeal.main (F := Ideal))) ⟨m, fun _ => 0, g⟩ (fun r => ∀ c : Dev Cert.KernelNsaZIdeal.nD,
          r.2.mem ((c.tc : Thread Cert.KernelNsaZIdeal.nD Cert.KernelNsaZIdeal.τ).loc Cert.KernelNsaZIdeal.main_v1) = v0 c
          ∧ r.2.mem ((c.tc : Thread Cert.KernelNsaZIdeal.nD Cert.KernelNsaZIdeal.τ).loc Cert.KernelNsaZIdeal.main_arg0) = m ((c.tc : Thread Cert.KernelNsaZIdeal.nD Cert.KernelNsaZIdeal.τ).loc Cert.KernelNsaZIdeal.main_arg0)
          ∧ r.2.mem ((c.tc : Thread Cert.KernelNsaZIdeal.nD Cert.KernelNsaZIdeal.τ).loc Cert.KernelNsaZIdeal.main_arg1) = m ((c.tc : Thread Cert.KernelNsaZIdeal.nD Cert.KernelNsaZIdeal.τ).loc Cert.KernelNsaZIdeal.main_arg1))
      ∧ θ_run (Cert.ReferenceNsaZIdeal.defs (F := Ideal)) (onTc (τ := Cert.ReferenceNsaZIdeal.τ) (Cert.ReferenceNsaZIdeal.main (F := Ideal))) ⟨m', fun _ => 0, g'⟩ (fun r => ∀ c : Dev Cert.ReferenceNsaZIdeal.nD,
          r.2.mem ((c.tc : Thread Cert.ReferenceNsaZIdeal.nD Cert.ReferenceNsaZIdeal.τ).loc Cert.ReferenceNsaZIdeal.main_v2) = v0 c
          ∧ r.2.mem ((c.tc : Thread Cert.ReferenceNsaZIdeal.nD Cert.ReferenceNsaZIdeal.τ).loc Cert.ReferenceNsaZIdeal.main_arg0) = m' ((c.tc : Thread Cert.ReferenceNsaZIdeal.nD Cert.ReferenceNsaZIdeal.τ).loc Cert.ReferenceNsaZIdeal.main_arg0)
          ∧ r.2.mem ((c.tc : Thread Cert.ReferenceNsaZIdeal.nD Cert.ReferenceNsaZIdeal.τ).loc Cert.ReferenceNsaZIdeal.main_arg1) = m' ((c.tc : Thread Cert.ReferenceNsaZIdeal.nD Cert.ReferenceNsaZIdeal.τ).loc Cert.ReferenceNsaZIdeal.main_arg1))

def preserves_KernelOutC_KernelOutCIdeal : Prop :=
  True

def algebraic_KernelOutCIdeal_ReferenceOutCIdeal [hKernelOutCIdeal : Cert.KernelOutCIdeal.Facts] [hReferenceOutCIdeal : Cert.ReferenceOutCIdeal.Facts] : Prop :=
  ∀ (m : (ℓ : Loc Cert.KernelOutCIdeal.nD Cert.KernelOutCIdeal.τ Cert.KernelOutCIdeal.sig) → Buf (Elt Ideal) ℓ) (g : Dev Cert.KernelOutCIdeal.nD → PrngReg)
    (m' : (ℓ : Loc Cert.ReferenceOutCIdeal.nD Cert.ReferenceOutCIdeal.τ Cert.ReferenceOutCIdeal.sig) → Buf (Elt Ideal) ℓ) (g' : Dev Cert.ReferenceOutCIdeal.nD → PrngReg), Pre_KernelOutCIdeal m →
    (∀ c : Dev Cert.KernelOutCIdeal.nD,
      m' ((c.tc : Thread Cert.ReferenceOutCIdeal.nD Cert.ReferenceOutCIdeal.τ).loc Cert.ReferenceOutCIdeal.main_arg0) = m ((c.tc : Thread Cert.KernelOutCIdeal.nD Cert.KernelOutCIdeal.τ).loc Cert.KernelOutCIdeal.main_arg0)
      ∧ m' ((c.tc : Thread Cert.ReferenceOutCIdeal.nD Cert.ReferenceOutCIdeal.τ).loc Cert.ReferenceOutCIdeal.main_arg1) = m ((c.tc : Thread Cert.KernelOutCIdeal.nD Cert.KernelOutCIdeal.τ).loc Cert.KernelOutCIdeal.main_arg1)
      ∧ m' ((c.tc : Thread Cert.ReferenceOutCIdeal.nD Cert.ReferenceOutCIdeal.τ).loc Cert.ReferenceOutCIdeal.main_arg2) = m ((c.tc : Thread Cert.KernelOutCIdeal.nD Cert.KernelOutCIdeal.τ).loc Cert.KernelOutCIdeal.main_arg2)) →
    ∃ (v0 : (c : Dev Cert.KernelOutCIdeal.nD) → Buf (Elt Ideal) ((c.tc : Thread Cert.KernelOutCIdeal.nD Cert.KernelOutCIdeal.τ).loc Cert.KernelOutCIdeal.main_v0)),
      θ_run (Cert.KernelOutCIdeal.defs (F := Ideal)) (onTc (τ := Cert.KernelOutCIdeal.τ) (Cert.KernelOutCIdeal.main (F := Ideal))) ⟨m, fun _ => 0, g⟩ (fun r => ∀ c : Dev Cert.KernelOutCIdeal.nD,
          r.2.mem ((c.tc : Thread Cert.KernelOutCIdeal.nD Cert.KernelOutCIdeal.τ).loc Cert.KernelOutCIdeal.main_v0) = v0 c
          ∧ r.2.mem ((c.tc : Thread Cert.KernelOutCIdeal.nD Cert.KernelOutCIdeal.τ).loc Cert.KernelOutCIdeal.main_arg0) = m ((c.tc : Thread Cert.KernelOutCIdeal.nD Cert.KernelOutCIdeal.τ).loc Cert.KernelOutCIdeal.main_arg0)
          ∧ r.2.mem ((c.tc : Thread Cert.KernelOutCIdeal.nD Cert.KernelOutCIdeal.τ).loc Cert.KernelOutCIdeal.main_arg1) = m ((c.tc : Thread Cert.KernelOutCIdeal.nD Cert.KernelOutCIdeal.τ).loc Cert.KernelOutCIdeal.main_arg1)
          ∧ r.2.mem ((c.tc : Thread Cert.KernelOutCIdeal.nD Cert.KernelOutCIdeal.τ).loc Cert.KernelOutCIdeal.main_arg2) = m ((c.tc : Thread Cert.KernelOutCIdeal.nD Cert.KernelOutCIdeal.τ).loc Cert.KernelOutCIdeal.main_arg2))
      ∧ θ_run (Cert.ReferenceOutCIdeal.defs (F := Ideal)) (onTc (τ := Cert.ReferenceOutCIdeal.τ) (Cert.ReferenceOutCIdeal.main (F := Ideal))) ⟨m', fun _ => 0, g'⟩ (fun r => ∀ c : Dev Cert.ReferenceOutCIdeal.nD,
          r.2.mem ((c.tc : Thread Cert.ReferenceOutCIdeal.nD Cert.ReferenceOutCIdeal.τ).loc Cert.ReferenceOutCIdeal.main_v2) = v0 c
          ∧ r.2.mem ((c.tc : Thread Cert.ReferenceOutCIdeal.nD Cert.ReferenceOutCIdeal.τ).loc Cert.ReferenceOutCIdeal.main_arg0) = m' ((c.tc : Thread Cert.ReferenceOutCIdeal.nD Cert.ReferenceOutCIdeal.τ).loc Cert.ReferenceOutCIdeal.main_arg0)
          ∧ r.2.mem ((c.tc : Thread Cert.ReferenceOutCIdeal.nD Cert.ReferenceOutCIdeal.τ).loc Cert.ReferenceOutCIdeal.main_arg1) = m' ((c.tc : Thread Cert.ReferenceOutCIdeal.nD Cert.ReferenceOutCIdeal.τ).loc Cert.ReferenceOutCIdeal.main_arg1)
          ∧ r.2.mem ((c.tc : Thread Cert.ReferenceOutCIdeal.nD Cert.ReferenceOutCIdeal.τ).loc Cert.ReferenceOutCIdeal.main_arg2) = m' ((c.tc : Thread Cert.ReferenceOutCIdeal.nD Cert.ReferenceOutCIdeal.τ).loc Cert.ReferenceOutCIdeal.main_arg2))

def preserves_KernelOutAB_KernelOutABIdeal : Prop :=
  True

def algebraic_KernelOutABIdeal_ReferenceOutABIdeal [hKernelOutABIdeal : Cert.KernelOutABIdeal.Facts] [hReferenceOutABIdeal : Cert.ReferenceOutABIdeal.Facts] : Prop :=
  ∀ (m : (ℓ : Loc Cert.KernelOutABIdeal.nD Cert.KernelOutABIdeal.τ Cert.KernelOutABIdeal.sig) → Buf (Elt Ideal) ℓ) (g : Dev Cert.KernelOutABIdeal.nD → PrngReg)
    (m' : (ℓ : Loc Cert.ReferenceOutABIdeal.nD Cert.ReferenceOutABIdeal.τ Cert.ReferenceOutABIdeal.sig) → Buf (Elt Ideal) ℓ) (g' : Dev Cert.ReferenceOutABIdeal.nD → PrngReg), Pre_KernelOutABIdeal m →
    (∀ c : Dev Cert.KernelOutABIdeal.nD,
      m' ((c.tc : Thread Cert.ReferenceOutABIdeal.nD Cert.ReferenceOutABIdeal.τ).loc Cert.ReferenceOutABIdeal.main_arg0) = m ((c.tc : Thread Cert.KernelOutABIdeal.nD Cert.KernelOutABIdeal.τ).loc Cert.KernelOutABIdeal.main_arg0)
      ∧ m' ((c.tc : Thread Cert.ReferenceOutABIdeal.nD Cert.ReferenceOutABIdeal.τ).loc Cert.ReferenceOutABIdeal.main_arg1) = m ((c.tc : Thread Cert.KernelOutABIdeal.nD Cert.KernelOutABIdeal.τ).loc Cert.KernelOutABIdeal.main_arg1)
      ∧ m' ((c.tc : Thread Cert.ReferenceOutABIdeal.nD Cert.ReferenceOutABIdeal.τ).loc Cert.ReferenceOutABIdeal.main_arg2) = m ((c.tc : Thread Cert.KernelOutABIdeal.nD Cert.KernelOutABIdeal.τ).loc Cert.KernelOutABIdeal.main_arg2)
      ∧ m' ((c.tc : Thread Cert.ReferenceOutABIdeal.nD Cert.ReferenceOutABIdeal.τ).loc Cert.ReferenceOutABIdeal.main_arg3) = m ((c.tc : Thread Cert.KernelOutABIdeal.nD Cert.KernelOutABIdeal.τ).loc Cert.KernelOutABIdeal.main_arg3)) →
    ∃ (v0 : (c : Dev Cert.KernelOutABIdeal.nD) → Buf (Elt Ideal) ((c.tc : Thread Cert.KernelOutABIdeal.nD Cert.KernelOutABIdeal.τ).loc Cert.KernelOutABIdeal.main_v0)),
      θ_run (Cert.KernelOutABIdeal.defs (F := Ideal)) (onTc (τ := Cert.KernelOutABIdeal.τ) (Cert.KernelOutABIdeal.main (F := Ideal))) ⟨m, fun _ => 0, g⟩ (fun r => ∀ c : Dev Cert.KernelOutABIdeal.nD,
          r.2.mem ((c.tc : Thread Cert.KernelOutABIdeal.nD Cert.KernelOutABIdeal.τ).loc Cert.KernelOutABIdeal.main_v0) = v0 c
          ∧ r.2.mem ((c.tc : Thread Cert.KernelOutABIdeal.nD Cert.KernelOutABIdeal.τ).loc Cert.KernelOutABIdeal.main_arg0) = m ((c.tc : Thread Cert.KernelOutABIdeal.nD Cert.KernelOutABIdeal.τ).loc Cert.KernelOutABIdeal.main_arg0)
          ∧ r.2.mem ((c.tc : Thread Cert.KernelOutABIdeal.nD Cert.KernelOutABIdeal.τ).loc Cert.KernelOutABIdeal.main_arg1) = m ((c.tc : Thread Cert.KernelOutABIdeal.nD Cert.KernelOutABIdeal.τ).loc Cert.KernelOutABIdeal.main_arg1)
          ∧ r.2.mem ((c.tc : Thread Cert.KernelOutABIdeal.nD Cert.KernelOutABIdeal.τ).loc Cert.KernelOutABIdeal.main_arg2) = m ((c.tc : Thread Cert.KernelOutABIdeal.nD Cert.KernelOutABIdeal.τ).loc Cert.KernelOutABIdeal.main_arg2)
          ∧ r.2.mem ((c.tc : Thread Cert.KernelOutABIdeal.nD Cert.KernelOutABIdeal.τ).loc Cert.KernelOutABIdeal.main_arg3) = m ((c.tc : Thread Cert.KernelOutABIdeal.nD Cert.KernelOutABIdeal.τ).loc Cert.KernelOutABIdeal.main_arg3))
      ∧ θ_run (Cert.ReferenceOutABIdeal.defs (F := Ideal)) (onTc (τ := Cert.ReferenceOutABIdeal.τ) (Cert.ReferenceOutABIdeal.main (F := Ideal))) ⟨m', fun _ => 0, g'⟩ (fun r => ∀ c : Dev Cert.ReferenceOutABIdeal.nD,
          r.2.mem ((c.tc : Thread Cert.ReferenceOutABIdeal.nD Cert.ReferenceOutABIdeal.τ).loc Cert.ReferenceOutABIdeal.main_v3) = v0 c
          ∧ r.2.mem ((c.tc : Thread Cert.ReferenceOutABIdeal.nD Cert.ReferenceOutABIdeal.τ).loc Cert.ReferenceOutABIdeal.main_arg0) = m' ((c.tc : Thread Cert.ReferenceOutABIdeal.nD Cert.ReferenceOutABIdeal.τ).loc Cert.ReferenceOutABIdeal.main_arg0)
          ∧ r.2.mem ((c.tc : Thread Cert.ReferenceOutABIdeal.nD Cert.ReferenceOutABIdeal.τ).loc Cert.ReferenceOutABIdeal.main_arg1) = m' ((c.tc : Thread Cert.ReferenceOutABIdeal.nD Cert.ReferenceOutABIdeal.τ).loc Cert.ReferenceOutABIdeal.main_arg1)
          ∧ r.2.mem ((c.tc : Thread Cert.ReferenceOutABIdeal.nD Cert.ReferenceOutABIdeal.τ).loc Cert.ReferenceOutABIdeal.main_arg2) = m' ((c.tc : Thread Cert.ReferenceOutABIdeal.nD Cert.ReferenceOutABIdeal.τ).loc Cert.ReferenceOutABIdeal.main_arg2)
          ∧ r.2.mem ((c.tc : Thread Cert.ReferenceOutABIdeal.nD Cert.ReferenceOutABIdeal.τ).loc Cert.ReferenceOutABIdeal.main_arg3) = m' ((c.tc : Thread Cert.ReferenceOutABIdeal.nD Cert.ReferenceOutABIdeal.τ).loc Cert.ReferenceOutABIdeal.main_arg3))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v0)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v15) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelDiffKvS_KernelDiffKvSIdeal : Prop :=
  True

def algebraic_KernelDiffKvSIdeal_ReferenceDiffKvSIdeal [hKernelDiffKvSIdeal : Cert.KernelDiffKvSIdeal.Facts] [hReferenceDiffKvSIdeal : Cert.ReferenceDiffKvSIdeal.Facts] : Prop :=
  ∀ (m : (ℓ : Loc Cert.KernelDiffKvSIdeal.nD Cert.KernelDiffKvSIdeal.τ Cert.KernelDiffKvSIdeal.sig) → Buf (Elt Ideal) ℓ) (g : Dev Cert.KernelDiffKvSIdeal.nD → PrngReg)
    (m' : (ℓ : Loc Cert.ReferenceDiffKvSIdeal.nD Cert.ReferenceDiffKvSIdeal.τ Cert.ReferenceDiffKvSIdeal.sig) → Buf (Elt Ideal) ℓ) (g' : Dev Cert.ReferenceDiffKvSIdeal.nD → PrngReg), Pre_KernelDiffKvSIdeal m →
    (∀ c : Dev Cert.KernelDiffKvSIdeal.nD,
      m' ((c.tc : Thread Cert.ReferenceDiffKvSIdeal.nD Cert.ReferenceDiffKvSIdeal.τ).loc Cert.ReferenceDiffKvSIdeal.main_arg0) = m ((c.tc : Thread Cert.KernelDiffKvSIdeal.nD Cert.KernelDiffKvSIdeal.τ).loc Cert.KernelDiffKvSIdeal.main_arg0)
      ∧ m' ((c.tc : Thread Cert.ReferenceDiffKvSIdeal.nD Cert.ReferenceDiffKvSIdeal.τ).loc Cert.ReferenceDiffKvSIdeal.main_arg1) = m ((c.tc : Thread Cert.KernelDiffKvSIdeal.nD Cert.KernelDiffKvSIdeal.τ).loc Cert.KernelDiffKvSIdeal.main_arg1)) →
    ∃ (v0 : (c : Dev Cert.KernelDiffKvSIdeal.nD) → Buf (Elt Ideal) ((c.tc : Thread Cert.KernelDiffKvSIdeal.nD Cert.KernelDiffKvSIdeal.τ).loc Cert.KernelDiffKvSIdeal.main_v0)),
      θ_run (Cert.KernelDiffKvSIdeal.defs (F := Ideal)) (onTc (τ := Cert.KernelDiffKvSIdeal.τ) (Cert.KernelDiffKvSIdeal.main (F := Ideal))) ⟨m, fun _ => 0, g⟩ (fun r => ∀ c : Dev Cert.KernelDiffKvSIdeal.nD,
          r.2.mem ((c.tc : Thread Cert.KernelDiffKvSIdeal.nD Cert.KernelDiffKvSIdeal.τ).loc Cert.KernelDiffKvSIdeal.main_v0) = v0 c
          ∧ r.2.mem ((c.tc : Thread Cert.KernelDiffKvSIdeal.nD Cert.KernelDiffKvSIdeal.τ).loc Cert.KernelDiffKvSIdeal.main_arg0) = m ((c.tc : Thread Cert.KernelDiffKvSIdeal.nD Cert.KernelDiffKvSIdeal.τ).loc Cert.KernelDiffKvSIdeal.main_arg0)
          ∧ r.2.mem ((c.tc : Thread Cert.KernelDiffKvSIdeal.nD Cert.KernelDiffKvSIdeal.τ).loc Cert.KernelDiffKvSIdeal.main_arg1) = m ((c.tc : Thread Cert.KernelDiffKvSIdeal.nD Cert.KernelDiffKvSIdeal.τ).loc Cert.KernelDiffKvSIdeal.main_arg1))
      ∧ θ_run (Cert.ReferenceDiffKvSIdeal.defs (F := Ideal)) (onTc (τ := Cert.ReferenceDiffKvSIdeal.τ) (Cert.ReferenceDiffKvSIdeal.main (F := Ideal))) ⟨m', fun _ => 0, g'⟩ (fun r => ∀ c : Dev Cert.ReferenceDiffKvSIdeal.nD,
          r.2.mem ((c.tc : Thread Cert.ReferenceDiffKvSIdeal.nD Cert.ReferenceDiffKvSIdeal.τ).loc Cert.ReferenceDiffKvSIdeal.main_v2) = v0 c
          ∧ r.2.mem ((c.tc : Thread Cert.ReferenceDiffKvSIdeal.nD Cert.ReferenceDiffKvSIdeal.τ).loc Cert.ReferenceDiffKvSIdeal.main_arg0) = m' ((c.tc : Thread Cert.ReferenceDiffKvSIdeal.nD Cert.ReferenceDiffKvSIdeal.τ).loc Cert.ReferenceDiffKvSIdeal.main_arg0)
          ∧ r.2.mem ((c.tc : Thread Cert.ReferenceDiffKvSIdeal.nD Cert.ReferenceDiffKvSIdeal.τ).loc Cert.ReferenceDiffKvSIdeal.main_arg1) = m' ((c.tc : Thread Cert.ReferenceDiffKvSIdeal.nD Cert.ReferenceDiffKvSIdeal.τ).loc Cert.ReferenceDiffKvSIdeal.main_arg1))

def preserves_KernelSbKvS_KernelSbKvSIdeal : Prop :=
  True

def algebraic_KernelSbKvSIdeal_ReferenceSbKvSIdeal [hKernelSbKvSIdeal : Cert.KernelSbKvSIdeal.Facts] [hReferenceSbKvSIdeal : Cert.ReferenceSbKvSIdeal.Facts] : Prop :=
  ∀ (m : (ℓ : Loc Cert.KernelSbKvSIdeal.nD Cert.KernelSbKvSIdeal.τ Cert.KernelSbKvSIdeal.sig) → Buf (Elt Ideal) ℓ) (g : Dev Cert.KernelSbKvSIdeal.nD → PrngReg)
    (m' : (ℓ : Loc Cert.ReferenceSbKvSIdeal.nD Cert.ReferenceSbKvSIdeal.τ Cert.ReferenceSbKvSIdeal.sig) → Buf (Elt Ideal) ℓ) (g' : Dev Cert.ReferenceSbKvSIdeal.nD → PrngReg), Pre_KernelSbKvSIdeal m →
    (∀ c : Dev Cert.KernelSbKvSIdeal.nD,
      m' ((c.tc : Thread Cert.ReferenceSbKvSIdeal.nD Cert.ReferenceSbKvSIdeal.τ).loc Cert.ReferenceSbKvSIdeal.main_arg0) = m ((c.tc : Thread Cert.KernelSbKvSIdeal.nD Cert.KernelSbKvSIdeal.τ).loc Cert.KernelSbKvSIdeal.main_arg0)
      ∧ m' ((c.tc : Thread Cert.ReferenceSbKvSIdeal.nD Cert.ReferenceSbKvSIdeal.τ).loc Cert.ReferenceSbKvSIdeal.main_arg1) = m ((c.tc : Thread Cert.KernelSbKvSIdeal.nD Cert.KernelSbKvSIdeal.τ).loc Cert.KernelSbKvSIdeal.main_arg1)) →
    ∃ (v0 : (c : Dev Cert.KernelSbKvSIdeal.nD) → Buf (Elt Ideal) ((c.tc : Thread Cert.KernelSbKvSIdeal.nD Cert.KernelSbKvSIdeal.τ).loc Cert.KernelSbKvSIdeal.main_v0)),
      θ_run (Cert.KernelSbKvSIdeal.defs (F := Ideal)) (onTc (τ := Cert.KernelSbKvSIdeal.τ) (Cert.KernelSbKvSIdeal.main (F := Ideal))) ⟨m, fun _ => 0, g⟩ (fun r => ∀ c : Dev Cert.KernelSbKvSIdeal.nD,
          r.2.mem ((c.tc : Thread Cert.KernelSbKvSIdeal.nD Cert.KernelSbKvSIdeal.τ).loc Cert.KernelSbKvSIdeal.main_v0) = v0 c
          ∧ r.2.mem ((c.tc : Thread Cert.KernelSbKvSIdeal.nD Cert.KernelSbKvSIdeal.τ).loc Cert.KernelSbKvSIdeal.main_arg0) = m ((c.tc : Thread Cert.KernelSbKvSIdeal.nD Cert.KernelSbKvSIdeal.τ).loc Cert.KernelSbKvSIdeal.main_arg0)
          ∧ r.2.mem ((c.tc : Thread Cert.KernelSbKvSIdeal.nD Cert.KernelSbKvSIdeal.τ).loc Cert.KernelSbKvSIdeal.main_arg1) = m ((c.tc : Thread Cert.KernelSbKvSIdeal.nD Cert.KernelSbKvSIdeal.τ).loc Cert.KernelSbKvSIdeal.main_arg1))
      ∧ θ_run (Cert.ReferenceSbKvSIdeal.defs (F := Ideal)) (onTc (τ := Cert.ReferenceSbKvSIdeal.τ) (Cert.ReferenceSbKvSIdeal.main (F := Ideal))) ⟨m', fun _ => 0, g'⟩ (fun r => ∀ c : Dev Cert.ReferenceSbKvSIdeal.nD,
          r.2.mem ((c.tc : Thread Cert.ReferenceSbKvSIdeal.nD Cert.ReferenceSbKvSIdeal.τ).loc Cert.ReferenceSbKvSIdeal.main_v2) = v0 c
          ∧ r.2.mem ((c.tc : Thread Cert.ReferenceSbKvSIdeal.nD Cert.ReferenceSbKvSIdeal.τ).loc Cert.ReferenceSbKvSIdeal.main_arg0) = m' ((c.tc : Thread Cert.ReferenceSbKvSIdeal.nD Cert.ReferenceSbKvSIdeal.τ).loc Cert.ReferenceSbKvSIdeal.main_arg0)
          ∧ r.2.mem ((c.tc : Thread Cert.ReferenceSbKvSIdeal.nD Cert.ReferenceSbKvSIdeal.τ).loc Cert.ReferenceSbKvSIdeal.main_arg1) = m' ((c.tc : Thread Cert.ReferenceSbKvSIdeal.nD Cert.ReferenceSbKvSIdeal.τ).loc Cert.ReferenceSbKvSIdeal.main_arg1))

def preserves_KernelNsaKvS_KernelNsaKvSIdeal : Prop :=
  True

def algebraic_KernelNsaKvSIdeal_ReferenceNsaKvSIdeal [hKernelNsaKvSIdeal : Cert.KernelNsaKvSIdeal.Facts] [hReferenceNsaKvSIdeal : Cert.ReferenceNsaKvSIdeal.Facts] : Prop :=
  ∀ (m : (ℓ : Loc Cert.KernelNsaKvSIdeal.nD Cert.KernelNsaKvSIdeal.τ Cert.KernelNsaKvSIdeal.sig) → Buf (Elt Ideal) ℓ) (g : Dev Cert.KernelNsaKvSIdeal.nD → PrngReg)
    (m' : (ℓ : Loc Cert.ReferenceNsaKvSIdeal.nD Cert.ReferenceNsaKvSIdeal.τ Cert.ReferenceNsaKvSIdeal.sig) → Buf (Elt Ideal) ℓ) (g' : Dev Cert.ReferenceNsaKvSIdeal.nD → PrngReg), Pre_KernelNsaKvSIdeal m →
    (∀ c : Dev Cert.KernelNsaKvSIdeal.nD,
      m' ((c.tc : Thread Cert.ReferenceNsaKvSIdeal.nD Cert.ReferenceNsaKvSIdeal.τ).loc Cert.ReferenceNsaKvSIdeal.main_arg0) = m ((c.tc : Thread Cert.KernelNsaKvSIdeal.nD Cert.KernelNsaKvSIdeal.τ).loc Cert.KernelNsaKvSIdeal.main_arg0)
      ∧ m' ((c.tc : Thread Cert.ReferenceNsaKvSIdeal.nD Cert.ReferenceNsaKvSIdeal.τ).loc Cert.ReferenceNsaKvSIdeal.main_arg1) = m ((c.tc : Thread Cert.KernelNsaKvSIdeal.nD Cert.KernelNsaKvSIdeal.τ).loc Cert.KernelNsaKvSIdeal.main_arg1)) →
    ∃ (v0 : (c : Dev Cert.KernelNsaKvSIdeal.nD) → Buf (Elt Ideal) ((c.tc : Thread Cert.KernelNsaKvSIdeal.nD Cert.KernelNsaKvSIdeal.τ).loc Cert.KernelNsaKvSIdeal.main_v0)),
      θ_run (Cert.KernelNsaKvSIdeal.defs (F := Ideal)) (onTc (τ := Cert.KernelNsaKvSIdeal.τ) (Cert.KernelNsaKvSIdeal.main (F := Ideal))) ⟨m, fun _ => 0, g⟩ (fun r => ∀ c : Dev Cert.KernelNsaKvSIdeal.nD,
          r.2.mem ((c.tc : Thread Cert.KernelNsaKvSIdeal.nD Cert.KernelNsaKvSIdeal.τ).loc Cert.KernelNsaKvSIdeal.main_v0) = v0 c
          ∧ r.2.mem ((c.tc : Thread Cert.KernelNsaKvSIdeal.nD Cert.KernelNsaKvSIdeal.τ).loc Cert.KernelNsaKvSIdeal.main_arg0) = m ((c.tc : Thread Cert.KernelNsaKvSIdeal.nD Cert.KernelNsaKvSIdeal.τ).loc Cert.KernelNsaKvSIdeal.main_arg0)
          ∧ r.2.mem ((c.tc : Thread Cert.KernelNsaKvSIdeal.nD Cert.KernelNsaKvSIdeal.τ).loc Cert.KernelNsaKvSIdeal.main_arg1) = m ((c.tc : Thread Cert.KernelNsaKvSIdeal.nD Cert.KernelNsaKvSIdeal.τ).loc Cert.KernelNsaKvSIdeal.main_arg1))
      ∧ θ_run (Cert.ReferenceNsaKvSIdeal.defs (F := Ideal)) (onTc (τ := Cert.ReferenceNsaKvSIdeal.τ) (Cert.ReferenceNsaKvSIdeal.main (F := Ideal))) ⟨m', fun _ => 0, g'⟩ (fun r => ∀ c : Dev Cert.ReferenceNsaKvSIdeal.nD,
          r.2.mem ((c.tc : Thread Cert.ReferenceNsaKvSIdeal.nD Cert.ReferenceNsaKvSIdeal.τ).loc Cert.ReferenceNsaKvSIdeal.main_v2) = v0 c
          ∧ r.2.mem ((c.tc : Thread Cert.ReferenceNsaKvSIdeal.nD Cert.ReferenceNsaKvSIdeal.τ).loc Cert.ReferenceNsaKvSIdeal.main_arg0) = m' ((c.tc : Thread Cert.ReferenceNsaKvSIdeal.nD Cert.ReferenceNsaKvSIdeal.τ).loc Cert.ReferenceNsaKvSIdeal.main_arg0)
          ∧ r.2.mem ((c.tc : Thread Cert.ReferenceNsaKvSIdeal.nD Cert.ReferenceNsaKvSIdeal.τ).loc Cert.ReferenceNsaKvSIdeal.main_arg1) = m' ((c.tc : Thread Cert.ReferenceNsaKvSIdeal.nD Cert.ReferenceNsaKvSIdeal.τ).loc Cert.ReferenceNsaKvSIdeal.main_arg1))

def preserves_KernelNsaWinS_KernelNsaWinSIdeal : Prop :=
  True

def algebraic_KernelNsaWinSIdeal_ReferenceNsaWinSIdeal [hKernelNsaWinSIdeal : Cert.KernelNsaWinSIdeal.Facts] [hReferenceNsaWinSIdeal : Cert.ReferenceNsaWinSIdeal.Facts] : Prop :=
  ∀ (m : (ℓ : Loc Cert.KernelNsaWinSIdeal.nD Cert.KernelNsaWinSIdeal.τ Cert.KernelNsaWinSIdeal.sig) → Buf (Elt Ideal) ℓ) (g : Dev Cert.KernelNsaWinSIdeal.nD → PrngReg)
    (m' : (ℓ : Loc Cert.ReferenceNsaWinSIdeal.nD Cert.ReferenceNsaWinSIdeal.τ Cert.ReferenceNsaWinSIdeal.sig) → Buf (Elt Ideal) ℓ) (g' : Dev Cert.ReferenceNsaWinSIdeal.nD → PrngReg), Pre_KernelNsaWinSIdeal m →
    (∀ c : Dev Cert.KernelNsaWinSIdeal.nD,
      m' ((c.tc : Thread Cert.ReferenceNsaWinSIdeal.nD Cert.ReferenceNsaWinSIdeal.τ).loc Cert.ReferenceNsaWinSIdeal.main_arg0) = m ((c.tc : Thread Cert.KernelNsaWinSIdeal.nD Cert.KernelNsaWinSIdeal.τ).loc Cert.KernelNsaWinSIdeal.main_arg0)
      ∧ m' ((c.tc : Thread Cert.ReferenceNsaWinSIdeal.nD Cert.ReferenceNsaWinSIdeal.τ).loc Cert.ReferenceNsaWinSIdeal.main_arg1) = m ((c.tc : Thread Cert.KernelNsaWinSIdeal.nD Cert.KernelNsaWinSIdeal.τ).loc Cert.KernelNsaWinSIdeal.main_arg1)) →
    ∃ (v0 : (c : Dev Cert.KernelNsaWinSIdeal.nD) → Buf (Elt Ideal) ((c.tc : Thread Cert.KernelNsaWinSIdeal.nD Cert.KernelNsaWinSIdeal.τ).loc Cert.KernelNsaWinSIdeal.main_v0)),
      θ_run (Cert.KernelNsaWinSIdeal.defs (F := Ideal)) (onTc (τ := Cert.KernelNsaWinSIdeal.τ) (Cert.KernelNsaWinSIdeal.main (F := Ideal))) ⟨m, fun _ => 0, g⟩ (fun r => ∀ c : Dev Cert.KernelNsaWinSIdeal.nD,
          r.2.mem ((c.tc : Thread Cert.KernelNsaWinSIdeal.nD Cert.KernelNsaWinSIdeal.τ).loc Cert.KernelNsaWinSIdeal.main_v0) = v0 c
          ∧ r.2.mem ((c.tc : Thread Cert.KernelNsaWinSIdeal.nD Cert.KernelNsaWinSIdeal.τ).loc Cert.KernelNsaWinSIdeal.main_arg0) = m ((c.tc : Thread Cert.KernelNsaWinSIdeal.nD Cert.KernelNsaWinSIdeal.τ).loc Cert.KernelNsaWinSIdeal.main_arg0)
          ∧ r.2.mem ((c.tc : Thread Cert.KernelNsaWinSIdeal.nD Cert.KernelNsaWinSIdeal.τ).loc Cert.KernelNsaWinSIdeal.main_arg1) = m ((c.tc : Thread Cert.KernelNsaWinSIdeal.nD Cert.KernelNsaWinSIdeal.τ).loc Cert.KernelNsaWinSIdeal.main_arg1))
      ∧ θ_run (Cert.ReferenceNsaWinSIdeal.defs (F := Ideal)) (onTc (τ := Cert.ReferenceNsaWinSIdeal.τ) (Cert.ReferenceNsaWinSIdeal.main (F := Ideal))) ⟨m', fun _ => 0, g'⟩ (fun r => ∀ c : Dev Cert.ReferenceNsaWinSIdeal.nD,
          r.2.mem ((c.tc : Thread Cert.ReferenceNsaWinSIdeal.nD Cert.ReferenceNsaWinSIdeal.τ).loc Cert.ReferenceNsaWinSIdeal.main_v2) = v0 c
          ∧ r.2.mem ((c.tc : Thread Cert.ReferenceNsaWinSIdeal.nD Cert.ReferenceNsaWinSIdeal.τ).loc Cert.ReferenceNsaWinSIdeal.main_arg0) = m' ((c.tc : Thread Cert.ReferenceNsaWinSIdeal.nD Cert.ReferenceNsaWinSIdeal.τ).loc Cert.ReferenceNsaWinSIdeal.main_arg0)
          ∧ r.2.mem ((c.tc : Thread Cert.ReferenceNsaWinSIdeal.nD Cert.ReferenceNsaWinSIdeal.τ).loc Cert.ReferenceNsaWinSIdeal.main_arg1) = m' ((c.tc : Thread Cert.ReferenceNsaWinSIdeal.nD Cert.ReferenceNsaWinSIdeal.τ).loc Cert.ReferenceNsaWinSIdeal.main_arg1))

def preserves_KernelNormS_KernelNormSIdeal : Prop :=
  True

def algebraic_KernelNormSIdeal_ReferenceNormSIdeal [hKernelNormSIdeal : Cert.KernelNormSIdeal.Facts] [hReferenceNormSIdeal : Cert.ReferenceNormSIdeal.Facts] : Prop :=
  ∀ (m : (ℓ : Loc Cert.KernelNormSIdeal.nD Cert.KernelNormSIdeal.τ Cert.KernelNormSIdeal.sig) → Buf (Elt Ideal) ℓ) (g : Dev Cert.KernelNormSIdeal.nD → PrngReg)
    (m' : (ℓ : Loc Cert.ReferenceNormSIdeal.nD Cert.ReferenceNormSIdeal.τ Cert.ReferenceNormSIdeal.sig) → Buf (Elt Ideal) ℓ) (g' : Dev Cert.ReferenceNormSIdeal.nD → PrngReg), Pre_KernelNormSIdeal m →
    (∀ c : Dev Cert.KernelNormSIdeal.nD,
      m' ((c.tc : Thread Cert.ReferenceNormSIdeal.nD Cert.ReferenceNormSIdeal.τ).loc Cert.ReferenceNormSIdeal.main_arg0) = m ((c.tc : Thread Cert.KernelNormSIdeal.nD Cert.KernelNormSIdeal.τ).loc Cert.KernelNormSIdeal.main_arg0)
      ∧ m' ((c.tc : Thread Cert.ReferenceNormSIdeal.nD Cert.ReferenceNormSIdeal.τ).loc Cert.ReferenceNormSIdeal.main_arg1) = m ((c.tc : Thread Cert.KernelNormSIdeal.nD Cert.KernelNormSIdeal.τ).loc Cert.KernelNormSIdeal.main_arg1)) →
    ∃ (v0 : (c : Dev Cert.KernelNormSIdeal.nD) → Buf (Elt Ideal) ((c.tc : Thread Cert.KernelNormSIdeal.nD Cert.KernelNormSIdeal.τ).loc Cert.KernelNormSIdeal.main_v1)),
      θ_run (Cert.KernelNormSIdeal.defs (F := Ideal)) (onTc (τ := Cert.KernelNormSIdeal.τ) (Cert.KernelNormSIdeal.main (F := Ideal))) ⟨m, fun _ => 0, g⟩ (fun r => ∀ c : Dev Cert.KernelNormSIdeal.nD,
          r.2.mem ((c.tc : Thread Cert.KernelNormSIdeal.nD Cert.KernelNormSIdeal.τ).loc Cert.KernelNormSIdeal.main_v1) = v0 c
          ∧ r.2.mem ((c.tc : Thread Cert.KernelNormSIdeal.nD Cert.KernelNormSIdeal.τ).loc Cert.KernelNormSIdeal.main_arg0) = m ((c.tc : Thread Cert.KernelNormSIdeal.nD Cert.KernelNormSIdeal.τ).loc Cert.KernelNormSIdeal.main_arg0)
          ∧ r.2.mem ((c.tc : Thread Cert.KernelNormSIdeal.nD Cert.KernelNormSIdeal.τ).loc Cert.KernelNormSIdeal.main_arg1) = m ((c.tc : Thread Cert.KernelNormSIdeal.nD Cert.KernelNormSIdeal.τ).loc Cert.KernelNormSIdeal.main_arg1))
      ∧ θ_run (Cert.ReferenceNormSIdeal.defs (F := Ideal)) (onTc (τ := Cert.ReferenceNormSIdeal.τ) (Cert.ReferenceNormSIdeal.main (F := Ideal))) ⟨m', fun _ => 0, g'⟩ (fun r => ∀ c : Dev Cert.ReferenceNormSIdeal.nD,
          r.2.mem ((c.tc : Thread Cert.ReferenceNormSIdeal.nD Cert.ReferenceNormSIdeal.τ).loc Cert.ReferenceNormSIdeal.main_v12) = v0 c
          ∧ r.2.mem ((c.tc : Thread Cert.ReferenceNormSIdeal.nD Cert.ReferenceNormSIdeal.τ).loc Cert.ReferenceNormSIdeal.main_arg0) = m' ((c.tc : Thread Cert.ReferenceNormSIdeal.nD Cert.ReferenceNormSIdeal.τ).loc Cert.ReferenceNormSIdeal.main_arg0)
          ∧ r.2.mem ((c.tc : Thread Cert.ReferenceNormSIdeal.nD Cert.ReferenceNormSIdeal.τ).loc Cert.ReferenceNormSIdeal.main_arg1) = m' ((c.tc : Thread Cert.ReferenceNormSIdeal.nD Cert.ReferenceNormSIdeal.τ).loc Cert.ReferenceNormSIdeal.main_arg1))

def preserves_KernelSb_KernelSbIdeal : Prop :=
  IdealRules.named_const.Statement Cert.KernelSbIdeal.κ "underflow" .f32 0xC2DC0000#32 ⊥

def algebraic_KernelSbIdeal_ReferenceSbIdeal_pre_sb_finite [hKernelSbIdeal : Cert.KernelSbIdeal.Facts] [hReferenceSbIdeal : Cert.ReferenceSbIdeal.Facts] [hPre_sb_finite : Cert.Pre_sb_finite.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_sb_finite m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)
      ∧ m' ((c.tc : Thread Cert.ReferenceSbIdeal.nD Cert.ReferenceSbIdeal.τ).loc Cert.ReferenceSbIdeal.main_arg2) = m ((c.tc : Thread Cert.KernelSbIdeal.nD Cert.KernelSbIdeal.τ).loc Cert.KernelSbIdeal.main_arg2)) →
    ∃ (v0 : (c : Dev Cert.KernelSbIdeal.nD) → Buf (Elt Ideal) ((c.tc : Thread Cert.KernelSbIdeal.nD Cert.KernelSbIdeal.τ).loc Cert.KernelSbIdeal.main_v0)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v0) = v0 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
          ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v29) = v0 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2))

def preserves_KernelLayerNorm_KernelLayerNormIdeal : Prop :=
  True

def algebraic_KernelLayerNormIdeal_ReferenceLayerNormIdeal [hKernelLayerNormIdeal : Cert.KernelLayerNormIdeal.Facts] [hReferenceLayerNormIdeal : Cert.ReferenceLayerNormIdeal.Facts] : Prop :=
  ∀ (m : (ℓ : Loc Cert.KernelLayerNormIdeal.nD Cert.KernelLayerNormIdeal.τ Cert.KernelLayerNormIdeal.sig) → Buf (Elt Ideal) ℓ) (g : Dev Cert.KernelLayerNormIdeal.nD → PrngReg)
    (m' : (ℓ : Loc Cert.ReferenceLayerNormIdeal.nD Cert.ReferenceLayerNormIdeal.τ Cert.ReferenceLayerNormIdeal.sig) → Buf (Elt Ideal) ℓ) (g' : Dev Cert.ReferenceLayerNormIdeal.nD → PrngReg), Pre_KernelLayerNormIdeal m →
    (∀ c : Dev Cert.KernelLayerNormIdeal.nD,
      m' ((c.tc : Thread Cert.ReferenceLayerNormIdeal.nD Cert.ReferenceLayerNormIdeal.τ).loc Cert.ReferenceLayerNormIdeal.main_arg0) = m ((c.tc : Thread Cert.KernelLayerNormIdeal.nD Cert.KernelLayerNormIdeal.τ).loc Cert.KernelLayerNormIdeal.main_arg0)
      ∧ m' ((c.tc : Thread Cert.ReferenceLayerNormIdeal.nD Cert.ReferenceLayerNormIdeal.τ).loc Cert.ReferenceLayerNormIdeal.main_arg1) = m ((c.tc : Thread Cert.KernelLayerNormIdeal.nD Cert.KernelLayerNormIdeal.τ).loc Cert.KernelLayerNormIdeal.main_arg1)) →
    ∃ (v0 : (c : Dev Cert.KernelLayerNormIdeal.nD) → Buf (Elt Ideal) ((c.tc : Thread Cert.KernelLayerNormIdeal.nD Cert.KernelLayerNormIdeal.τ).loc Cert.KernelLayerNormIdeal.main_v1)),
      θ_run (Cert.KernelLayerNormIdeal.defs (F := Ideal)) (onTc (τ := Cert.KernelLayerNormIdeal.τ) (Cert.KernelLayerNormIdeal.main (F := Ideal))) ⟨m, fun _ => 0, g⟩ (fun r => ∀ c : Dev Cert.KernelLayerNormIdeal.nD,
          r.2.mem ((c.tc : Thread Cert.KernelLayerNormIdeal.nD Cert.KernelLayerNormIdeal.τ).loc Cert.KernelLayerNormIdeal.main_v1) = v0 c
          ∧ r.2.mem ((c.tc : Thread Cert.KernelLayerNormIdeal.nD Cert.KernelLayerNormIdeal.τ).loc Cert.KernelLayerNormIdeal.main_arg0) = m ((c.tc : Thread Cert.KernelLayerNormIdeal.nD Cert.KernelLayerNormIdeal.τ).loc Cert.KernelLayerNormIdeal.main_arg0)
          ∧ r.2.mem ((c.tc : Thread Cert.KernelLayerNormIdeal.nD Cert.KernelLayerNormIdeal.τ).loc Cert.KernelLayerNormIdeal.main_arg1) = m ((c.tc : Thread Cert.KernelLayerNormIdeal.nD Cert.KernelLayerNormIdeal.τ).loc Cert.KernelLayerNormIdeal.main_arg1))
      ∧ θ_run (Cert.ReferenceLayerNormIdeal.defs (F := Ideal)) (onTc (τ := Cert.ReferenceLayerNormIdeal.τ) (Cert.ReferenceLayerNormIdeal.main (F := Ideal))) ⟨m', fun _ => 0, g'⟩ (fun r => ∀ c : Dev Cert.ReferenceLayerNormIdeal.nD,
          r.2.mem ((c.tc : Thread Cert.ReferenceLayerNormIdeal.nD Cert.ReferenceLayerNormIdeal.τ).loc Cert.ReferenceLayerNormIdeal.main_v13) = v0 c
          ∧ r.2.mem ((c.tc : Thread Cert.ReferenceLayerNormIdeal.nD Cert.ReferenceLayerNormIdeal.τ).loc Cert.ReferenceLayerNormIdeal.main_arg0) = m' ((c.tc : Thread Cert.ReferenceLayerNormIdeal.nD Cert.ReferenceLayerNormIdeal.τ).loc Cert.ReferenceLayerNormIdeal.main_arg0)
          ∧ r.2.mem ((c.tc : Thread Cert.ReferenceLayerNormIdeal.nD Cert.ReferenceLayerNormIdeal.τ).loc Cert.ReferenceLayerNormIdeal.main_arg1) = m' ((c.tc : Thread Cert.ReferenceLayerNormIdeal.nD Cert.ReferenceLayerNormIdeal.τ).loc Cert.ReferenceLayerNormIdeal.main_arg1))

def preserves_KernelLayerNormS_KernelLayerNormSIdeal : Prop :=
  True

def algebraic_KernelLayerNormSIdeal_ReferenceLayerNormSIdeal [hKernelLayerNormSIdeal : Cert.KernelLayerNormSIdeal.Facts] [hReferenceLayerNormSIdeal : Cert.ReferenceLayerNormSIdeal.Facts] : Prop :=
  ∀ (m : (ℓ : Loc Cert.KernelLayerNormSIdeal.nD Cert.KernelLayerNormSIdeal.τ Cert.KernelLayerNormSIdeal.sig) → Buf (Elt Ideal) ℓ) (g : Dev Cert.KernelLayerNormSIdeal.nD → PrngReg)
    (m' : (ℓ : Loc Cert.ReferenceLayerNormSIdeal.nD Cert.ReferenceLayerNormSIdeal.τ Cert.ReferenceLayerNormSIdeal.sig) → Buf (Elt Ideal) ℓ) (g' : Dev Cert.ReferenceLayerNormSIdeal.nD → PrngReg), Pre_KernelLayerNormSIdeal m →
    (∀ c : Dev Cert.KernelLayerNormSIdeal.nD,
      m' ((c.tc : Thread Cert.ReferenceLayerNormSIdeal.nD Cert.ReferenceLayerNormSIdeal.τ).loc Cert.ReferenceLayerNormSIdeal.main_arg0) = m ((c.tc : Thread Cert.KernelLayerNormSIdeal.nD Cert.KernelLayerNormSIdeal.τ).loc Cert.KernelLayerNormSIdeal.main_arg0)
      ∧ m' ((c.tc : Thread Cert.ReferenceLayerNormSIdeal.nD Cert.ReferenceLayerNormSIdeal.τ).loc Cert.ReferenceLayerNormSIdeal.main_arg1) = m ((c.tc : Thread Cert.KernelLayerNormSIdeal.nD Cert.KernelLayerNormSIdeal.τ).loc Cert.KernelLayerNormSIdeal.main_arg1)) →
    ∃ (v0 : (c : Dev Cert.KernelLayerNormSIdeal.nD) → Buf (Elt Ideal) ((c.tc : Thread Cert.KernelLayerNormSIdeal.nD Cert.KernelLayerNormSIdeal.τ).loc Cert.KernelLayerNormSIdeal.main_v1)),
      θ_run (Cert.KernelLayerNormSIdeal.defs (F := Ideal)) (onTc (τ := Cert.KernelLayerNormSIdeal.τ) (Cert.KernelLayerNormSIdeal.main (F := Ideal))) ⟨m, fun _ => 0, g⟩ (fun r => ∀ c : Dev Cert.KernelLayerNormSIdeal.nD,
          r.2.mem ((c.tc : Thread Cert.KernelLayerNormSIdeal.nD Cert.KernelLayerNormSIdeal.τ).loc Cert.KernelLayerNormSIdeal.main_v1) = v0 c
          ∧ r.2.mem ((c.tc : Thread Cert.KernelLayerNormSIdeal.nD Cert.KernelLayerNormSIdeal.τ).loc Cert.KernelLayerNormSIdeal.main_arg0) = m ((c.tc : Thread Cert.KernelLayerNormSIdeal.nD Cert.KernelLayerNormSIdeal.τ).loc Cert.KernelLayerNormSIdeal.main_arg0)
          ∧ r.2.mem ((c.tc : Thread Cert.KernelLayerNormSIdeal.nD Cert.KernelLayerNormSIdeal.τ).loc Cert.KernelLayerNormSIdeal.main_arg1) = m ((c.tc : Thread Cert.KernelLayerNormSIdeal.nD Cert.KernelLayerNormSIdeal.τ).loc Cert.KernelLayerNormSIdeal.main_arg1))
      ∧ θ_run (Cert.ReferenceLayerNormSIdeal.defs (F := Ideal)) (onTc (τ := Cert.ReferenceLayerNormSIdeal.τ) (Cert.ReferenceLayerNormSIdeal.main (F := Ideal))) ⟨m', fun _ => 0, g'⟩ (fun r => ∀ c : Dev Cert.ReferenceLayerNormSIdeal.nD,
          r.2.mem ((c.tc : Thread Cert.ReferenceLayerNormSIdeal.nD Cert.ReferenceLayerNormSIdeal.τ).loc Cert.ReferenceLayerNormSIdeal.main_v13) = v0 c
          ∧ r.2.mem ((c.tc : Thread Cert.ReferenceLayerNormSIdeal.nD Cert.ReferenceLayerNormSIdeal.τ).loc Cert.ReferenceLayerNormSIdeal.main_arg0) = m' ((c.tc : Thread Cert.ReferenceLayerNormSIdeal.nD Cert.ReferenceLayerNormSIdeal.τ).loc Cert.ReferenceLayerNormSIdeal.main_arg0)
          ∧ r.2.mem ((c.tc : Thread Cert.ReferenceLayerNormSIdeal.nD Cert.ReferenceLayerNormSIdeal.τ).loc Cert.ReferenceLayerNormSIdeal.main_arg1) = m' ((c.tc : Thread Cert.ReferenceLayerNormSIdeal.nD Cert.ReferenceLayerNormSIdeal.τ).loc Cert.ReferenceLayerNormSIdeal.main_arg1))

def Claim : Prop :=
  ∃ (hKernel : Cert.Kernel.Facts) (hKernelIdeal : Cert.KernelIdeal.Facts) (hReferenceIdeal : Cert.ReferenceIdeal.Facts) (hKernelDiffQ : Cert.KernelDiffQ.Facts) (hKernelDiffQIdeal : Cert.KernelDiffQIdeal.Facts) (hReferenceDiffQIdeal : Cert.ReferenceDiffQIdeal.Facts) (hKernelDiffKv : Cert.KernelDiffKv.Facts) (hKernelDiffKvIdeal : Cert.KernelDiffKvIdeal.Facts) (hReferenceDiffKvIdeal : Cert.ReferenceDiffKvIdeal.Facts) (hKernelDiffZ : Cert.KernelDiffZ.Facts) (hKernelDiffZIdeal : Cert.KernelDiffZIdeal.Facts) (hReferenceDiffZIdeal : Cert.ReferenceDiffZIdeal.Facts) (hKernelSbQ : Cert.KernelSbQ.Facts) (hKernelSbQIdeal : Cert.KernelSbQIdeal.Facts) (hReferenceSbQIdeal : Cert.ReferenceSbQIdeal.Facts) (hKernelSbKv : Cert.KernelSbKv.Facts) (hKernelSbKvIdeal : Cert.KernelSbKvIdeal.Facts) (hReferenceSbKvIdeal : Cert.ReferenceSbKvIdeal.Facts) (hKernelSbZ : Cert.KernelSbZ.Facts) (hKernelSbZIdeal : Cert.KernelSbZIdeal.Facts) (hReferenceSbZIdeal : Cert.ReferenceSbZIdeal.Facts) (hKernelNsaQ : Cert.KernelNsaQ.Facts) (hKernelNsaQIdeal : Cert.KernelNsaQIdeal.Facts) (hReferenceNsaQIdeal : Cert.ReferenceNsaQIdeal.Facts) (hKernelNsaKv : Cert.KernelNsaKv.Facts) (hKernelNsaKvIdeal : Cert.KernelNsaKvIdeal.Facts) (hReferenceNsaKvIdeal : Cert.ReferenceNsaKvIdeal.Facts) (hKernelNsaWin : Cert.KernelNsaWin.Facts) (hKernelNsaWinIdeal : Cert.KernelNsaWinIdeal.Facts) (hReferenceNsaWinIdeal : Cert.ReferenceNsaWinIdeal.Facts) (hKernelNsaZ : Cert.KernelNsaZ.Facts) (hKernelNsaZIdeal : Cert.KernelNsaZIdeal.Facts) (hReferenceNsaZIdeal : Cert.ReferenceNsaZIdeal.Facts) (hKernelOutC : Cert.KernelOutC.Facts) (hKernelOutCIdeal : Cert.KernelOutCIdeal.Facts) (hReferenceOutCIdeal : Cert.ReferenceOutCIdeal.Facts) (hKernelOutAB : Cert.KernelOutAB.Facts) (hKernelOutABIdeal : Cert.KernelOutABIdeal.Facts) (hReferenceOutABIdeal : Cert.ReferenceOutABIdeal.Facts) (hKernelPle : Cert.KernelPle.Facts) (hKernelPleIdeal : Cert.KernelPleIdeal.Facts) (hReferencePleIdeal : Cert.ReferencePleIdeal.Facts) (hKernelNorm : Cert.KernelNorm.Facts) (hKernelNormIdeal : Cert.KernelNormIdeal.Facts) (hReferenceNormIdeal : Cert.ReferenceNormIdeal.Facts) (hKernelDiffKvS : Cert.KernelDiffKvS.Facts) (hKernelDiffKvSIdeal : Cert.KernelDiffKvSIdeal.Facts) (hReferenceDiffKvSIdeal : Cert.ReferenceDiffKvSIdeal.Facts) (hKernelSbKvS : Cert.KernelSbKvS.Facts) (hKernelSbKvSIdeal : Cert.KernelSbKvSIdeal.Facts) (hReferenceSbKvSIdeal : Cert.ReferenceSbKvSIdeal.Facts) (hKernelNsaKvS : Cert.KernelNsaKvS.Facts) (hKernelNsaKvSIdeal : Cert.KernelNsaKvSIdeal.Facts) (hReferenceNsaKvSIdeal : Cert.ReferenceNsaKvSIdeal.Facts) (hKernelNsaWinS : Cert.KernelNsaWinS.Facts) (hKernelNsaWinSIdeal : Cert.KernelNsaWinSIdeal.Facts) (hReferenceNsaWinSIdeal : Cert.ReferenceNsaWinSIdeal.Facts) (hKernelNormS : Cert.KernelNormS.Facts) (hKernelNormSIdeal : Cert.KernelNormSIdeal.Facts) (hReferenceNormSIdeal : Cert.ReferenceNormSIdeal.Facts) (hKernelSb : Cert.KernelSb.Facts) (hKernelSbIdeal : Cert.KernelSbIdeal.Facts) (hReferenceSbIdeal : Cert.ReferenceSbIdeal.Facts) (hKernelLayerNorm : Cert.KernelLayerNorm.Facts) (hKernelLayerNormIdeal : Cert.KernelLayerNormIdeal.Facts) (hReferenceLayerNormIdeal : Cert.ReferenceLayerNormIdeal.Facts) (hKernelLayerNormS : Cert.KernelLayerNormS.Facts) (hKernelLayerNormSIdeal : Cert.KernelLayerNormSIdeal.Facts) (hReferenceLayerNormSIdeal : Cert.ReferenceLayerNormSIdeal.Facts) (hPre_finite_values : Cert.Pre_finite_values.Facts) (hPre_sb_finite : Cert.Pre_sb_finite.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_KernelDiffQ (hKernelDiffQ := hKernelDiffQ)
    ∧ quiescent_KernelDiffQIdeal (hKernelDiffQIdeal := hKernelDiffQIdeal)
    ∧ quiescent_ReferenceDiffQIdeal (hReferenceDiffQIdeal := hReferenceDiffQIdeal)
    ∧ quiescent_KernelDiffKv (hKernelDiffKv := hKernelDiffKv)
    ∧ quiescent_KernelDiffKvIdeal (hKernelDiffKvIdeal := hKernelDiffKvIdeal)
    ∧ quiescent_ReferenceDiffKvIdeal (hReferenceDiffKvIdeal := hReferenceDiffKvIdeal)
    ∧ quiescent_KernelDiffZ (hKernelDiffZ := hKernelDiffZ)
    ∧ quiescent_KernelDiffZIdeal (hKernelDiffZIdeal := hKernelDiffZIdeal)
    ∧ quiescent_ReferenceDiffZIdeal (hReferenceDiffZIdeal := hReferenceDiffZIdeal)
    ∧ quiescent_KernelSbQ (hKernelSbQ := hKernelSbQ)
    ∧ quiescent_KernelSbQIdeal (hKernelSbQIdeal := hKernelSbQIdeal)
    ∧ quiescent_ReferenceSbQIdeal (hReferenceSbQIdeal := hReferenceSbQIdeal)
    ∧ quiescent_KernelSbKv (hKernelSbKv := hKernelSbKv)
    ∧ quiescent_KernelSbKvIdeal (hKernelSbKvIdeal := hKernelSbKvIdeal)
    ∧ quiescent_ReferenceSbKvIdeal (hReferenceSbKvIdeal := hReferenceSbKvIdeal)
    ∧ quiescent_KernelSbZ (hKernelSbZ := hKernelSbZ)
    ∧ quiescent_KernelSbZIdeal (hKernelSbZIdeal := hKernelSbZIdeal)
    ∧ quiescent_ReferenceSbZIdeal (hReferenceSbZIdeal := hReferenceSbZIdeal)
    ∧ quiescent_KernelNsaQ (hKernelNsaQ := hKernelNsaQ)
    ∧ quiescent_KernelNsaQIdeal (hKernelNsaQIdeal := hKernelNsaQIdeal)
    ∧ quiescent_ReferenceNsaQIdeal (hReferenceNsaQIdeal := hReferenceNsaQIdeal)
    ∧ quiescent_KernelNsaKv (hKernelNsaKv := hKernelNsaKv)
    ∧ quiescent_KernelNsaKvIdeal (hKernelNsaKvIdeal := hKernelNsaKvIdeal)
    ∧ quiescent_ReferenceNsaKvIdeal (hReferenceNsaKvIdeal := hReferenceNsaKvIdeal)
    ∧ quiescent_KernelNsaWin (hKernelNsaWin := hKernelNsaWin)
    ∧ quiescent_KernelNsaWinIdeal (hKernelNsaWinIdeal := hKernelNsaWinIdeal)
    ∧ quiescent_ReferenceNsaWinIdeal (hReferenceNsaWinIdeal := hReferenceNsaWinIdeal)
    ∧ quiescent_KernelNsaZ (hKernelNsaZ := hKernelNsaZ)
    ∧ quiescent_KernelNsaZIdeal (hKernelNsaZIdeal := hKernelNsaZIdeal)
    ∧ quiescent_ReferenceNsaZIdeal (hReferenceNsaZIdeal := hReferenceNsaZIdeal)
    ∧ quiescent_KernelOutC (hKernelOutC := hKernelOutC)
    ∧ quiescent_KernelOutCIdeal (hKernelOutCIdeal := hKernelOutCIdeal)
    ∧ quiescent_ReferenceOutCIdeal (hReferenceOutCIdeal := hReferenceOutCIdeal)
    ∧ quiescent_KernelOutAB (hKernelOutAB := hKernelOutAB)
    ∧ quiescent_KernelOutABIdeal (hKernelOutABIdeal := hKernelOutABIdeal)
    ∧ quiescent_ReferenceOutABIdeal (hReferenceOutABIdeal := hReferenceOutABIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelDiffKvS (hKernelDiffKvS := hKernelDiffKvS)
    ∧ quiescent_KernelDiffKvSIdeal (hKernelDiffKvSIdeal := hKernelDiffKvSIdeal)
    ∧ quiescent_ReferenceDiffKvSIdeal (hReferenceDiffKvSIdeal := hReferenceDiffKvSIdeal)
    ∧ quiescent_KernelSbKvS (hKernelSbKvS := hKernelSbKvS)
    ∧ quiescent_KernelSbKvSIdeal (hKernelSbKvSIdeal := hKernelSbKvSIdeal)
    ∧ quiescent_ReferenceSbKvSIdeal (hReferenceSbKvSIdeal := hReferenceSbKvSIdeal)
    ∧ quiescent_KernelNsaKvS (hKernelNsaKvS := hKernelNsaKvS)
    ∧ quiescent_KernelNsaKvSIdeal (hKernelNsaKvSIdeal := hKernelNsaKvSIdeal)
    ∧ quiescent_ReferenceNsaKvSIdeal (hReferenceNsaKvSIdeal := hReferenceNsaKvSIdeal)
    ∧ quiescent_KernelNsaWinS (hKernelNsaWinS := hKernelNsaWinS)
    ∧ quiescent_KernelNsaWinSIdeal (hKernelNsaWinSIdeal := hKernelNsaWinSIdeal)
    ∧ quiescent_ReferenceNsaWinSIdeal (hReferenceNsaWinSIdeal := hReferenceNsaWinSIdeal)
    ∧ quiescent_KernelNormS (hKernelNormS := hKernelNormS)
    ∧ quiescent_KernelNormSIdeal (hKernelNormSIdeal := hKernelNormSIdeal)
    ∧ quiescent_ReferenceNormSIdeal (hReferenceNormSIdeal := hReferenceNormSIdeal)
    ∧ quiescent_KernelSb (hKernelSb := hKernelSb)
    ∧ quiescent_KernelSbIdeal (hKernelSbIdeal := hKernelSbIdeal)
    ∧ quiescent_KernelSbIdeal_pre_sb_finite (hKernelSbIdeal := hKernelSbIdeal) (hPre_sb_finite := hPre_sb_finite)
    ∧ quiescent_ReferenceSbIdeal (hReferenceSbIdeal := hReferenceSbIdeal)
    ∧ quiescent_ReferenceSbIdeal_pre_sb_finite (hReferenceSbIdeal := hReferenceSbIdeal) (hPre_sb_finite := hPre_sb_finite)
    ∧ quiescent_KernelLayerNorm (hKernelLayerNorm := hKernelLayerNorm)
    ∧ quiescent_KernelLayerNormIdeal (hKernelLayerNormIdeal := hKernelLayerNormIdeal)
    ∧ quiescent_ReferenceLayerNormIdeal (hReferenceLayerNormIdeal := hReferenceLayerNormIdeal)
    ∧ quiescent_KernelLayerNormS (hKernelLayerNormS := hKernelLayerNormS)
    ∧ quiescent_KernelLayerNormSIdeal (hKernelLayerNormSIdeal := hKernelLayerNormSIdeal)
    ∧ quiescent_ReferenceLayerNormSIdeal (hReferenceLayerNormSIdeal := hReferenceLayerNormSIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_KernelDiffQ_KernelDiffQIdeal
    ∧ algebraic_KernelDiffQIdeal_ReferenceDiffQIdeal (hKernelDiffQIdeal := hKernelDiffQIdeal) (hReferenceDiffQIdeal := hReferenceDiffQIdeal)
    ∧ preserves_KernelDiffKv_KernelDiffKvIdeal
    ∧ algebraic_KernelDiffKvIdeal_ReferenceDiffKvIdeal (hKernelDiffKvIdeal := hKernelDiffKvIdeal) (hReferenceDiffKvIdeal := hReferenceDiffKvIdeal)
    ∧ preserves_KernelDiffZ_KernelDiffZIdeal
    ∧ algebraic_KernelDiffZIdeal_ReferenceDiffZIdeal (hKernelDiffZIdeal := hKernelDiffZIdeal) (hReferenceDiffZIdeal := hReferenceDiffZIdeal)
    ∧ preserves_KernelSbQ_KernelSbQIdeal
    ∧ algebraic_KernelSbQIdeal_ReferenceSbQIdeal (hKernelSbQIdeal := hKernelSbQIdeal) (hReferenceSbQIdeal := hReferenceSbQIdeal)
    ∧ preserves_KernelSbKv_KernelSbKvIdeal
    ∧ algebraic_KernelSbKvIdeal_ReferenceSbKvIdeal (hKernelSbKvIdeal := hKernelSbKvIdeal) (hReferenceSbKvIdeal := hReferenceSbKvIdeal)
    ∧ preserves_KernelSbZ_KernelSbZIdeal
    ∧ algebraic_KernelSbZIdeal_ReferenceSbZIdeal (hKernelSbZIdeal := hKernelSbZIdeal) (hReferenceSbZIdeal := hReferenceSbZIdeal)
    ∧ preserves_KernelNsaQ_KernelNsaQIdeal
    ∧ algebraic_KernelNsaQIdeal_ReferenceNsaQIdeal (hKernelNsaQIdeal := hKernelNsaQIdeal) (hReferenceNsaQIdeal := hReferenceNsaQIdeal)
    ∧ preserves_KernelNsaKv_KernelNsaKvIdeal
    ∧ algebraic_KernelNsaKvIdeal_ReferenceNsaKvIdeal (hKernelNsaKvIdeal := hKernelNsaKvIdeal) (hReferenceNsaKvIdeal := hReferenceNsaKvIdeal)
    ∧ preserves_KernelNsaWin_KernelNsaWinIdeal
    ∧ algebraic_KernelNsaWinIdeal_ReferenceNsaWinIdeal (hKernelNsaWinIdeal := hKernelNsaWinIdeal) (hReferenceNsaWinIdeal := hReferenceNsaWinIdeal)
    ∧ preserves_KernelNsaZ_KernelNsaZIdeal
    ∧ algebraic_KernelNsaZIdeal_ReferenceNsaZIdeal (hKernelNsaZIdeal := hKernelNsaZIdeal) (hReferenceNsaZIdeal := hReferenceNsaZIdeal)
    ∧ preserves_KernelOutC_KernelOutCIdeal
    ∧ algebraic_KernelOutCIdeal_ReferenceOutCIdeal (hKernelOutCIdeal := hKernelOutCIdeal) (hReferenceOutCIdeal := hReferenceOutCIdeal)
    ∧ preserves_KernelOutAB_KernelOutABIdeal
    ∧ algebraic_KernelOutABIdeal_ReferenceOutABIdeal (hKernelOutABIdeal := hKernelOutABIdeal) (hReferenceOutABIdeal := hReferenceOutABIdeal)
    ∧ preserves_KernelPle_KernelPleIdeal
    ∧ algebraic_KernelPleIdeal_ReferencePleIdeal (hKernelPleIdeal := hKernelPleIdeal) (hReferencePleIdeal := hReferencePleIdeal)
    ∧ preserves_KernelNorm_KernelNormIdeal
    ∧ algebraic_KernelNormIdeal_ReferenceNormIdeal (hKernelNormIdeal := hKernelNormIdeal) (hReferenceNormIdeal := hReferenceNormIdeal)
    ∧ preserves_KernelDiffKvS_KernelDiffKvSIdeal
    ∧ algebraic_KernelDiffKvSIdeal_ReferenceDiffKvSIdeal (hKernelDiffKvSIdeal := hKernelDiffKvSIdeal) (hReferenceDiffKvSIdeal := hReferenceDiffKvSIdeal)
    ∧ preserves_KernelSbKvS_KernelSbKvSIdeal
    ∧ algebraic_KernelSbKvSIdeal_ReferenceSbKvSIdeal (hKernelSbKvSIdeal := hKernelSbKvSIdeal) (hReferenceSbKvSIdeal := hReferenceSbKvSIdeal)
    ∧ preserves_KernelNsaKvS_KernelNsaKvSIdeal
    ∧ algebraic_KernelNsaKvSIdeal_ReferenceNsaKvSIdeal (hKernelNsaKvSIdeal := hKernelNsaKvSIdeal) (hReferenceNsaKvSIdeal := hReferenceNsaKvSIdeal)
    ∧ preserves_KernelNsaWinS_KernelNsaWinSIdeal
    ∧ algebraic_KernelNsaWinSIdeal_ReferenceNsaWinSIdeal (hKernelNsaWinSIdeal := hKernelNsaWinSIdeal) (hReferenceNsaWinSIdeal := hReferenceNsaWinSIdeal)
    ∧ preserves_KernelNormS_KernelNormSIdeal
    ∧ algebraic_KernelNormSIdeal_ReferenceNormSIdeal (hKernelNormSIdeal := hKernelNormSIdeal) (hReferenceNormSIdeal := hReferenceNormSIdeal)
    ∧ preserves_KernelSb_KernelSbIdeal
    ∧ algebraic_KernelSbIdeal_ReferenceSbIdeal_pre_sb_finite (hKernelSbIdeal := hKernelSbIdeal) (hReferenceSbIdeal := hReferenceSbIdeal) (hPre_sb_finite := hPre_sb_finite)
    ∧ preserves_KernelLayerNorm_KernelLayerNormIdeal
    ∧ algebraic_KernelLayerNormIdeal_ReferenceLayerNormIdeal (hKernelLayerNormIdeal := hKernelLayerNormIdeal) (hReferenceLayerNormIdeal := hReferenceLayerNormIdeal)
    ∧ preserves_KernelLayerNormS_KernelLayerNormSIdeal
    ∧ algebraic_KernelLayerNormSIdeal_ReferenceLayerNormSIdeal (hKernelLayerNormSIdeal := hKernelLayerNormSIdeal) (hReferenceLayerNormSIdeal := hReferenceLayerNormSIdeal)
-- ==== Pre_finite_values.lean ====
abbrev S16 : Shape := ⟨1, ![16]⟩
abbrev S4x2048x4096 : Shape := ⟨3, ![4, 2048, 4096]⟩
abbrev S4x2048x8192 : Shape := ⟨3, ![4, 2048, 8192]⟩
abbrev S128 : Shape := ⟨1, ![128]⟩
abbrev S256 : Shape := ⟨1, ![256]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  slices_S4x2048x8192_S4x2048x4096_0_0_4096 : S4x2048x8192.Slices ![0, 0, 4096] S4x2048x4096
  bcast_S_S4x2048x4096 : S_.BroadcastsInDim S4x2048x4096 (![] : Fin 0 → Fin S4x2048x4096.rank)
  reducesTo_S4x2048x4096_S_d0_1_2 : S4x2048x4096.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v27 : IVec S_ 1) (main_v32 : IVec S128 1) (main_c_12 : IVec S_ 1) : IVec S_ 1 :=
  let main_v33 : IVec S_ 1 := (fun x v => Host.reduce IntOp.andi x v reducesTo_S128_S_d0 h_S_) main_v32 main_c_12
  let main_v34 : IVec S_ 1 := andi main_v27 main_v33
  let main_cst_13 : FVec F S_ .f32 := constant S_ .f32 0x7F800000#32
  let main_v35 : FVec F S128 .f32 := broadcastInDim S128 ![] bcast_S_S128 main_cst_13
  let main_v36 : IVec S128 1 := cmpf .olt main_arg7 main_v35
  let main_cst_14 : FVec F S_ .f32 := constant S_ .f32 0xFF800000#32
  let main_v37 : FVec F S128 .f32 := broadcastInDim S128 ![] bcast_S_S128 main_cst_14
  let main_v38 : IVec S128 1 := cmpf .ogt main_arg7 main_v37
  let main_v39 : IVec S128 1 := andi main_v36 main_v38
  let main_c_15 : IVec S_ 1 := constantI S_ 1 1#1
  let main_v40 : IVec S_ 1 := (fun x v => Host.reduce IntOp.andi x v reducesTo_S128_S_d0 h_S_) main_v39 main_c_15
  let main_v41 : IVec S_ 1 := andi main_v34 main_v40
  main_v41

def fn_part1 {F : FTy → Type} [FloatOps F] (main_arg4 : FVec F S128 .f32) (main_arg5 : FVec F S128 .f32) (main_arg6 : FVec F S128 .f32) (main_arg7 : FVec F S128 .f32) (main_v13 : IVec S_ 1) (main_v15 : IVec S128 1) (main_cst_5 : FVec F S_ .f32) : IVec S_ 1 :=
  let main_v16 : FVec F S128 .f32 := broadcastInDim S128 ![] bcast_S_S128 main_cst_5
  let main_v17 : IVec S128 1 := cmpf .ogt main_arg4 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  let main_cst_7 : FVec F S_ .f32 := constant S_ .f32 0x7F800000#32
  let main_v21 : FVec F S128 .f32 := broadcastInDim S128 ![] bcast_S_S128 main_cst_7
  let main_v22 : IVec S128 1 := cmpf .olt main_arg5 main_v21
  let main_cst_8 : FVec F S_ .f32 := constant S_ .f32 0xFF800000#32
  let main_v23 : FVec F S128 .f32 := broadcastInDim S128 ![] bcast_S_S128 main_cst_8
  let main_v24 : IVec S128 1 := cmpf .ogt main_arg5 main_v23
  let main_v25 : IVec S128 1 := andi main_v22 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v20 main_v26
  let main_cst_10 : FVec F S_ .f32 := constant S_ .f32 0x7F800000#32
  let main_v28 : FVec F S128 .f32 := broadcastInDim S128 ![] bcast_S_S128 main_cst_10
  let main_v29 : IVec S128 1 := cmpf .olt main_arg6 main_v28
  let main_cst_11 : FVec F S_ .f32 := constant S_ .f32 0xFF800000#32
  let main_v30 : FVec F S128 .f32 := broadcastInDim S128 ![] bcast_S_S128 main_cst_11
  let main_v31 : IVec S128 1 := cmpf .ogt main_arg6 main_v30
  let main_v32 : IVec S128 1 := andi main_v29 main_v31
  let main_c_12 : IVec S_ 1 := constantI S_ 1 1#1
  fn_part2 (F := F) main_arg7 main_v27 main_v32 main_c_12

def fn {F : FTy → Type} [FloatOps F] (main_arg0 : FVec F S16 .f32) (main_arg1 : FVec F S4x2048x4096 .f32) (main_arg2 : FVec F S4x2048x8192 .f32) (main_arg3 : FVec F S4x2048x4096 .f32) (main_arg4 : FVec F S128 .f32) (main_arg5 : FVec F S128 .f32) (main_arg6 : FVec F S128 .f32) (main_arg7 : FVec F S128 .f32) (main_arg8 : FVec F S256 .f32) : IVec S_ 1 :=
  let main_cst : FVec F S_ .f32 := constant S_ .f32 0x7F800000#32
  let main_v0 : FVec F S16 .f32 := broadcastInDim S16 ![] bcast_S_S16 main_cst
  let main_v1 : IVec S16 1 := cmpf .olt main_arg0 main_v0
  let main_cst_0 : FVec F S_ .f32 := constant S_ .f32 0xFF800000#32
  let main_v2 : FVec F S16 .f32 := broadcastInDim S16 ![] bcast_S_S16 main_cst_0
  let main_v3 : IVec S16 1 := cmpf .ogt main_arg0 main_v2
  let main_v4 : IVec S16 1 := andi main_v1 main_v3
  let main_c : IVec S_ 1 := constantI S_ 1 1#1
  let main_v5 : IVec S_ 1 := (fun x v => Host.reduce IntOp.andi x v reducesTo_S16_S_d0 h_S_) main_v4 main_c
  let main_v6 : FVec F S4x2048x4096 .f32 := (extractStridedSlice S4x2048x4096 ![0, 0, 4096] · slices_S4x2048x8192_S4x2048x4096_0_0_4096) main_arg2
  let main_cst_1 : FVec F S_ .f32 := constant S_ .f32 0x7F800000#32
  let main_v7 : FVec F S4x2048x4096 .f32 := broadcastInDim S4x2048x4096 ![] bcast_S_S4x2048x4096 main_cst_1
  let main_v8 : IVec S4x2048x4096 1 := cmpf .olt main_v6 main_v7
  let main_cst_2 : FVec F S_ .f32 := constant S_ .f32 0xFF800000#32
  let main_v9 : FVec F S4x2048x4096 .f32 := broadcastInDim S4x2048x4096 ![] bcast_S_S4x2048x4096 main_cst_2
  let main_v10 : IVec S4x2048x4096 1 := cmpf .ogt main_v6 main_v9
  let main_v11 : IVec S4x2048x4096 1 := andi main_v8 main_v10
  let main_c_3 : IVec S_ 1 := constantI S_ 1 1#1
  let main_v12 : IVec S_ 1 := (fun x v => Host.reduce IntOp.andi x v reducesTo_S4x2048x4096_S_d0_1_2 h_S_) main_v11 main_c_3
  let main_v13 : IVec S_ 1 := andi main_v5 main_v12
  let main_cst_4 : FVec F S_ .f32 := constant S_ .f32 0x7F800000#32
  let main_v14 : FVec F S128 .f32 := broadcastInDim S128 ![] bcast_S_S128 main_cst_4
  let main_v15 : IVec S128 1 := cmpf .olt main_arg4 main_v14
  let main_cst_5 : FVec F S_ .f32 := constant S_ .f32 0xFF800000#32
  fn_part1 (F := F) main_arg4 main_arg5 main_arg6 main_arg7 main_v13 main_v15 main_cst_5
-- ==== Pre_sb_finite.lean ====
abbrev S4x2048x2048 : Shape := ⟨3, ![4, 2048, 2048]⟩
abbrev S4x2048x4096 : Shape := ⟨3, ![4, 2048, 4096]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  slices_S4x2048x4096_S4x2048x2048_0_0_0 : S4x2048x4096.Slices ![0, 0, 0] S4x2048x2048

variable [Facts]

def fn {F : FTy → Type} [FloatOps F] (main_arg0 : FVec F S4x2048x2048 .f32) (main_arg1 : FVec F S4x2048x4096 .f32) (main_arg2 : FVec F S4x2048x2048 .f32) : IVec S_ 1 :=
  let main_cst : FVec F S_ .f32 := constant S_ .f32 0x7F800000#32
  let main_v0 : FVec F S4x2048x2048 .f32 := broadcastInDim S4x2048x2048 ![] bcast_S_S4x2048x2048 main_cst
  let main_v1 : IVec S4x2048x2048 1 := cmpf .olt main_arg0 main_v0
  let main_cst_0 : FVec F S_ .f32 := constant S_ .f32 0xFF800000#32
  let main_v2 : FVec F S4x2048x2048 .f32 := broadcastInDim S4x2048x2048 ![] bcast_S_S4x2048x2048 main_cst_0
  let main_v3 : IVec S4x2048x2048 1 := cmpf .ogt main_arg0 main_v2
  let main_v4 : IVec S4x2048x2048 1 := andi main_v1 main_v3
  let main_c : IVec S_ 1 := constantI S_ 1 1#1
  let main_v5 : IVec S_ 1 := (fun x v => Host.reduce IntOp.andi x v reducesTo_S4x2048x2048_S_d0_1_2 h_S_) main_v4 main_c
  let main_v6 : FVec F S4x2048x2048 .f32 := (extractStridedSlice S4x2048x2048 ![0, 0, 0] · slices_S4x2048x4096_S4x2048x2048_0_0_0) main_arg1
  let main_cst_1 : FVec F S_ .f32 := constant S_ .f32 0x7F800000#32
  let main_v7 : FVec F S4x2048x2048 .f32 := broadcastInDim S4x2048x2048 ![] bcast_S_S4x2048x2048 main_cst_1
  let main_v8 : IVec S4x2048x2048 1 := cmpf .olt main_v6 main_v7
  let main_cst_2 : FVec F S_ .f32 := constant S_ .f32 0xFF800000#32
  let main_v9 : FVec F S4x2048x2048 .f32 := broadcastInDim S4x2048x2048 ![] bcast_S_S4x2048x2048 main_cst_2
  let main_v10 : IVec S4x2048x2048 1 := cmpf .ogt main_v6 main_v9
  let main_v11 : IVec S4x2048x2048 1 := andi main_v8 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v5 main_v12
  main_v13
-- ==== Kernel.lean ====
abbrev S16 : Shape := ⟨1, ![16]⟩
abbrev S4x2048x4096 : Shape := ⟨3, ![4, 2048, 4096]⟩
abbrev S4x2048x8192 : Shape := ⟨3, ![4, 2048, 8192]⟩
abbrev S128 : Shape := ⟨1, ![128]⟩
abbrev S256 : Shape := ⟨1, ![256]⟩
abbrev S1x128 : Shape := ⟨2, ![1, 128]⟩
abbrev S1x256 : Shape := ⟨2, ![1, 256]⟩
abbrev S1x256x256 : Shape := ⟨3, ![1, 256, 256]⟩
abbrev S1x2048x256 : Shape := ⟨3, ![1, 2048, 256]⟩
abbrev S8x256x256 : Shape := ⟨3, ![8, 256, 256]⟩
abbrev S2x1x256 : Shape := ⟨3, ![2, 1, 256]⟩
abbrev S2x256x256 : Shape := ⟨3, ![2, 256, 256]⟩
abbrev S1 : Shape := ⟨1, ![1]⟩
abbrev S256x256 : Shape := ⟨2, ![256, 256]⟩
abbrev S256x128 : Shape := ⟨2, ![256, 128]⟩
abbrev S1x1x256 : Shape := ⟨3, ![1, 1, 256]⟩
abbrev S1x1 : Shape := ⟨2, ![1, 1]⟩
abbrev S256x1 : Shape := ⟨2, ![256, 1]⟩

abbrev nBuf : Space → Nat
  | .hbm => 15
  | .vmem => 19
  | .smem => 1
  | _ => 0

abbrev bufTy : (tb : Table) → Fin (tcTables nBuf tb) → BufTy
  | .hbm, ⟨0, _⟩ => ⟨S16, .f32⟩
  | .hbm, ⟨1, _⟩ => ⟨S4x2048x4096, .f32⟩
  | .hbm, ⟨2, _⟩ => ⟨S4x2048x8192, .f32⟩
  | .hbm, ⟨3, _⟩ => ⟨S4x2048x4096, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x256, .f32⟩
  | .hbm, ⟨14, _⟩ => ⟨S4x2048x4096, .bf16⟩
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x256, .f32⟩
  | .local _ .vmem, ⟨7, _⟩ => ⟨S1x256x256, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x256, .f32⟩
  | .local _ .vmem, ⟨13, _⟩ => ⟨S1x256x256, .bf16⟩
  | .local _ .vmem, ⟨14, _⟩ => ⟨S1x256x256, .bf16⟩
  | .local _ .vmem, ⟨15, _⟩ => ⟨S8x256x256, .bf16⟩
  | .local _ .vmem, ⟨16, _⟩ => ⟨S2x1x256, .f32⟩
  | .local _ .vmem, ⟨17, _⟩ => ⟨S2x1x256, .f32⟩
  | .local _ .vmem, ⟨18, _⟩ => ⟨S2x256x256, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![4, 16, 8], ![false, false, false]⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_15 : BitVec 32 := 0#32
  c0_i32_15
@[reducible] def k0_t1_loop (i : grid0.Coords) : Scf.Loop 32 :=
  let c0_i32_25 : BitVec 32 := 0#32
  let arg2 : BitVec 32 := BitVec.ofNat 32 (i 2).val
  let c1_i32 : BitVec 32 := 1#32
  let v61 : BitVec 32 := Scalar.subi arg2 c1_i32
  let v62 : BitVec 32 := Scalar.subi v61 c0_i32_25
  let c1_i32_26 : BitVec 32 := 1#32
  let v64 : BitVec 32 := Scalar.divsi v62 c1_i32_26
  let v65 : BitVec 32 := Scalar.muli v64 c1_i32_26
  let v66 : BitVec 32 := Scalar.addi c0_i32_25 v65
  let c1_i32_27 : BitVec 32 := 1#32
  ⟨c0_i32_25, v66, c1_i32_27⟩
def k0_mult2 (i : grid0.Coords) (k0_t1 : Fin (k0_t1_loop i).trips) : BitVec 32 :=
  let c0_i32_25 : BitVec 32 := 0#32
  let c1_i32_27 : BitVec 32 := 1#32
  let arg18 : BitVec 32 := Scf.iv c0_i32_25 c1_i32_27 k0_t1
  let c1_i32_72 : BitVec 32 := 1#32
  let v145 : BitVec 32 := Scalar.addi arg18 c1_i32_72
  let c256_i32_73 : BitVec 32 := 256#32
  let v146 : BitVec 32 := Scalar.muli v145 c256_i32_73
  v146
def k0_off2 (i : grid0.Coords) (k0_t1 : Fin (k0_t1_loop i).trips) : Fin 3 → Nat :=
  let c0_74 : Index := 0#32
  let c0_i32_25 : BitVec 32 := 0#32
  let c1_i32_27 : BitVec 32 := 1#32
  let arg18 : BitVec 32 := Scf.iv c0_i32_25 c1_i32_27 k0_t1
  let c1_i32_72 : BitVec 32 := 1#32
  let v145 : BitVec 32 := Scalar.addi arg18 c1_i32_72
  let c256_i32_73 : BitVec 32 := 256#32
  let v146 : BitVec 32 := Scalar.muli v145 c256_i32_73
  let v147 : BitVec 32 := v146
  let v148 : Index := Scalar.indexCast v147
  let c0_75 : Index := 0#32
  ![0, v148.toNat, 0]
def k0_off3 (i : grid0.Coords) (k0_t1 : Fin (k0_t1_loop i).trips) : Fin 3 → Nat :=
  let c0_i32_25 : BitVec 32 := 0#32
  let c1_i32_27 : BitVec 32 := 1#32
  let arg18 : BitVec 32 := Scf.iv c0_i32_25 c1_i32_27 k0_t1
  let v165 : Index := Scalar.indexCast arg18
  let c0_79 : Index := 0#32
  let c0_80 : Index := 0#32
  ![v165.toNat, 0, 0]
@[reducible] def k0_t2_loop (i : grid0.Coords) : Scf.Loop 32 :=
  let c0_i32_25 : BitVec 32 := 0#32
  let arg2 : BitVec 32 := BitVec.ofNat 32 (i 2).val
  let c1_i32 : BitVec 32 := 1#32
  let v61 : BitVec 32 := Scalar.subi arg2 c1_i32
  let v62 : BitVec 32 := Scalar.subi v61 c0_i32_25
  let c1_i32_26 : BitVec 32 := 1#32
  let v64 : BitVec 32 := Scalar.divsi v62 c1_i32_26
  let v65 : BitVec 32 := Scalar.muli v64 c1_i32_26
  let v66 : BitVec 32 := Scalar.addi c0_i32_25 v65
  let v63 : BitVec 32 := Scalar.addi c0_i32_25 v62
  let c1_i32_28 : BitVec 32 := 1#32
  ⟨v66, v63, c1_i32_28⟩
def k0_mult3 (i : grid0.Coords) (k0_t2 : Fin (k0_t2_loop i).trips) : BitVec 32 :=
  let c0_i32_25 : BitVec 32 := 0#32
  let arg2 : BitVec 32 := BitVec.ofNat 32 (i 2).val
  let c1_i32 : BitVec 32 := 1#32
  let v61 : BitVec 32 := Scalar.subi arg2 c1_i32
  let v62 : BitVec 32 := Scalar.subi v61 c0_i32_25
  let c1_i32_26 : BitVec 32 := 1#32
  let v64 : BitVec 32 := Scalar.divsi v62 c1_i32_26
  let v65 : BitVec 32 := Scalar.muli v64 c1_i32_26
  let v66 : BitVec 32 := Scalar.addi c0_i32_25 v65
  let c1_i32_28 : BitVec 32 := 1#32
  let arg18 : BitVec 32 := Scf.iv v66 c1_i32_28 k0_t2
  let c1_i32_72 : BitVec 32 := 1#32
  let v145 : BitVec 32 := Scalar.addi arg18 c1_i32_72
  let c256_i32_73 : BitVec 32 := 256#32
  let v146 : BitVec 32 := Scalar.muli v145 c256_i32_73
  v146
def k0_off4 (i : grid0.Coords) (k0_t2 : Fin (k0_t2_loop i).trips) : Fin 3 → Nat :=
  let c0_74 : Index := 0#32
  let c0_i32_25 : BitVec 32 := 0#32
  let arg2 : BitVec 32 := BitVec.ofNat 32 (i 2).val
  let c1_i32 : BitVec 32 := 1#32
  let v61 : BitVec 32 := Scalar.subi arg2 c1_i32
  let v62 : BitVec 32 := Scalar.subi v61 c0_i32_25
  let c1_i32_26 : BitVec 32 := 1#32
  let v64 : BitVec 32 := Scalar.divsi v62 c1_i32_26
  let v65 : BitVec 32 := Scalar.muli v64 c1_i32_26
  let v66 : BitVec 32 := Scalar.addi c0_i32_25 v65
  let c1_i32_28 : BitVec 32 := 1#32
  let arg18 : BitVec 32 := Scf.iv v66 c1_i32_28 k0_t2
  let c1_i32_72 : BitVec 32 := 1#32
  let v145 : BitVec 32 := Scalar.addi arg18 c1_i32_72
  let c256_i32_73 : BitVec 32 := 256#32
  let v146 : BitVec 32 := Scalar.muli v145 c256_i32_73
  let v147 : BitVec 32 := v146
  let v148 : Index := Scalar.indexCast v147
  let c0_75 : Index := 0#32
  ![0, v148.toNat, 0]
def k0_off5 (i : grid0.Coords) (k0_t2 : Fin (k0_t2_loop i).trips) : Fin 3 → Nat :=
  let c0_i32_25 : BitVec 32 := 0#32
  let arg2 : BitVec 32 := BitVec.ofNat 32 (i 2).val
  let c1_i32 : BitVec 32 := 1#32
  let v61 : BitVec 32 := Scalar.subi arg2 c1_i32
  let v62 : BitVec 32 := Scalar.subi v61 c0_i32_25
  let c1_i32_26 : BitVec 32 := 1#32
  let v64 : BitVec 32 := Scalar.divsi v62 c1_i32_26
  let v65 : BitVec 32 := Scalar.muli v64 c1_i32_26
  let v66 : BitVec 32 := Scalar.addi c0_i32_25 v65
  let c1_i32_28 : BitVec 32 := 1#32
  let arg18 : BitVec 32 := Scf.iv v66 c1_i32_28 k0_t2
  let v165 : Index := Scalar.indexCast arg18
  let c0_79 : Index := 0#32
  let c0_80 : Index := 0#32
  ![v165.toNat, 0, 0]
def k0_cond2 (i : grid0.Coords) : BitVec 1 :=
  let arg2 : BitVec 32 := BitVec.ofNat 32 (i 2).val
  let c1_i32_29 : BitVec 32 := 1#32
  let v69 : BitVec 1 := Scalar.cmpi .sge arg2 c1_i32_29
  let v70 : BitVec 32 := Scalar.extui v69
  let c0_i32_30 : BitVec 32 := 0#32
  let v71 : BitVec 1 := Scalar.cmpi .ne v70 c0_i32_30
  v71

def k0_mult4 (i : grid0.Coords) : BitVec 32 :=
  let arg2 : BitVec 32 := BitVec.ofNat 32 (i 2).val
  let c256_i32_72 : BitVec 32 := 256#32
  let v145 : BitVec 32 := Scalar.muli arg2 c256_i32_72
  v145
def k0_off6 (i : grid0.Coords) : Fin 3 → Nat :=
  let c0_73 : Index := 0#32
  let arg2 : BitVec 32 := BitVec.ofNat 32 (i 2).val
  let c256_i32_72 : BitVec 32 := 256#32
  let v145 : BitVec 32 := Scalar.muli arg2 c256_i32_72
  let v146 : BitVec 32 := v145
  let v147 : Index := Scalar.indexCast v146
  let c0_74 : Index := 0#32
  ![0, v147.toNat, 0]
def k0_off7 (i : grid0.Coords) : Fin 3 → Nat :=
  let arg2 : BitVec 32 := BitVec.ofNat 32 (i 2).val
  let c1_i32_82 : BitVec 32 := 1#32
  let v176 : BitVec 32 := Scalar.subi arg2 c1_i32_82
  let v177 : Index := Scalar.indexCast v176
  let c0_83 : Index := 0#32
  let c0_84 : Index := 0#32
  ![v177.toNat, 0, 0]
def k0_off8 (i : grid0.Coords) : Fin 3 → Nat :=
  let arg2 : BitVec 32 := BitVec.ofNat 32 (i 2).val
  let v244 : Index := Scalar.indexCast arg2
  let c0_127 : Index := 0#32
  let c0_128 : Index := 0#32
  ![v244.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16 : Shape := ⟨1, ![16]⟩
abbrev S4x2048x4096 : Shape := ⟨3, ![4, 2048, 4096]⟩
abbrev S4x2048x8192 : Shape := ⟨3, ![4, 2048, 8192]⟩
abbrev S128 : Shape := ⟨1, ![128]⟩
abbrev S256 : Shape := ⟨1, ![256]⟩
abbrev S4x2048x16x256 : Shape := ⟨4, ![4, 2048, 16, 256]⟩
abbrev S4x2048x2x16x256 : Shape := ⟨5, ![4, 2048, 2, 16, 256]⟩
abbrev S4x2048x1x16x256 : Shape := ⟨5, ![4, 2048, 1, 16, 256]⟩
abbrev S2048 : Shape := ⟨1, ![2048]⟩
abbrev S_ : Shape := ⟨0, ![]⟩
abbrev S4x2048x16x128 : Shape := ⟨4, ![4, 2048, 16, 128]⟩
abbrev S4x16x2048x2048 : Shape := ⟨4, ![4, 16, 2048, 2048]⟩
abbrev S2048x1 : Shape := ⟨2, ![2048, 1]⟩
abbrev S1x2048 : Shape := ⟨2, ![1, 2048]⟩
abbrev S2048x2048 : Shape := ⟨2, ![2048, 2048]⟩
abbrev S16x1x1 : Shape := ⟨3, ![16, 1, 1]⟩
abbrev S1x2048x2048 : Shape := ⟨3, ![1, 2048, 2048]⟩
abbrev S16x2048x2048 : Shape := ⟨3, ![16, 2048, 2048]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩
abbrev S4x16x256x2048 : Shape := ⟨4, ![4, 16, 256, 2048]⟩
abbrev S4x2048x16 : Shape := ⟨3, ![4, 2048, 16]⟩
abbrev S4x2048x16x1 : Shape := ⟨4, ![4, 2048, 16, 1]⟩
abbrev S1x1x1x256 : Shape := ⟨4, ![1, 1, 1, 256]⟩

abbrev nBuf : Space → Nat
  | .hbm => 144
  | .vmem => 0
  | .smem => 0
  | _ => 0

abbrev hbmTy0_0 (i : Nat) : BufTy := match i % 128 with
  | 0 => ⟨S16, .f32⟩
  | 1 => ⟨S4x2048x4096, .f32⟩
  | 2 => ⟨S4x2048x8192, .f32⟩
  | 3 => ⟨S4x2048x4096, .f32⟩
  | 4 => ⟨S128, .f32⟩
  | 5 => ⟨S128, .f32⟩
  | 6 => ⟨S128, .f32⟩
  | 7 => ⟨S128, .f32⟩
  | 8 => ⟨S256, .f32⟩
  | 9 => ⟨S4x2048x16x256, .f32⟩
  | 10 => ⟨S4x2048x2x16x256, .f32⟩
  | 11 => ⟨S4x2048x1x16x256, .f32⟩
  | 12 => ⟨S4x2048x16x256, .f32⟩
  | 13 => ⟨S4x2048x1x16x256, .f32⟩
  | 14 => ⟨S4x2048x16x256, .f32⟩
  | 15 => ⟨S2048, .i32⟩
  | 16 => ⟨S128, .f32⟩
  | 17 => ⟨S_, .f32⟩
  | 18 => ⟨S_, .f32⟩
  | 19 => ⟨S_, .f32⟩
  | 20 => ⟨S128, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S4x2048x16x128, .f32⟩
  | 28 => ⟨S4x2048x16x128, .f32⟩
  | 29 => ⟨S4x16x2048x2048, .f32⟩
  | 30 => ⟨S_, .f32⟩
  | 31 => ⟨S4x16x2048x2048, .f32⟩
  | 32 => ⟨S4x16x2048x2048, .f32⟩
  | 33 => ⟨S4x2048x16x128, .f32⟩
  | 34 => ⟨S4x2048x16x128, .f32⟩
  | 35 => ⟨S4x16x2048x2048, .f32⟩
  | 36 => ⟨S_, .f32⟩
  | 37 => ⟨S4x16x2048x2048, .f32⟩
  | 38 => ⟨S4x16x2048x2048, .f32⟩
  | 39 => ⟨S2048x1, .i32⟩
  | 40 => ⟨S1x2048, .i32⟩
  | 41 => ⟨S2048x2048, .i32⟩
  | 42 => ⟨S2048x2048, .i32⟩
  | 43 => ⟨S2048x2048, .i32⟩
  | 44 => ⟨S2048x2048, .f32⟩
  | 45 => ⟨S16x1x1, .f32⟩
  | 46 => ⟨S16x1x1, .f32⟩
  | 47 => ⟨S1x2048x2048, .f32⟩
  | 48 => ⟨S16x2048x2048, .f32⟩
  | 49 => ⟨S16x2048x2048, .f32⟩
  | 50 => ⟨S16x2048x2048, .f32⟩
  | 51 => ⟨S_, .f32⟩
  | 52 => ⟨S2048x2048, .f32⟩
  | 53 => ⟨S2048x2048, .i1⟩
  | 54 => ⟨S1x16x2048x2048, .f32⟩
  | 55 => ⟨S4x16x2048x2048, .f32⟩
  | 56 => ⟨S4x16x2048x2048, .f32⟩
  | 57 => ⟨S_, .f32⟩
  | 58 => ⟨S_, .f32⟩
  | 59 => ⟨S4x16x2048x2048, .i1⟩
  | 60 => ⟨S4x16x2048x2048, .f32⟩
  | 61 => ⟨S4x16x2048x2048, .f32⟩
  | 62 => ⟨S_, .f32⟩
  | 63 => ⟨S4x16x2048, .f32⟩
  | 64 => ⟨S4x16x2048x1, .f32⟩
  | 65 => ⟨S4x16x2048x2048, .f32⟩
  | 66 => ⟨S4x16x2048x2048, .f32⟩
  | 67 => ⟨S4x16x2048x2048, .f32⟩
  | 68 => ⟨S_, .f32⟩
  | 69 => ⟨S_, .f32⟩
  | 70 => ⟨S4x16x2048x2048, .i1⟩
  | 71 => ⟨S4x16x2048x2048, .f32⟩
  | 72 => ⟨S4x16x2048x2048, .f32⟩
  | 73 => ⟨S_, .f32⟩
  | 74 => ⟨S4x16x2048, .f32⟩
  | 75 => ⟨S4x16x2048x1, .f32⟩
  | 76 => ⟨S_, .f32⟩
  | 77 => ⟨S4x16x2048x1, .f32⟩
  | 78 => ⟨S4x16x2048x1, .f32⟩
  | 79 => ⟨S4x16x2048x2048, .f32⟩
  | 80 => ⟨S4x16x2048x2048, .f32⟩
  | 81 => ⟨S1x16x2048x2048, .f32⟩
  | 82 => ⟨S4x16x2048x2048, .f32⟩
  | 83 => ⟨S4x16x2048x2048, .f32⟩
  | 84 => ⟨S_, .f32⟩
  | 85 => ⟨S_, .f32⟩
  | 86 => ⟨S4x16x2048x2048, .i1⟩
  | 87 => ⟨S4x16x2048x2048, .f32⟩
  | 88 => ⟨S4x16x2048x2048, .f32⟩
  | 89 => ⟨S_, .f32⟩
  | 90 => ⟨S4x16x2048, .f32⟩
  | 91 => ⟨S4x16x2048x1, .f32⟩
  | 92 => ⟨S4x16x2048x2048, .f32⟩
  | 93 => ⟨S4x16x2048x2048, .f32⟩
  | 94 => ⟨S4x16x2048x2048, .f32⟩
  | 95 => ⟨S_, .f32⟩
  | 96 => ⟨S_, .f32⟩
  | 97 => ⟨S4x16x2048x2048, .i1⟩
  | 98 => ⟨S4x16x2048x2048, .f32⟩
  | 99 => ⟨S4x16x2048x2048, .f32⟩
  | 100 => ⟨S_, .f32⟩
  | 101 => ⟨S4x16x2048, .f32⟩
  | 102 => ⟨S4x16x2048x1, .f32⟩
  | 103 => ⟨S_, .f32⟩
  | 104 => ⟨S4x16x2048x1, .f32⟩
  | 105 => ⟨S4x16x2048x1, .f32⟩
  | 106 => ⟨S4x16x2048x2048, .f32⟩
  | 107 => ⟨S4x16x2048x2048, .f32⟩
  | 108 => ⟨S4x16x2048x2048, .f32⟩
  | 109 => ⟨S4x16x2048x2048, .f32⟩
  | 110 => ⟨S4x16x2048x2048, .f32⟩
  | 111 => ⟨S4x16x256x2048, .f32⟩
  | 112 => ⟨S4x2048x16x256, .f32⟩
  | 113 => ⟨S4x2048x16x256, .f32⟩
  | 114 => ⟨S_, .f32⟩
  | 115 => ⟨S4x2048x16, .f32⟩
  | 116 => ⟨S4x2048x16x1, .f32⟩
  | 117 => ⟨S_, .f32⟩
  | 118 => ⟨S4x2048x16x1, .f32⟩
  | 119 => ⟨S4x2048x16x1, .f32⟩
  | 120 => ⟨S_, .f32⟩
  | 121 => ⟨S4x2048x16x1, .f32⟩
  | 122 => ⟨S4x2048x16x1, .f32⟩
  | 123 => ⟨S4x2048x16x1, .f32⟩
  | 124 => ⟨S4x2048x16x256, .f32⟩
  | 125 => ⟨S4x2048x16x256, .f32⟩
  | 126 => ⟨S1x1x1x256, .f32⟩
  | 127 => ⟨S4x2048x16x256, .f32⟩
  | _ => ⟨S16, .f32⟩

abbrev hbmTy0_1 (i : Nat) : BufTy := match i % 128 with
  | 0 => ⟨S4x2048x16x256, .f32⟩
  | 1 => ⟨S_, .f32⟩
  | 2 => ⟨S4x2048x16x256, .f32⟩
  | 3 => ⟨S4x2048x16x256, .f32⟩
  | 4 => ⟨S4x2048x4096, .f32⟩
  | 5 => ⟨S4x2048x4096, .f32⟩
  | 6 => ⟨S4x2048x4096, .f32⟩
  | 7 => ⟨S_, .f32⟩
  | 8 => ⟨S4x2048x4096, .f32⟩
  | 9 => ⟨S4x2048x4096, .f32⟩
  | 10 => ⟨S_, .f32⟩
  | 11 => ⟨S4x2048x4096, .f32⟩
  | 12 => ⟨S4x2048x4096, .f32⟩
  | 13 => ⟨S4x2048x4096, .f32⟩
  | 14 => ⟨S4x2048x4096, .f32⟩
  | 15 => ⟨S4x2048x4096, .bf16⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]
-- ==== KernelDiffQ.lean ====
abbrev S8192x4096 : Shape := ⟨2, ![8192, 4096]⟩
abbrev S4096x16384 : Shape := ⟨2, ![4096, 16384]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDiffQIdeal.lean ====
abbrev S8192x4096 : Shape := ⟨2, ![8192, 4096]⟩
abbrev S4096x16384 : Shape := ⟨2, ![4096, 16384]⟩
abbrev S8192x16384 : Shape := ⟨2, ![8192, 16384]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDiffKv.lean ====
abbrev S8192x4096 : Shape := ⟨2, ![8192, 4096]⟩
abbrev S4096x16384 : Shape := ⟨2, ![4096, 16384]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelDiffKvIdeal.lean ====
abbrev S8192x4096 : Shape := ⟨2, ![8192, 4096]⟩
abbrev S4096x16384 : Shape := ⟨2, ![4096, 16384]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDiffKvIdeal.lean ====
abbrev S8192x4096 : Shape := ⟨2, ![8192, 4096]⟩
abbrev S4096x16384 : Shape := ⟨2, ![4096, 16384]⟩
abbrev S8192x16384 : Shape := ⟨2, ![8192, 16384]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDiffZ.lean ====
abbrev S8192x4096 : Shape := ⟨2, ![8192, 4096]⟩
abbrev S4096x16384 : Shape := ⟨2, ![4096, 16384]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDiffZIdeal.lean ====
abbrev S8192x4096 : Shape := ⟨2, ![8192, 4096]⟩
abbrev S4096x16384 : Shape := ⟨2, ![4096, 16384]⟩
abbrev S8192x16384 : Shape := ⟨2, ![8192, 16384]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSbQ.lean ====
abbrev S8192x4096 : Shape := ⟨2, ![8192, 4096]⟩
abbrev S4096x15408 : Shape := ⟨2, ![4096, 15408]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSbQIdeal.lean ====
abbrev S8192x4096 : Shape := ⟨2, ![8192, 4096]⟩
abbrev S4096x15408 : Shape := ⟨2, ![4096, 15408]⟩
abbrev S8192x15408 : Shape := ⟨2, ![8192, 15408]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSbKv.lean ====
abbrev S8192x4096 : Shape := ⟨2, ![8192, 4096]⟩
abbrev S4096x15408 : Shape := ⟨2, ![4096, 15408]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelSbKvIdeal.lean ====
abbrev S8192x4096 : Shape := ⟨2, ![8192, 4096]⟩
abbrev S4096x15408 : Shape := ⟨2, ![4096, 15408]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSbKvIdeal.lean ====
abbrev S8192x4096 : Shape := ⟨2, ![8192, 4096]⟩
abbrev S4096x15408 : Shape := ⟨2, ![4096, 15408]⟩
abbrev S8192x15408 : Shape := ⟨2, ![8192, 15408]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSbZ.lean ====
abbrev S8192x4096 : Shape := ⟨2, ![8192, 4096]⟩
abbrev S4096x15408 : Shape := ⟨2, ![4096, 15408]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSbZIdeal.lean ====
abbrev S8192x4096 : Shape := ⟨2, ![8192, 4096]⟩
abbrev S4096x15408 : Shape := ⟨2, ![4096, 15408]⟩
abbrev S8192x15408 : Shape := ⟨2, ![8192, 15408]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNsaQ.lean ====
abbrev S8192x4096 : Shape := ⟨2, ![8192, 4096]⟩
abbrev S4096x15408 : Shape := ⟨2, ![4096, 15408]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNsaQIdeal.lean ====
abbrev S8192x4096 : Shape := ⟨2, ![8192, 4096]⟩
abbrev S4096x15408 : Shape := ⟨2, ![4096, 15408]⟩
abbrev S8192x15408 : Shape := ⟨2, ![8192, 15408]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNsaKv.lean ====
abbrev S8192x4096 : Shape := ⟨2, ![8192, 4096]⟩
abbrev S4096x15408 : Shape := ⟨2, ![4096, 15408]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelNsaKvIdeal.lean ====
abbrev S8192x4096 : Shape := ⟨2, ![8192, 4096]⟩
abbrev S4096x15408 : Shape := ⟨2, ![4096, 15408]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNsaKvIdeal.lean ====
abbrev S8192x4096 : Shape := ⟨2, ![8192, 4096]⟩
abbrev S4096x15408 : Shape := ⟨2, ![4096, 15408]⟩
abbrev S8192x15408 : Shape := ⟨2, ![8192, 15408]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNsaWin.lean ====
abbrev S8192x4096 : Shape := ⟨2, ![8192, 4096]⟩
abbrev S4096x15408 : Shape := ⟨2, ![4096, 15408]⟩
abbrev S8192x1024 : Shape := ⟨2, ![8192, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelNsaWinIdeal.lean ====
abbrev S8192x4096 : Shape := ⟨2, ![8192, 4096]⟩
abbrev S4096x15408 : Shape := ⟨2, ![4096, 15408]⟩
abbrev S8192x1024 : Shape := ⟨2, ![8192, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNsaWinIdeal.lean ====
abbrev S8192x4096 : Shape := ⟨2, ![8192, 4096]⟩
abbrev S4096x15408 : Shape := ⟨2, ![4096, 15408]⟩
abbrev S8192x15408 : Shape := ⟨2, ![8192, 15408]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNsaZ.lean ====
abbrev S8192x4096 : Shape := ⟨2, ![8192, 4096]⟩
abbrev S4096x15408 : Shape := ⟨2, ![4096, 15408]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S4096x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNsaZIdeal.lean ====
abbrev S8192x4096 : Shape := ⟨2, ![8192, 4096]⟩
abbrev S4096x15408 : Shape := ⟨2, ![4096, 15408]⟩
abbrev S8192x15408 : Shape := ⟨2, ![8192, 15408]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15408, .f32⟩
  | .hbm, ⟨2, _⟩ => ⟨S8192x4096, .f32⟩
  | .hbm, ⟨3, _⟩ => ⟨S8192x15408, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOutC.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutCIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutAB.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutABIdeal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelPle.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S1024x4096 : Shape := ⟨2, ![1024, 4096]⟩
abbrev S1x4096x512 : Shape := ⟨3, ![1, 4096, 512]⟩
abbrev S1024x256 : Shape := ⟨2, ![1024, 256]⟩
abbrev S1x256x512 : Shape := ⟨3, ![1, 256, 512]⟩
abbrev S1024x512 : Shape := ⟨2, ![1024, 512]⟩
abbrev S4096x512 : Shape := ⟨2, ![4096, 512]⟩
abbrev S256x512 : Shape := ⟨2, ![256, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x256, .bf16⟩
  | .hbm, ⟨3, _⟩ => ⟨S2x256x4096, .f32⟩
  | .hbm, ⟨4, _⟩ => ⟨S8192x4096, .f32⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x256, .bf16⟩
  | .local _ .vmem, ⟨5, _⟩ => ⟨S1024x256, .bf16⟩
  | .local _ .vmem, ⟨6, _⟩ => ⟨S1x256x512, .f32⟩
  | .local _ .vmem, ⟨7, _⟩ => ⟨S1x256x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferencePleIdeal.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S1x4096x4096 : Shape := ⟨3, ![1, 4096, 4096]⟩
abbrev S4096x4096 : Shape := ⟨2, ![4096, 4096]⟩
abbrev S_ : Shape := ⟨0, ![]⟩
abbrev S1x256x4096 : Shape := ⟨3, ![1, 256, 4096]⟩
abbrev S256x4096 : Shape := ⟨2, ![256, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x256, .bf16⟩
  | .hbm, ⟨3, _⟩ => ⟨S2x256x4096, .f32⟩
  | .hbm, ⟨4, _⟩ => ⟨S8192x4096, .f32⟩
  | .hbm, ⟨5, _⟩ => ⟨S8192x4096, .f32⟩
  | .hbm, ⟨6, _⟩ => ⟨S1x4096x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x256, .f32⟩
  | .hbm, ⟨18, _⟩ => ⟨S1x256x4096, .f32⟩
  | .hbm, ⟨19, _⟩ => ⟨S256x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelNormIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelDiffKvS.lean ====
abbrev S64x4096 : Shape := ⟨2, ![64, 4096]⟩
abbrev S4096x16384 : Shape := ⟨2, ![4096, 16384]⟩
abbrev S64x8192 : Shape := ⟨2, ![64, 8192]⟩
abbrev S4096x512 : Shape := ⟨2, ![4096, 512]⟩
abbrev S64x512 : Shape := ⟨2, ![64, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x4096, .bf16⟩
  | .hbm, ⟨1, _⟩ => ⟨S4096x16384, .f32⟩
  | .hbm, ⟨2, _⟩ => ⟨S64x8192, .f32⟩
  | .local _ .vmem, ⟨0, _⟩ => ⟨S64x4096, .bf16⟩
  | .local _ .vmem, ⟨1, _⟩ => ⟨S4096x512, .f32⟩
  | .local _ .vmem, ⟨2, _⟩ => ⟨S4096x512, .f32⟩
  | .local _ .vmem, ⟨3, _⟩ => ⟨S64x512, .f32⟩
  | .local _ .vmem, ⟨4, _⟩ => ⟨S64x512, .f32⟩
  | .local _ .vmem, ⟨5, _⟩ => ⟨S4096x512, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDiffKvSIdeal.lean ====
abbrev S64x4096 : Shape := ⟨2, ![64, 4096]⟩
abbrev S4096x16384 : Shape := ⟨2, ![4096, 16384]⟩
abbrev S64x16384 : Shape := ⟨2, ![64, 16384]⟩
abbrev S64x8192 : Shape := ⟨2, ![64, 8192]⟩

abbrev nBuf : Space → Nat
  | .hbm => 5
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S4096x16384, .f32⟩
  | .hbm, ⟨2, _⟩ => ⟨S64x4096, .f32⟩
  | .hbm, ⟨3, _⟩ => ⟨S64x16384, .f32⟩
  | .hbm, ⟨4, _⟩ => ⟨S64x8192, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSbKvS.lean ====
abbrev S64x4096 : Shape := ⟨2, ![64, 4096]⟩
abbrev S4096x15408 : Shape := ⟨2, ![4096, 15408]⟩
abbrev S4096x512 : Shape := ⟨2, ![4096, 512]⟩
abbrev S64x512 : Shape := ⟨2, ![64, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x4096, .bf16⟩
  | .hbm, ⟨1, _⟩ => ⟨S4096x15408, .f32⟩
  | .hbm, ⟨2, _⟩ => ⟨S64x4096, .f32⟩
  | .local _ .vmem, ⟨0, _⟩ => ⟨S64x4096, .bf16⟩
  | .local _ .vmem, ⟨1, _⟩ => ⟨S4096x512, .f32⟩
  | .local _ .vmem, ⟨2, _⟩ => ⟨S4096x512, .f32⟩
  | .local _ .vmem, ⟨3, _⟩ => ⟨S64x512, .f32⟩
  | .local _ .vmem, ⟨4, _⟩ => ⟨S64x512, .f32⟩
  | .local _ .vmem, ⟨5, _⟩ => ⟨S4096x512, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSbKvSIdeal.lean ====
abbrev S64x4096 : Shape := ⟨2, ![64, 4096]⟩
abbrev S4096x15408 : Shape := ⟨2, ![4096, 15408]⟩
abbrev S64x15408 : Shape := ⟨2, ![64, 15408]⟩

abbrev nBuf : Space → Nat
  | .hbm => 5
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S4096x15408, .f32⟩
  | .hbm, ⟨2, _⟩ => ⟨S64x4096, .f32⟩
  | .hbm, ⟨3, _⟩ => ⟨S64x15408, .f32⟩
  | .hbm, ⟨4, _⟩ => ⟨S64x4096, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNsaKvS.lean ====
abbrev S64x4096 : Shape := ⟨2, ![64, 4096]⟩
abbrev S4096x15408 : Shape := ⟨2, ![4096, 15408]⟩
abbrev S64x2048 : Shape := ⟨2, ![64, 2048]⟩
abbrev S4096x512 : Shape := ⟨2, ![4096, 512]⟩
abbrev S64x512 : Shape := ⟨2, ![64, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x4096, .bf16⟩
  | .hbm, ⟨1, _⟩ => ⟨S4096x15408, .f32⟩
  | .hbm, ⟨2, _⟩ => ⟨S64x2048, .f32⟩
  | .local _ .vmem, ⟨0, _⟩ => ⟨S64x4096, .bf16⟩
  | .local _ .vmem, ⟨1, _⟩ => ⟨S4096x512, .f32⟩
  | .local _ .vmem, ⟨2, _⟩ => ⟨S4096x512, .f32⟩
  | .local _ .vmem, ⟨3, _⟩ => ⟨S64x512, .f32⟩
  | .local _ .vmem, ⟨4, _⟩ => ⟨S64x512, .f32⟩
  | .local _ .vmem, ⟨5, _⟩ => ⟨S4096x512, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNsaKvSIdeal.lean ====
abbrev S64x4096 : Shape := ⟨2, ![64, 4096]⟩
abbrev S4096x15408 : Shape := ⟨2, ![4096, 15408]⟩
abbrev S64x15408 : Shape := ⟨2, ![64, 15408]⟩
abbrev S64x2048 : Shape := ⟨2, ![64, 2048]⟩

abbrev nBuf : Space → Nat
  | .hbm => 5
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S4096x15408, .f32⟩
  | .hbm, ⟨2, _⟩ => ⟨S64x4096, .f32⟩
  | .hbm, ⟨3, _⟩ => ⟨S64x15408, .f32⟩
  | .hbm, ⟨4, _⟩ => ⟨S64x2048, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNsaWinS.lean ====
abbrev S64x4096 : Shape := ⟨2, ![64, 4096]⟩
abbrev S4096x15408 : Shape := ⟨2, ![4096, 15408]⟩
abbrev S64x1024 : Shape := ⟨2, ![64, 1024]⟩
abbrev S4096x512 : Shape := ⟨2, ![4096, 512]⟩
abbrev S64x512 : Shape := ⟨2, ![64, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x4096, .bf16⟩
  | .hbm, ⟨1, _⟩ => ⟨S4096x15408, .f32⟩
  | .hbm, ⟨2, _⟩ => ⟨S64x1024, .f32⟩
  | .local _ .vmem, ⟨0, _⟩ => ⟨S64x4096, .bf16⟩
  | .local _ .vmem, ⟨1, _⟩ => ⟨S4096x512, .f32⟩
  | .local _ .vmem, ⟨2, _⟩ => ⟨S4096x512, .f32⟩
  | .local _ .vmem, ⟨3, _⟩ => ⟨S64x512, .f32⟩
  | .local _ .vmem, ⟨4, _⟩ => ⟨S64x512, .f32⟩
  | .local _ .vmem, ⟨5, _⟩ => ⟨S4096x512, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNsaWinSIdeal.lean ====
abbrev S64x4096 : Shape := ⟨2, ![64, 4096]⟩
abbrev S4096x15408 : Shape := ⟨2, ![4096, 15408]⟩
abbrev S64x15408 : Shape := ⟨2, ![64, 15408]⟩
abbrev S64x1024 : Shape := ⟨2, ![64, 1024]⟩

abbrev nBuf : Space → Nat
  | .hbm => 5
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S4096x15408, .f32⟩
  | .hbm, ⟨2, _⟩ => ⟨S64x4096, .f32⟩
  | .hbm, ⟨3, _⟩ => ⟨S64x15408, .f32⟩
  | .hbm, ⟨4, _⟩ => ⟨S64x1024, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNormS.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S1x4096, .f32⟩
  | .hbm, ⟨3, _⟩ => ⟨S64x4096, .f32⟩
  | .local _ .vmem, ⟨0, _⟩ => ⟨S64x4096, .f32⟩
  | .local _ .vmem, ⟨1, _⟩ => ⟨S1x4096, .f32⟩
  | .local _ .vmem, ⟨2, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceNormSIdeal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S64x4096, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x4096, .f32⟩
  | .hbm, ⟨14, _⟩ => ⟨S64x4096, .f32⟩
  | .hbm, ⟨15, _⟩ => ⟨S1x4096, .f32⟩
  | .hbm, ⟨16, _⟩ => ⟨S64x4096, .f32⟩
  | .hbm, ⟨17, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelSb.lean ====
abbrev S4x2048x2048 : Shape := ⟨3, ![4, 2048, 2048]⟩
abbrev S4x2048x4096 : Shape := ⟨3, ![4, 2048, 4096]⟩
abbrev S1x512x128 : Shape := ⟨3, ![1, 512, 128]⟩
abbrev S1x2048x128 : Shape := ⟨3, ![1, 2048, 128]⟩
abbrev S512x1 : Shape := ⟨2, ![512, 1]⟩
abbrev S512x128 : Shape := ⟨2, ![512, 128]⟩
abbrev S256x256 : Shape := ⟨2, ![256, 256]⟩
abbrev S512x256 : Shape := ⟨2, ![512, 256]⟩
abbrev S1x256x128 : Shape := ⟨3, ![1, 256, 128]⟩
abbrev S256x128 : Shape := ⟨2, ![256, 128]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048x4096, .f32⟩
  | .hbm, ⟨2, _⟩ => ⟨S4x2048x2048, .f32⟩
  | .hbm, ⟨3, _⟩ => ⟨S4x2048x2048, .bf16⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .bf16⟩
  | .local _ .vmem, ⟨9, _⟩ => ⟨S1x512x128, .bf16⟩
  | .local _ .vmem, ⟨10, _⟩ => ⟨S512x1, .f32⟩
  | .local _ .vmem, ⟨11, _⟩ => ⟨S512x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 4], ![false, false, false]⟩

def k0_mult1 (i : grid0.Coords) : BitVec 32 :=
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let c1_i32_8 : BitVec 32 := 1#32
  let v24 : BitVec 32 := Scalar.subi v23 c1_i32_8
  let c0_i32 : BitVec 32 := 0#32
  let v25 : BitVec 32 := Scalar.subi v24 c0_i32
  let c256_i32 : BitVec 32 := 256#32
  let v26 : BitVec 32 := Scalar.muli v25 c256_i32
  v26
def k0_off1 (i : grid0.Coords) (c0_i32 : BitVec 32) : Fin 3 → Nat :=
  let c0_9 : Index := 0#32
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let c1_i32_8 : BitVec 32 := 1#32
  let v24 : BitVec 32 := Scalar.subi v23 c1_i32_8
  let v25 : BitVec 32 := Scalar.subi v24 c0_i32
  let c256_i32 : BitVec 32 := 256#32
  let v26 : BitVec 32 := Scalar.muli v25 c256_i32
  let v27 : BitVec 32 := v26
  let v28 : Index := Scalar.indexCast v27
  let c0_10 : Index := 0#32
  ![0, v28.toNat, 0]
def k0_mult2 (i : grid0.Coords) : BitVec 32 :=
  let arg2 : BitVec 32 := BitVec.ofNat 32 (i 2).val
  let c1_i32 : BitVec 32 := 1#32
  let v22 : BitVec 32 := Scalar.addi arg2 c1_i32
  let c2_i32 : BitVec 32 := 2#32
  let v23 : BitVec 32 := Scalar.muli v22 c2_i32
  let c1_i32_8 : BitVec 32 := 1#32
  let v24 : BitVec 32 := Scalar.subi v23 c1_i32_8
  let c1_i32_32 : BitVec 32 := 1#32
  let v84 : BitVec 32 := Scalar.subi v24 c1_i32_32
  let c256_i32_33 : BitVec 32 := 256#32
  let v85 : BitVec 32 := Scalar.muli v84 c256_i32_33
  v85
def k0_mult3 (arg10 : BitVec 32) : BitVec 32 :=
  let c256_i32_71 : BitVec 32 := 256#32
  let v161 : BitVec 32 := Scalar.muli arg10 c256_i32_71
  v161

def k0_off2 (arg10 : BitVec 32) : Fin 3 → Nat :=
  let c0_72 : Index := 0#32
  let c256_i32_71 : BitVec 32 := 256#32
  let v161 : BitVec 32 := Scalar.muli arg10 c256_i32_71
  let v162 : BitVec 32 := v161
  let v163 : Index := Scalar.indexCast v162
  let c0_73 : Index := 0#32
  ![0, v163.toNat, 0]

def k0_chk1 (arg10 : BitVec 32) : Prop :=
  (256 ∣ (k0_mult3 arg10).toNat) ∧
  (∀ a, (k0_off2 arg10) a + S1x256x128.size a ≤ S1x2048x128.size a)
theorem k0_mult3_dvd : ∀ (arg10 : BitVec 32) (k0_hw1 : k0_chk1 arg10), 256 ∣ (k0_mult3 arg10).toNat := fun arg10 k0_hw1 => k0_hw1.1
theorem k0_off2_inb : ∀ (arg10 : BitVec 32) (k0_hw1 : k0_chk1 arg10), ∀ a, (k0_off2 arg10) a + S1x256x128.size a ≤ S1x2048x128.size a := fun arg10 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelSbIdeal.lean ====
variable {F : FTy → Type} [FloatOps F] [Named F]
def κ : String → Option EReal := fun
  | "underflow" => some ⊥
  | _ => none
-- ==== ReferenceSbIdeal.lean ====
abbrev S4x2048x2048 : Shape := ⟨3, ![4, 2048, 2048]⟩
abbrev S4x2048x4096 : Shape := ⟨3, ![4, 2048, 4096]⟩
abbrev S4x2048x16x128 : Shape := ⟨4, ![4, 2048, 16, 128]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x4096, .f32⟩
  | .hbm, ⟨2, _⟩ => ⟨S4x2048x2048, .f32⟩
  | .hbm, ⟨3, _⟩ => ⟨S4x2048x16x128, .f32⟩
  | .hbm, ⟨4, _⟩ => ⟨S4x2048x2048, .f32⟩
  | .hbm, ⟨5, _⟩ => ⟨S4x2048x16x128, .f32⟩
  | .hbm, ⟨6, _⟩ => ⟨S4x2048x2048, .f32⟩
  | .hbm, ⟨7, _⟩ => ⟨S4x2048x16x128, .f32⟩
  | .hbm, ⟨8, _⟩ => ⟨S4x16x2048x2048, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .i1⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S_, .f32⟩
  | .hbm, ⟨36, _⟩ => ⟨S4x16x2048x2048, .i1⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048x2048, .f32⟩
  | .hbm, ⟨43, _⟩ => ⟨S4x16x2048x2048, .f32⟩
  | .hbm, ⟨44, _⟩ => ⟨S4x16x2048x2048, .f32⟩
  | .hbm, ⟨45, _⟩ => ⟨S4x16x2048x2048, .f32⟩
  | .hbm, ⟨46, _⟩ => ⟨S4x16x2048x2048, .i1⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S_, .f32⟩
  | .hbm, ⟨57, _⟩ => ⟨S_, .f32⟩
  | .hbm, ⟨58, _⟩ => ⟨S4x16x2048x2048, .i1⟩
  | .hbm, ⟨59, _⟩ => ⟨S4x16x2048x2048, .f32⟩
  | .hbm, ⟨60, _⟩ => ⟨S4x16x2048x2048, .f32⟩
  | .hbm, ⟨61, _⟩ => ⟨S_, .f32⟩
  | .hbm, ⟨62, _⟩ => ⟨S_, .f32⟩
  | .hbm, ⟨63, _⟩ => ⟨S4x16x2048x2048, .f32⟩
  | .hbm, ⟨64, _⟩ => ⟨S4x16x2048x2048, .f32⟩
  | .hbm, ⟨65, _⟩ => ⟨S4x16x2048x2048, .f32⟩
  | .hbm, ⟨66, _⟩ => ⟨S4x16x2048x2048, .f32⟩
  | .hbm, ⟨67, _⟩ => ⟨S_, .f32⟩
  | .hbm, ⟨68, _⟩ => ⟨S_, .f32⟩
  | .hbm, ⟨69, _⟩ => ⟨S4x16x2048x2048, .i1⟩
  | .hbm, ⟨70, _⟩ => ⟨S4x16x2048x2048, .f32⟩
  | .hbm, ⟨71, _⟩ => ⟨S4x16x2048x2048, .f32⟩
  | .hbm, ⟨72, _⟩ => ⟨S4x16x128x2048, .f32⟩
  | .hbm, ⟨73, _⟩ => ⟨S4x2048x16x128, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S_, .f32⟩
  | .hbm, ⟨78, _⟩ => ⟨S4x2048x2048, .f32⟩
  | .hbm, ⟨79, _⟩ => ⟨S4x2048x2048, .f32⟩
  | .hbm, ⟨80, _⟩ => ⟨S_, .f32⟩
  | .hbm, ⟨81, _⟩ => ⟨S4x2048x2048, .f32⟩
  | .hbm, ⟨82, _⟩ => ⟨S4x2048x2048, .f32⟩
  | .hbm, ⟨83, _⟩ => ⟨S4x2048x2048, .f32⟩
  | .hbm, ⟨84, _⟩ => ⟨S4x2048x2048, .f32⟩
  | .hbm, ⟨85, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_v16 : Ref sig .tc := ⟨.hbm, 39, rfl⟩
abbrev main_call2_v0 : Ref sig .tc := ⟨.hbm, 40, rfl⟩
abbrev main_call2_call0_cst : Ref sig .tc := ⟨.hbm, 41, rfl⟩
abbrev main_call2_call0_v0 : Ref sig .tc := ⟨.hbm, 42, rfl⟩
abbrev main_call2_call0_v1 : Ref sig .tc := ⟨.hbm, 43, rfl⟩
abbrev main_call2_call0_v2 : Ref sig .tc := ⟨.hbm, 44, rfl⟩
abbrev main_call2_call0_v3 : Ref sig .tc := ⟨.hbm, 45, rfl⟩
abbrev main_call2_call0_v4 : Ref sig .tc := ⟨.hbm, 46, rfl⟩
abbrev main_call2_call0_v5 : Ref sig .tc := ⟨.hbm, 47, rfl⟩
abbrev main_call2_call0_v6 : Ref sig .tc := ⟨.hbm, 48, rfl⟩
abbrev main_call2_call0_v7 : Ref sig .tc := ⟨.hbm, 49, rfl⟩
abbrev main_call2_call0_v8 : Ref sig .tc := ⟨.hbm, 50, rfl⟩
abbrev main_call2_call0_v9 : Ref sig .tc := ⟨.hbm, 51, rfl⟩
abbrev main_call2_call0_v10 : Ref sig .tc := ⟨.hbm, 52, rfl⟩
abbrev main_call2_call0_v11 : Ref sig .tc := ⟨.hbm, 53, rfl⟩
abbrev main_call2_v1 : Ref sig .tc := ⟨.hbm, 54, rfl⟩
abbrev main_v17 : Ref sig .tc := ⟨.hbm, 55, rfl⟩
abbrev main_cst_1 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v18 : Ref sig .tc := ⟨.hbm, 60, rfl⟩
abbrev main_call4_cst : Ref sig .tc := ⟨.hbm, 61, rfl⟩
abbrev main_call4_v0 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_2 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_call6_v0 : Ref sig .tc := ⟨.hbm, 75, rfl⟩
abbrev main_call6_v1 : Ref sig .tc := ⟨.hbm, 76, rfl⟩
abbrev main_call6_cst : Ref sig .tc := ⟨.hbm, 77, rfl⟩
abbrev main_call6_v2 : Ref sig .tc := ⟨.hbm, 78, rfl⟩
abbrev main_call6_v3 : Ref sig .tc := ⟨.hbm, 79, rfl⟩
abbrev main_call6_cst_0 : Ref sig .tc := ⟨.hbm, 80, rfl⟩
abbrev main_call6_v4 : Ref sig .tc := ⟨.hbm, 81, rfl⟩
abbrev main_call6_v5 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩

abbrev nD : Nat := 1
abbrev τ : Topo := Topo.v7x

variable {F : FTy → Type} [FloatOps F]
-- ==== KernelLayerNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelLayerNormIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLayerNormIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelLayerNormS.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S1x4096, .f32⟩
  | .hbm, ⟨3, _⟩ => ⟨S64x4096, .bf16⟩
  | .local _ .vmem, ⟨0, _⟩ => ⟨S64x4096, .f32⟩
  | .local _ .vmem, ⟨1, _⟩ => ⟨S1x4096, .f32⟩
  | .local _ .vmem, ⟨2, _⟩ => ⟨S64x4096, .bf16⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceLayerNormSIdeal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S64x4096, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x4096, .f32⟩
  | .hbm, ⟨14, _⟩ => ⟨S64x4096, .f32⟩
  | .hbm, ⟨15, _⟩ => ⟨S1x4096, .f32⟩
  | .hbm, ⟨16, _⟩ => ⟨S64x4096, .f32⟩
  | .hbm, ⟨17, _⟩ => ⟨S64x4096, .f32⟩
  | .hbm, ⟨18, _⟩ => ⟨S64x4096, .bf16⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Softmax.lean ====
/- The mathematics of a softmax taken block by block, over the extended reals: a running maximum, a running sum of
   weights and a running weighted sum, each rescaled when the maximum grows, are at every moment the maximum, the sum of
   weights and the weighted sum of all the scores seen so far. Scores may be infinite. -/
module

public import Idealize.ShloMosaic.PureOps.Ideal
public import Mathlib.Data.EReal.Inv

@[expose] public section

noncomputable section

namespace Cert.Soft

open Idealize.ShloMosaic

/-- The weight of a score `s` against a maximum `m`: the exponential of their difference, as a real. -/
def wgt (s m : EReal) : ℝ := (Ideal.exp (s - m)).toReal

/-- Against a maximum no smaller than the score, the exponential is the real weight. -/
theorem exp_sub_eq {s m : EReal} (h : s ≤ m) : Ideal.exp (s - m) = (wgt s m : EReal) := by
  unfold wgt
  induction s using EReal.rec with
  | bot => induction m using EReal.rec <;> simp [sub_eq_add_neg]
  | top =>
    have : m = ⊤ := top_le_iff.mp h
    subst this; simp [sub_eq_add_neg]
  | coe x =>
    induction m using EReal.rec with
    | bot => simp at h
    | top => simp [sub_eq_add_neg]
    | coe y => rw [← EReal.coe_sub, Ideal.exp_coe, EReal.toReal_coe]

/-- A score of −∞ has weight zero. -/
theorem wgt_bot (m : EReal) : wgt ⊥ m = 0 := by
  unfold wgt
  induction m using EReal.rec <;> simp [sub_eq_add_neg]

/-- A weight is never negative. -/
theorem wgt_nonneg (s m : EReal) : 0 ≤ wgt s m := by
  unfold wgt
  generalize s - m = d
  induction d using EReal.rec with
  | bot => simp
  | top => simp
  | coe x => simp [Real.exp_nonneg]

/-- Moving from one maximum to a larger one multiplies the weight by the weight of the old maximum. -/
theorem wgt_mul {s m m' : EReal} (h : s ≤ m) (h' : m ≤ m') : wgt m m' * wgt s m = wgt s m' := by
  unfold wgt
  induction s using EReal.rec with
  | bot => induction m using EReal.rec <;> induction m' using EReal.rec <;> simp [sub_eq_add_neg]
  | top =>
    have : m = ⊤ := top_le_iff.mp h
    subst this
    have : m' = ⊤ := top_le_iff.mp h'
    subst this; simp [sub_eq_add_neg]
  | coe x =>
    induction m using EReal.rec with
    | bot => simp at h
    | top =>
      have : m' = ⊤ := top_le_iff.mp h'
      subst this; simp [sub_eq_add_neg]
    | coe y =>
      induction m' using EReal.rec with
      | bot => simp at h'
      | top => simp [sub_eq_add_neg]
      | coe z =>
        rw [← EReal.coe_sub, ← EReal.coe_sub, ← EReal.coe_sub]
        simp only [Ideal.exp_coe, EReal.toReal_coe]
        rw [← Real.exp_add]; congr 1; ring

/-- The largest of the first `n` scores (−∞ when there is none). -/
def top (S : ℕ → EReal) (n : ℕ) : EReal := (Finset.range n).sup S

/-- The sum of the first `n` scores' weights against their maximum. -/
def den (S : ℕ → EReal) (n : ℕ) : ℝ := ∑ k ∈ Finset.range n, wgt (S k) (top S n)

/-- The sum of the first `n` values, each times its score's weight against the maximum. -/
def num (S : ℕ → EReal) (v : ℕ → ℝ) (n : ℕ) : ℝ := ∑ k ∈ Finset.range n, v k * wgt (S k) (top S n)

/-- A score is at most the largest of the first `n`. -/
theorem le_top (S : ℕ → EReal) {k n : ℕ} (h : k < n) : S k ≤ top S n :=
  Finset.le_sup (f := S) (Finset.mem_range.mpr h)

/-- The maximum after `w` more scores. -/
theorem top_add (S : ℕ → EReal) (n w : ℕ) :
    top S (n + w) = max (top S n) ((Finset.range w).sup fun k => S (n + k)) := by
  induction w with
  | zero => simp
  | succ w ih =>
    have e : top S (n + (w + 1)) = S (n + w) ⊔ top S (n + w) := by
      unfold top; rw [← add_assoc, Finset.range_add_one, Finset.sup_insert]
    rw [e, ih, Finset.range_add_one, Finset.sup_insert]
    exact sup_left_comm _ _ _

/-- The largest grows with more scores. -/
theorem top_le_add (S : ℕ → EReal) (n w : ℕ) : top S n ≤ top S (n + w) := by
  rw [top_add]; exact le_max_left _ _

/-- A sum of reals, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The weighted sum after `w` more scores: the old one rescaled, plus the new block's. -/
theorem num_add (S : ℕ → EReal) (v : ℕ → ℝ) (n w : ℕ) :
    num S v (n + w) = wgt (top S n) (top S (n + w)) * num S v n
      + ∑ k ∈ Finset.range w, v (n + k) * wgt (S (n + k)) (top S (n + w)) := by
  unfold num
  rw [Finset.sum_range_add, Finset.mul_sum]
  congr 1
  refine Finset.sum_congr rfl fun k hk => ?_
  rw [← wgt_mul (le_top S (Finset.mem_range.mp hk)) (top_le_add S n w)]; ring

/-- The sum of weights is the weighted sum of ones. -/
theorem den_eq_num (S : ℕ → EReal) (n : ℕ) : den S n = num S (fun _ => 1) n := by
  unfold den num; simp

/-- The running sum of weights, as the block-by-block program computes it. -/
theorem den_step (S : ℕ → EReal) (n w : ℕ) :
    Ideal.exp (top S n - top S (n + w)) * (den S n : EReal)
      + ∑ k : Fin w, Ideal.exp (S (n + k) - top S (n + w)) = (den S (n + w) : EReal) := by
  rw [exp_sub_eq (top_le_add S n w), den_eq_num S (n + w), num_add, ← den_eq_num, EReal.coe_add, EReal.coe_mul, coe_sum,
    Finset.sum_range]
  congr 1
  refine Finset.sum_congr rfl fun k _ => ?_
  rw [exp_sub_eq (le_top S (by omega)), one_mul]

/-- The running weighted sum, as the block-by-block program computes it. -/
theorem num_step (S : ℕ → EReal) (v : ℕ → ℝ) (n w : ℕ) :
    Ideal.exp (top S n - top S (n + w)) * (num S v n : EReal)
      + ∑ k : Fin w, (v (n + k) : EReal) * Ideal.exp (S (n + k) - top S (n + w)) = (num S v (n + w) : EReal) := by
  rw [exp_sub_eq (top_le_add S n w), num_add, EReal.coe_add, EReal.coe_mul, coe_sum, Finset.sum_range]
  congr 1
  refine Finset.sum_congr rfl fun k _ => ?_
  rw [exp_sub_eq (le_top S (by omega)), EReal.coe_mul]

/-- Scores of −∞ past the first `n` change nothing: not the maximum, … -/
theorem top_of_bot (S : ℕ → EReal) {n N : ℕ} (hn : n ≤ N) (h : ∀ k, n ≤ k → k < N → S k = ⊥) : top S N = top S n := by
  obtain ⟨w, rfl⟩ := Nat.exists_eq_add_of_le hn
  rw [top_add]
  refine max_eq_left ?_
  refine Finset.sup_le fun k hk => ?_
  rw [h (n + k) (by omega) (by have := Finset.mem_range.mp hk; omega)]; exact bot_le

/-- … and not the weighted sum. -/
theorem num_of_bot (S : ℕ → EReal) (v : ℕ → ℝ) {n N : ℕ} (hn : n ≤ N) (h : ∀ k, n ≤ k → k < N → S k = ⊥) :
    num S v N = num S v n := by
  have ht := top_of_bot S hn h
  obtain ⟨w, rfl⟩ := Nat.exists_eq_add_of_le hn
  unfold num
  rw [ht, Finset.sum_range_add]
  refine add_eq_left.mpr (Finset.sum_eq_zero fun k hk => ?_)
  rw [h (n + k) (by omega) (by have := Finset.mem_range.mp hk; omega), wgt_bot, mul_zero]

/-- Scores that are −∞ add nothing to the sum of weights. -/
theorem den_of_bot (S : ℕ → EReal) {n N : ℕ} (hn : n ≤ N) (h : ∀ k, n ≤ k → k < N → S k = ⊥) : den S N = den S n := by
  rw [den_eq_num, den_eq_num, num_of_bot S _ hn h]

/-- The larger of two reals, as extended reals. -/
theorem max_coe (a b : ℝ) : max (a : EReal) (b : EReal) = ((max a b : ℝ) : EReal) := (EReal.coe_strictMono.monotone.map_max).symm

/-- Dividing every weight before the weighted sum, and mixing two softmaxes with a real factor before it, is dividing and
    mixing after it. -/
theorem mix (S1 S2 : ℕ → EReal) (v : ℕ → ℝ) (lam c : ℝ) (hc : 0 < c) (N : ℕ) :
    ∑ k : Fin N, (Ideal.div (wgt (S1 k) (top S1 N) : EReal) (max (den S1 N : EReal) (c : EReal))
        - (lam : EReal) * Ideal.div (wgt (S2 k) (top S2 N) : EReal) (max (den S2 N : EReal) (c : EReal))) * (v k : EReal)
      = Ideal.div (num S1 v N : EReal) (max (den S1 N : EReal) (c : EReal))
        - (lam : EReal) * Ideal.div (num S2 v N : EReal) (max (den S2 N : EReal) (c : EReal)) := by
  have h1 : max (den S1 N) c ≠ 0 := (lt_of_lt_of_le hc (le_max_right _ _)).ne'
  have h2 : max (den S2 N) c ≠ 0 := (lt_of_lt_of_le hc (le_max_right _ _)).ne'
  simp only [max_coe, Ideal.div_coe h1, Ideal.div_coe h2, ← EReal.coe_mul, ← EReal.coe_sub, ← coe_sum]
  congr 1
  unfold num
  rw [Finset.sum_range, Finset.sum_range, Finset.sum_mul, Finset.sum_mul, Finset.mul_sum, ← Finset.sum_sub_distrib]
  refine Finset.sum_congr rfl fun k _ => ?_
  ring

/-- A real factor that is not negative goes into a sum, whatever the terms. -/
theorem sum_mul {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

end Cert.Soft

end
-- ==== Proof.Spec.lean ====
/- What the differential attention over the prompt computes, as plain functions of the argument arrays: the masked scores
   of the two halves of a head, the two softmaxes mixed with the factor lambda, the norm over a head's width and the gate. -/
module

public import proofs.«01_k».proof.Proof.Softmax
public import Idealize.ShloMosaic.Lib.Pointwise

@[expose] public section

noncomputable section

namespace Cert.Spec

open Idealize.ShloMosaic Cert.Soft

/-- The score of key `k` for the query at time `t`: the scaled product plus the head's slope times the (negative) distance,
    and −∞ for a key in the future. -/
def score (q : Fin 128 → EReal) (K : ℕ → Fin 128 → EReal) (slope : EReal) (t k : ℕ) : EReal :=
  if k ≤ t then (∑ d, q d * K k d) * Ideal.ofBits .f32 0x3DB504F3#32 + -slope * (((t : ℝ) - (k : ℝ) : ℝ) : EReal) else ⊥

/-- The mixing factor, from the four learned vectors. -/
def lam (a b c d : (⟨1, ![128]⟩ : Shape).Idx → EReal) : EReal :=
  Ideal.exp (∑ i : Fin 128, a (ix1 i) * b (ix1 i)) - Ideal.exp (∑ i : Fin 128, c (ix1 i) * d (ix1 i))
    + Ideal.ofBits .f32 0x3EB60549#32

/-- One softmax's weighted sum over the keys, divided by the sum of its weights. -/
def att (S : ℕ → EReal) (v : ℕ → ℝ) : EReal :=
  Ideal.div (num S v 2048 : EReal) (max (den S 2048 : EReal) (Ideal.ofBits .f32 0x0DA24260#32))

/-- The norm over a head's width, its gain, the constant factor and the gate. -/
def fin (o : Fin 256 → EReal) (d : Fin 256) (g z : EReal) : EReal :=
  o d * Ideal.rsqrt (Ideal.div (∑ e, o e * o e) (Ideal.ofBits .f32 0x43800000#32) + Ideal.ofBits .f32 0x358637BD#32) * g
    * Ideal.ofBits .f32 0x3F24FD5C#32 * (z * Ideal.div 1 (1 + Ideal.exp (-z)))

section
variable (x0 : (⟨1, ![16]⟩ : Shape).Idx → EReal) (x1 : (⟨3, ![4, 2048, 4096]⟩ : Shape).Idx → EReal)
  (x2 : (⟨3, ![4, 2048, 8192]⟩ : Shape).Idx → EReal) (x3 : (⟨3, ![4, 2048, 4096]⟩ : Shape).Idx → EReal)
  (x4 x5 x6 x7 : (⟨1, ![128]⟩ : Shape).Idx → EReal) (x8 : (⟨1, ![256]⟩ : Shape).Idx → EReal)

/-- The column of head `h`'s coordinate `d` in a 4096-wide row. -/
def col (h : Fin 16) (d : Fin 256) : Fin 4096 := ⟨h.val * 256 + d.val, by omega⟩

/-- Half `p` of a head's coordinates. -/
def half (p : Fin 2) (d : Fin 128) : Fin 256 := ⟨p.val * 128 + d.val, by omega⟩

/-- The query of half `p` of head `h` at time `t`. -/
def qry (p : Fin 2) (b : Fin 4) (h : Fin 16) (t : Fin 2048) (d : Fin 128) : EReal := x1 (ix3 b t (col h (half p d)))

/-- The key of half `p` of head `h` at time `k`. -/
def key (p : Fin 2) (b : Fin 4) (h : Fin 16) (k : ℕ) (d : Fin 128) : EReal :=
  x2 (ix3 b (Fin.ofNat 2048 k) ⟨h.val * 256 + (p.val * 128 + d.val), by omega⟩)

/-- The value of head `h` at time `k`, coordinate `d`, in the second half of the key-value array. -/
def val (b : Fin 4) (h : Fin 16) (d : Fin 256) (k : ℕ) : EReal :=
  x2 (ix3 b (Fin.ofNat 2048 k) ⟨4096 + (h.val * 256 + d.val), by omega⟩)

/-- The scores of half `p` of head `h` for the query at time `t`. -/
def scores (p : Fin 2) (b : Fin 4) (h : Fin 16) (t : Fin 2048) : ℕ → EReal :=
  score (qry x1 p b h t) (key x2 p b h) (x0 (ix1 h)) t

/-- The mixed attention output of head `h` at time `t`, coordinate `d`. -/
def mixed (b : Fin 4) (h : Fin 16) (t : Fin 2048) (d : Fin 256) : EReal :=
  att (scores x0 x1 x2 0 b h t) (fun k => (val x2 b h d k).toReal)
    - lam x4 x5 x6 x7 * att (scores x0 x1 x2 1 b h t) (fun k => (val x2 b h d k).toReal)

/-- The layer's output at batch `b`, time `t`, head `h`, coordinate `d`. -/
def out (b : Fin 4) (t : Fin 2048) (h : Fin 16) (d : Fin 256) : EReal :=
  fin (mixed x0 x1 x2 x4 x5 x6 x7 b h t) d (x8 (ix1 d)) (x3 (ix3 b t (col h d)))

/-- The output array. -/
def G : (⟨3, ![4, 2048, 4096]⟩ : Shape).Idx → EReal := fun i =>
  have h2 : (i 2).val < 4096 := (i 2).isLt
  out x0 x1 x2 x3 x4 x5 x6 x7 x8 (i 0) (i 1) ⟨(i 2).val / 256, by omega⟩ ⟨(i 2).val % 256, by omega⟩

/-- What the precondition says: the slopes, the values and the four learned vectors are real numbers. -/
structure Finite : Prop where
  slopes : ∀ h, ∃ r : ℝ, x0 (ix1 h) = r
  vals : ∀ b h d k, val x2 b h d k = ((val x2 b h d k).toReal : EReal)
  lam : ∃ r : ℝ, lam x4 x5 x6 x7 = r

end

/-- The difference of two small 32-bit words, as a signed number. -/
theorem toInt_sub_ofNat (a b : ℕ) (ha : a < 4096) (hb : b < 4096) :
    (BitVec.ofNat 32 a - BitVec.ofNat 32 b).toInt = (a : ℤ) - b := by
  rw [BitVec.toInt_sub, BitVec.toInt_eq_toNat_bmod, BitVec.toInt_eq_toNat_bmod,
    BitVec.toNat_ofNat, BitVec.toNat_ofNat]
  simp only [Int.bmod_def]
  omega

/-- The distance of two times, as the programs compute it. -/
theorem dist_eq (a b : ℕ) (ha : a < 4096) (hb : b < 4096) :
    FloatOps.sitofp (F := Ideal) .f32 (IntOp.subi (BitVec.ofNat 32 a) (BitVec.ofNat 32 b)) = (((a : ℝ) - (b : ℝ) : ℝ) : EReal) := by
  show (((BitVec.ofNat 32 a - BitVec.ofNat 32 b).toInt : ℝ) : EReal) = _
  rw [toInt_sub_ofNat a b ha hb]
  norm_num

/-- The pattern of −∞. -/
theorem ninf_eq : Ideal.ofBits .f32 0xFF800000#32 = ⊥ := by simp [Ideal.ofBits, Ideal.ieee]

/-- The small floor of a sum of weights is a positive real. -/
theorem floor_pos : ∃ r : ℝ, 0 < r ∧ Ideal.ofBits .f32 0x0DA24260#32 = (r : EReal) := by
  refine ⟨_, ?_, by simp [Ideal.ofBits, Ideal.ieee, -EReal.coe_mul]; rfl⟩
  norm_num

/-- The scores' scale is a positive real. -/
theorem scale_pos : ∃ r : ℝ, 0 < r ∧ Ideal.ofBits .f32 0x3DB504F3#32 = (r : EReal) := by
  refine ⟨_, ?_, by simp [Ideal.ofBits, Ideal.ieee, -EReal.coe_mul]; rfl⟩
  norm_num

/-- The largest of the first `n` scores, folded from −∞. -/
theorem fold_top (S : ℕ → EReal) (n : ℕ) :
    Finset.univ.fold max (Ideal.ofBits .f32 0xFF800000#32) (fun k : Fin n => S k) = top S n := by
  rw [ninf_eq]
  show (Finset.univ : Finset (Fin n)).sup (fun k : Fin n => S k) = _
  apply le_antisymm
  · exact Finset.sup_le fun k _ => le_top S k.isLt
  · exact Finset.sup_le fun k hk =>
      Finset.le_sup (f := fun k : Fin n => S k) (Finset.mem_univ (⟨k, Finset.mem_range.1 hk⟩ : Fin n))

end Cert.Spec

end
-- ==== Proof.Fold.lean ====
/- One tile's step of the running softmax, over the pieces stored in the scratch rows. -/
module

public import Idealize.ShloMosaic.Lib.Pointwise
public import Idealize.ShloMosaic.Lib.Pipeline.ReadBack
public import proofs.«01_k».proof.Proof.Softmax
public import proofs.«01_k».proof.Proof.Spec
public import proofs.«01_k».proof.Proof.Gen.KernelIdeal.Skeleton

@[expose] public section

set_option maxRecDepth 16384

noncomputable section

namespace Cert.Fold

open Idealize.ShloMosaic Cert.KernelIdeal Cert.KernelIdeal.Gen Cert.Soft Cert.Spec

/-- The new maxima of a half's row after a tile of scores. -/
def top1 (m0 : FVec Ideal S1x1x256 .f32) (s : FVec Ideal S256x256 .f32) : FVec Ideal S1x256 .f32 :=
  maximumf (shapeCast S1x256 m0 shapeCasts_S1x1x256_S1x256)
    (shapeCast S1x256 (multiReduction .maximumf [0] S256 s 0xFF800000#32 reduces_S256x256_S256 (.inl rfl) rfl) shapeCasts_S256_S1x256)

/-- The factor that brings the old sums to the new maxima. -/
def fac1 (m0 : FVec Ideal S1x1x256 .f32) (s : FVec Ideal S256x256 .f32) : FVec Ideal S1x256 .f32 :=
  exp (subf (shapeCast S1x256 m0 shapeCasts_S1x1x256_S1x256) (top1 m0 s))

/-- The tile's weights against the new maxima. -/
def wgt1 (m0 : FVec Ideal S1x1x256 .f32) (s : FVec Ideal S256x256 .f32) : FVec Ideal S256x256 .f32 :=
  exp (subf s (broadcastTo S256x256 (top1 m0 s) broadcasts_S1x256_S256x256))

/-- What is stored as the row's maxima. -/
def putM (m0 : FVec Ideal S1x1x256 .f32) (s : FVec Ideal S256x256 .f32) : FVec Ideal S1x1x256 .f32 :=
  shapeCast S1x1x256 (top1 m0 s) shapeCasts_S1x256_S1x1x256

/-- What is stored as the row's sums of weights. -/
def putL (m0 l0 : FVec Ideal S1x1x256 .f32) (s : FVec Ideal S256x256 .f32) : FVec Ideal S1x1x256 .f32 :=
  shapeCast S1x1x256 (addf (mulf (fac1 m0 s) (shapeCast S1x256 l0 shapeCasts_S1x1x256_S1x256))
    (shapeCast S1x256 (multiReduction .add [0] S256 (wgt1 m0 s) 0x00000000#32 reduces_S256x256_S256 (.inl rfl) rfl) shapeCasts_S256_S1x256))
    shapeCasts_S1x256_S1x1x256

/-- What is stored as the row's weighted sums of values. -/
def putA (m0 : FVec Ideal S1x1x256 .f32) (a0 : FVec Ideal S1x256x256 .f32) (s : FVec Ideal S256x256 .f32)
    (vt : FVec Ideal S256x256 .bf16) : FVec Ideal S1x256x256 .f32 :=
  shapeCast S1x256x256 (addf (mulf (broadcastTo S256x256 (fac1 m0 s) broadcasts_S1x256_S256x256)
    (shapeCast S256x256 a0 shapeCasts_S1x256x256_S256x256))
    (matmul dot_S256x256_S256x256_S256x256_1_0_0_1_n_n none vt (truncf .bf16 (wgt1 m0 s) bitsLt_bf16_f32) (constant S256x256 .f32 0x00000000#32)))
    shapeCasts_S256x256_S1x256x256

/-- The new maxima, read at a query. -/
theorem putM_at (m0 : FVec Ideal S1x1x256 .f32) (s : FVec Ideal S256x256 .f32) (r : Fin 256) :
    putM m0 s (ix3 (0 : Fin 1) (0 : Fin 1) r) = max (m0 (ix3 (0 : Fin 1) (0 : Fin 1) r))
      (Finset.univ.fold max (Ideal.ofBits .f32 0xFF800000#32) fun k : Fin 256 => s (ix2 k r)) := by
  pointwise [putM, top1]

/-- The new sums of weights, read at a query. -/
theorem putL_at (m0 l0 : FVec Ideal S1x1x256 .f32) (s : FVec Ideal S256x256 .f32) (r : Fin 256) :
    putL m0 l0 s (ix3 (0 : Fin 1) (0 : Fin 1) r)
      = Ideal.exp (m0 (ix3 (0 : Fin 1) (0 : Fin 1) r) - putM m0 s (ix3 (0 : Fin 1) (0 : Fin 1) r)) * l0 (ix3 (0 : Fin 1) (0 : Fin 1) r)
        + ∑ k : Fin 256, Ideal.exp (s (ix2 k r) - putM m0 s (ix3 (0 : Fin 1) (0 : Fin 1) r)) := by
  rw [putM_at]
  pointwise [putL, fac1, wgt1, top1]

/-- The new weighted sums of values, read at a coordinate and a query. -/
theorem putA_at (m0 : FVec Ideal S1x1x256 .f32) (a0 : FVec Ideal S1x256x256 .f32) (s : FVec Ideal S256x256 .f32)
    (vt : FVec Ideal S256x256 .bf16) (d r : Fin 256) :
    putA m0 a0 s vt (ix3 (0 : Fin 1) d r)
      = Ideal.exp (m0 (ix3 (0 : Fin 1) (0 : Fin 1) r) - putM m0 s (ix3 (0 : Fin 1) (0 : Fin 1) r)) * a0 (ix3 (0 : Fin 1) d r)
        + ∑ k : Fin 256, vt (ix2 d k) * Ideal.exp (s (ix2 k r) - putM m0 s (ix3 (0 : Fin 1) (0 : Fin 1) r)) := by
  rw [putM_at]
  pointwise [putA, fac1, wgt1, top1]

/-- A row's vectors hold the running softmax of the first `n` keys. -/
structure Vals (S : Fin 256 → ℕ → EReal) (V : Fin 256 → ℕ → ℝ) (n : ℕ) (m l : FVec Ideal S1x1x256 .f32) (a : FVec Ideal S1x256x256 .f32) : Prop where
  m : ∀ r, m (ix3 (0 : Fin 1) (0 : Fin 1) r) = top (S r) n
  l : ∀ r, l (ix3 (0 : Fin 1) (0 : Fin 1) r) = (den (S r) n : EReal)
  a : ∀ d r, a (ix3 (0 : Fin 1) d r) = (num (S r) (V d) n : EReal)

/-- One tile of 256 keys more. -/
theorem Vals.step {S : Fin 256 → ℕ → EReal} {V : Fin 256 → ℕ → ℝ} {n : ℕ} {m0 l0 : FVec Ideal S1x1x256 .f32}
    {a0 : FVec Ideal S1x256x256 .f32} (h : Vals S V n m0 l0 a0) {s : FVec Ideal S256x256 .f32} {vt : FVec Ideal S256x256 .bf16}
    (hs : ∀ k r : Fin 256, s (ix2 k r) = S r (n + k)) (hv : ∀ d k : Fin 256, vt (ix2 d k) = ((V d (n + k) : ℝ) : EReal)) :
    Vals S V (n + 256) (putM m0 s) (putL m0 l0 s) (putA m0 a0 s vt) := by
  have hm (r : Fin 256) : putM m0 s (ix3 (0 : Fin 1) (0 : Fin 1) r) = top (S r) (n + 256) := by
    rw [putM_at, h.m, top_add]
    simp only [hs]
    rw [fold_top (fun k => S r (n + k)) 256]
    rfl
  refine ⟨hm, fun r => ?_, fun d r => ?_⟩
  · rw [putL_at, hm, h.m, h.l, ← den_step]
    simp only [hs]
  · rw [putA_at, hm, h.m, h.a, ← num_step]
    simp only [hs, hv]

/-- The pieces stored so far hold, in row `p`, the running softmax of the first `n` keys. -/
structure Row (p : Fin 2) (S : Fin 256 → ℕ → EReal) (V : Fin 256 → ℕ → ℝ) (n : ℕ) (L1 L2 : List (View.Piece (Elt Ideal) S2x1x256 .f32))
    (L3 : List (View.Piece (Elt Ideal) S2x256x256 .f32)) : Prop where
  m : ∀ r, View.canon L1 (ix3 p (0 : Fin 1) r) = top (S r) n
  l : ∀ r, View.canon L2 (ix3 p (0 : Fin 1) r) = (den (S r) n : EReal)
  a : ∀ d r, View.canon L3 (ix3 p d r) = (num (S r) (V d) n : EReal)

/-- A row just stored is read back: the maxima and the sums of weights. -/
theorem canon_hit1 (p : Fin 2) (off : Fin 3 → ℕ) (hoff : off = ![p.val, 0, 0]) (inb : ∀ a, off a + S1x1x256.size a ≤ S2x1x256.size a)
    (w : FVec Ideal S1x1x256 .f32) (L : List (View.Piece (Elt Ideal) S2x1x256 .f32)) (r : Fin 256) :
    View.canon ((⟨Rect.unit (s := S2x1x256) off S1x1x256.size inb, w⟩ : View.Piece (Elt Ideal) S2x1x256 .f32) :: L) (ix3 p (0 : Fin 1) r)
      = w (ix3 (0 : Fin 1) (0 : Fin 1) r) := by
  subst hoff
  have e : (Rect.unit (s := S2x1x256) _ S1x1x256.size inb).emb (ix3 (0 : Fin 1) (0 : Fin 1) r) = ix3 p (0 : Fin 1) r := by
    refine Rect.emb_eq_of_coords _ _ _ fun a => ?_
    fin_cases a <;> simp [ix3, Rect.unit]
  rw [← e]
  exact View.canon_cons_emb (Rect.unit (s := S2x1x256) _ S1x1x256.size inb) w L _

/-- A row just stored is read back: the weighted sums. -/
theorem canon_hit3 (p : Fin 2) (off : Fin 3 → ℕ) (hoff : off = ![p.val, 0, 0]) (inb : ∀ a, off a + S1x256x256.size a ≤ S2x256x256.size a)
    (w : FVec Ideal S1x256x256 .f32) (L : List (View.Piece (Elt Ideal) S2x256x256 .f32)) (d r : Fin 256) :
    View.canon ((⟨Rect.unit (s := S2x256x256) off S1x256x256.size inb, w⟩ : View.Piece (Elt Ideal) S2x256x256 .f32) :: L) (ix3 p d r)
      = w (ix3 (0 : Fin 1) d r) := by
  subst hoff
  have e : (Rect.unit (s := S2x256x256) _ S1x256x256.size inb).emb (ix3 (0 : Fin 1) d r) = ix3 p d r := by
    refine Rect.emb_eq_of_coords _ _ _ fun a => ?_
    fin_cases a <;> simp [ix3, Rect.unit]
  rw [← e]
  exact View.canon_cons_emb (Rect.unit (s := S2x256x256) _ S1x256x256.size inb) w L _

/-- A store to one row leaves the other: the maxima and the sums of weights. -/
theorem canon_miss1 (p q : Fin 2) (hpq : p ≠ q) (off : Fin 3 → ℕ) (hoff : off = ![p.val, 0, 0]) (inb : ∀ a, off a + S1x1x256.size a ≤ S2x1x256.size a)
    (w : FVec Ideal S1x1x256 .f32) (L : List (View.Piece (Elt Ideal) S2x1x256 .f32)) (r : Fin 256) :
    View.canon ((⟨Rect.unit (s := S2x1x256) off S1x1x256.size inb, w⟩ : View.Piece (Elt Ideal) S2x1x256 .f32) :: L) (ix3 q (0 : Fin 1) r)
      = View.canon L (ix3 q (0 : Fin 1) r) := by
  subst hoff
  refine View.canon_cons_of_not_mem _ L (Rect.not_mem_set_of_axis _ _ (0 : Fin 3) p.val 1 rfl rfl rfl ?_)
  have : q.val < p.val ∨ p.val + 1 ≤ q.val := by
    have := Fin.val_ne_of_ne hpq; omega
  exact this

/-- A store to one row leaves the other: the weighted sums. -/
theorem canon_miss3 (p q : Fin 2) (hpq : p ≠ q) (off : Fin 3 → ℕ) (hoff : off = ![p.val, 0, 0]) (inb : ∀ a, off a + S1x256x256.size a ≤ S2x256x256.size a)
    (w : FVec Ideal S1x256x256 .f32) (L : List (View.Piece (Elt Ideal) S2x256x256 .f32)) (d r : Fin 256) :
    View.canon ((⟨Rect.unit (s := S2x256x256) off S1x256x256.size inb, w⟩ : View.Piece (Elt Ideal) S2x256x256 .f32) :: L) (ix3 q d r)
      = View.canon L (ix3 q d r) := by
  subst hoff
  refine View.canon_cons_of_not_mem _ L (Rect.not_mem_set_of_axis _ _ (0 : Fin 3) p.val 1 rfl rfl rfl ?_)
  have : q.val < p.val ∨ p.val + 1 ≤ q.val := by
    have := Fin.val_ne_of_ne hpq; omega
  exact this

/-- A row's vectors stored make that row's state. -/
theorem Vals.put {S : Fin 256 → ℕ → EReal} {V : Fin 256 → ℕ → ℝ} {n : ℕ} {m l : FVec Ideal S1x1x256 .f32} {a : FVec Ideal S1x256x256 .f32}
    (h : Vals S V n m l a) (p : Fin 2) {off1 off2 off3 : Fin 3 → ℕ} (h1 : off1 = ![p.val, 0, 0]) (h2 : off2 = ![p.val, 0, 0]) (h3 : off3 = ![p.val, 0, 0])
    (i1 : ∀ a, off1 a + S1x1x256.size a ≤ S2x1x256.size a) (i2 : ∀ a, off2 a + S1x1x256.size a ≤ S2x1x256.size a)
    (i3 : ∀ a, off3 a + S1x256x256.size a ≤ S2x256x256.size a) (L1 L2 : List (View.Piece (Elt Ideal) S2x1x256 .f32))
    (L3 : List (View.Piece (Elt Ideal) S2x256x256 .f32)) :
    Row p S V n (⟨Rect.unit (s := S2x1x256) off1 S1x1x256.size i1, m⟩ :: L1) (⟨Rect.unit (s := S2x1x256) off2 S1x1x256.size i2, l⟩ :: L2)
      (⟨Rect.unit (s := S2x256x256) off3 S1x256x256.size i3, a⟩ :: L3) :=
  ⟨fun r => (canon_hit1 p off1 h1 i1 m L1 r).trans (h.m r), fun r => (canon_hit1 p off2 h2 i2 l L2 r).trans (h.l r),
    fun d r => (canon_hit3 p off3 h3 i3 a L3 d r).trans (h.a d r)⟩

/-- The other row keeps its state. -/
theorem Row.keep {p q : Fin 2} {S : Fin 256 → ℕ → EReal} {V : Fin 256 → ℕ → ℝ} {n : ℕ} {L1 L2 : List (View.Piece (Elt Ideal) S2x1x256 .f32)}
    {L3 : List (View.Piece (Elt Ideal) S2x256x256 .f32)} (h : Row q S V n L1 L2 L3) (hpq : p ≠ q)
    {off1 off2 off3 : Fin 3 → ℕ} (h1 : off1 = ![p.val, 0, 0]) (h2 : off2 = ![p.val, 0, 0]) (h3 : off3 = ![p.val, 0, 0])
    (i1 : ∀ a, off1 a + S1x1x256.size a ≤ S2x1x256.size a) (i2 : ∀ a, off2 a + S1x1x256.size a ≤ S2x1x256.size a)
    (i3 : ∀ a, off3 a + S1x256x256.size a ≤ S2x256x256.size a) (m l : FVec Ideal S1x1x256 .f32) (a : FVec Ideal S1x256x256 .f32) :
    Row q S V n (⟨Rect.unit (s := S2x1x256) off1 S1x1x256.size i1, m⟩ :: L1) (⟨Rect.unit (s := S2x1x256) off2 S1x1x256.size i2, l⟩ :: L2)
      (⟨Rect.unit (s := S2x256x256) off3 S1x256x256.size i3, a⟩ :: L3) :=
  ⟨fun r => (canon_miss1 p q hpq off1 h1 i1 m L1 r).trans (h.m r), fun r => (canon_miss1 p q hpq off2 h2 i2 l L2 r).trans (h.l r),
    fun d r => (canon_miss3 p q hpq off3 h3 i3 a L3 d r).trans (h.a d r)⟩

/-- A row's state read back. -/
theorem Row.read {p : Fin 2} {S : Fin 256 → ℕ → EReal} {V : Fin 256 → ℕ → ℝ} {n : ℕ} {L1 L2 : List (View.Piece (Elt Ideal) S2x1x256 .f32)}
    {L3 : List (View.Piece (Elt Ideal) S2x256x256 .f32)} (h : Row p S V n L1 L2 L3) {sig : RefSig} {κ : Kind} {sp : Space}
    (v15 v16 : View sig κ sp S2x1x256 .f32) (v17 : View sig κ sp S2x256x256 .f32)
    {off1 off2 off3 : Fin 3 → ℕ} (h1 : off1 = ![p.val, 0, 0]) (h2 : off2 = ![p.val, 0, 0]) (h3 : off3 = ![p.val, 0, 0])
    (i1 : ∀ a, off1 a + S1x1x256.size a ≤ S2x1x256.size a) (i2 : ∀ a, off2 a + S1x1x256.size a ≤ S2x1x256.size a)
    (i3 : ∀ a, off3 a + S1x256x256.size a ≤ S2x256x256.size a) :
    Vals S V n (v15.readCov (Val := Elt Ideal) L1 (Rect.unit (s := S2x1x256) off1 S1x1x256.size i1).toLoadRect)
      (v16.readCov (Val := Elt Ideal) L2 (Rect.unit (s := S2x1x256) off2 S1x1x256.size i2).toLoadRect)
      (v17.readCov (Val := Elt Ideal) L3 (Rect.unit (s := S2x256x256) off3 S1x256x256.size i3).toLoadRect) := by
  subst h1 h2 h3
  have e (inb) (r : Fin 256) : (Rect.unit (s := S2x1x256) ![p.val, 0, 0] S1x1x256.size inb).toLoadRect.idx (ix3 (0 : Fin 1) (0 : Fin 1) r) = ix3 p (0 : Fin 1) r := by
    funext a
    fin_cases a <;> exact Fin.ext (by simp [ix3, Rect.unit, LoadRect.idx, Rect.toLoadRect])
  have e3 (inb) (d r : Fin 256) : (Rect.unit (s := S2x256x256) ![p.val, 0, 0] S1x256x256.size inb).toLoadRect.idx (ix3 (0 : Fin 1) d r) = ix3 p d r := by
    funext a
    fin_cases a <;> exact Fin.ext (by simp [ix3, Rect.unit, LoadRect.idx, Rect.toLoadRect])
  refine ⟨fun r => ?_, fun r => ?_, fun d r => ?_⟩
  · rw [View.readCov_eq_canon']; exact (congrArg _ (e i1 r)).trans (h.m r)
  · rw [View.readCov_eq_canon']; exact (congrArg _ (e i2 r)).trans (h.l r)
  · rw [View.readCov_eq_canon']; exact (congrArg _ (e3 i3 d r)).trans (h.a d r)

end Cert.Fold

end
-- ==== Proof.Tile.lean ====
/- The scores of one tile of keys against one tile of queries. -/
module

public import Idealize.ShloMosaic.Lib.Pointwise
public import Idealize.ShloMosaic.PureOps.IdealRules
public import Idealize.ShloMosaic.Lib.Affine
public import proofs.«01_k».proof.Proof.Spec
public import proofs.«01_k».proof.Proof.Gen.KernelIdeal.Skeleton

@[expose] public section

set_option maxRecDepth 16384

noncomputable section

namespace Cert.Tile

open Idealize.ShloMosaic Cert.KernelIdeal Cert.KernelIdeal.Gen Cert.Soft Cert.Spec

/-- The scores of a block of 256 queries, the `n`-th of its head, against the keys, for half `p`. -/
def bs (a : EReal) (q : FVec Ideal S1x256x256 .f32) (K : FVec Ideal S1x2048x256 .f32) (p : Fin 2) (n : ℕ) (r : Fin 256) : ℕ → EReal :=
  score (fun d => q (ix3 (0 : Fin 1) r (half p d))) (fun k d => K (ix3 (0 : Fin 1) (Fin.ofNat 2048 k) (half p d))) a (256 * n + r)

/-- The offset of two tiles, as the kernel's word. -/
theorem off_eq : ∀ n j : Fin 8, j ≤ n →
    Scalar.muli (Scalar.subi (BitVec.ofNat 32 n) (BitVec.ofNat 32 j)) 256#32 = BitVec.ofNat 32 (256 * (n.val - j.val)) := by decide

/-- The same against the first tile. -/
theorem off0_eq : ∀ n : Fin 8, Scalar.muli (Scalar.subi (BitVec.ofNat 32 n) 0#32) 256#32 = BitVec.ofNat 32 (256 * n.val) := by decide

/-- The next tile's number, as the kernel's word. -/
theorem next_eq : ∀ j : Fin 8, Scalar.addi (Scf.iv 0#32 1#32 j.val) 1#32 = BitVec.ofNat 32 (j.val + 1) := by decide

/-- The distance within the tiles plus the tiles' offset, as a signed number. -/
theorem toInt_dist (r k : Fin 256) (m : ℕ) (hm : m < 4096) :
    (IntOp.addi (IntOp.subi (BitVec.ofNat 32 r) (BitVec.ofNat 32 k)) (BitVec.ofNat 32 m)).toInt = (r : ℤ) - k + m := by
  show (BitVec.ofNat 32 r - BitVec.ofNat 32 k + BitVec.ofNat 32 m).toInt = _
  rw [BitVec.toInt_add, toInt_sub_ofNat _ _ (by omega) (by omega), BitVec.toInt_eq_toNat_bmod, BitVec.toNat_ofNat]
  simp only [Int.bmod_def]
  omega

/-- The mask's condition. -/
theorem mask_eq {α : Type} (r k : Fin 256) (m : ℕ) (hm : m < 4096) (x y : α) :
    Scalar.select (IntOp.cmpi .sge (IntOp.addi (IntOp.subi (BitVec.ofNat 32 r) (BitVec.ofNat 32 k)) (BitVec.ofNat 32 m)) 0#32) x y
      = if (k : ℕ) ≤ r + m then x else y := by
  have h := toInt_dist r k m hm
  generalize IntOp.addi (IntOp.subi (BitVec.ofNat 32 r) (BitVec.ofNat 32 k)) (BitVec.ofNat 32 m) = b at h ⊢
  have e : (IntOp.cmpi .sge b 0#32 = 1) ↔ (k : ℕ) ≤ r + m := by
    refine IntOp.cmpi_sge.trans ?_
    rw [h, show (0#32 : BitVec 32).toInt = 0 from by decide]
    omega
  unfold Scalar.select
  by_cases hk : (k : ℕ) ≤ r + m
  · rw [if_pos hk, if_pos (e.2 hk)]
  · rw [if_neg hk, if_neg (fun he => hk (e.1 he))]

/-- A score in the kernel's order is the score of the layer. -/
theorem core (s : ℝ) (q : Fin 128 → EReal) (w : Fin 128 → EReal) (r k : Fin 256) (n j : ℕ) (hj : j ≤ n) (hn : n < 8) :
    ∑ x, w x * (q x * Ideal.ofBits .f32 0x3DB504F3#32)
        - ((s : EReal) * FloatOps.sitofp (F := Ideal) .f32 (IntOp.subi (BitVec.ofNat 32 r) (BitVec.ofNat 32 k))
          + (s : EReal) * (((BitVec.ofNat 32 (256 * (n - j))).toInt : ℝ) : EReal))
      = (∑ x, q x * w x) * Ideal.ofBits .f32 0x3DB504F3#32
        + -(s : EReal) * ((((256 * n + r : ℕ) : ℝ) - ((256 * j + k : ℕ) : ℝ) : ℝ) : EReal) := by
  obtain ⟨c, hc, hce⟩ := scale_pos
  have ht : (BitVec.ofNat 32 (256 * (n - j))).toInt = 256 * ((n : ℤ) - j) := by
    rw [BitVec.toInt_eq_toNat_bmod, BitVec.toNat_ofNat]
    simp only [Int.bmod_def]
    omega
  rw [ht, dist_eq _ _ (by omega) (by omega), hce, sum_mul _ _ _ hc.le, sub_eq_add_neg]
  refine congrArg₂ (· + ·) (Finset.sum_congr rfl fun x _ => ?_) ?_
  · rw [← mul_assoc, mul_comm (w x)]
  · rw [← EReal.coe_mul, ← EReal.coe_mul, ← EReal.coe_add, ← EReal.coe_neg, ← EReal.coe_neg, ← EReal.coe_mul]
    congr 1
    push_cast
    ring

variable (s : ℝ) (q : FVec Ideal S1x256x256 .f32) (K : FVec Ideal S1x2048x256 .f32) (w : FVec Ideal S1x256x256 .f32)

/-- The kernel's mask value is −∞. -/
theorem mask_bot : Named.named (F := Ideal) (φ := .f32) κ "mask" 0xF149F2CA#32 = ⊥ :=
  IdealRules.named_const.ideal_named_scalar _ _ _ _ rfl

/-- A coordinate of the first half. -/
theorem half0 (x : Fin 128) (h : x.val < 256) : (⟨x.val, h⟩ : Fin 256) = half 0 x := Fin.ext (by simp [half])
/-- A coordinate of the second half. -/
theorem half1 (x : Fin 128) (h : 128 + x.val < 256) : (⟨128 + x.val, h⟩ : Fin 256) = half 1 x := Fin.ext (by simp [half])

/-- A score of an earlier tile needs no mask. -/
theorem open_eq (p : Fin 2) (n j : ℕ) (hj : j < n) (hn : n < 8) (hw : ∀ k c : Fin 256, w (ix3 (0 : Fin 1) k c) = K (ix3 (0 : Fin 1) (Fin.ofNat 2048 (256 * j + k)) c))
    (k r : Fin 256) :
    ∑ x, w (ix3 (0 : Fin 1) k (half p x)) * (q (ix3 (0 : Fin 1) r (half p x)) * Ideal.ofBits .f32 0x3DB504F3#32)
        - ((s : EReal) * FloatOps.sitofp (F := Ideal) .f32 (IntOp.subi (BitVec.ofNat 32 r) (BitVec.ofNat 32 k))
          + (s : EReal) * (((BitVec.ofNat 32 (256 * (n - j))).toInt : ℝ) : EReal))
      = bs s q K p n r (256 * j + k) := by
  rw [core s (fun x => q (ix3 (0 : Fin 1) r (half p x))) (fun x => w (ix3 (0 : Fin 1) k (half p x))) r k n j hj.le hn]
  unfold bs score
  rw [if_pos (by omega)]
  simp only [hw]

/-- A score of any tile up to the queries' own, with its mask. -/
theorem edge_eq (p : Fin 2) (n j : ℕ) (hj : j ≤ n) (hn : n < 8) (hw : ∀ k c : Fin 256, w (ix3 (0 : Fin 1) k c) = K (ix3 (0 : Fin 1) (Fin.ofNat 2048 (256 * j + k)) c))
    (k r : Fin 256) :
    (if (k : ℕ) ≤ r + 256 * (n - j) then
      ∑ x, w (ix3 (0 : Fin 1) k (half p x)) * (q (ix3 (0 : Fin 1) r (half p x)) * Ideal.ofBits .f32 0x3DB504F3#32)
        - ((s : EReal) * FloatOps.sitofp (F := Ideal) .f32 (IntOp.subi (BitVec.ofNat 32 r) (BitVec.ofNat 32 k))
          + (s : EReal) * (((BitVec.ofNat 32 (256 * (n - j))).toInt : ℝ) : EReal)) else ⊥)
      = bs s q K p n r (256 * j + k) := by
  unfold bs score
  by_cases hk : (k : ℕ) ≤ r + 256 * (n - j)
  · rw [if_pos hk, if_pos (by omega), core s (fun x => q (ix3 (0 : Fin 1) r (half p x))) (fun x => w (ix3 (0 : Fin 1) k (half p x))) r k n j hj hn]
    simp only [hw]
  · rw [if_neg hk, if_neg (by omega)]

/-- The first tile of scores of the first half, at a key and a query. -/
theorem pay97_at (n : Fin 8) (hw : ∀ k c : Fin 256, w (ix3 (0 : Fin 1) k c) = K (ix3 (0 : Fin 1) (Fin.ofNat 2048 (k)) c)) (k r : Fin 256) :
    k0_pay97 (F := Ideal) (BitVec.ofNat 32 n) (s : EReal) (k0_pay88 q) k0_pay90 (k0_pay91 (s : EReal)) w (ix2 k r) = bs s q K 0 n r (k) := by
  pointwise [k0_pay97, k0_pay96, k0_pay95, k0_pay88, k0_pay87, k0_pay90, k0_pay91]
  rw [off0_eq, mask_eq _ _ _ (by have := n.isLt; omega), mask_bot]
  simp only [half0]
  have h := edge_eq s q K w 0 n 0 (by omega) n.isLt (by simpa only [Nat.mul_zero, Nat.zero_add] using hw) k r
  rw [Nat.mul_zero, Nat.zero_add, Nat.sub_zero] at h
  exact h

/-- The first tile of scores of the second half, at a key and a query. -/
theorem pay98_at (n : Fin 8) (hw : ∀ k c : Fin 256, w (ix3 (0 : Fin 1) k c) = K (ix3 (0 : Fin 1) (Fin.ofNat 2048 (k)) c)) (k r : Fin 256) :
    k0_pay98 (F := Ideal) (BitVec.ofNat 32 n) (s : EReal) (k0_pay89 q) k0_pay90 (k0_pay91 (s : EReal)) w (ix2 k r) = bs s q K 1 n r (k) := by
  pointwise [k0_pay98, k0_pay96, k0_pay95, k0_pay89, k0_pay87, k0_pay90, k0_pay91]
  rw [off0_eq, mask_eq _ _ _ (by have := n.isLt; omega), mask_bot]
  simp only [half1]
  have h := edge_eq s q K w 1 n 0 (by omega) n.isLt (by simpa only [Nat.mul_zero, Nat.zero_add] using hw) k r
  rw [Nat.mul_zero, Nat.zero_add, Nat.sub_zero] at h
  exact h

/-- The diagonal tile of scores of the first half, at a key and a query. -/
theorem pay44_at (n : Fin 8) (hw : ∀ k c : Fin 256, w (ix3 (0 : Fin 1) k c) = K (ix3 (0 : Fin 1) (Fin.ofNat 2048 (256 * n + k)) c)) (k r : Fin 256) :
    k0_pay44 (F := Ideal) (BitVec.ofNat 32 n) (s : EReal) (k0_pay88 q) k0_pay90 (k0_pay91 (s : EReal)) w (ix2 k r) = bs s q K 0 n r (256 * n + k) := by
  pointwise [k0_pay44, k0_pay43, k0_pay42, k0_pay88, k0_pay87, k0_pay90, k0_pay91]
  rw [off_eq n n le_rfl, mask_eq _ _ _ (by have := n.isLt; omega), mask_bot]
  simp only [half0]
  exact edge_eq s q K w 0 n n le_rfl n.isLt hw k r

/-- The diagonal tile of scores of the second half, at a key and a query. -/
theorem pay45_at (n : Fin 8) (hw : ∀ k c : Fin 256, w (ix3 (0 : Fin 1) k c) = K (ix3 (0 : Fin 1) (Fin.ofNat 2048 (256 * n + k)) c)) (k r : Fin 256) :
    k0_pay45 (F := Ideal) (BitVec.ofNat 32 n) (s : EReal) (k0_pay89 q) k0_pay90 (k0_pay91 (s : EReal)) w (ix2 k r) = bs s q K 1 n r (256 * n + k) := by
  pointwise [k0_pay45, k0_pay43, k0_pay42, k0_pay89, k0_pay87, k0_pay90, k0_pay91]
  rw [off_eq n n le_rfl, mask_eq _ _ _ (by have := n.isLt; omega), mask_bot]
  simp only [half1]
  exact edge_eq s q K w 1 n n le_rfl n.isLt hw k r

/-- The next tile of scores of the first half within the loop, at a key and a query. -/
theorem pay8_at (i : grid0.Coords) (n : Fin 8) (j : Fin (k0_t1_loop i).trips) (hj : j.val + 1 < n.val)
    (hw : ∀ k c : Fin 256, w (ix3 (0 : Fin 1) k c) = K (ix3 (0 : Fin 1) (Fin.ofNat 2048 (256 * (j.val + 1) + k)) c)) (k r : Fin 256) :
    k0_pay8 (F := Ideal) i (BitVec.ofNat 32 n) (s : EReal) (k0_pay88 q) (k0_pay91 (s : EReal)) 0#32 1#32 j w (ix2 k r) = bs s q K 0 n r (256 * (j.val + 1) + k) := by
  pointwise [k0_pay8, k0_pay7, k0_pay6, k0_pay88, k0_pay87, k0_pay90, k0_pay91]
  have hn := n.isLt
  rw [next_eq ⟨j.val, by omega⟩, off_eq n ⟨j.val + 1, by omega⟩ (by rw [Fin.le_def]; exact hj.le)]
  simp only [half0]
  exact open_eq s q K w 0 n (j.val + 1) hj hn hw k r

/-- The next tile of scores of the second half within the loop, at a key and a query. -/
theorem pay9_at (i : grid0.Coords) (n : Fin 8) (j : Fin (k0_t1_loop i).trips) (hj : j.val + 1 < n.val)
    (hw : ∀ k c : Fin 256, w (ix3 (0 : Fin 1) k c) = K (ix3 (0 : Fin 1) (Fin.ofNat 2048 (256 * (j.val + 1) + k)) c)) (k r : Fin 256) :
    k0_pay9 (F := Ideal) i (BitVec.ofNat 32 n) (s : EReal) (k0_pay89 q) (k0_pay91 (s : EReal)) 0#32 1#32 j w (ix2 k r) = bs s q K 1 n r (256 * (j.val + 1) + k) := by
  pointwise [k0_pay9, k0_pay7, k0_pay6, k0_pay89, k0_pay87, k0_pay90, k0_pay91]
  have hn := n.isLt
  rw [next_eq ⟨j.val, by omega⟩, off_eq n ⟨j.val + 1, by omega⟩ (by rw [Fin.le_def]; exact hj.le)]
  simp only [half1]
  exact open_eq s q K w 1 n (j.val + 1) hj hn hw k r

end Cert.Tile

end
-- ==== Proof.Trip.lean ====
/- One trip of the loop over the tiles of keys, and the loop. -/
module

public import proofs.«01_k».proof.Proof.Fold
public import proofs.«01_k».proof.Proof.Tile
public import proofs.«01_k».proof.Proof.Gen.KernelIdeal.Loops

@[expose] public section

set_option maxRecDepth 16384

noncomputable section

namespace Cert.Trip

open Idealize.ShloMosaic Cert.KernelIdeal Cert.KernelIdeal.Gen Cert.Soft Cert.Spec Cert.Fold Cert.Tile

/-- The first loop runs over every tile of keys but the last two. -/
theorem trips1 (i : grid0.Coords) : (k0_t1_loop i).trips = (i 2).val - 1 := by
  have h : ∀ n : Fin 8, (Scf.Loop.trips ⟨0#32, Scalar.addi 0#32 (Scalar.muli (Scalar.divsi (Scalar.subi (Scalar.subi (BitVec.ofNat 32 n.val) 1#32) 0#32) 1#32) 1#32), 1#32⟩) = n.val - 1 := by decide +kernel
  exact h (i 2)

/-- The second loop, which takes up the rest of an unrolled one, has nothing left. -/
theorem trips2 (i : grid0.Coords) : (k0_t2_loop i).trips = 0 := by
  have h : ∀ n : Fin 8, (Scf.Loop.trips ⟨Scalar.addi 0#32 (Scalar.muli (Scalar.divsi (Scalar.subi (Scalar.subi (BitVec.ofNat 32 n.val) 1#32) 0#32) 1#32) 1#32), Scalar.addi 0#32 (Scalar.subi (Scalar.subi (BitVec.ofNat 32 n.val) 1#32) 0#32), 1#32⟩) = 0 := by decide +kernel
  exact h (i 2)

/-- Where trip `k` reads the next tile of keys. -/
theorem off2_eq (i : grid0.Coords) (k : Fin (k0_t1_loop i).trips) : k0_off2 i k = ![0, 256 * (k.val + 1), 0] := by
  have h : ∀ k : Fin 8, (Scalar.indexCast (Scalar.muli (Scalar.addi (Scf.iv 0#32 1#32 k.val) 1#32) 256#32)).toNat = 256 * (k.val + 1) := by decide +kernel
  have hk : k.val < 8 := by have := k.isLt; have e := trips1 i; have := (i 2).isLt; have : (i 2).val < 8 := this; omega
  have := h ⟨k.val, hk⟩
  show ![0, _, 0] = _
  rw [this]

/-- Where trip `k` reads its tile of transposed values. -/
theorem off3_eq (i : grid0.Coords) (k : Fin (k0_t1_loop i).trips) : k0_off3 i k = ![k.val, 0, 0] := by
  have h : ∀ k : Fin 8, (Scalar.indexCast (Scf.iv 0#32 1#32 k.val)).toNat = k.val := by decide +kernel
  have hk : k.val < 8 := by have := k.isLt; have e := trips1 i; have := (i 2).isLt; have : (i 2).val < 8 := this; omega
  have := h ⟨k.val, hk⟩
  show ![_, 0, 0] = _
  rw [this]

/-- Where the last tile of keys is read. -/
theorem off6_eq (i : grid0.Coords) : k0_off6 i = ![0, 256 * (i 2).val, 0] := by
  have h : ∀ k : Fin 8, (Scalar.indexCast (Scalar.muli (BitVec.ofNat 32 k.val) 256#32)).toNat = 256 * k.val := by decide +kernel
  have := h (i 2)
  show ![0, _, 0] = _
  rw [this]

/-- Where the last tile of transposed values but one is read. -/
theorem off7_eq (i : grid0.Coords) (hi : 1 ≤ (i 2).val) : k0_off7 i = ![(i 2).val - 1, 0, 0] := by
  have h : ∀ k : Fin 8, 1 ≤ k.val → (Scalar.indexCast (Scalar.subi (BitVec.ofNat 32 k.val) 1#32)).toNat = k.val - 1 := by decide +kernel
  have := h (i 2) hi
  show ![_, 0, 0] = _
  rw [this]

/-- Where the last tile of transposed values is read. -/
theorem off8_eq (i : grid0.Coords) : k0_off8 i = ![(i 2).val, 0, 0] := by
  have h : ∀ k : Fin 8, (Scalar.indexCast (BitVec.ofNat 32 k.val)).toNat = k.val := by decide +kernel
  have := h (i 2)
  show ![_, 0, 0] = _
  rw [this]

/-- A tile of keys read from the whole block of them. -/
theorem keys_at {arg5 : Memref sig .tc .vmem S1x2048x256 .f32} (harg5 : arg5.IsWhole) (K : FVec Ideal S1x2048x256 .f32) (j : ℕ) (hj : j < 8)
    {off : Fin 3 → ℕ} (hoff : off = ![0, 256 * j, 0]) (inb : ∀ a, off a + S1x256x256.size a ≤ S1x2048x256.size a) (k c : Fin 256) :
    arg5.view.readAt (Elt Ideal) (Rect.unit (s := S1x2048x256) off S1x256x256.size inb).toLoadRect (harg5.unread (Val := Elt Ideal) K) (ix3 (0 : Fin 1) k c)
      = K (ix3 (0 : Fin 1) (Fin.ofNat 2048 (256 * j + k)) c) := by
  subst hoff
  rw [View.readAt_apply, harg5.read_unread]
  congr 1
  funext a
  apply Fin.ext
  fin_cases a
  · simp [ix3, Rect.unit]
  · have : (256 * j + k.val) % 2048 = 256 * j + k.val := Nat.mod_eq_of_lt (by have := k.isLt; omega)
    simp [ix3, Rect.unit, this]
  · simp [ix3, Rect.unit]

/-- A tile of transposed values read from the scratch. -/
theorem tile_at {arg14 : Memref sig .tc .vmem S8x256x256 .bf16} (harg14 : arg14.IsWhole) (vt : FVec Ideal S8x256x256 .bf16) (j : ℕ) (hj : j < 8)
    {off : Fin 3 → ℕ} (hoff : off = ![j, 0, 0]) (inb : ∀ a, off a + S1x256x256.size a ≤ S8x256x256.size a) (k c : Fin 256) :
    arg14.view.readAt (Elt Ideal) (Rect.unit (s := S8x256x256) off S1x256x256.size inb).toLoadRect (harg14.unread (Val := Elt Ideal) vt) (ix3 (0 : Fin 1) k c)
      = vt (ix3 ⟨j, hj⟩ k c) := by
  subst hoff
  rw [View.readAt_apply, harg14.read_unread]
  congr 1
  funext a
  apply Fin.ext
  fin_cases a <;> simp [ix3, Rect.unit]

/-- A tile with its unit axis dropped. -/
theorem flat_at (w : FVec Ideal S1x256x256 .bf16) (h : S1x256x256.ShapeCasts S256x256) (d k : Fin 256) :
    shapeCast S256x256 w h (ix2 d k) = w (ix3 (0 : Fin 1) d k) := by
  pointwise []

section

variable (i : grid0.Coords)
variable (arg3 : Memref sig .tc .smem S16 .f32) (harg3 : arg3.IsWhole)
variable (arg4 : Memref sig .tc .vmem S1x256x256 .f32) (harg4 : arg4.IsWhole)
variable (arg5 : Memref sig .tc .vmem S1x2048x256 .f32) (harg5 : arg5.IsWhole)
variable (arg6 : Memref sig .tc .vmem S1x2048x256 .f32) (harg6 : arg6.IsWhole)
variable (arg7 : Memref sig .tc .vmem S1x256x256 .f32) (harg7 : arg7.IsWhole)
variable (arg8 : Memref sig .tc .vmem S1x128 .f32) (harg8 : arg8.IsWhole)
variable (arg9 : Memref sig .tc .vmem S1x128 .f32) (harg9 : arg9.IsWhole)
variable (arg10 : Memref sig .tc .vmem S1x128 .f32) (harg10 : arg10.IsWhole)
variable (arg11 : Memref sig .tc .vmem S1x128 .f32) (harg11 : arg11.IsWhole)
variable (arg12 : Memref sig .tc .vmem S1x256 .f32) (harg12 : arg12.IsWhole)
variable (arg13 : Memref sig .tc .vmem S1x256x256 .bf16) (harg13 : arg13.IsWhole)
variable (arg14 : Memref sig .tc .vmem S8x256x256 .bf16) (harg14 : arg14.IsWhole)
variable (arg15 : Memref sig .tc .vmem S2x1x256 .f32) (harg15 : arg15.IsWhole)
variable (arg16 : Memref sig .tc .vmem S2x1x256 .f32) (harg16 : arg16.IsWhole)
variable (arg17 : Memref sig .tc .vmem S2x256x256 .f32) (harg17 : arg17.IsWhole)
variable (s : ℝ) (q : FVec Ideal S1x256x256 .f32) (K : FVec Ideal S1x2048x256 .f32) (vt : FVec Ideal S8x256x256 .bf16) (V : Fin 256 → ℕ → ℝ)

/-- The transposed values held tile by tile are the reals `V`. -/
def Held (vt : FVec Ideal S8x256x256 .bf16) (V : Fin 256 → ℕ → ℝ) : Prop :=
  ∀ (j : Fin 8) (d k : Fin 256), vt (ix3 j d k) = ((V d (256 * j + k) : ℝ) : EReal)

variable {V} {vt} in
/-- A tile read from the scratch that holds the transposed values. -/
theorem held_tile (hV : Held vt V) {arg14 : Memref sig .tc .vmem S8x256x256 .bf16} (harg14 : arg14.IsWhole) (j : ℕ) (hj : j < 8)
    {off : Fin 3 → ℕ} (hoff : off = ![j, 0, 0]) (inb : ∀ a, off a + S1x256x256.size a ≤ S8x256x256.size a)
    (h : S1x256x256.ShapeCasts S256x256) (d k : Fin 256) :
    shapeCast S256x256 (arg14.view.readAt (Elt Ideal) (Rect.unit (s := S8x256x256) off S1x256x256.size inb).toLoadRect (harg14.unread (Val := Elt Ideal) vt)) h (ix2 d k)
      = ((V d (256 * j + k) : ℝ) : EReal) := by
  rw [flat_at, tile_at harg14 vt j hj hoff, hV]

set_option maxHeartbeats 2000000 in
/-- What a trip stores carries the running softmax of both halves over one tile more. -/
theorem trip_rows (c : Dev nD) (hV : Held vt V) (k : Fin (k0_t1_loop i).trips) (acc : FVec Ideal S256x256 .f32 × FVec Ideal S256x256 .f32)
    (L1 L2 : List (View.Piece (Elt Ideal) S2x1x256 .f32)) (L3 : List (View.Piece (Elt Ideal) S2x256x256 .f32))
    (S : Fin 2 → Fin 256 → ℕ → EReal)
    (h0 : ∀ a r : Fin 256, acc.1 (ix2 a r) = S 0 r (256 * k.val + a)) (h1 : ∀ a r : Fin 256, acc.2 (ix2 a r) = S 1 r (256 * k.val + a))
    (hR : ∀ p, Row p (S p) V (256 * k.val) L1 L2 L3)
    (v10 v12 : FVec Ideal S256x128 .bf16) (v15 : IVec S256x256 32) (v18 : FVec Ideal S256x256 .f32) (X5 : BufTy.Contents (Elt Ideal) arg5.view.ty) (a2 : BitVec 32) (v1 : EReal) (p : Fin 2) :
    Row p (S p) V (256 * k.val + 256)
      ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 v10 v12 v15 v18 X5 (harg14.unread vt) k acc
        (arg15.view.writes (Elt Ideal) arg15.view.junk L1) (arg16.view.writes (Elt Ideal) arg16.view.junk L2) (arg17.view.writes (Elt Ideal) arg17.view.junk L3)).1 ++ L1)
      ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 v10 v12 v15 v18 X5 (harg14.unread vt) k acc
        (arg15.view.writes (Elt Ideal) arg15.view.junk L1) (arg16.view.writes (Elt Ideal) arg16.view.junk L2) (arg17.view.writes (Elt Ideal) arg17.view.junk L3)).2.1 ++ L2)
      ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 v10 v12 v15 v18 X5 (harg14.unread vt) k acc
        (arg15.view.writes (Elt Ideal) arg15.view.junk L1) (arg16.view.writes (Elt Ideal) arg16.view.junk L2) (arg17.view.writes (Elt Ideal) arg17.view.junk L3)).2.2 ++ L3) := by
  have hk : k.val < 8 := by have := k.isLt; have e := trips1 i; have := (i 2).isLt; have : (i 2).val < 8 := this; omega
  have hv := held_tile hV harg14 k.val hk (off3_eq i k) (k0_off3_inb i k) shapeCasts_S1x256x256_S256x256
  have g0 := ((hR 0).read arg15.view arg16.view arg17.view rfl rfl rfl (by decide) (by decide) (by decide)).step h0 hv
  have g1 := ((hR 1).read arg15.view arg16.view arg17.view rfl rfl rfl (by decide) (by decide) (by decide)).step h1 hv
  unfold tripL_k0_t1 trip_k0_t1
  dsimp only
  sl_unfold_words
  fin_cases p
  · exact (g0.put 0 rfl rfl rfl _ _ _ L1 L2 L3).keep (p := 1) (by decide) rfl rfl rfl _ _ _ _ _ _
  · exact g1.put 1 rfl rfl rfl _ _ _ _ _ _

set_option maxHeartbeats 2000000 in
/-- The scores a trip hands on are those of the next tile of keys, in the first half. -/
theorem trip_next0 (c : Dev nD) (k : Fin (k0_t1_loop i).trips) (acc : FVec Ideal S256x256 .f32 × FVec Ideal S256x256 .f32)
    (f15 : BufTy.Contents (Elt Ideal) arg15.view.ty) (f16 : BufTy.Contents (Elt Ideal) arg16.view.ty) (f17 : BufTy.Contents (Elt Ideal) arg17.view.ty)
    (X14 : BufTy.Contents (Elt Ideal) arg14.view.ty) (a r : Fin 256) :
    (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 q) (k0_pay89 q) k0_pay90 (k0_pay91 (s : EReal)) (harg5.unread K) X14 k acc f15 f16 f17).1 (ix2 a r)
      = bs s q K 0 (i 2) r (256 * (k.val + 1) + a) := by
  have hi : (i 2).val < 8 := (i 2).isLt
  have hk : k.val + 1 < (i 2).val := by have := k.isLt; have e := trips1 i; omega
  have hw := keys_at harg5 K (k.val + 1) (by omega) (off2_eq i k) (k0_off2_inb i k)
  unfold tripR_k0_t1 trip_k0_t1
  dsimp only
  sl_unfold_words
  exact pay8_at s q K _ i (i 2) k hk hw a r

set_option maxHeartbeats 2000000 in
/-- The scores a trip hands on are those of the next tile of keys, in the second half. -/
theorem trip_next1 (c : Dev nD) (k : Fin (k0_t1_loop i).trips) (acc : FVec Ideal S256x256 .f32 × FVec Ideal S256x256 .f32)
    (f15 : BufTy.Contents (Elt Ideal) arg15.view.ty) (f16 : BufTy.Contents (Elt Ideal) arg16.view.ty) (f17 : BufTy.Contents (Elt Ideal) arg17.view.ty)
    (X14 : BufTy.Contents (Elt Ideal) arg14.view.ty) (a r : Fin 256) :
    (tripR_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 q) (k0_pay89 q) k0_pay90 (k0_pay91 (s : EReal)) (harg5.unread K) X14 k acc f15 f16 f17).2 (ix2 a r)
      = bs s q K 1 (i 2) r (256 * (k.val + 1) + a) := by
  have hi : (i 2).val < 8 := (i 2).isLt
  have hk : k.val + 1 < (i 2).val := by have := k.isLt; have e := trips1 i; omega
  have hw := keys_at harg5 K (k.val + 1) (by omega) (off2_eq i k) (k0_off2_inb i k)
  unfold tripR_k0_t1 trip_k0_t1
  dsimp only
  sl_unfold_words
  exact pay9_at s q K _ i (i 2) k hk hw a r

/-- The state of the loop before trip `k`: the scores of tile `k` are carried, and the rows hold the running softmax of the tiles before it. -/
structure At (c : Dev nD) (L1 L2 : List (View.Piece (Elt Ideal) S2x1x256 .f32)) (L3 : List (View.Piece (Elt Ideal) S2x256x256 .f32))
    (S : Fin 2 → Fin 256 → ℕ → EReal) (k : ℕ)
    (T : (FVec Ideal S256x256 .f32 × FVec Ideal S256x256 .f32) × List (View.Piece (Elt Ideal) S2x1x256 .f32) × List (View.Piece (Elt Ideal) S2x1x256 .f32) × List (View.Piece (Elt Ideal) S2x256x256 .f32)) : Prop where
  s0 : ∀ a r : Fin 256, T.1.1 (ix2 a r) = S 0 r (256 * k + a)
  s1 : ∀ a r : Fin 256, T.1.2 (ix2 a r) = S 1 r (256 * k + a)
  row : ∀ p, Row p (S p) V (256 * k) (T.2.1 ++ L1) (T.2.2.1 ++ L2) (T.2.2.2 ++ L3)

set_option maxHeartbeats 2000000 in
/-- The loop over the tiles of keys but the last two carries the running softmax. -/
theorem sweep (c : Dev nD) (hV : Held vt V)
    (L1 L2 : List (View.Piece (Elt Ideal) S2x1x256 .f32)) (L3 : List (View.Piece (Elt Ideal) S2x256x256 .f32))
    (init : FVec Ideal S256x256 .f32 × FVec Ideal S256x256 .f32)
    (h0 : At V c L1 L2 L3 (fun p => bs s q K p (i 2)) 0 (init, [], [], [])) (k : ℕ) (hk : k ≤ (k0_t1_loop i).trips) :
    At V c L1 L2 L3 (fun p => bs s q K p (i 2)) k
      (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 q) (k0_pay89 q) k0_pay90 (k0_pay91 (s : EReal)) (harg5.unread K) (harg14.unread vt)
        (arg15.view.writes (Elt Ideal) arg15.view.junk L1) (arg16.view.writes (Elt Ideal) arg16.view.junk L2) (arg17.view.writes (Elt Ideal) arg17.view.junk L3) init k) := by
  induction k with
  | zero => exact h0
  | succ k ih =>
    have ih := ih (by omega)
    have e := st_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 q) (k0_pay89 q) k0_pay90 (k0_pay91 (s : EReal)) (harg5.unread K) (harg14.unread vt)
        (arg15.view.writes (Elt Ideal) arg15.view.junk L1) (arg16.view.writes (Elt Ideal) arg16.view.junk L2) (arg17.view.writes (Elt Ideal) arg17.view.junk L3) init ⟨k, hk⟩
    dsimp only at e
    rw [e]
    refine ⟨fun a r => ?_, fun a r => ?_, fun p => ?_⟩
    · exact trip_next0 i arg3 harg3 arg4 harg4 arg5 harg5 arg6 harg6 arg7 harg7 arg8 harg8 arg9 harg9 arg10 harg10 arg11 harg11 arg12 harg12 arg13 harg13 arg14 harg14 arg15 harg15 arg16 harg16 arg17 harg17 s q K c ⟨k, hk⟩ _ _ _ _ _ a r
    · exact trip_next1 i arg3 harg3 arg4 harg4 arg5 harg5 arg6 harg6 arg7 harg7 arg8 harg8 arg9 harg9 arg10 harg10 arg11 harg11 arg12 harg12 arg13 harg13 arg14 harg14 arg15 harg15 arg16 harg16 arg17 harg17 s q K c ⟨k, hk⟩ _ _ _ _ _ a r
    · have h := trip_rows i arg3 harg3 arg4 harg4 arg5 harg5 arg6 harg6 arg7 harg7 arg8 harg8 arg9 harg9 arg10 harg10 arg11 harg11 arg12 harg12 arg13 harg13 arg14 harg14 arg15 harg15 arg16 harg16 arg17 harg17 vt V c hV ⟨k, hk⟩ _ _ _ _ (fun p => bs s q K p (i 2)) ih.s0 ih.s1 ih.row (k0_pay88 q) (k0_pay89 q) k0_pay90 (k0_pay91 (s : EReal)) (harg5.unread K) (BitVec.ofNat 32 (i 2)) (s : EReal) p
      rw [View.writes_append, View.writes_append, View.writes_append] at h
      show Row p _ V _ ((_ ++ _) ++ L1) ((_ ++ _) ++ L2) ((_ ++ _) ++ L3)
      rw [List.append_assoc, List.append_assoc, List.append_assoc]
      exact h

/-- The maxima stored by one fold of both halves. -/
def lay1 (s0 s1 : FVec Ideal S256x256 .f32) (L1 : List (View.Piece (Elt Ideal) S2x1x256 .f32)) : List (View.Piece (Elt Ideal) S2x1x256 .f32) :=
  let M1 := (⟨Rect.unit (s := S2x1x256) ![0, 0, 0] S1x1x256.size inb_S2x1x256_S1x1x256_0_0_0,
    putM (arg15.view.readCov L1 (Rect.unit (s := S2x1x256) ![0, 0, 0] S1x1x256.size inb_S2x1x256_S1x1x256_0_0_0).toLoadRect) s0⟩ : View.Piece (Elt Ideal) S2x1x256 .f32) :: L1
  ⟨Rect.unit (s := S2x1x256) ![1, 0, 0] S1x1x256.size inb_S2x1x256_S1x1x256_1_0_0,
    putM (arg15.view.readCov M1 (Rect.unit (s := S2x1x256) ![1, 0, 0] S1x1x256.size inb_S2x1x256_S1x1x256_1_0_0).toLoadRect) s1⟩ :: M1

/-- The sums of weights stored by one fold of both halves. -/
def lay2 (s0 s1 : FVec Ideal S256x256 .f32) (L1 L2 : List (View.Piece (Elt Ideal) S2x1x256 .f32)) : List (View.Piece (Elt Ideal) S2x1x256 .f32) :=
  let M1 := (⟨Rect.unit (s := S2x1x256) ![0, 0, 0] S1x1x256.size inb_S2x1x256_S1x1x256_0_0_0,
    putM (arg15.view.readCov L1 (Rect.unit (s := S2x1x256) ![0, 0, 0] S1x1x256.size inb_S2x1x256_S1x1x256_0_0_0).toLoadRect) s0⟩ : View.Piece (Elt Ideal) S2x1x256 .f32) :: L1
  let M2 := (⟨Rect.unit (s := S2x1x256) ![0, 0, 0] S1x1x256.size inb_S2x1x256_S1x1x256_0_0_0,
    putL (arg15.view.readCov L1 (Rect.unit (s := S2x1x256) ![0, 0, 0] S1x1x256.size inb_S2x1x256_S1x1x256_0_0_0).toLoadRect)
      (arg16.view.readCov L2 (Rect.unit (s := S2x1x256) ![0, 0, 0] S1x1x256.size inb_S2x1x256_S1x1x256_0_0_0).toLoadRect) s0⟩ : View.Piece (Elt Ideal) S2x1x256 .f32) :: L2
  ⟨Rect.unit (s := S2x1x256) ![1, 0, 0] S1x1x256.size inb_S2x1x256_S1x1x256_1_0_0,
    putL (arg15.view.readCov M1 (Rect.unit (s := S2x1x256) ![1, 0, 0] S1x1x256.size inb_S2x1x256_S1x1x256_1_0_0).toLoadRect)
      (arg16.view.readCov M2 (Rect.unit (s := S2x1x256) ![1, 0, 0] S1x1x256.size inb_S2x1x256_S1x1x256_1_0_0).toLoadRect) s1⟩ :: M2

/-- The weighted sums stored by one fold of both halves. -/
def lay3 (s0 s1 : FVec Ideal S256x256 .f32) (v : FVec Ideal S256x256 .bf16) (L1 : List (View.Piece (Elt Ideal) S2x1x256 .f32))
    (L3 : List (View.Piece (Elt Ideal) S2x256x256 .f32)) : List (View.Piece (Elt Ideal) S2x256x256 .f32) :=
  let M1 := (⟨Rect.unit (s := S2x1x256) ![0, 0, 0] S1x1x256.size inb_S2x1x256_S1x1x256_0_0_0,
    putM (arg15.view.readCov L1 (Rect.unit (s := S2x1x256) ![0, 0, 0] S1x1x256.size inb_S2x1x256_S1x1x256_0_0_0).toLoadRect) s0⟩ : View.Piece (Elt Ideal) S2x1x256 .f32) :: L1
  let M3 := (⟨Rect.unit (s := S2x256x256) ![0, 0, 0] S1x256x256.size inb_S2x256x256_S1x256x256_0_0_0,
    putA (arg15.view.readCov L1 (Rect.unit (s := S2x1x256) ![0, 0, 0] S1x1x256.size inb_S2x1x256_S1x1x256_0_0_0).toLoadRect)
      (arg17.view.readCov L3 (Rect.unit (s := S2x256x256) ![0, 0, 0] S1x256x256.size inb_S2x256x256_S1x256x256_0_0_0).toLoadRect) s0 v⟩ : View.Piece (Elt Ideal) S2x256x256 .f32) :: L3
  ⟨Rect.unit (s := S2x256x256) ![1, 0, 0] S1x256x256.size inb_S2x256x256_S1x256x256_1_0_0,
    putA (arg15.view.readCov M1 (Rect.unit (s := S2x1x256) ![1, 0, 0] S1x1x256.size inb_S2x1x256_S1x1x256_1_0_0).toLoadRect)
      (arg17.view.readCov M3 (Rect.unit (s := S2x256x256) ![1, 0, 0] S1x256x256.size inb_S2x256x256_S1x256x256_1_0_0).toLoadRect) s1 v⟩ :: M3

/-- One fold of both halves carries the running softmax over one tile more. -/
theorem lay (n : ℕ) (S : Fin 2 → Fin 256 → ℕ → EReal) (s0 s1 : FVec Ideal S256x256 .f32) (v : FVec Ideal S256x256 .bf16)
    (L1 L2 : List (View.Piece (Elt Ideal) S2x1x256 .f32)) (L3 : List (View.Piece (Elt Ideal) S2x256x256 .f32))
    (h0 : ∀ a r : Fin 256, s0 (ix2 a r) = S 0 r (n + a)) (h1 : ∀ a r : Fin 256, s1 (ix2 a r) = S 1 r (n + a))
    (hv : ∀ d k : Fin 256, v (ix2 d k) = ((V d (n + k) : ℝ) : EReal))
    (hR : ∀ p, Row p (S p) V n L1 L2 L3) (p : Fin 2) :
    Row p (S p) V (n + 256) (lay1 arg15 s0 s1 L1) (lay2 arg15 arg16 s0 s1 L1 L2) (lay3 arg15 arg17 s0 s1 v L1 L3) := by
  have g0 := (((hR 0).read arg15.view arg16.view arg17.view rfl rfl rfl inb_S2x1x256_S1x1x256_0_0_0 inb_S2x1x256_S1x1x256_0_0_0 inb_S2x256x256_S1x256x256_0_0_0).step h0 hv).put 0
    rfl rfl rfl inb_S2x1x256_S1x1x256_0_0_0 inb_S2x1x256_S1x1x256_0_0_0 inb_S2x256x256_S1x256x256_0_0_0 L1 L2 L3
  have k1 := (hR 1).keep (p := 0) (by decide) rfl rfl rfl inb_S2x1x256_S1x1x256_0_0_0 inb_S2x1x256_S1x1x256_0_0_0 inb_S2x256x256_S1x256x256_0_0_0
    (putM (arg15.view.readCov L1 (Rect.unit (s := S2x1x256) ![0, 0, 0] S1x1x256.size inb_S2x1x256_S1x1x256_0_0_0).toLoadRect) s0)
    (putL (arg15.view.readCov L1 (Rect.unit (s := S2x1x256) ![0, 0, 0] S1x1x256.size inb_S2x1x256_S1x1x256_0_0_0).toLoadRect)
      (arg16.view.readCov L2 (Rect.unit (s := S2x1x256) ![0, 0, 0] S1x1x256.size inb_S2x1x256_S1x1x256_0_0_0).toLoadRect) s0)
    (putA (arg15.view.readCov L1 (Rect.unit (s := S2x1x256) ![0, 0, 0] S1x1x256.size inb_S2x1x256_S1x1x256_0_0_0).toLoadRect)
      (arg17.view.readCov L3 (Rect.unit (s := S2x256x256) ![0, 0, 0] S1x256x256.size inb_S2x256x256_S1x256x256_0_0_0).toLoadRect) s0 v)
  have g1 := (k1.read arg15.view arg16.view arg17.view rfl rfl rfl inb_S2x1x256_S1x1x256_1_0_0 inb_S2x1x256_S1x1x256_1_0_0 inb_S2x256x256_S1x256x256_1_0_0).step h1 hv
  fin_cases p
  · exact g0.keep (p := 1) (by decide) rfl rfl rfl _ _ _ _ _ _
  · exact g1.put 1 rfl rfl rfl _ _ _ _ _ _

end

end Cert.Trip
-- ==== Proof.Block.lean ====
/- What one grid point stores: the block of outputs. -/
module

public import proofs.«01_k».proof.Proof.Trip
public import proofs.«01_k».proof.Proof.Gen.KernelIdeal.Value
public import Idealize.ShloMosaic.Lib.Pipeline.ValueKit

@[expose] public section

set_option maxRecDepth 16384

noncomputable section

namespace Cert.Block

open Idealize.ShloMosaic Cert.KernelIdeal Cert.KernelIdeal.Gen Cert.Soft Cert.Spec Cert.Fold Cert.Tile Cert.Trip

/-- Keys past the tile of the queries are masked. -/
theorem bs_bot (a : EReal) (q : FVec Ideal S1x256x256 .f32) (K : FVec Ideal S1x2048x256 .f32) (p : Fin 2) (n : ℕ) (r : Fin 256) (k : ℕ)
    (hk : 256 * (n + 1) ≤ k) : bs a q K p n r k = ⊥ := by
  unfold bs score
  exact if_neg (by have := r.isLt; omega)

/-- Before the first key: every row holds −∞, no weight and no sum. -/
theorem base (p : Fin 2) (S : Fin 256 → ℕ → EReal) (V : Fin 256 → ℕ → ℝ) :
    Row p S V 0 [⟨Rect.unit (s := S2x1x256) ![0, 0, 0] S2x1x256.size inb_S2x1x256_S2x1x256_0_0_0, k0_pay92 (F := Ideal)⟩]
      [⟨Rect.unit (s := S2x1x256) ![0, 0, 0] S2x1x256.size inb_S2x1x256_S2x1x256_0_0_0, k0_pay93 (F := Ideal)⟩]
      [⟨Rect.unit (s := S2x256x256) ![0, 0, 0] S2x256x256.size inb_S2x256x256_S2x256x256_0_0_0, k0_pay94 (F := Ideal)⟩] := by
  refine ⟨fun r => ?_, fun r => ?_, fun d r => ?_⟩
  · rw [View.canon_unit_zero (S := S2x1x256) (by decide)]
    pointwise [k0_pay92]
    exact mask_bot
  · rw [View.canon_unit_zero (S := S2x1x256) (by decide)]
    pointwise [k0_pay93]
    simp [den]
  · rw [View.canon_unit_zero (S := S2x256x256) (by decide)]
    pointwise [k0_pay94]
    simp [num]

/-- What is stored from the final sums of both halves. -/
theorem fin_at {S0 S1 : Fin 256 → ℕ → EReal} {V : Fin 256 → ℕ → ℝ} {n : ℕ} (hn : n ≤ 2048) (hb0 : ∀ r k, n ≤ k → S0 r k = ⊥) (hb1 : ∀ r k, n ≤ k → S1 r k = ⊥)
    {m0 l0 m1 l1 : FVec Ideal S1x1x256 .f32} {a0 a1 : FVec Ideal S1x256x256 .f32} (h0 : Vals S0 V n m0 l0 a0) (h1 : Vals S1 V n m1 l1 a1)
    (w5 w6 w7 w8 : FVec Ideal S1x128 .f32) (w9 : FVec Ideal S1x256 .f32) (w4 : FVec Ideal S1x256x256 .f32) (r d : Fin 256) :
    k0_pay1 (F := Ideal) (k0_pay113 w5 w6 w7 w8) (k0_pay114 a0 l0) (k0_pay115 a1) (k0_pay116 l1) w9 w4 (ix3 (0 : Fin 1) r d)
      = fin (fun e => att (S0 r) (V e) - lam (fun j => w5 (ix2 (0 : Fin 1) (j 0))) (fun j => w6 (ix2 (0 : Fin 1) (j 0)))
          (fun j => w7 (ix2 (0 : Fin 1) (j 0))) (fun j => w8 (ix2 (0 : Fin 1) (j 0))) * att (S1 r) (V e)) d (w9 (ix2 (0 : Fin 1) d)) (w4 (ix3 (0 : Fin 1) r d)) := by
  pointwise [k0_pay1, k0_pay113, k0_pay114, k0_pay115, k0_pay116]
  simp only [h0.l, h0.a, h1.l, h1.a, ← num_of_bot (S0 r) _ hn fun k hk _ => hb0 r k hk, ← den_of_bot (S0 r) hn fun k hk _ => hb0 r k hk,
    ← num_of_bot (S1 r) _ hn fun k hk _ => hb1 r k hk, ← den_of_bot (S1 r) hn fun k hk _ => hb1 r k hk]
  unfold fin att lam
  rw [zero_sub]
  rfl

/-- The second loop runs no trip: the state is that after the first. -/
theorem sweep2 {V : Fin 256 → ℕ → ℝ} {c : Dev nD} {L1 L2 : List (View.Piece (Elt Ideal) S2x1x256 .f32)} {L3 : List (View.Piece (Elt Ideal) S2x256x256 .f32)}
    {S : Fin 2 → Fin 256 → ℕ → EReal} {k : ℕ}
    {T : (FVec Ideal S256x256 .f32 × FVec Ideal S256x256 .f32) × List (View.Piece (Elt Ideal) S2x1x256 .f32) × List (View.Piece (Elt Ideal) S2x1x256 .f32) × List (View.Piece (Elt Ideal) S2x256x256 .f32)}
    (H : At V c L1 L2 L3 S k T) (F : ℕ → (FVec Ideal S256x256 .f32 × FVec Ideal S256x256 .f32) × List (View.Piece (Elt Ideal) S2x1x256 .f32) × List (View.Piece (Elt Ideal) S2x1x256 .f32) × List (View.Piece (Elt Ideal) S2x256x256 .f32))
    (hF : F 0 = ((T.1.1, T.1.2), [], [], [])) (j : ℕ) (hj : j = 0) : At V c (T.2.1 ++ L1) (T.2.2.1 ++ L2) (T.2.2.2 ++ L3) S k (F j) := by
  subst hj
  rw [hF]
  exact ⟨H.s0, H.s1, H.row⟩

section

variable (i : grid0.Coords)
variable (arg3 : Memref sig .tc .smem S16 .f32) (harg3 : arg3.IsWhole)
variable (arg4 : Memref sig .tc .vmem S1x256x256 .f32) (harg4 : arg4.IsWhole)
variable (arg5 : Memref sig .tc .vmem S1x2048x256 .f32) (harg5 : arg5.IsWhole)
variable (arg6 : Memref sig .tc .vmem S1x2048x256 .f32) (harg6 : arg6.IsWhole)
variable (arg7 : Memref sig .tc .vmem S1x256x256 .f32) (harg7 : arg7.IsWhole)
variable (arg8 : Memref sig .tc .vmem S1x128 .f32) (harg8 : arg8.IsWhole)
variable (arg9 : Memref sig .tc .vmem S1x128 .f32) (harg9 : arg9.IsWhole)
variable (arg10 : Memref sig .tc .vmem S1x128 .f32) (harg10 : arg10.IsWhole)
variable (arg11 : Memref sig .tc .vmem S1x128 .f32) (harg11 : arg11.IsWhole)
variable (arg12 : Memref sig .tc .vmem S1x256 .f32) (harg12 : arg12.IsWhole)
variable (arg13 : Memref sig .tc .vmem S1x256x256 .bf16) (harg13 : arg13.IsWhole)
variable (arg14 : Memref sig .tc .vmem S8x256x256 .bf16) (harg14 : arg14.IsWhole)
variable (arg15 : Memref sig .tc .vmem S2x1x256 .f32) (harg15 : arg15.IsWhole)
variable (arg16 : Memref sig .tc .vmem S2x1x256 .f32) (harg16 : arg16.IsWhole)
variable (arg17 : Memref sig .tc .vmem S2x256x256 .f32) (harg17 : arg17.IsWhole)
variable (hc0 : ¬cond0_0 i) (hc1 : cond0_1 i) (hc2 : ¬cond0_2 i)
  (x0 : Vec Ideal S16 .f32) (x1 : Vec Ideal S1x256x256 .f32) (x2 : Vec Ideal S1x2048x256 .f32) (x3 : Vec Ideal S1x2048x256 .f32) (x4 : Vec Ideal S1x256x256 .f32) (x5 : Vec Ideal S1x128 .f32) (x6 : Vec Ideal S1x128 .f32) (x7 : Vec Ideal S1x128 .f32) (x8 : Vec Ideal S1x128 .f32) (x9 : Vec Ideal S1x256 .f32) (xs0 : Vec Ideal S8x256x256 .bf16)

/-- The block of outputs a grid point leaves, from its blocks of operands and the values. -/
def blk (V : Fin 256 → ℕ → ℝ) (r d : Fin 256) : EReal :=
  fin (fun e => att (bs (x0 (ix1 (i 1))) x1 x2 0 (i 2) r) (V e) - lam (fun j => x5 (ix2 (0 : Fin 1) (j 0))) (fun j => x6 (ix2 (0 : Fin 1) (j 0)))
    (fun j => x7 (ix2 (0 : Fin 1) (j 0))) (fun j => x8 (ix2 (0 : Fin 1) (j 0))) * att (bs (x0 (ix1 (i 1))) x1 x2 1 (i 2) r) (V e)) d (x9 (ix2 (0 : Fin 1) d)) (x4 (ix3 (0 : Fin 1) r d))

/-- A whole block read is the block. -/
theorem whole_at {sp : Space} {S : Shape} {e : EltTy} (arg : Memref sig .tc sp S e) (h : arg.IsWhole) (x : S.Idx → Elt Ideal e) {off : Fin S.rank → ℕ}
    (hoff : ∀ a, off a = 0) (inb : ∀ a, off a + S.size a ≤ S.size a) :
    arg.view.readAt (Elt Ideal) (Rect.unit (s := S) off S.size inb).toLoadRect (h.unread x) = x := by
  funext y
  rw [View.readAt_apply, h.read_unread]
  congr 1
  funext a
  apply Fin.ext
  simp [Rect.unit, hoff]

/-- The slope of the head, read from the table. -/
theorem slope_at (h : 0 < S1.numel) : arg3.view.readAt (Elt Ideal) (Rect.unit (s := S16) (k0_off1 i) S1.size (k0_off1_inb i)).toLoadRect (harg3.unread x0) (Shape.Idx.first h) = x0 (ix1 (i 1)) := by
  have h : ∀ k : Fin 16, (Scalar.indexCast (BitVec.ofNat 32 k.val)).toNat = k.val := by decide +kernel
  have e : k0_off1 i = ![(i 1).val] := by
    have := h (i 1)
    show ![_] = _
    rw [this]
  rw [View.readAt_apply, harg3.read_unread]
  congr 1
  funext a
  apply Fin.ext
  fin_cases a
  simp [ix1, Rect.unit, e]

set_option maxHeartbeats 2000000 in
/-- A later grid point of a sequence leaves its block of outputs, given the values held in the scratch. -/
theorem pointB (c : Dev nD) (V : Fin 256 → ℕ → ℝ) (hV : Held xs0 V) (s : ℝ) (hs : x0 (ix1 (i 1)) = s) (r d : Fin 256) :
    out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0 (ix3 (0 : Fin 1) r d) = blk i x0 x1 x2 x4 x5 x6 x7 x8 x9 V r d := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0)]
  unfold kernelRun0_B
  dsimp only
  rw [View.canon_unit_zero (S := S1x256x256) (by decide)]
  have hi : 1 ≤ (i 2).val := by
    have h : ∀ k : Fin 8, Scalar.cmpi .ne ((Scalar.extui (Scalar.cmpi .sge (BitVec.ofNat 32 k.val) 1#32) : BitVec 32)) 0#32 = 1#1 → 1 ≤ k.val := by decide +kernel
    exact h (i 2) hc1
  have hi8 : (i 2).val < 8 := (i 2).isLt
  have hr : kernelRun0_B.sl.r c i arg3 harg3 x0 = (s : EReal) := (slope_at i arg3 harg3 x0 _).trans hs
  have hq := whole_at arg4 harg4 x1 (off := ![0, 0, 0]) (by decide) inb_S1x256x256_S1x256x256_0_0_0
  have H0 : At V c kernelRun0_B.sl.HS1_1 kernelRun0_B.sl.HS2_1 kernelRun0_B.sl.HS3_1 (fun p => bs (s : EReal) x1 x2 p (i 2)) 0
      ((k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2))), [], [], []) := by
    have hw := keys_at harg5 x2 0 (by omega) (off := ![0, 0, 0]) rfl inb_S1x2048x256_S1x256x256_0_0_0
    simp only [Nat.mul_zero, Nat.zero_add] at hw
    refine ⟨fun a r => ?_, fun a r => ?_, fun p => base p _ V⟩
    · simpa only [Nat.mul_zero, Nat.zero_add] using pay97_at s x1 x2 _ (i 2) hw a r
    · simpa only [Nat.mul_zero, Nat.zero_add] using pay98_at s x1 x2 _ (i 2) hw a r
  have H1 := sweep i arg3 harg3 arg4 harg4 arg5 harg5 arg6 harg6 arg7 harg7 arg8 harg8 arg9 harg9 arg10 harg10 arg11 harg11 arg12 harg12 arg13 harg13 arg14 harg14 arg15 harg15 arg16 harg16 arg17 harg17 s x1 x2 xs0 V c hV _ _ _ _ H0 _ le_rfl
  have H2 := sweep2 H1 (st_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (kernelRun0_B.sl.v66 i) (harg5.unread x2) (harg14.unread xs0)
    (arg15.view.writes (Elt Ideal) arg15.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (harg14.unread xs0)
        (arg15.view.writes (Elt Ideal) arg15.view.junk kernelRun0_B.sl.HS1_1) (arg16.view.writes (Elt Ideal) arg16.view.junk kernelRun0_B.sl.HS2_1) (arg17.view.writes (Elt Ideal) arg17.view.junk kernelRun0_B.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))
        (k0_t1_loop i).trips).2.1 ++ kernelRun0_B.sl.HS1_1)) (arg16.view.writes (Elt Ideal) arg16.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (harg14.unread xs0)
        (arg15.view.writes (Elt Ideal) arg15.view.junk kernelRun0_B.sl.HS1_1) (arg16.view.writes (Elt Ideal) arg16.view.junk kernelRun0_B.sl.HS2_1) (arg17.view.writes (Elt Ideal) arg17.view.junk kernelRun0_B.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))
        (k0_t1_loop i).trips).2.2.1 ++ kernelRun0_B.sl.HS2_1)) (arg17.view.writes (Elt Ideal) arg17.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (harg14.unread xs0)
        (arg15.view.writes (Elt Ideal) arg15.view.junk kernelRun0_B.sl.HS1_1) (arg16.view.writes (Elt Ideal) arg16.view.junk kernelRun0_B.sl.HS2_1) (arg17.view.writes (Elt Ideal) arg17.view.junk kernelRun0_B.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))
        (k0_t1_loop i).trips).2.2.2 ++ kernelRun0_B.sl.HS3_1))
    ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (harg14.unread xs0)
        (arg15.view.writes (Elt Ideal) arg15.view.junk kernelRun0_B.sl.HS1_1) (arg16.view.writes (Elt Ideal) arg16.view.junk kernelRun0_B.sl.HS2_1) (arg17.view.writes (Elt Ideal) arg17.view.junk kernelRun0_B.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))
        (k0_t1_loop i).trips).1.1, (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (harg14.unread xs0)
        (arg15.view.writes (Elt Ideal) arg15.view.junk kernelRun0_B.sl.HS1_1) (arg16.view.writes (Elt Ideal) arg16.view.junk kernelRun0_B.sl.HS2_1) (arg17.view.writes (Elt Ideal) arg17.view.junk kernelRun0_B.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))
        (k0_t1_loop i).trips).1.2)) rfl _ (trips2 i)
  have e1 : 256 * (k0_t1_loop i).trips = 256 * ((i 2).val - 1) := by rw [trips1]
  have F1 := lay arg15 arg16 arg17 V _ _ _ _ _ _ _ _ H2.s0 H2.s1 (e1 ▸ held_tile hV harg14 ((i 2).val - 1) (by omega) (off7_eq i hi) (k0_off7_inb i hc1) shapeCasts_S1x256x256_S256x256) H2.row
  have e2 : 256 * (k0_t1_loop i).trips + 256 = 256 * (i 2).val := by rw [trips1]; omega
  rw [e2] at F1
  have hw := keys_at harg5 x2 (i 2).val hi8 (off6_eq i) (k0_off6_inb i hc1)
  have F2 := lay arg15 arg16 arg17 V _ (fun p => bs (s : EReal) x1 x2 p (i 2)) _ _ _ _ _ _ (pay44_at s x1 x2 _ (i 2) hw) (pay45_at s x1 x2 _ (i 2) hw)
    (held_tile hV harg14 (i 2).val hi8 (off8_eq i) (k0_off8_inb i hc1) shapeCasts_S1x256x256_S256x256) F1
  have hb (p : Fin 2) (r : Fin 256) (k : ℕ) (hk : 256 * (i 2).val + 256 ≤ k) : bs (s : EReal) x1 x2 p (i 2) r k = ⊥ := bs_bot _ _ _ _ _ _ _ (by omega)
  have R0 := (F2 0).read arg15.view arg16.view arg17.view rfl rfl rfl inb_S2x1x256_S1x1x256_0_0_0 inb_S2x1x256_S1x1x256_0_0_0 inb_S2x256x256_S1x256x256_0_0_0
  have R1 := (F2 1).read arg15.view arg16.view arg17.view rfl rfl rfl inb_S2x1x256_S1x1x256_1_0_0 inb_S2x1x256_S1x1x256_1_0_0 inb_S2x256x256_S1x256x256_1_0_0
  have e5 := whole_at arg8 harg8 x5 (off := ![0, 0]) (by decide) inb_S1x128_S1x128_0_0
  have e6 := whole_at arg9 harg9 x6 (off := ![0, 0]) (by decide) inb_S1x128_S1x128_0_0
  have e7 := whole_at arg10 harg10 x7 (off := ![0, 0]) (by decide) inb_S1x128_S1x128_0_0
  have e8 := whole_at arg11 harg11 x8 (off := ![0, 0]) (by decide) inb_S1x128_S1x128_0_0
  have e9 := whole_at arg12 harg12 x9 (off := ![0, 0]) (by decide) inb_S1x256_S1x256_0_0
  have e4 := whole_at arg7 harg7 x4 (off := ![0, 0, 0]) (by decide) inb_S1x256x256_S1x256x256_0_0_0
  have key := fin_at (by omega) (hb 0) (hb 1) R0 R1 (arg8.view.readAt (Elt Ideal) (Rect.unit (s := S1x128) ![0, 0] S1x128.size inb_S1x128_S1x128_0_0).toLoadRect (harg8.unread x5)) (arg9.view.readAt (Elt Ideal) (Rect.unit (s := S1x128) ![0, 0] S1x128.size inb_S1x128_S1x128_0_0).toLoadRect (harg9.unread x6)) (arg10.view.readAt (Elt Ideal) (Rect.unit (s := S1x128) ![0, 0] S1x128.size inb_S1x128_S1x128_0_0).toLoadRect (harg10.unread x7)) (arg11.view.readAt (Elt Ideal) (Rect.unit (s := S1x128) ![0, 0] S1x128.size inb_S1x128_S1x128_0_0).toLoadRect (harg11.unread x8))
    (arg12.view.readAt (Elt Ideal) (Rect.unit (s := S1x256) ![0, 0] S1x256.size inb_S1x256_S1x256_0_0).toLoadRect (harg12.unread x9)) (arg7.view.readAt (Elt Ideal) (Rect.unit (s := S1x256x256) ![0, 0, 0] S1x256x256.size inb_S1x256x256_S1x256x256_0_0_0).toLoadRect (harg7.unread x4)) r d |>.symm
  rw [← hr] at key
  rw [← hq] at key
  unfold blk
  rw [hs]
  refine Eq.trans ?_ (key.symm.trans ?_)
  rotate_left
  · rw [hr, hq, e5, e6, e7, e8, e9, e4]
  · rfl

end

end Cert.Block
-- ==== Proof.BlockA.lean ====
/- What the first grid point of a sequence stores: the transposed values and its block of outputs. -/
module

public import proofs.«01_k».proof.Proof.Block

@[expose] public section

set_option maxRecDepth 16384

noncomputable section

namespace Cert.Block

open Idealize.ShloMosaic Cert.KernelIdeal Cert.KernelIdeal.Gen Cert.Soft Cert.Spec Cert.Fold Cert.Tile Cert.Trip

/-- A tile of values transposed. -/
theorem turn_at (w : Vec Ideal S1x256x256 .f32) (d k : Fin 256) : k0_pay2 (F := Ideal) w (ix3 (0 : Fin 1) d k) = w (ix3 (0 : Fin 1) k d) := by
  pointwise [k0_pay2]

/-- A tile just stored is read back. -/
theorem tile_hit (p : Fin 8) {off : Fin 3 → ℕ} (hoff : off = ![p.val, 0, 0]) (inb : ∀ a, off a + S1x256x256.size a ≤ S8x256x256.size a)
    (w : FVec Ideal S1x256x256 .bf16) (L : List (View.Piece (Elt Ideal) S8x256x256 .bf16)) (d r : Fin 256) :
    View.canon ((⟨Rect.unit (s := S8x256x256) off S1x256x256.size inb, w⟩ : View.Piece (Elt Ideal) S8x256x256 .bf16) :: L) (ix3 p d r)
      = w (ix3 (0 : Fin 1) d r) := by
  subst hoff
  have e : (Rect.unit (s := S8x256x256) _ S1x256x256.size inb).emb (ix3 (0 : Fin 1) d r) = ix3 p d r := by
    refine Rect.emb_eq_of_coords _ _ _ fun a => ?_
    fin_cases a <;> simp [ix3, Rect.unit]
  rw [← e]
  exact View.canon_cons_emb (Rect.unit (s := S8x256x256) _ S1x256x256.size inb) w L _

/-- A store to one tile leaves the others. -/
theorem tile_miss (p q : Fin 8) (hpq : p ≠ q) {off : Fin 3 → ℕ} (hoff : off = ![p.val, 0, 0]) (inb : ∀ a, off a + S1x256x256.size a ≤ S8x256x256.size a)
    (w : FVec Ideal S1x256x256 .bf16) (L : List (View.Piece (Elt Ideal) S8x256x256 .bf16)) (d r : Fin 256) :
    View.canon ((⟨Rect.unit (s := S8x256x256) off S1x256x256.size inb, w⟩ : View.Piece (Elt Ideal) S8x256x256 .bf16) :: L) (ix3 q d r)
      = View.canon L (ix3 q d r) := by
  subst hoff
  refine View.canon_cons_of_not_mem _ L (Rect.not_mem_set_of_axis _ _ (0 : Fin 3) p.val 1 rfl rfl rfl ?_)
  have : q.val < p.val ∨ p.val + 1 ≤ q.val := by
    have := Fin.val_ne_of_ne hpq; omega
  exact this

section

variable (i : grid0.Coords)
variable (arg3 : Memref sig .tc .smem S16 .f32) (harg3 : arg3.IsWhole)
variable (arg4 : Memref sig .tc .vmem S1x256x256 .f32) (harg4 : arg4.IsWhole)
variable (arg5 : Memref sig .tc .vmem S1x2048x256 .f32) (harg5 : arg5.IsWhole)
variable (arg6 : Memref sig .tc .vmem S1x2048x256 .f32) (harg6 : arg6.IsWhole)
variable (arg7 : Memref sig .tc .vmem S1x256x256 .f32) (harg7 : arg7.IsWhole)
variable (arg8 : Memref sig .tc .vmem S1x128 .f32) (harg8 : arg8.IsWhole)
variable (arg9 : Memref sig .tc .vmem S1x128 .f32) (harg9 : arg9.IsWhole)
variable (arg10 : Memref sig .tc .vmem S1x128 .f32) (harg10 : arg10.IsWhole)
variable (arg11 : Memref sig .tc .vmem S1x128 .f32) (harg11 : arg11.IsWhole)
variable (arg12 : Memref sig .tc .vmem S1x256 .f32) (harg12 : arg12.IsWhole)
variable (arg13 : Memref sig .tc .vmem S1x256x256 .bf16) (harg13 : arg13.IsWhole)
variable (arg14 : Memref sig .tc .vmem S8x256x256 .bf16) (harg14 : arg14.IsWhole)
variable (arg15 : Memref sig .tc .vmem S2x1x256 .f32) (harg15 : arg15.IsWhole)
variable (arg16 : Memref sig .tc .vmem S2x1x256 .f32) (harg16 : arg16.IsWhole)
variable (arg17 : Memref sig .tc .vmem S2x256x256 .f32) (harg17 : arg17.IsWhole)
variable (hc0 : cond0_0 i) (hc1 : ¬cond0_1 i) (hc2 : cond0_2 i)
  (x0 : Vec Ideal S16 .f32) (x1 : Vec Ideal S1x256x256 .f32) (x2 : Vec Ideal S1x2048x256 .f32) (x3 : Vec Ideal S1x2048x256 .f32) (x4 : Vec Ideal S1x256x256 .f32) (x5 : Vec Ideal S1x128 .f32) (x6 : Vec Ideal S1x128 .f32) (x7 : Vec Ideal S1x128 .f32) (x8 : Vec Ideal S1x128 .f32) (x9 : Vec Ideal S1x256 .f32)

set_option maxHeartbeats 2000000 in
/-- The eight tiles stored are the values transposed. -/
theorem vals_at (c : Dev nD) (j : Fin 8) (d k : Fin 256) :
    View.canon (kernelRun0_A.sl.HS0_8 (F := Ideal) c arg6 harg6 x3) (ix3 j d k) = x3 (ix3 (0 : Fin 1) (Fin.ofNat 2048 (256 * j + k)) d) := by
  refine Eq.trans ?_ (keys_at harg6 x3 j.val j.isLt (off := ![0, 256 * j.val, 0]) rfl (by
    intro a
    have := j.isLt
    fin_cases a
    · show 0 + 1 ≤ 1; omega
    · show 256 * j.val + 256 ≤ 2048; omega
    · show 0 + 256 ≤ 256; omega) k d)
  unfold kernelRun0_A.sl.HS0_8
  fin_cases j
  · refine (tile_miss 7 0 (by decide) rfl _ _ _ d k).trans ((tile_miss 6 0 (by decide) rfl _ _ _ d k).trans ((tile_miss 5 0 (by decide) rfl _ _ _ d k).trans ((tile_miss 4 0 (by decide) rfl _ _ _ d k).trans
      ((tile_miss 3 0 (by decide) rfl _ _ _ d k).trans ((tile_miss 2 0 (by decide) rfl _ _ _ d k).trans ((tile_miss 1 0 (by decide) rfl _ _ _ d k).trans ((tile_hit 0 rfl _ _ _ d k).trans ?_)))))))
    exact turn_at _ d k
  · refine (tile_miss 7 1 (by decide) rfl _ _ _ d k).trans ((tile_miss 6 1 (by decide) rfl _ _ _ d k).trans ((tile_miss 5 1 (by decide) rfl _ _ _ d k).trans ((tile_miss 4 1 (by decide) rfl _ _ _ d k).trans
      ((tile_miss 3 1 (by decide) rfl _ _ _ d k).trans ((tile_miss 2 1 (by decide) rfl _ _ _ d k).trans ((tile_hit 1 rfl _ _ _ d k).trans ?_))))))
    exact turn_at _ d k
  · refine (tile_miss 7 2 (by decide) rfl _ _ _ d k).trans ((tile_miss 6 2 (by decide) rfl _ _ _ d k).trans ((tile_miss 5 2 (by decide) rfl _ _ _ d k).trans ((tile_miss 4 2 (by decide) rfl _ _ _ d k).trans
      ((tile_miss 3 2 (by decide) rfl _ _ _ d k).trans ((tile_hit 2 rfl _ _ _ d k).trans ?_)))))
    exact turn_at _ d k
  · refine (tile_miss 7 3 (by decide) rfl _ _ _ d k).trans ((tile_miss 6 3 (by decide) rfl _ _ _ d k).trans ((tile_miss 5 3 (by decide) rfl _ _ _ d k).trans ((tile_miss 4 3 (by decide) rfl _ _ _ d k).trans
      ((tile_hit 3 rfl _ _ _ d k).trans ?_))))
    exact turn_at _ d k
  · refine (tile_miss 7 4 (by decide) rfl _ _ _ d k).trans ((tile_miss 6 4 (by decide) rfl _ _ _ d k).trans ((tile_miss 5 4 (by decide) rfl _ _ _ d k).trans ((tile_hit 4 rfl _ _ _ d k).trans ?_)))
    exact turn_at _ d k
  · refine (tile_miss 7 5 (by decide) rfl _ _ _ d k).trans ((tile_miss 6 5 (by decide) rfl _ _ _ d k).trans ((tile_hit 5 rfl _ _ _ d k).trans ?_))
    exact turn_at _ d k
  · refine (tile_miss 7 6 (by decide) rfl _ _ _ d k).trans ((tile_hit 6 rfl _ _ _ d k).trans ?_)
    exact turn_at _ d k
  · refine (tile_hit 7 rfl _ _ _ d k).trans ?_
    exact turn_at _ d k

/-- The first tile of the stored values read back. -/
theorem vals_read (c : Dev nD) (V : Fin 256 → ℕ → ℝ) (hX : ∀ (d : Fin 256) (k : ℕ), x3 (ix3 (0 : Fin 1) (Fin.ofNat 2048 k) d) = ((V d k : ℝ) : EReal)) (d k : Fin 256) :
    shapeCast S256x256 (arg14.view.readCov (kernelRun0_A.sl.HS0_8 (F := Ideal) c arg6 harg6 x3)
      (Rect.unit (s := S8x256x256) ![0, 0, 0] S1x256x256.size inb_S8x256x256_S1x256x256_0_0_0).toLoadRect) shapeCasts_S1x256x256_S256x256 (ix2 d k) = ((V d (0 + k) : ℝ) : EReal) := by
  rw [flat_at, View.readCov_eq_canon']
  have e : (Rect.unit (s := S8x256x256) ![0, 0, 0] S1x256x256.size inb_S8x256x256_S1x256x256_0_0_0).toLoadRect.idx (ix3 (0 : Fin 1) d k) = ix3 (0 : Fin 8) d k := by
    funext a
    apply Fin.ext
    fin_cases a <;> simp [ix3, Rect.unit]
  refine (congrArg (View.canon _) e).trans ?_
  rw [vals_at]
  exact hX d _

/-- The first grid point of a sequence leaves the transposed values in the scratch. -/
theorem heldA (c : Dev nD) (j : Fin 8) (d k : Fin 256) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 (ix3 j d k) = x3 (ix3 (0 : Fin 1) (Fin.ofNat 2048 (256 * j + k)) d) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9)]
  unfold kernelRun0_A
  dsimp only
  exact vals_at arg6 harg6 x3 c j d k

set_option maxHeartbeats 2000000 in
/-- The first grid point of a sequence leaves its block of outputs. -/
theorem pointA (c : Dev nD) (V : Fin 256 → ℕ → ℝ) (hX : ∀ (d : Fin 256) (k : ℕ), x3 (ix3 (0 : Fin 1) (Fin.ofNat 2048 k) d) = ((V d k : ℝ) : EReal))
    (s : ℝ) (hs : x0 (ix1 (i 1)) = s) (r d : Fin 256) :
    out0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 (ix3 (0 : Fin 1) r d) = blk i x0 x1 x2 x4 x5 x6 x7 x8 x9 V r d := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9)]
  unfold kernelRun0_A
  dsimp only
  rw [View.canon_unit_zero (S := S1x256x256) (by decide)]
  have hi : (i 2).val = 0 := by
    have h : ∀ k : Fin 8, ¬ Scalar.cmpi .ne ((Scalar.extui (Scalar.cmpi .sge (BitVec.ofNat 32 k.val) 1#32) : BitVec 32)) 0#32 = 1#1 → k.val = 0 := by decide +kernel
    exact h (i 2) hc1
  have hr : kernelRun0_A.sl.r c i arg3 harg3 x0 = (s : EReal) := (slope_at i arg3 harg3 x0 _).trans hs
  have hq := whole_at arg4 harg4 x1 (off := ![0, 0, 0]) (by decide) inb_S1x256x256_S1x256x256_0_0_0
  have ht1 : (k0_t1_loop i).trips = 0 := by rw [trips1, hi]
  have H0 : At V c kernelRun0_A.sl.HS1_1 kernelRun0_A.sl.HS2_1 kernelRun0_A.sl.HS3_1 (fun p => bs (s : EReal) x1 x2 p (i 2)) 0
      ((k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2))), [], [], []) := by
    have hw := keys_at harg5 x2 0 (by omega) (off := ![0, 0, 0]) rfl inb_S1x2048x256_S1x256x256_0_0_0
    simp only [Nat.mul_zero, Nat.zero_add] at hw
    refine ⟨fun a r => ?_, fun a r => ?_, fun p => base p _ V⟩
    · simpa only [Nat.mul_zero, Nat.zero_add] using pay97_at s x1 x2 _ (i 2) hw a r
    · simpa only [Nat.mul_zero, Nat.zero_add] using pay98_at s x1 x2 _ (i 2) hw a r
  have H1 : At V c kernelRun0_A.sl.HS1_1 kernelRun0_A.sl.HS2_1 kernelRun0_A.sl.HS3_1 (fun p => bs (s : EReal) x1 x2 p (i 2)) 0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) (k0_t1_loop i).trips) := by
    have h (j : ℕ) (hj : j = 0) : At V c kernelRun0_A.sl.HS1_1 kernelRun0_A.sl.HS2_1 kernelRun0_A.sl.HS3_1 (fun p => bs (s : EReal) x1 x2 p (i 2)) 0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) j) := by
      subst hj
      exact H0
    exact h _ ht1
  have H2 := sweep2 H1 (st_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (kernelRun0_A.sl.v66 i) (harg5.unread x2) (arg14.view.writes (Elt Ideal) arg14.view.junk (kernelRun0_A.sl.HS0_8 c arg6 harg6 x3))
    (arg15.view.writes (Elt Ideal) arg15.view.junk (((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) (k0_t1_loop i).trips).2.1 ++ kernelRun0_A.sl.HS1_1)) (arg16.view.writes (Elt Ideal) arg16.view.junk (((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) (k0_t1_loop i).trips).2.2.1 ++ kernelRun0_A.sl.HS2_1)) (arg17.view.writes (Elt Ideal) arg17.view.junk (((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) (k0_t1_loop i).trips).2.2.2 ++ kernelRun0_A.sl.HS3_1))
    (((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) (k0_t1_loop i).trips).1.1, ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2)) (s : EReal) (k0_pay88 x1) (k0_pay89 x1) k0_pay90 (k0_pay91 (s : EReal)) (harg5.unread x2) (arg14.view.writes (Elt Ideal) arg14.view.junk (kernelRun0_A.sl.HS0_8 c arg6 harg6 x3))
        (arg15.view.writes (Elt Ideal) arg15.view.junk kernelRun0_A.sl.HS1_1) (arg16.view.writes (Elt Ideal) arg16.view.junk kernelRun0_A.sl.HS2_1) (arg17.view.writes (Elt Ideal) arg17.view.junk kernelRun0_A.sl.HS3_1)
        (k0_pay97 (BitVec.ofNat 32 (i 2)) (s : EReal) (k0_pay88 x1) k0_pay90 (k0_pay91 (s : EReal)) (arg5.view.readAt (Elt Ideal) (Rect.unit (s := S1x2048x256) ![0, 0, 0] S1x256x256.size inb_S1x2048x256_S1x256x256_0_0_0).toLoadRect (harg5.unread x2)),
        k0_pay98 (BitVec.ofNat 32 (i 2)) (s : EReal) (k0_pay89 x1) k0_pay90 (k0_pay91 (s : EReal)) (arg5.view.readAt (Elt Ideal) (Rect.unit (s := S1x2048x256) ![0, 0, 0] S1x256x256.size inb_S1x2048x256_S1x256x256_0_0_0).toLoadRect (harg5.unread x2)))) (k0_t1_loop i).trips).1.2)) rfl _ (trips2 i)
  have F1 := lay arg15 arg16 arg17 V _ _ _ _ _ _ _ _ H2.s0 H2.s1 (vals_read arg6 harg6 arg14 x3 c V hX) H2.row
  have hb (p : Fin 2) (r : Fin 256) (k : ℕ) (hk : 256 * 0 + 256 ≤ k) : bs (s : EReal) x1 x2 p (i 2) r k = ⊥ := bs_bot _ _ _ _ _ _ _ (by omega)
  have R0 := (F1 0).read arg15.view arg16.view arg17.view rfl rfl rfl inb_S2x1x256_S1x1x256_0_0_0 inb_S2x1x256_S1x1x256_0_0_0 inb_S2x256x256_S1x256x256_0_0_0
  have R1 := (F1 1).read arg15.view arg16.view arg17.view rfl rfl rfl inb_S2x1x256_S1x1x256_1_0_0 inb_S2x1x256_S1x1x256_1_0_0 inb_S2x256x256_S1x256x256_1_0_0
  have e5 := whole_at arg8 harg8 x5 (off := ![0, 0]) (by decide) inb_S1x128_S1x128_0_0
  have e6 := whole_at arg9 harg9 x6 (off := ![0, 0]) (by decide) inb_S1x128_S1x128_0_0
  have e7 := whole_at arg10 harg10 x7 (off := ![0, 0]) (by decide) inb_S1x128_S1x128_0_0
  have e8 := whole_at arg11 harg11 x8 (off := ![0, 0]) (by decide) inb_S1x128_S1x128_0_0
  have e9 := whole_at arg12 harg12 x9 (off := ![0, 0]) (by decide) inb_S1x256_S1x256_0_0
  have e4 := whole_at arg7 harg7 x4 (off := ![0, 0, 0]) (by decide) inb_S1x256x256_S1x256x256_0_0_0
  have key := fin_at (by omega) (hb 0) (hb 1) R0 R1 (arg8.view.readAt (Elt Ideal) (Rect.unit (s := S1x128) ![0, 0] S1x128.size inb_S1x128_S1x128_0_0).toLoadRect (harg8.unread x5)) (arg9.view.readAt (Elt Ideal) (Rect.unit (s := S1x128) ![0, 0] S1x128.size inb_S1x128_S1x128_0_0).toLoadRect (harg9.unread x6)) (arg10.view.readAt (Elt Ideal) (Rect.unit (s := S1x128) ![0, 0] S1x128.size inb_S1x128_S1x128_0_0).toLoadRect (harg10.unread x7)) (arg11.view.readAt (Elt Ideal) (Rect.unit (s := S1x128) ![0, 0] S1x128.size inb_S1x128_S1x128_0_0).toLoadRect (harg11.unread x8))
    (arg12.view.readAt (Elt Ideal) (Rect.unit (s := S1x256) ![0, 0] S1x256.size inb_S1x256_S1x256_0_0).toLoadRect (harg12.unread x9)) (arg7.view.readAt (Elt Ideal) (Rect.unit (s := S1x256x256) ![0, 0, 0] S1x256x256.size inb_S1x256x256_S1x256x256_0_0_0).toLoadRect (harg7.unread x4)) r d |>.symm
  rw [← hr] at key
  rw [← hq] at key
  unfold blk
  rw [hs]
  refine Eq.trans ?_ (key.symm.trans ?_)
  rotate_left
  · rw [hr, hq, e5, e6, e7, e8, e9, e4]
  · rfl

end

end Cert.Block
-- ==== Proof.Blocks.lean ====
/- The blocks each grid point reads, at coordinates of the argument arrays: batch `t / 128`, head `t / 8 % 16`, tile `t % 8`. -/
module

public import proofs.«01_k».proof.Proof.BlockA
public import proofs.«01_k».proof.Proof.Gen.KernelIdeal.Value
public import Idealize.ShloMosaic.Lib.Pipeline.ValueKit

@[expose] public section

set_option maxRecDepth 16384

noncomputable section

namespace Cert.Final

open Idealize.ShloMosaic Idealize.ShloMosaic.TcCoe Idealize.SL.Sem Cert.KernelIdeal Cert.KernelIdeal.Gen Cert.Soft Cert.Spec Cert.Tile Cert.Block

variable (m : (ℓ : Loc nD τ sig) → Buf (Elt Ideal) ℓ)

/-- The coordinates of a grid point: head `t / 8 % 16`, tile `t % 8`. -/
theorem coords : ∀ t : Fin cfg0.N, (grid0.coords t 1).val = t.val / 8 % 16 ∧ (grid0.coords t 2).val = t.val % 8 ∧ t.val / 128 < 4 :=
  (by decide +kernel : ∀ t : Fin grid0.N, _)

/-- The block of each window a grid point uses. -/
theorem idx : ∀ t : Fin cfg0.N, win0_0.index t = ![0] ∧ win0_1.index t = ![t.val / 128, t.val % 8, t.val / 8 % 16]
    ∧ win0_2.index t = ![t.val / 128, 0, t.val / 8 % 16] ∧ win0_3.index t = ![t.val / 128, 0, 16 + t.val / 8 % 16]
    ∧ win0_4.index t = ![t.val / 128, t.val % 8, t.val / 8 % 16] ∧ win0_5.index t = ![0, 0] ∧ win0_6.index t = ![0, 0]
    ∧ win0_7.index t = ![0, 0] ∧ win0_8.index t = ![0, 0] ∧ win0_9.index t = ![0, 0]
    ∧ win0_10.index t = ![t.val / 128, t.val % 8, t.val / 8 % 16] :=
  (by decide +kernel : ∀ t : Fin grid0.N, _)

/-- The batch of a grid point. -/
def bat (t : Fin cfg0.N) : Fin 4 := ⟨t.val / 128, (coords t).2.2⟩

/-- The head of a grid point. -/
def head (t : Fin cfg0.N) : Fin 16 := ⟨t.val / 8 % 16, by omega⟩

/-- The time of row `r` of a grid point's tile. -/
def time (t : Fin cfg0.N) (r : Fin 256) : Fin 2048 := ⟨256 * (t.val % 8) + r.val, by omega⟩

/-- The slopes are read whole. -/
theorem slopes_at (c : Dev nD) (t : Fin cfg0.N) (h : Fin 16) : iblk m c 0 t (ix1 h) = m ((c : Thread nD τ).loc main_arg0) (ix1 h) := by
  blk_ext [iblk, V, idx t]

/-- The queries of a grid point's tile. -/
theorem q_at (c : Dev nD) (t : Fin cfg0.N) (r d : Fin 256) :
    iblk m c 1 t (ix3 (0 : Fin 1) r d) = m ((c : Thread nD τ).loc main_arg1) (ix3 (bat t) (time t r) (col (head t) d)) := by
  have e1 : (bat t).val = t.val / 128 := rfl
  have e2 : (time t r).val = 256 * (t.val % 8) + r.val := rfl
  have e3 : (col (head t) d).val = (t.val / 8 % 16) * 256 + d.val := rfl
  blk_ext [iblk, V, idx t]

/-- The gate of a grid point's tile. -/
theorem z_at (c : Dev nD) (t : Fin cfg0.N) (r d : Fin 256) :
    iblk m c 4 t (ix3 (0 : Fin 1) r d) = m ((c : Thread nD τ).loc main_arg3) (ix3 (bat t) (time t r) (col (head t) d)) := by
  have e1 : (bat t).val = t.val / 128 := rfl
  have e2 : (time t r).val = 256 * (t.val % 8) + r.val := rfl
  have e3 : (col (head t) d).val = (t.val / 8 % 16) * 256 + d.val := rfl
  blk_ext [iblk, V, idx t]

/-- The keys of a grid point's head. -/
theorem k_at (c : Dev nD) (t : Fin cfg0.N) (k : Fin 2048) (d : Fin 256) (e : Fin 8192) (he : e.val = (t.val / 8 % 16) * 256 + d.val) :
    iblk m c 2 t (ix3 (0 : Fin 1) k d) = m ((c : Thread nD τ).loc main_arg2) (ix3 (bat t) k e) := by
  have e1 : (bat t).val = t.val / 128 := rfl
  blk_ext [iblk, V, idx t]

/-- The values of a grid point's head. -/
theorem v_at (c : Dev nD) (t : Fin cfg0.N) (k : Fin 2048) (d : Fin 256) :
    iblk m c 3 t (ix3 (0 : Fin 1) k d) = m ((c : Thread nD τ).loc main_arg2) (ix3 (bat t) k ⟨4096 + ((head t).val * 256 + d.val), by omega⟩) := by
  have e1 : (bat t).val = t.val / 128 := rfl
  have e3 : (head t).val = t.val / 8 % 16 := rfl
  blk_ext [iblk, V, idx t]

/-- The first learned vector, as a row. -/
theorem w5_at (c : Dev nD) (t : Fin cfg0.N) (j : Fin 128) : iblk m c 5 t (ix2 (0 : Fin 1) j) = m ((c : Thread nD τ).loc main_arg4) (ix1 j) := by
  blk_point [iblk, idx t]

/-- The second learned vector, as a row. -/
theorem w6_at (c : Dev nD) (t : Fin cfg0.N) (j : Fin 128) : iblk m c 6 t (ix2 (0 : Fin 1) j) = m ((c : Thread nD τ).loc main_arg5) (ix1 j) := by
  blk_point [iblk, idx t]

/-- The third learned vector, as a row. -/
theorem w7_at (c : Dev nD) (t : Fin cfg0.N) (j : Fin 128) : iblk m c 7 t (ix2 (0 : Fin 1) j) = m ((c : Thread nD τ).loc main_arg6) (ix1 j) := by
  blk_point [iblk, idx t]

/-- The fourth learned vector, as a row. -/
theorem w8_at (c : Dev nD) (t : Fin cfg0.N) (j : Fin 128) : iblk m c 8 t (ix2 (0 : Fin 1) j) = m ((c : Thread nD τ).loc main_arg7) (ix1 j) := by
  blk_point [iblk, idx t]

/-- The gain, as a row. -/
theorem w9_at (c : Dev nD) (t : Fin cfg0.N) (j : Fin 256) : iblk m c 9 t (ix2 (0 : Fin 1) j) = m ((c : Thread nD τ).loc main_arg8) (ix1 j) := by
  blk_point [iblk, idx t]

end Cert.Final

end
-- ==== Proof.Final.lean ====
/- The array the kernel leaves: at every element the layer's output of the argument arrays. -/
module

public import proofs.«01_k».proof.Proof.Blocks

@[expose] public section

set_option maxRecDepth 16384

noncomputable section

namespace Cert.Final

open Idealize.ShloMosaic Idealize.ShloMosaic.TcCoe Idealize.SL.Sem Cert.KernelIdeal Cert.KernelIdeal.Gen Cert.Soft Cert.Spec Cert.Tile Cert.Trip Cert.Block

variable (m : (ℓ : Loc nD τ sig) → Buf (Elt Ideal) ℓ) (c : Dev nD)

/-- What the precondition gives of the kernel's argument arrays. -/
abbrev Fin' : Prop :=
  Spec.Finite (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7))

/-- The output array, of the kernel's argument arrays. -/
abbrev res : (⟨3, ![4, 2048, 4096]⟩ : Shape).Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The values of a grid point's head, as real numbers. -/
def vals (b : Fin 4) (h : Fin 16) (d : Fin 256) (k : ℕ) : ℝ := (val (m ((c : Thread nD τ).loc main_arg2)) b h d k).toReal

/-- The values of a grid point's block are real numbers. -/
theorem vals_eq (hf : Fin' m c) (t : Fin cfg0.N) (d : Fin 256) (k : ℕ) :
    iblk m c 3 t (ix3 (0 : Fin 1) (Fin.ofNat 2048 k) d) = ((vals m c (bat t) (head t) d k : ℝ) : EReal) :=
  (v_at m c t _ d).trans (hf.vals (bat t) (head t) d k)

/-- Every grid point leaves the transposed values of its head in the scratch. -/
theorem held (hf : Fin' m c) : ∀ (n : ℕ) (hn : n < cfg0.N), Held (outsAt0 m c n hn).2 (vals m c (bat ⟨n, hn⟩) (head ⟨n, hn⟩))
  | n, hn => by
    by_cases h0 : n % 8 = 0
    · have h1 : ¬ 1 ≤ n % 8 := by omega
      rw [outsAt0_A m c ⟨n, hn⟩ h0 h1 h0]
      intro j d k
      dsimp only
      have P := heldA (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) scM0_0 (Memref.isWhole_whole _) scM0_1 (Memref.isWhole_whole _) scM0_2 (Memref.isWhole_whole _) scM0_3 (Memref.isWhole_whole _) ((hcond0_0 ⟨n, hn⟩).mpr h0) (fun h => h1 ((hcond0_1 ⟨n, hn⟩).mp h)) ((hcond0_2 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) c j d k
      refine P.trans ?_
      exact vals_eq m c hf ⟨n, hn⟩ d _
    · have h1 : 1 ≤ n % 8 := by omega
      rw [outsAt0_B m c ⟨n, hn⟩ h0 h1 h0]
      have ih := held hf (n - 1) (by omega)
      have e1 : bat ⟨n - 1, by omega⟩ = bat ⟨n, hn⟩ := Fin.ext (by show (n - 1) / 128 = n / 128; omega)
      have e2 : head ⟨n - 1, by omega⟩ = head ⟨n, hn⟩ := Fin.ext (by show (n - 1) / 8 % 16 = n / 8 % 16; omega)
      rw [e1, e2] at ih
      unfold sout0_B_0
      dsimp only
      exact ih

/-- An index of a vector is its one coordinate. -/
theorem one_eq {n : ℕ} (j : (⟨1, ![n]⟩ : Shape).Idx) : ix1 (j 0) = j := by
  funext a
  fin_cases a
  rfl

/-- A grid point's block of outputs, in the argument arrays. -/
theorem blk_eq (t : Fin cfg0.N) (r d : Fin 256) :
    blk (grid0.coords t) (iblk m c 0 t) (iblk m c 1 t) (iblk m c 2 t) (iblk m c 4 t) (iblk m c 5 t) (iblk m c 6 t) (iblk m c 7 t) (iblk m c 8 t) (iblk m c 9 t) (vals m c (bat t) (head t)) r d
      = res m c (ix3 (bat t) (time t r) (col (head t) d)) := by
  have hh : grid0.coords t 1 = head t := Fin.ext (coords t).1
  have ht : (256 * (grid0.coords t 2).val + r.val) = (time t r).val := by
    show _ = 256 * (t.val % 8) + r.val
    rw [(coords t).2.1]
  have hS (p : Fin 2) : bs (iblk m c 0 t (ix1 (grid0.coords t 1))) (iblk m c 1 t) (iblk m c 2 t) p (grid0.coords t 2) r
      = scores (m ((c : Thread nD τ).loc main_arg0)) (m ((c : Thread nD τ).loc main_arg1)) (m ((c : Thread nD τ).loc main_arg2)) p (bat t) (head t) (time t r) := by
    unfold bs scores
    rw [ht, hh]
    congr 1
    · funext d
      exact q_at m c t r _
    · funext k d
      exact k_at m c t _ _ _ rfl
    · exact slopes_at m c t _
  have e : ∀ X X' : Fin 16 × Fin 256, X = X' → out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bat t) (time t r) X.1 X.2
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bat t) (time t r) X'.1 X'.2 := fun X X' h => by rw [h]
  refine Eq.trans ?_ (e (head t, d) (⟨(col (head t) d).val / 256, _⟩, ⟨(col (head t) d).val % 256, _⟩) ?_)
  · unfold blk out mixed
    rw [hS 0, hS 1]
    have l5 : (fun j : (⟨1, ![128]⟩ : Shape).Idx => iblk m c 5 t (ix2 (0 : Fin 1) (j 0))) = m ((c : Thread nD τ).loc main_arg4) := by
      funext j
      exact (w5_at m c t (j 0)).trans (congrArg _ (one_eq j))
    have l6 : (fun j : (⟨1, ![128]⟩ : Shape).Idx => iblk m c 6 t (ix2 (0 : Fin 1) (j 0))) = m ((c : Thread nD τ).loc main_arg5) := by
      funext j
      exact (w6_at m c t (j 0)).trans (congrArg _ (one_eq j))
    have l7 : (fun j : (⟨1, ![128]⟩ : Shape).Idx => iblk m c 7 t (ix2 (0 : Fin 1) (j 0))) = m ((c : Thread nD τ).loc main_arg6) := by
      funext j
      exact (w7_at m c t (j 0)).trans (congrArg _ (one_eq j))
    have l8 : (fun j : (⟨1, ![128]⟩ : Shape).Idx => iblk m c 8 t (ix2 (0 : Fin 1) (j 0))) = m ((c : Thread nD τ).loc main_arg7) := by
      funext j
      exact (w8_at m c t (j 0)).trans (congrArg _ (one_eq j))
    rw [l5, l6, l7, l8, w9_at, z_at]
    rfl
  · have h1 : (col (head t) d).val = (head t).val * 256 + d.val := rfl
    ext
    · show (head t).val = _ / 256
      rw [h1]; omega
    · show d.val = _ % 256
      rw [h1]; omega

/-- What a grid point writes back. -/
theorem point (hf : Fin' m c) (t : Fin cfg0.N) (r d : Fin 256) :
    (outsAt0 m c t.val t.isLt).1 (ix3 (0 : Fin 1) r d) = res m c (ix3 (bat t) (time t r) (col (head t) d)) := by
  obtain ⟨s, hs⟩ := hf.slopes (grid0.coords t 1)
  have hs' : iblk m c 0 t (ix1 (grid0.coords t 1)) = (s : EReal) := (slopes_at m c t _).trans hs
  refine Eq.trans ?_ (blk_eq m c t r d)
  by_cases h0 : t.val % 8 = 0
  · have h1 : ¬ 1 ≤ t.val % 8 := by omega
    refine (congrArg (fun o => o.1 (ix3 (0 : Fin 1) r d)) (outsAt0_A m c t h0 h1 h0)).trans ?_
    have hX := fun d k => vals_eq m c hf t d k
    have P := pointA (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h0) (iblk m c 0 t) (iblk m c 1 t) (iblk m c 2 t) (iblk m c 3 t) (iblk m c 4 t) (iblk m c 5 t) (iblk m c 6 t) (iblk m c 7 t) (iblk m c 8 t) (iblk m c 9 t) c (vals m c (bat t) (head t)) hX s hs' r d
    refine Eq.trans ?_ P
    dsimp only
  · have h1 : 1 ≤ t.val % 8 := by omega
    refine (congrArg (fun o => o.1 (ix3 (0 : Fin 1) r d)) (outsAt0_B m c t h0 h1 h0)).trans ?_
    have ih := held m c hf (t.val - 1) (by omega)
    have e1 : bat ⟨t.val - 1, by omega⟩ = bat t := Fin.ext (by show (t.val - 1) / 128 = t.val / 128; omega)
    have e2 : head ⟨t.val - 1, by omega⟩ = head t := Fin.ext (by show (t.val - 1) / 8 % 16 = t.val / 8 % 16; omega)
    rw [e1, e2] at ih
    have P := pointB (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h0 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 c (vals m c (bat t) (head t)) ih s hs' r d
    refine Eq.trans ?_ P
    dsimp only

/-- The output array after the run. -/
theorem final (hf : Fin' m c) : (dats m 0 c).arrAt 10 cfg0.N = res m c := by
  refine (dats m 0 c).arrAt_eq_of_covers 10 _ (by decide +kernel) fun t _ y => ?_
  blk_simp
  rw [after0_10]
  have hy : y = ix3 (0 : Fin 1) (y 1) (y 2) := by
    blk_ext []
  rw [hy]
  refine (point m c hf t (y 1) (y 2)).trans ?_
  congr 1
  have e1 : (bat t).val = t.val / 128 := rfl
  have e2 : (time t (y 1)).val = 256 * (t.val % 8) + (y 1).val := rfl
  have e3 : (col (head t) (y 2)).val = (t.val / 8 % 16) * 256 + (y 2).val := rfl
  blk_ext [idx t]

end Cert.Final

end
-- ==== Proof.Ref.lean ====
/- The reference read at an index: its output is the plain function of Spec.lean. -/
module

public import proofs.«01_k».proof.Proof.Spec
public import proofs.«01_k».proof.Proof.Gen.ReferenceIdeal.Read
public import Idealize.ShloMosaic.Lib.Pointwise

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Soft Cert.Spec

variable (x0 : FVec Ideal S16 .f32) (x1 : FVec Ideal S4x2048x4096 .f32) (x2 : FVec Ideal S4x2048x8192 .f32)
  (x3 : FVec Ideal S4x2048x4096 .f32) (x4 x5 x6 x7 : FVec Ideal S128 .f32) (x8 : FVec Ideal S256 .f32)

/-- A masked score of the first half, as the reference computes it. -/
theorem v42_at (b : Fin 4) (h : Fin 16) (t k : Fin 2048) :
    val_main_v42 (F := Ideal) x0 x1 x2 (ix4 b h t k) = scores x0 x1 x2 0 b h t k := by
  pointwise [val_main_v42, val_main_call0_v0, val_main_call0_v1, val_main_call0_v2, val_main_v38, val_main_v41,
    val_main_cst_5, val_main_v30, val_main_v37, val_main_cst_4, val_main_v29, val_main_v28, val_main_v27, val_main_v26,
    val_main_v25, val_main_v6, val_main_v19, val_main_v40, val_main_v39, val_main_v36, val_main_v35, val_main_v34,
    val_main_v33, val_main_v32, val_main_v31, val_main_v18, val_main_cst_2, val_main_v17, val_main_v16, val_main_v15,
    val_main_v3, val_main_v2, val_main_v1, val_main_v0]
  rw [dist_eq _ _ (by omega) (by omega)]
  unfold scores score
  by_cases hk : (k : ℕ) ≤ t
  · have h0 : (0 : EReal) ≤ (((t : ℝ) - (k : ℝ) : ℝ) : EReal) := by
      have : (k : ℝ) ≤ t := by exact_mod_cast hk
      exact_mod_cast sub_nonneg.2 this
    rw [if_pos h0, if_pos hk]
    simp only [qry, key, col, half, Fin.val_zero, zero_mul, zero_add, Fin.ofNat_eq_cast, Fin.cast_val_eq_self]
  · have h0 : ¬ (0 : EReal) ≤ (((t : ℝ) - (k : ℝ) : ℝ) : EReal) := by
      have : (t : ℝ) < k := by exact_mod_cast not_le.1 hk
      rw [← EReal.coe_zero, EReal.coe_le_coe_iff]
      linarith
    rw [if_neg h0, if_neg hk]
    exact ninf_eq

/-- A masked score of the second half, as the reference computes it. -/
theorem v58_at (b : Fin 4) (h : Fin 16) (t k : Fin 2048) :
    val_main_v58 (F := Ideal) x0 x1 x2 (ix4 b h t k) = scores x0 x1 x2 1 b h t k := by
  pointwise [val_main_v58, val_main_call2_v0, val_main_call2_v1, val_main_call2_v2, val_main_v38, val_main_v57,
    val_main_cst_10, val_main_v30, val_main_v37, val_main_cst_4, val_main_v29, val_main_v28, val_main_v27, val_main_v26,
    val_main_v25, val_main_v6, val_main_v24, val_main_v56, val_main_v55, val_main_v36, val_main_v35, val_main_v34,
    val_main_v33, val_main_v32, val_main_v31, val_main_v23, val_main_cst_3, val_main_v22, val_main_v21, val_main_v20,
    val_main_v3, val_main_v2, val_main_v1, val_main_v0]
  rw [dist_eq _ _ (by omega) (by omega)]
  unfold scores score
  by_cases hk : (k : ℕ) ≤ t
  · have h0 : (0 : EReal) ≤ (((t : ℝ) - (k : ℝ) : ℝ) : EReal) := by
      have : (k : ℝ) ≤ t := by exact_mod_cast hk
      exact_mod_cast sub_nonneg.2 this
    rw [if_pos h0, if_pos hk]
    simp only [qry, key, col, half, Fin.val_one, one_mul, Fin.ofNat_eq_cast, Fin.cast_val_eq_self]
  · have h0 : ¬ (0 : EReal) ≤ (((t : ℝ) - (k : ℝ) : ℝ) : EReal) := by
      have : (t : ℝ) < k := by exact_mod_cast not_le.1 hk
      rw [← EReal.coe_zero, EReal.coe_le_coe_iff]
      linarith
    rw [if_neg h0, if_neg hk]
    exact ninf_eq

/-- The filler of a masked weight is zero. -/
theorem zero_at (i : S_.Idx) : val_main_call1_v0 (F := Ideal) i = (0 : EReal) := Ideal.ofBits_zero_f32

/-- The same for the second half. -/
theorem zero_at' (i : S_.Idx) : val_main_call3_v0 (F := Ideal) i = (0 : EReal) := Ideal.ofBits_zero_f32

/-- A masked weight is the weight of the masked score. -/
theorem wgt_at (p : Fin 2) (b : Fin 4) (h : Fin 16) (t k : Fin 2048) (z : EReal) (hz : z = 0) :
    (if (0 : EReal) ≤ FloatOps.sitofp (F := Ideal) .f32 (IntOp.subi (BitVec.ofNat 32 t) (BitVec.ofNat 32 k))
      then Ideal.exp (scores x0 x1 x2 p b h t k - top (scores x0 x1 x2 p b h t) 2048) else z)
      = ((wgt (scores x0 x1 x2 p b h t k) (top (scores x0 x1 x2 p b h t) 2048) : ℝ) : EReal) := by
  rw [dist_eq _ _ (by omega) (by omega)]
  by_cases h0 : (0 : EReal) ≤ (((t : ℝ) - (k : ℝ) : ℝ) : EReal)
  · rw [if_pos h0, exp_sub_eq (le_top _ k.isLt)]
  · have hk : ¬ (k : ℕ) ≤ t := by
      intro hk
      have : (k : ℝ) ≤ t := by exact_mod_cast hk
      exact h0 (by exact_mod_cast sub_nonneg.2 this)
    have hs : scores x0 x1 x2 p b h t k = ⊥ := by unfold scores score; rw [if_neg hk]
    rw [if_neg h0, hz, hs, wgt_bot, EReal.coe_zero]

/-- The mixed attention output, as the reference computes it. -/
theorem v74_at (hfin : Finite x0 x2 x4 x5 x6 x7) (b : Fin 4) (t : Fin 2048) (h : Fin 16) (d : Fin 256) :
    val_main_v74 (F := Ideal) x0 x1 x2 x4 x5 x6 x7 (ix4 b h d t) = mixed x0 x1 x2 x4 x5 x6 x7 b h t d := by
  pointwise [val_main_v74, val_main_v73, val_main_v72, val_main_v71, val_main_v70, val_main_v69, val_main_v68, val_main_v67,
    val_main_v66, val_main_v65, val_main_v64, val_main_v63, val_main_v62, val_main_v61, val_main_v60, val_main_v59,
    val_main_v54, val_main_v53, val_main_v52, val_main_v51, val_main_v50, val_main_v49, val_main_v48, val_main_v47,
    val_main_v46, val_main_v45, val_main_v44, val_main_v43,
    val_main_cst_6, val_main_cst_8, val_main_cst_9, val_main_cst_11, val_main_cst_13, val_main_cst_14,
    val_main_call1_v1, val_main_call1_v2, val_main_v38, val_main_v30, val_main_v37, val_main_cst_4, val_main_v29, val_main_v28, val_main_v27, val_main_v26,
    val_main_v25, val_main_v6,
    val_main_call3_v1, val_main_call3_v2, val_main_v14, val_main_v13, val_main_v12, val_main_v11,
    val_main_v10, val_main_v9, val_main_v8, val_main_v7, val_main_cst, val_main_cst_0, val_main_cst_1,
    val_main_v5, val_main_v4, val_main_v1]
  simp only [v42_at, v58_at, fold_top]
  simp only [zero_at, zero_at']
  simp only [fun p k => wgt_at x0 x1 x2 p b h t k 0 rfl]
  have hv (x : Fin 2048) : x2 (ix3 b x ⟨4096 + (h : ℕ) * 256 + d, by omega⟩) = (((val x2 b h d x).toReal : ℝ) : EReal) := by
    rw [← hfin.vals b h d x]
    simp only [val, Fin.ofNat_eq_cast, Fin.cast_val_eq_self, add_assoc]
  obtain ⟨l, hl⟩ := hfin.lam
  obtain ⟨c, hc, hce⟩ := floor_pos
  have hm := mix (scores x0 x1 x2 0 b h t) (scores x0 x1 x2 1 b h t) (fun k => (val x2 b h d k).toReal) l c hc 2048
  have hd (p : Fin 2) : ∑ x : Fin 2048, ((wgt (scores x0 x1 x2 p b h t x) (top (scores x0 x1 x2 p b h t) 2048) : ℝ) : EReal)
      = (den (scores x0 x1 x2 p b h t) 2048 : EReal) := by
    unfold den
    rw [coe_sum, Finset.sum_range]
  unfold mixed att
  rw [hl, hce, ← hm]
  refine Finset.sum_congr rfl fun x _ => ?_
  refine (mul_comm _ _).trans (Ideal.mul_congr ?_ (hv x))
  rw [hd, hd, ← hl]
  rfl

/-- The reference's output at an index. -/
theorem v94_at (hfin : Finite x0 x2 x4 x5 x6 x7) (b : Fin 4) (t : Fin 2048) (c : Fin 4096) :
    val_main_v94 (F := Ideal) x0 x1 x2 x3 x4 x5 x6 x7 x8 (ix3 b t c) = G x0 x1 x2 x3 x4 x5 x6 x7 x8 (ix3 b t c) := by
  pointwise [val_main_v94, val_main_v93, val_main_v92, val_main_v91, val_main_v90, val_main_v89, val_main_v88, val_main_v87,
    val_main_v86, val_main_v85, val_main_v84, val_main_v83, val_main_v82, val_main_v81, val_main_v80, val_main_v79,
    val_main_v78, val_main_v77, val_main_v76, val_main_v75, val_main_cst_15, val_main_cst_16, val_main_cst_17, val_main_cst_18,
    val_main_call4_v0, val_main_call4_v1, val_main_call4_v2, val_main_call4_v3, val_main_call4_v4, val_main_call4_v5,
    val_main_call4_cst, val_main_call4_cst_0]
  simp only [v74_at x0 x1 x2 x4 x5 x6 x7 hfin]
  have hc : col ⟨(c : ℕ) / 256, by omega⟩ ⟨(c : ℕ) % 256, by omega⟩ = c := Fin.ext (by show (c : ℕ) / 256 * 256 + (c : ℕ) % 256 = c; omega)
  show _ = out x0 x1 x2 x3 x4 x5 x6 x7 x8 b t ⟨(c : ℕ) / 256, by omega⟩ ⟨(c : ℕ) % 256, by omega⟩
  unfold out fin
  rw [hc]

end Cert.Ref

end
-- ==== Proof.Pre.lean ====
/- What the precondition gives: slopes, values and the four learned vectors are real numbers. -/
module

public import proofs.«01_k».proof.Proof.Spec
public import proofs.«01_k».proof.Pre_finite_values
public import Idealize.ShloMosaic.Lib.ReduceAll
public import Idealize.ShloMosaic.Lib.Affine
public import Idealize.ShloMosaic.PureOps.Ideal

@[expose] public section

set_option maxRecDepth 16384

noncomputable section

namespace Cert.Pre

open Idealize.ShloMosaic Cert.Pre_finite_values Cert.Spec

/-- The shape relations of the predicate's operations. -/
theorem facts : Cert.Pre_finite_values.Facts where
  bcast_S_S16 := by decide
  reducesTo_S16_S_d0 := by decide
  h_S_ := by decide
  slices_S4x2048x8192_S4x2048x4096_0_0_4096 := by decide
  bcast_S_S4x2048x4096 := by decide
  reducesTo_S4x2048x4096_S_d0_1_2 := by decide
  bcast_S_S128 := by decide
  reducesTo_S128_S_d0 := by decide

/-- An extended real that both comparisons say lies strictly between −∞ and ∞ is a real number. -/
theorem real_of_cmp {x : EReal} (h : IntOp.andi (Ideal.cmp .olt x (Ideal.ofBits .f32 0x7F800000#32)) (Ideal.cmp .ogt x (Ideal.ofBits .f32 0xFF800000#32)) = 1#1) :
    x = ((x.toReal : ℝ) : EReal) := by
  have ht : Ideal.ofBits .f32 0x7F800000#32 = ⊤ := by simp [Ideal.ofBits, Ideal.ieee]
  obtain ⟨h1, h2⟩ := IntOp.andi_eq_one.1 h
  rw [ht] at h1
  rw [ninf_eq] at h2
  refine (EReal.coe_toReal ?_ ?_).symm
  · rintro rfl
    simp [Ideal.cmp] at h1
  · rintro rfl
    simp [Ideal.cmp] at h2

/-- A sum of products of reals is a real. -/
theorem dot_real {a b : (⟨1, ![128]⟩ : Shape).Idx → EReal} (ha : ∀ i, a i = (((a i).toReal : ℝ) : EReal)) (hb : ∀ i, b i = (((b i).toReal : ℝ) : EReal)) :
    ∃ r : ℝ, (∑ i : Fin 128, a (ix1 i) * b (ix1 i)) = (r : EReal) := by
  refine ⟨∑ i : Fin 128, (a (ix1 i)).toReal * (b (ix1 i)).toReal, ?_⟩
  refine Eq.trans ?_ (map_sum (⟨⟨Real.toEReal, rfl⟩, EReal.coe_add⟩ : ℝ →+ EReal) _ _).symm
  refine Finset.sum_congr rfl fun i _ => ?_
  rw [ha (ix1 i), hb (ix1 i)]
  exact (EReal.coe_mul _ _).symm

/-- The mixing factor of real vectors is a real number. -/
theorem lam_real {a b c d : (⟨1, ![128]⟩ : Shape).Idx → EReal} (ha : ∀ i, a i = (((a i).toReal : ℝ) : EReal)) (hb : ∀ i, b i = (((b i).toReal : ℝ) : EReal))
    (hc : ∀ i, c i = (((c i).toReal : ℝ) : EReal)) (hd : ∀ i, d i = (((d i).toReal : ℝ) : EReal)) : ∃ r : ℝ, lam a b c d = r := by
  obtain ⟨x, hx⟩ := dot_real ha hb
  obtain ⟨y, hy⟩ := dot_real hc hd
  obtain ⟨z, hz⟩ : ∃ r : ℝ, Ideal.ofBits .f32 0x3EB60549#32 = (r : EReal) :=
    ⟨_, by simp [Ideal.ofBits, Ideal.ieee, -EReal.coe_mul]; rfl⟩
  refine ⟨Real.exp x - Real.exp y + z, ?_⟩
  unfold lam
  rw [hx, hy, hz]
  rfl

/-- The precondition, unpacked. -/
theorem finite [Cert.Pre_finite_values.Facts] (x0 : FVec Ideal S16 .f32) (x1 : FVec Ideal S4x2048x4096 .f32) (x2 : FVec Ideal S4x2048x8192 .f32) (x3 : FVec Ideal S4x2048x4096 .f32)
    (x4 x5 x6 x7 : FVec Ideal S128 .f32) (x8 : FVec Ideal S256 .f32)
    (h : fn (F := Ideal) x0 x1 x2 x3 x4 x5 x6 x7 x8 = fun _ => 1#1) : Spec.Finite x0 x2 x4 x5 x6 x7 := by
  have j : S_.Idx := Shape.Idx.first Facts.h_S_
  have e := congrFun h j
  unfold fn fn_part1 fn_part2 at e
  dsimp only at e
  haveI : Subsingleton S_.Idx := ⟨fun a b => funext fun i => i.elim0⟩
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e2⟩ := IntOp.andi_eq_one.1 e
  have r0 := fun i => real_of_cmp (Host.reduce_andi_all _ _ _ _ j e0 i)
  have r2 := fun i => real_of_cmp (Host.reduce_andi_all _ _ _ _ j e2 i)
  have r4 := fun i => real_of_cmp (Host.reduce_andi_all _ _ _ _ j e4 i)
  have r5 := fun i => real_of_cmp (Host.reduce_andi_all _ _ _ _ j e5 i)
  have r6 := fun i => real_of_cmp (Host.reduce_andi_all _ _ _ _ j e6 i)
  have r7 := fun i => real_of_cmp (Host.reduce_andi_all _ _ _ _ j e7 i)
  refine ⟨fun h => ⟨_, r0 (ix1 h)⟩, fun b h d k => ?_, lam_real r4 r5 r6 r7⟩
  have p := r2 (ix3 b (Fin.ofNat 2048 k) ⟨h.val * 256 + d.val, by omega⟩)
  have q : extractStridedSlice S4x2048x4096 ![0, 0, 4096] x2 Facts.slices_S4x2048x8192_S4x2048x4096_0_0_4096 (ix3 b (Fin.ofNat 2048 k) ⟨h.val * 256 + d.val, by omega⟩)
      = val x2 b h d k := by
    unfold val
    pointwise []
  rw [q] at p
  exact p

end Cert.Pre

end
-- ==== Proof.Whole.lean ====
/- Reading a whole staging buffer through the rectangle that covers it. -/
module

public import Idealize.ShloMosaic.Lib.Pointwise
public import Idealize.ShloMosaic.Lib.Pipeline.ValueKit

@[expose] public section

noncomputable section

namespace Cert.Whole

open Idealize.ShloMosaic

variable {sig : RefSig}

/-- A read of the whole of a buffer gives what it holds. -/
theorem whole_at {sp : Space} {S : Shape} {e : EltTy} (arg : Memref sig .tc sp S e) (h : arg.IsWhole) (x : S.Idx → Elt Ideal e) {off : Fin S.rank → ℕ}
    (hoff : ∀ a, off a = 0) (inb : ∀ a, off a + S.size a ≤ S.size a) :
    arg.view.readAt (Elt Ideal) (Rect.unit (s := S) off S.size inb).toLoadRect (h.unread x) = x := by
  funext y
  rw [View.readAt_apply, h.read_unread]
  congr 1
  funext a
  apply Fin.ext
  simp [Rect.unit, hoff]

end Cert.Whole

end
-- ==== Proof.DiffQ.lean ====
/- The queries of the differential attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelDiffQ.Frame
public import proofs.«01_k».proof.Proof.Gen.KernelDiffQIdeal.Value
public import proofs.«01_k».proof.Proof.Gen.ReferenceDiffQIdeal.Read

@[expose] public section

set_option maxRecDepth 16384

noncomputable section

namespace Cert.DiffQ

open Idealize.ShloMosaic Idealize.ShloMosaic.TcCoe Idealize.SL.Sem Cert.KernelDiffQIdeal Cert.KernelDiffQIdeal.Gen

/-- Column `n` of the result is this column of the weights. -/
def wcol (n : Fin 4096) : Fin 16384 := ⟨n.val, by omega⟩

/-- The product: row `r` of `a` against the weights' column for column `n` of the result. -/
def prod (a : FVec Ideal S8192x4096 .bf16) (w : FVec Ideal S4096x16384 .f32) (r : Fin 8192) (n : Fin 4096) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, t.val / 8]
    ∧ win0_2.index t = ![t.val % 8, t.val / 8] ∧ t.val / 8 < 8 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 4096 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    iblk m c 1 t (ix2 k n) = m ((c : Thread nD τ).loc main_arg1) (ix2 k (wcol (col t n))) := by
  have e1 : (wcol (col t n)).val = 512 * (t.val / 8) + n.val := rfl
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (iblk m c 1 ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (iblk m c 1 t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x4096 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x16384 .f32) (r : Fin 8192) (n : Fin 4096) :
    Cert.ReferenceDiffQIdeal.Read.val_main_v2 (F := Ideal) a w (ix2 r n) = prod a w r n := by
  rw [Cert.ReferenceDiffQIdeal.Read.val_main_v2_apply, Cert.ReferenceDiffQIdeal.Read.val_main_v1_apply]
  refine Finset.sum_congr rfl fun k _ => ?_
  rw [Cert.ReferenceDiffQIdeal.Read.val_main_v0_apply]
  refine congrArg₂ (· * ·) (congrArg a ?_) (congrArg w ?_) <;> funext x <;> fin_cases x <;> first | rfl | exact Fin.ext (by simp [wcol, ix2])

attribute [local instance] Cert.KernelDiffQ.Gen.facts Cert.KernelDiffQIdeal.Gen.facts Cert.ReferenceDiffQIdeal.Gen.facts

/-- The idealized kernel and the idealized reference end at the same array. -/
theorem algebraic : Cert.algebraic_KernelDiffQIdeal_ReferenceDiffQIdeal := by
  intro m ρ m' ρ' _ hag
  refine ⟨fun c => res m c, ?_, ?_⟩
  · exact (θ_run _ _ _).mono (fun _ h c => ⟨(h c).1.trans (final m c), (h c).2⟩) (Cert.KernelDiffQIdeal.Value.run_blocks m ρ)
  · refine (θ_run _ _ _).mono (fun _ h c => ⟨(h c).1.trans ?_, (h c).2⟩) (Cert.ReferenceDiffQIdeal.Value.run m' ρ')
    rw [Cert.ReferenceDiffQIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceDiffQIdeal := fun m ρ _ =>
  (θ_run _ _ _).mono (fun r h => ⟨fun c => (h c).2, sem_eq_zero_of_no_sems (by decide) r.2⟩) (Cert.ReferenceDiffQIdeal.Value.run m ρ)

end Cert.DiffQ

end
-- ==== Proof.DiffKv.lean ====
/- The keys and values of the differential attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelDiffKv.Frame
public import proofs.«01_k».proof.Proof.Gen.KernelDiffKvIdeal.Value
public import proofs.«01_k».proof.Proof.Gen.ReferenceDiffKvIdeal.Read

@[expose] public section

set_option maxRecDepth 16384

noncomputable section

namespace Cert.DiffKv

open Idealize.ShloMosaic Idealize.ShloMosaic.TcCoe Idealize.SL.Sem Cert.KernelDiffKvIdeal Cert.KernelDiffKvIdeal.Gen

/-- Column `n` of the result is this column of the weights. -/
def wcol (n : Fin 8192) : Fin 16384 := ⟨4096 + n.val, by omega⟩

/-- The product: row `r` of `a` against the weights' column for column `n` of the result. -/
def prod (a : FVec Ideal S8192x4096 .bf16) (w : FVec Ideal S4096x16384 .f32) (r : Fin 8192) (n : Fin 8192) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 8 + t.val / 8]
    ∧ win0_2.index t = ![t.val % 8, t.val / 8] ∧ t.val / 8 < 16 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 8192 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    iblk m c 1 t (ix2 k n) = m ((c : Thread nD τ).loc main_arg1) (ix2 k (wcol (col t n))) := by
  have e1 : (wcol (col t n)).val = 4096 + (512 * (t.val / 8) + n.val) := rfl
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (iblk m c 1 ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (iblk m c 1 t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x8192 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x16384 .f32) (r : Fin 8192) (n : Fin 8192) :
    Cert.ReferenceDiffKvIdeal.Read.val_main_v2 (F := Ideal) a w (ix2 r n) = prod a w r n := by
  rw [Cert.ReferenceDiffKvIdeal.Read.val_main_v2_apply, Cert.ReferenceDiffKvIdeal.Read.val_main_v1_apply]
  refine Finset.sum_congr rfl fun k _ => ?_
  rw [Cert.ReferenceDiffKvIdeal.Read.val_main_v0_apply]
  refine congrArg₂ (· * ·) (congrArg a ?_) (congrArg w ?_) <;> funext x <;> fin_cases x <;> first | rfl | exact Fin.ext (by simp [wcol, ix2])

attribute [local instance] Cert.KernelDiffKv.Gen.facts Cert.KernelDiffKvIdeal.Gen.facts Cert.ReferenceDiffKvIdeal.Gen.facts

/-- The idealized kernel and the idealized reference end at the same array. -/
theorem algebraic : Cert.algebraic_KernelDiffKvIdeal_ReferenceDiffKvIdeal := by
  intro m ρ m' ρ' _ hag
  refine ⟨fun c => res m c, ?_, ?_⟩
  · exact (θ_run _ _ _).mono (fun _ h c => ⟨(h c).1.trans (final m c), (h c).2⟩) (Cert.KernelDiffKvIdeal.Value.run_blocks m ρ)
  · refine (θ_run _ _ _).mono (fun _ h c => ⟨(h c).1.trans ?_, (h c).2⟩) (Cert.ReferenceDiffKvIdeal.Value.run m' ρ')
    rw [Cert.ReferenceDiffKvIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceDiffKvIdeal := fun m ρ _ =>
  (θ_run _ _ _).mono (fun r h => ⟨fun c => (h c).2, sem_eq_zero_of_no_sems (by decide) r.2⟩) (Cert.ReferenceDiffKvIdeal.Value.run m ρ)

end Cert.DiffKv

end
-- ==== Proof.DiffZ.lean ====
/- The gate of the differential attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelDiffZ.Frame
public import proofs.«01_k».proof.Proof.Gen.KernelDiffZIdeal.Value
public import proofs.«01_k».proof.Proof.Gen.ReferenceDiffZIdeal.Read

@[expose] public section

set_option maxRecDepth 16384

noncomputable section

namespace Cert.DiffZ

open Idealize.ShloMosaic Idealize.ShloMosaic.TcCoe Idealize.SL.Sem Cert.KernelDiffZIdeal Cert.KernelDiffZIdeal.Gen

/-- Column `n` of the result is this column of the weights. -/
def wcol (n : Fin 4096) : Fin 16384 := ⟨12288 + n.val, by omega⟩

/-- The product: row `r` of `a` against the weights' column for column `n` of the result. -/
def prod (a : FVec Ideal S8192x4096 .bf16) (w : FVec Ideal S4096x16384 .f32) (r : Fin 8192) (n : Fin 4096) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 24 + t.val / 8]
    ∧ win0_2.index t = ![t.val % 8, t.val / 8] ∧ t.val / 8 < 8 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 4096 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    iblk m c 1 t (ix2 k n) = m ((c : Thread nD τ).loc main_arg1) (ix2 k (wcol (col t n))) := by
  have e1 : (wcol (col t n)).val = 12288 + (512 * (t.val / 8) + n.val) := rfl
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (iblk m c 1 ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (iblk m c 1 t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x4096 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x16384 .f32) (r : Fin 8192) (n : Fin 4096) :
    Cert.ReferenceDiffZIdeal.Read.val_main_v2 (F := Ideal) a w (ix2 r n) = prod a w r n := by
  rw [Cert.ReferenceDiffZIdeal.Read.val_main_v2_apply, Cert.ReferenceDiffZIdeal.Read.val_main_v1_apply]
  refine Finset.sum_congr rfl fun k _ => ?_
  rw [Cert.ReferenceDiffZIdeal.Read.val_main_v0_apply]
  refine congrArg₂ (· * ·) (congrArg a ?_) (congrArg w ?_) <;> funext x <;> fin_cases x <;> first | rfl | exact Fin.ext (by simp [wcol, ix2])

attribute [local instance] Cert.KernelDiffZ.Gen.facts Cert.KernelDiffZIdeal.Gen.facts Cert.ReferenceDiffZIdeal.Gen.facts

/-- The idealized kernel and the idealized reference end at the same array. -/
theorem algebraic : Cert.algebraic_KernelDiffZIdeal_ReferenceDiffZIdeal := by
  intro m ρ m' ρ' _ hag
  refine ⟨fun c => res m c, ?_, ?_⟩
  · exact (θ_run _ _ _).mono (fun _ h c => ⟨(h c).1.trans (final m c), (h c).2⟩) (Cert.KernelDiffZIdeal.Value.run_blocks m ρ)
  · refine (θ_run _ _ _).mono (fun _ h c => ⟨(h c).1.trans ?_, (h c).2⟩) (Cert.ReferenceDiffZIdeal.Value.run m' ρ')
    rw [Cert.ReferenceDiffZIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceDiffZIdeal := fun m ρ _ =>
  (θ_run _ _ _).mono (fun r h => ⟨fun c => (h c).2, sem_eq_zero_of_no_sems (by decide) r.2⟩) (Cert.ReferenceDiffZIdeal.Value.run m ρ)

end Cert.DiffZ

end
-- ==== Proof.SbQ.lean ====
/- The queries of the stick-breaking attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelSbQ.Frame
public import proofs.«01_k».proof.Proof.Gen.KernelSbQIdeal.Value
public import proofs.«01_k».proof.Proof.Gen.ReferenceSbQIdeal.Read

@[expose] public section

set_option maxRecDepth 16384

noncomputable section

namespace Cert.SbQ

open Idealize.ShloMosaic Idealize.ShloMosaic.TcCoe Idealize.SL.Sem Cert.KernelSbQIdeal Cert.KernelSbQIdeal.Gen

/-- Column `n` of the result is this column of the weights. -/
def wcol (n : Fin 2048) : Fin 15408 := ⟨n.val, by omega⟩

/-- The product: row `r` of `a` against the weights' column for column `n` of the result. -/
def prod (a : FVec Ideal S8192x4096 .bf16) (w : FVec Ideal S4096x15408 .f32) (r : Fin 8192) (n : Fin 2048) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, t.val / 8]
    ∧ win0_2.index t = ![t.val % 8, t.val / 8] ∧ t.val / 8 < 4 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 2048 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 512 * (t.val / 8) + n.val := rfl
  unfold X0_1 Pipeline.Window.fill
  rw [dif_pos (moved0_1 t _)]
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (X0_1 m c ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (X0_1 m c t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (X0_1 m c t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x2048 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 2048) :
    Cert.ReferenceSbQIdeal.Read.val_main_v2 (F := Ideal) a w (ix2 r n) = prod a w r n := by
  rw [Cert.ReferenceSbQIdeal.Read.val_main_v2_apply, Cert.ReferenceSbQIdeal.Read.val_main_v1_apply]
  refine Finset.sum_congr rfl fun k _ => ?_
  rw [Cert.ReferenceSbQIdeal.Read.val_main_v0_apply]
  refine congrArg₂ (· * ·) (congrArg a ?_) (congrArg w ?_) <;> funext x <;> fin_cases x <;> first | rfl | exact Fin.ext (by simp [wcol, ix2])

attribute [local instance] Cert.KernelSbQ.Gen.facts Cert.KernelSbQIdeal.Gen.facts Cert.ReferenceSbQIdeal.Gen.facts

/-- The idealized kernel and the idealized reference end at the same array. -/
theorem algebraic : Cert.algebraic_KernelSbQIdeal_ReferenceSbQIdeal := by
  intro m ρ m' ρ' _ hag
  refine ⟨fun c => res m c, ?_, ?_⟩
  · exact (θ_run _ _ _).mono (fun _ h c => ⟨(h c).1.trans (final m c), (h c).2⟩) (Cert.KernelSbQIdeal.Value.run_blocks m ρ)
  · refine (θ_run _ _ _).mono (fun _ h c => ⟨(h c).1.trans ?_, (h c).2⟩) (Cert.ReferenceSbQIdeal.Value.run m' ρ')
    rw [Cert.ReferenceSbQIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceSbQIdeal := fun m ρ _ =>
  (θ_run _ _ _).mono (fun r h => ⟨fun c => (h c).2, sem_eq_zero_of_no_sems (by decide) r.2⟩) (Cert.ReferenceSbQIdeal.Value.run m ρ)

end Cert.SbQ

end
-- ==== Proof.SbKv.lean ====
/- The keys and values of the stick-breaking attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelSbKv.Frame
public import proofs.«01_k».proof.Proof.Gen.KernelSbKvIdeal.Value
public import proofs.«01_k».proof.Proof.Gen.ReferenceSbKvIdeal.Read

@[expose] public section

set_option maxRecDepth 16384

noncomputable section

namespace Cert.SbKv

open Idealize.ShloMosaic Idealize.ShloMosaic.TcCoe Idealize.SL.Sem Cert.KernelSbKvIdeal Cert.KernelSbKvIdeal.Gen

/-- Column `n` of the result is this column of the weights. -/
def wcol (n : Fin 4096) : Fin 15408 := ⟨2048 + n.val, by omega⟩

/-- The product: row `r` of `a` against the weights' column for column `n` of the result. -/
def prod (a : FVec Ideal S8192x4096 .bf16) (w : FVec Ideal S4096x15408 .f32) (r : Fin 8192) (n : Fin 4096) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 4 + t.val / 8]
    ∧ win0_2.index t = ![t.val % 8, t.val / 8] ∧ t.val / 8 < 8 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 4096 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 2048 + (512 * (t.val / 8) + n.val) := rfl
  unfold X0_1 Pipeline.Window.fill
  rw [dif_pos (moved0_1 t _)]
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (X0_1 m c ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (X0_1 m c t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (X0_1 m c t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x4096 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 4096) :
    Cert.ReferenceSbKvIdeal.Read.val_main_v2 (F := Ideal) a w (ix2 r n) = prod a w r n := by
  rw [Cert.ReferenceSbKvIdeal.Read.val_main_v2_apply, Cert.ReferenceSbKvIdeal.Read.val_main_v1_apply]
  refine Finset.sum_congr rfl fun k _ => ?_
  rw [Cert.ReferenceSbKvIdeal.Read.val_main_v0_apply]
  refine congrArg₂ (· * ·) (congrArg a ?_) (congrArg w ?_) <;> funext x <;> fin_cases x <;> first | rfl | exact Fin.ext (by simp [wcol, ix2])

attribute [local instance] Cert.KernelSbKv.Gen.facts Cert.KernelSbKvIdeal.Gen.facts Cert.ReferenceSbKvIdeal.Gen.facts

/-- The idealized kernel and the idealized reference end at the same array. -/
theorem algebraic : Cert.algebraic_KernelSbKvIdeal_ReferenceSbKvIdeal := by
  intro m ρ m' ρ' _ hag
  refine ⟨fun c => res m c, ?_, ?_⟩
  · exact (θ_run _ _ _).mono (fun _ h c => ⟨(h c).1.trans (final m c), (h c).2⟩) (Cert.KernelSbKvIdeal.Value.run_blocks m ρ)
  · refine (θ_run _ _ _).mono (fun _ h c => ⟨(h c).1.trans ?_, (h c).2⟩) (Cert.ReferenceSbKvIdeal.Value.run m' ρ')
    rw [Cert.ReferenceSbKvIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceSbKvIdeal := fun m ρ _ =>
  (θ_run _ _ _).mono (fun r h => ⟨fun c => (h c).2, sem_eq_zero_of_no_sems (by decide) r.2⟩) (Cert.ReferenceSbKvIdeal.Value.run m ρ)

end Cert.SbKv

end
-- ==== Proof.SbZ.lean ====
/- The gate of the stick-breaking attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelSbZ.Frame
public import proofs.«01_k».proof.Proof.Gen.KernelSbZIdeal.Value
public import proofs.«01_k».proof.Proof.Gen.ReferenceSbZIdeal.Read

@[expose] public section

set_option maxRecDepth 16384

noncomputable section

namespace Cert.SbZ

open Idealize.ShloMosaic Idealize.ShloMosaic.TcCoe Idealize.SL.Sem Cert.KernelSbZIdeal Cert.KernelSbZIdeal.Gen

/-- Column `n` of the result is this column of the weights. -/
def wcol (n : Fin 2048) : Fin 15408 := ⟨6144 + n.val, by omega⟩

/-- The product: row `r` of `a` against the weights' column for column `n` of the result. -/
def prod (a : FVec Ideal S8192x4096 .bf16) (w : FVec Ideal S4096x15408 .f32) (r : Fin 8192) (n : Fin 2048) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 12 + t.val / 8]
    ∧ win0_2.index t = ![t.val % 8, t.val / 8] ∧ t.val / 8 < 4 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 2048 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 6144 + (512 * (t.val / 8) + n.val) := rfl
  unfold X0_1 Pipeline.Window.fill
  rw [dif_pos (moved0_1 t _)]
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (X0_1 m c ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (X0_1 m c t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (X0_1 m c t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x2048 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 2048) :
    Cert.ReferenceSbZIdeal.Read.val_main_v2 (F := Ideal) a w (ix2 r n) = prod a w r n := by
  rw [Cert.ReferenceSbZIdeal.Read.val_main_v2_apply, Cert.ReferenceSbZIdeal.Read.val_main_v1_apply]
  refine Finset.sum_congr rfl fun k _ => ?_
  rw [Cert.ReferenceSbZIdeal.Read.val_main_v0_apply]
  refine congrArg₂ (· * ·) (congrArg a ?_) (congrArg w ?_) <;> funext x <;> fin_cases x <;> first | rfl | exact Fin.ext (by simp [wcol, ix2])

attribute [local instance] Cert.KernelSbZ.Gen.facts Cert.KernelSbZIdeal.Gen.facts Cert.ReferenceSbZIdeal.Gen.facts

/-- The idealized kernel and the idealized reference end at the same array. -/
theorem algebraic : Cert.algebraic_KernelSbZIdeal_ReferenceSbZIdeal := by
  intro m ρ m' ρ' _ hag
  refine ⟨fun c => res m c, ?_, ?_⟩
  · exact (θ_run _ _ _).mono (fun _ h c => ⟨(h c).1.trans (final m c), (h c).2⟩) (Cert.KernelSbZIdeal.Value.run_blocks m ρ)
  · refine (θ_run _ _ _).mono (fun _ h c => ⟨(h c).1.trans ?_, (h c).2⟩) (Cert.ReferenceSbZIdeal.Value.run m' ρ')
    rw [Cert.ReferenceSbZIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceSbZIdeal := fun m ρ _ =>
  (θ_run _ _ _).mono (fun r h => ⟨fun c => (h c).2, sem_eq_zero_of_no_sems (by decide) r.2⟩) (Cert.ReferenceSbZIdeal.Value.run m ρ)

end Cert.SbZ

end
-- ==== Proof.NsaQ.lean ====
/- The queries of the sparse attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelNsaQ.Frame
public import proofs.«01_k».proof.Proof.Gen.KernelNsaQIdeal.Value
public import proofs.«01_k».proof.Proof.Gen.ReferenceNsaQIdeal.Read

@[expose] public section

set_option maxRecDepth 16384

noncomputable section

namespace Cert.NsaQ

open Idealize.ShloMosaic Idealize.ShloMosaic.TcCoe Idealize.SL.Sem Cert.KernelNsaQIdeal Cert.KernelNsaQIdeal.Gen

/-- Column `n` of the result is this column of the weights. -/
def wcol (n : Fin 2048) : Fin 15408 := ⟨8192 + n.val, by omega⟩

/-- The product: row `r` of `a` against the weights' column for column `n` of the result. -/
def prod (a : FVec Ideal S8192x4096 .bf16) (w : FVec Ideal S4096x15408 .f32) (r : Fin 8192) (n : Fin 2048) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 16 + t.val / 8]
    ∧ win0_2.index t = ![t.val % 8, t.val / 8] ∧ t.val / 8 < 4 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 2048 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 8192 + (512 * (t.val / 8) + n.val) := rfl
  unfold X0_1 Pipeline.Window.fill
  rw [dif_pos (moved0_1 t _)]
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (X0_1 m c ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (X0_1 m c t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (X0_1 m c t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x2048 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 2048) :
    Cert.ReferenceNsaQIdeal.Read.val_main_v2 (F := Ideal) a w (ix2 r n) = prod a w r n := by
  rw [Cert.ReferenceNsaQIdeal.Read.val_main_v2_apply, Cert.ReferenceNsaQIdeal.Read.val_main_v1_apply]
  refine Finset.sum_congr rfl fun k _ => ?_
  rw [Cert.ReferenceNsaQIdeal.Read.val_main_v0_apply]
  refine congrArg₂ (· * ·) (congrArg a ?_) (congrArg w ?_) <;> funext x <;> fin_cases x <;> first | rfl | exact Fin.ext (by simp [wcol, ix2])

attribute [local instance] Cert.KernelNsaQ.Gen.facts Cert.KernelNsaQIdeal.Gen.facts Cert.ReferenceNsaQIdeal.Gen.facts

/-- The idealized kernel and the idealized reference end at the same array. -/
theorem algebraic : Cert.algebraic_KernelNsaQIdeal_ReferenceNsaQIdeal := by
  intro m ρ m' ρ' _ hag
  refine ⟨fun c => res m c, ?_, ?_⟩
  · exact (θ_run _ _ _).mono (fun _ h c => ⟨(h c).1.trans (final m c), (h c).2⟩) (Cert.KernelNsaQIdeal.Value.run_blocks m ρ)
  · refine (θ_run _ _ _).mono (fun _ h c => ⟨(h c).1.trans ?_, (h c).2⟩) (Cert.ReferenceNsaQIdeal.Value.run m' ρ')
    rw [Cert.ReferenceNsaQIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNsaQIdeal := fun m ρ _ =>
  (θ_run _ _ _).mono (fun r h => ⟨fun c => (h c).2, sem_eq_zero_of_no_sems (by decide) r.2⟩) (Cert.ReferenceNsaQIdeal.Value.run m ρ)

end Cert.NsaQ

end
-- ==== Proof.NsaKv.lean ====
/- The compressed and selected keys and values of the sparse attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelNsaKv.Frame
public import proofs.«01_k».proof.Proof.Gen.KernelNsaKvIdeal.Value
public import proofs.«01_k».proof.Proof.Gen.ReferenceNsaKvIdeal.Read

@[expose] public section

set_option maxRecDepth 16384

noncomputable section

namespace Cert.NsaKv

open Idealize.ShloMosaic Idealize.ShloMosaic.TcCoe Idealize.SL.Sem Cert.KernelNsaKvIdeal Cert.KernelNsaKvIdeal.Gen

/-- Column `n` of the result is this column of the weights. -/
def wcol (n : Fin 2048) : Fin 15408 := ⟨10240 + n.val, by omega⟩

/-- The product: row `r` of `a` against the weights' column for column `n` of the result. -/
def prod (a : FVec Ideal S8192x4096 .bf16) (w : FVec Ideal S4096x15408 .f32) (r : Fin 8192) (n : Fin 2048) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 20 + t.val / 8]
    ∧ win0_2.index t = ![t.val % 8, t.val / 8] ∧ t.val / 8 < 4 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 2048 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 10240 + (512 * (t.val / 8) + n.val) := rfl
  unfold X0_1 Pipeline.Window.fill
  rw [dif_pos (moved0_1 t _)]
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (X0_1 m c ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (X0_1 m c t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (X0_1 m c t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x2048 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 2048) :
    Cert.ReferenceNsaKvIdeal.Read.val_main_v2 (F := Ideal) a w (ix2 r n) = prod a w r n := by
  rw [Cert.ReferenceNsaKvIdeal.Read.val_main_v2_apply, Cert.ReferenceNsaKvIdeal.Read.val_main_v1_apply]
  refine Finset.sum_congr rfl fun k _ => ?_
  rw [Cert.ReferenceNsaKvIdeal.Read.val_main_v0_apply]
  refine congrArg₂ (· * ·) (congrArg a ?_) (congrArg w ?_) <;> funext x <;> fin_cases x <;> first | rfl | exact Fin.ext (by simp [wcol, ix2])

attribute [local instance] Cert.KernelNsaKv.Gen.facts Cert.KernelNsaKvIdeal.Gen.facts Cert.ReferenceNsaKvIdeal.Gen.facts

/-- The idealized kernel and the idealized reference end at the same array. -/
theorem algebraic : Cert.algebraic_KernelNsaKvIdeal_ReferenceNsaKvIdeal := by
  intro m ρ m' ρ' _ hag
  refine ⟨fun c => res m c, ?_, ?_⟩
  · exact (θ_run _ _ _).mono (fun _ h c => ⟨(h c).1.trans (final m c), (h c).2⟩) (Cert.KernelNsaKvIdeal.Value.run_blocks m ρ)
  · refine (θ_run _ _ _).mono (fun _ h c => ⟨(h c).1.trans ?_, (h c).2⟩) (Cert.ReferenceNsaKvIdeal.Value.run m' ρ')
    rw [Cert.ReferenceNsaKvIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNsaKvIdeal := fun m ρ _ =>
  (θ_run _ _ _).mono (fun r h => ⟨fun c => (h c).2, sem_eq_zero_of_no_sems (by decide) r.2⟩) (Cert.ReferenceNsaKvIdeal.Value.run m ρ)

end Cert.NsaKv

end
-- ==== Proof.NsaWin.lean ====
/- The window's keys and values of the sparse attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelNsaWin.Frame
public import proofs.«01_k».proof.Proof.Gen.KernelNsaWinIdeal.Value
public import proofs.«01_k».proof.Proof.Gen.ReferenceNsaWinIdeal.Read

@[expose] public section

set_option maxRecDepth 16384

noncomputable section

namespace Cert.NsaWin

open Idealize.ShloMosaic Idealize.ShloMosaic.TcCoe Idealize.SL.Sem Cert.KernelNsaWinIdeal Cert.KernelNsaWinIdeal.Gen

/-- Column `n` of the result is this column of the weights. -/
def wcol (n : Fin 1024) : Fin 15408 := ⟨12288 + n.val, by omega⟩

/-- The product: row `r` of `a` against the weights' column for column `n` of the result. -/
def prod (a : FVec Ideal S8192x4096 .bf16) (w : FVec Ideal S4096x15408 .f32) (r : Fin 8192) (n : Fin 1024) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 24 + t.val / 8]
    ∧ win0_2.index t = ![t.val % 8, t.val / 8] ∧ t.val / 8 < 2 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 1024 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 12288 + (512 * (t.val / 8) + n.val) := rfl
  unfold X0_1 Pipeline.Window.fill
  rw [dif_pos (moved0_1 t _)]
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (X0_1 m c ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (X0_1 m c t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (X0_1 m c t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x1024 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 1024) :
    Cert.ReferenceNsaWinIdeal.Read.val_main_v2 (F := Ideal) a w (ix2 r n) = prod a w r n := by
  rw [Cert.ReferenceNsaWinIdeal.Read.val_main_v2_apply, Cert.ReferenceNsaWinIdeal.Read.val_main_v1_apply]
  refine Finset.sum_congr rfl fun k _ => ?_
  rw [Cert.ReferenceNsaWinIdeal.Read.val_main_v0_apply]
  refine congrArg₂ (· * ·) (congrArg a ?_) (congrArg w ?_) <;> funext x <;> fin_cases x <;> first | rfl | exact Fin.ext (by simp [wcol, ix2])

attribute [local instance] Cert.KernelNsaWin.Gen.facts Cert.KernelNsaWinIdeal.Gen.facts Cert.ReferenceNsaWinIdeal.Gen.facts

/-- The idealized kernel and the idealized reference end at the same array. -/
theorem algebraic : Cert.algebraic_KernelNsaWinIdeal_ReferenceNsaWinIdeal := by
  intro m ρ m' ρ' _ hag
  refine ⟨fun c => res m c, ?_, ?_⟩
  · exact (θ_run _ _ _).mono (fun _ h c => ⟨(h c).1.trans (final m c), (h c).2⟩) (Cert.KernelNsaWinIdeal.Value.run_blocks m ρ)
  · refine (θ_run _ _ _).mono (fun _ h c => ⟨(h c).1.trans ?_, (h c).2⟩) (Cert.ReferenceNsaWinIdeal.Value.run m' ρ')
    rw [Cert.ReferenceNsaWinIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNsaWinIdeal := fun m ρ _ =>
  (θ_run _ _ _).mono (fun r h => ⟨fun c => (h c).2, sem_eq_zero_of_no_sems (by decide) r.2⟩) (Cert.ReferenceNsaWinIdeal.Value.run m ρ)

end Cert.NsaWin

end
-- ==== Proof.NsaZ.lean ====
/- The gate of the sparse attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelNsaZ.Frame
public import proofs.«01_k».proof.Proof.Gen.KernelNsaZIdeal.Value
public import proofs.«01_k».proof.Proof.Gen.ReferenceNsaZIdeal.Read

@[expose] public section

set_option maxRecDepth 16384

noncomputable section

namespace Cert.NsaZ

open Idealize.ShloMosaic Idealize.ShloMosaic.TcCoe Idealize.SL.Sem Cert.KernelNsaZIdeal Cert.KernelNsaZIdeal.Gen

/-- Column `n` of the result is this column of the weights. -/
def wcol (n : Fin 2048) : Fin 15408 := ⟨13360 + n.val, by omega⟩

/-- The product: row `r` of `a` against the weights' column for column `n` of the result. -/
def prod (a : FVec Ideal S8192x4096 .bf16) (w : FVec Ideal S4096x15408 .f32) (r : Fin 8192) (n : Fin 2048) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S1024x4096 .bf16) (w : Vec Ideal S4096x512 .bf16) (r : Fin 1024) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 hc0 x0 x1 = x1 := by
  funext y
  unfold sout0_A_0
  rw [View.read_writes_eq_canon _ _ _ (scover0_A_0 c i arg2 harg2 arg3 harg3 arg4 harg4 arg5 harg5 hc0 x0 x1)]
  unfold kernelRun0_A
  dsimp only
  exact held_store arg3 harg3 x1 c y

/-- The first point of a column block leaves the product of its block. -/
theorem pointA (hc0 : cond0_0 i) (r : Fin 1024) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S1024x512) (by decide)]
  rw [Cert.Whole.whole_at arg2 harg2 x0 (by decide), held_read]
  exact dot_at _ _ _ _

/-- A later point leaves the product of its block with the weights the scratch holds. -/
theorem pointB (hc0 : ¬cond0_0 i) (r : Fin 1024) (n : Fin 512) :
    out0_B_2 (F := Ideal) c i arg2 harg2 arg3 harg3 arg4 harg4 arg5 harg5 hc0 x0 x1 xs0 (ix2 r n) = ∑ k : Fin 4096, x0 (ix2 r k) * xs0 (ix2 k n) := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero (S := S1024x512) (by decide), Cert.Whole.whole_at arg2 harg2 x0 (by decide), Cert.Whole.whole_at arg5 harg5 xs0 (by decide)]
  exact dot_at _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, t.val / 8]
    ∧ win0_2.index t = ![t.val % 8, t.val / 8] ∧ t.val / 8 < 4 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 2048 := ⟨512 * (t.val / 8) + n.val, by have := (idx t).2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    iblk m c 1 t (ix2 k n) = m ((c : Thread nD τ).loc main_arg1) (ix2 k (wcol (col t n))) := by
  have e1 : (wcol (col t n)).val = 13360 + (512 * (t.val / 8) + n.val) := rfl
  blk_simp [iblk]
  entry_read
  rw [extractStridedSlice_apply ![0, 13360] _ _ _ (ix2 k (wcol (col t n)))]
  intro a
  fin_cases a
  · blk_simp [idx t]
    show k.val = 0 * 4096 + k.val
    omega
  · blk_simp [idx t]
    show (wcol (col t n)).val = 13360 + (t.val / 8 * 512 + n.val)
    omega

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (wcol (col ⟨n, hn⟩ x)))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (iblk m c 0 ⟨n, hn⟩) (iblk m c 1 ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) scM0_0 (Memref.isWhole_whole _) (iblk m c 0 t) (iblk m c 1 t) ((hcond0_0 t).mpr h0) r n
    refine Eq.trans ?_ (P.trans (Finset.sum_congr rfl fun k _ => by rw [a_at, w_at]))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (Finset.sum_congr rfl fun k _ => by rw [a_at, held, e]))
    dsimp only

/-- The result: every row against every column. -/
def res : FVec Ideal S8192x2048 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x15408 .f32) (r : Fin 8192) (n : Fin 2048) :
    Cert.ReferenceNsaZIdeal.Read.val_main_v2 (F := Ideal) a w (ix2 r n) = prod a w r n := by
  rw [Cert.ReferenceNsaZIdeal.Read.val_main_v2_apply, Cert.ReferenceNsaZIdeal.Read.val_main_v1_apply]
  refine Finset.sum_congr rfl fun k _ => ?_
  rw [Cert.ReferenceNsaZIdeal.Read.val_main_v0_apply]
  refine congrArg₂ (· * ·) (congrArg a ?_) (congrArg w ?_) <;> funext x <;> fin_cases x <;> first | rfl | exact Fin.ext (by simp [wcol, ix2])

attribute [local instance] Cert.KernelNsaZ.Gen.facts Cert.KernelNsaZIdeal.Gen.facts Cert.ReferenceNsaZIdeal.Gen.facts

/-- The idealized kernel and the idealized reference end at the same array. -/
theorem algebraic : Cert.algebraic_KernelNsaZIdeal_ReferenceNsaZIdeal := by
  intro m ρ m' ρ' _ hag
  refine ⟨fun c => res m c, ?_, ?_⟩
  · exact (θ_run _ _ _).mono (fun _ h c => ⟨(h c).1.trans (final m c), (h c).2⟩) (Cert.KernelNsaZIdeal.Value.run_blocks m ρ)
  · refine (θ_run _ _ _).mono (fun _ h c => ⟨(h c).1.trans ?_, (h c).2⟩) (Cert.ReferenceNsaZIdeal.Value.run m' ρ')
    rw [Cert.ReferenceNsaZIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNsaZIdeal := fun m ρ _ =>
  (θ_run _ _ _).mono (fun r h => ⟨fun c => (h c).2, sem_eq_zero_of_no_sems (by decide) r.2⟩) (Cert.ReferenceNsaZIdeal.Value.run m ρ)

end Cert.NsaZ

end
-- ==== Proof.OutC.lean ====
/- The output product of the differential layer with its residual: what its grid points leave, and that the output is the residual plus
the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelOutC.Frame
public import proofs.«01_k».proof.Proof.Gen.KernelOutCIdeal.Value
public import proofs.«01_k».proof.Proof.Gen.ReferenceOutCIdeal.Read

@[expose] public section

set_option maxRecDepth 16384

noncomputable section

namespace Cert.OutC

open Idealize.ShloMosaic Idealize.ShloMosaic.TcCoe Idealize.SL.Sem Cert.KernelOutCIdeal Cert.KernelOutCIdeal.Gen

/-- The residual plus the product of row `r` of `a` and column `n` of the weights. -/
def prod (a : FVec Ideal S8192x4096 .bf16) (w : FVec Ideal S4096x4096 .f32) (h : FVec Ideal S8192x4096 .f32) (r : Fin 8192) (n : Fin 4096) : EReal :=
  h (ix2 r n) + ∑ k : Fin 4096, a (ix2 r k) * w (ix2 k n)

/-- The cast of the weights keeps them. -/
theorem cast_at (w : Vec Ideal S4096x512 .f32) : k0_pay1 (F := Ideal) w = w := by
  funext y
  pointwise [k0_pay1]

/-- One block's product and residual at an index. -/
theorem dot_at (a : Vec Ideal S1024x4096 .bf16) (w : Vec Ideal S4096x512 .bf16) (h : Vec Ideal S1024x512 .f32) (r : Fin 1024) (n : Fin 512) :
    k0_pay2 (F := Ideal) a w h (ix2 r n) = h (ix2 r n) + ∑ k : Fin 4096, a (ix2 r k) * w (ix2 k n) := by
  pointwise [k0_pay2]

section

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole)
  (x0 : Vec Ideal S1024x4096 .bf16) (x1 : Vec Ideal S4096x512 .f32) (x2 : Vec Ideal S1024x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg6 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 arg6 harg6 hc0 x0 x1 x2 = x1 := by
  funext y
  unfold sout0_A_0
  rw [View.read_writes_eq_canon _ _ _ (scover0_A_0 c i arg2 harg2 arg3 harg3 arg4 harg4 arg5 harg5 arg6 harg6 hc0 x0 x1 x2)]
  unfold kernelRun0_A
  dsimp only
  exact held_store arg3 harg3 x1 c y

/-- The first point of a column block leaves the product of its block. -/
theorem pointA (hc0 : cond0_0 i) (r : Fin 1024) (n : Fin 512) :
    out0_A_3 (F := Ideal) c i arg2 harg2 arg3 harg3 arg4 harg4 arg5 harg5 arg6 harg6 hc0 x0 x1 x2 (ix2 r n) = x2 (ix2 r n) + ∑ k : Fin 4096, x0 (ix2 r k) * x1 (ix2 k n) := by
  unfold out0_A_3
  rw [View.read_writes_eq_canon _ _ _ (cover0_A_3 c i arg2 harg2 arg3 harg3 arg4 harg4 arg5 harg5 arg6 harg6 hc0 x0 x1 x2)]
  unfold kernelRun0_A
  dsimp only
  rw [View.canon_unit_zero (S := S1024x512) (by decide)]
  rw [Cert.Whole.whole_at arg2 harg2 x0 (by decide), Cert.Whole.whole_at arg4 harg4 x2 (by decide), held_read]
  exact dot_at _ _ _ _ _

/-- A later point leaves the product of its block with the weights the scratch holds. -/
theorem pointB (hc0 : ¬cond0_0 i) (r : Fin 1024) (n : Fin 512) :
    out0_B_3 (F := Ideal) c i arg2 harg2 arg3 harg3 arg4 harg4 arg5 harg5 arg6 harg6 hc0 x0 x1 x2 xs0 (ix2 r n) = x2 (ix2 r n) + ∑ k : Fin 4096, x0 (ix2 r k) * xs0 (ix2 k n) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero (S := S1024x512) (by decide), Cert.Whole.whole_at arg2 harg2 x0 (by decide), Cert.Whole.whole_at arg4 harg4 x2 (by decide), Cert.Whole.whole_at arg6 harg6 xs0 (by decide)]
  exact dot_at _ _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] ∧ t.val / 8 < 8 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 4096 := ⟨512 * (t.val / 8) + n.val, by have := (idx t).2.2.2.2; omega⟩

/-- The rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The columns a grid point reads. -/
theorem w_at (t : Fin cfg0.N) (k : Fin 4096) (n : Fin 512) :
    iblk m c 1 t (ix2 k n) = m ((c : Thread nD τ).loc main_arg1) (ix2 k (col t n)) := by
  have e1 : (col t n).val = 512 * (t.val / 8) + n.val := rfl
  blk_ext [iblk, V, idx t]

/-- The residual a grid point reads. -/
theorem h_at (t : Fin cfg0.N) (r : Fin 1024) (n : Fin 512) :
    iblk m c 2 t (ix2 r n) = m ((c : Thread nD τ).loc main_arg2) (ix2 (row t r) (col t n)) := by
  have e1 : (row t r).val = 1024 * (t.val % 8) + r.val := rfl
  have e2 : (col t n).val = 512 * (t.val / 8) + n.val := rfl
  blk_ext [iblk, V, idx t]

/-- After every grid point the scratch holds its column block of the weights. -/
theorem held : ∀ (n : ℕ) (hn : n < cfg0.N) (k : Fin 4096) (x : Fin 512),
    (outsAt0 m c n hn).2 (ix2 k x) = m ((c : Thread nD τ).loc main_arg1) (ix2 k (col ⟨n, hn⟩ x))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (iblk m c 0 ⟨n, hn⟩) (iblk m c 1 ⟨n, hn⟩) (iblk m c 2 ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (m ((c : Thread nD τ).loc main_arg2)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0) r n
    refine Eq.trans ?_ (P.trans (congrArg₂ (· + ·) (h_at m c t r n) (Finset.sum_congr rfl fun k _ => by rw [a_at, w_at])))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (congrArg₂ (· + ·) (h_at m c t r n) (Finset.sum_congr rfl fun k _ => by rw [a_at, held, e])))
    dsimp only

/-- The result: every row against every column. -/
def res : FVec Ideal S8192x4096 .f32 := fun y =>
  prod (m ((c : Thread nD τ).loc main_arg0)) (m ((c : Thread nD τ).loc main_arg1)) (m ((c : Thread nD τ).loc main_arg2)) (y 0) (y 1)

/-- The output array after the run. -/
theorem final : (dats m 0 c).arrAt 3 cfg0.N = res m c := by
  refine (dats m 0 c).arrAt_eq_of_covers 3 _ (by decide +kernel) fun t _ y => ?_
  blk_simp
  rw [after0_3]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

/-- The reference at an index. -/
theorem ref_at (a : FVec Ideal S8192x4096 .bf16) (w : FVec Ideal S4096x4096 .f32) (h : FVec Ideal S8192x4096 .f32) (r : Fin 8192) (n : Fin 4096) :
    Cert.ReferenceOutCIdeal.Read.val_main_v2 (F := Ideal) a w h (ix2 r n) = prod a w h r n := by
  rw [Cert.ReferenceOutCIdeal.Read.val_main_v2_apply, Cert.ReferenceOutCIdeal.Read.val_main_v1_apply]
  refine congrArg (h (ix2 r n) + ·) (Finset.sum_congr rfl fun k _ => ?_)
  rw [Cert.ReferenceOutCIdeal.Read.val_main_v0_apply]
  refine congrArg₂ (· * ·) (congrArg a ?_) (congrArg w ?_) <;> funext x <;> fin_cases x <;> first | rfl | exact Fin.ext (by simp [ix2])

attribute [local instance] Cert.KernelOutC.Gen.facts Cert.KernelOutCIdeal.Gen.facts Cert.ReferenceOutCIdeal.Gen.facts

/-- The idealized kernel and the idealized reference end at the same array. -/
theorem algebraic : Cert.algebraic_KernelOutCIdeal_ReferenceOutCIdeal := by
  intro m ρ m' ρ' _ hag
  refine ⟨fun c => res m c, ?_, ?_⟩
  · exact (θ_run _ _ _).mono (fun _ h c => ⟨(h c).1.trans (final m c), (h c).2⟩) (Cert.KernelOutCIdeal.Value.run_blocks m ρ)
  · refine (θ_run _ _ _).mono (fun _ h c => ⟨(h c).1.trans ?_, (h c).2⟩) (Cert.ReferenceOutCIdeal.Value.run m' ρ')
    rw [Cert.ReferenceOutCIdeal.Read.val_main_v2_eq]
    obtain ⟨e0, e1, e2⟩ := hag c
    rw [e0, e1, e2]
    funext y
    have hy : y = ix2 (y 0) (y 1) := by
      funext a
      fin_cases a <;> rfl
    rw [hy]
    exact ref_at _ _ _ _ _

/-- The idealized reference runs, keeps its arguments, and leaves every counter at zero: it declares none. -/
theorem frame_r : Cert.quiescent_ReferenceOutCIdeal := fun m ρ _ =>
  (θ_run _ _ _).mono (fun r h => ⟨fun c => (h c).2, sem_eq_zero_of_no_sems (by decide) r.2⟩) (Cert.ReferenceOutCIdeal.Value.run m ρ)

end Cert.OutC

end
-- ==== Proof.OutAB.lean ====
/- The output product of the stick-breaking and sparse layer with its residual: what its grid points leave, and that the
output is the residual plus the product of the two halves' rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelOutAB.Frame
public import proofs.«01_k».proof.Proof.Gen.KernelOutABIdeal.Value
public import proofs.«01_k».proof.Proof.Gen.ReferenceOutABIdeal.Read

@[expose] public section

set_option maxRecDepth 16384

noncomputable section

namespace Cert.OutAB

open Idealize.ShloMosaic Idealize.ShloMosaic.TcCoe Idealize.SL.Sem Cert.KernelOutABIdeal Cert.KernelOutABIdeal.Gen

/-- Row `k` of the weights' first half. -/
def lo (k : Fin 2048) : Fin 4096 := ⟨k.val, by omega⟩

/-- Row `k` of the weights' second half. -/
def hi (k : Fin 2048) : Fin 4096 := ⟨2048 + k.val, by omega⟩

/-- The residual plus the products of the two halves' rows `r` and column `n` of the weights. -/
def prod (a b : FVec Ideal S8192x2048 .bf16) (w : FVec Ideal S4096x4096 .f32) (h : FVec Ideal S8192x4096 .f32) (r : Fin 8192) (n : Fin 4096) : EReal :=
  h (ix2 r n) + (∑ k : Fin 2048, a (ix2 r k) * w (ix2 (lo k) n) + ∑ k : Fin 2048, b (ix2 r k) * w (ix2 (hi k) n))

/-- The cast of the first half's weights keeps them. -/
theorem cast_at (w : Vec Ideal S2048x512 .f32) : k0_pay1 (F := Ideal) w = w := by
  funext y
  pointwise [k0_pay1]

/-- The cast of the second half's weights keeps them. -/
theorem cast_at' (w : Vec Ideal S2048x512 .f32) : k0_pay2 (F := Ideal) w = w := by
  funext y
  pointwise [k0_pay2]

/-- One block's products and residual at an index. -/
theorem dot_at (a : Vec Ideal S1024x2048 .bf16) (w : Vec Ideal S2048x512 .bf16) (b : Vec Ideal S1024x2048 .bf16) (v : Vec Ideal S2048x512 .bf16)
    (h : Vec Ideal S1024x512 .f32) (r : Fin 1024) (n : Fin 512) :
    k0_pay3 (F := Ideal) a w b v h (ix2 r n)
      = h (ix2 r n) + (∑ k : Fin 2048, a (ix2 r k) * w (ix2 k n) + ∑ k : Fin 2048, b (ix2 r k) * v (ix2 k n)) := by
  pointwise [k0_pay3]

section

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S2048x512 .bf16) (harg8 : arg8.IsWhole) (arg9 : Memref sig .tc .vmem S2048x512 .bf16) (harg9 : arg9.IsWhole)
  (x0 x1 : Vec Ideal S1024x2048 .bf16) (x2 x3 : Vec Ideal S2048x512 .f32) (x4 : Vec Ideal S1024x512 .f32) (xs0 xs1 : Vec Ideal S2048x512 .bf16)

/-- The store of the first half's cast weights fills its scratch with them. -/
theorem held_store (c : Dev nD) (y : S2048x512.Idx) : View.canon (kernelRun0_A.sl.HS0_1 (F := Ideal) c arg4 harg4 x2) y = x2 y := by
  unfold kernelRun0_A.sl.HS0_1
  rw [View.canon_unit_zero (S := S2048x512) (by decide), cast_at, Cert.Whole.whole_at arg4 harg4 x2 (by decide)]

/-- The store of the second half's cast weights fills its scratch with them. -/
theorem held_store' (c : Dev nD) (y : S2048x512.Idx) : View.canon (kernelRun0_A.sl.HS1_1 (F := Ideal) c arg5 harg5 x3) y = x3 y := by
  unfold kernelRun0_A.sl.HS1_1
  rw [View.canon_unit_zero (S := S2048x512) (by decide), cast_at', Cert.Whole.whole_at arg5 harg5 x3 (by decide)]

/-- Read back, the first scratch holds the cast weights. -/
theorem held_read (c : Dev nD) : kernelRun0_A.sl.v4 (F := Ideal) c arg4 harg4 arg8 x2 = x2 := by
  unfold kernelRun0_A.sl.v4
  rw [View.readCov_eq_canon']
  funext y
  refine (held_store arg4 harg4 x2 c _).trans (congrArg x2 ?_)
  funext a
  apply Fin.ext
  fin_cases a <;> simp [Rect.unit]

/-- Read back, the second scratch holds the cast weights. -/
theorem held_read' (c : Dev nD) : kernelRun0_A.sl.v7 (F := Ideal) c arg5 harg5 arg9 x3 = x3 := by
  unfold kernelRun0_A.sl.v7
  rw [View.readCov_eq_canon']
  funext y
  refine (held_store' arg5 harg5 x3 c _).trans (congrArg x3 ?_)
  funext a
  apply Fin.ext
  fin_cases a <;> simp [Rect.unit]

/-- The first point of a column block leaves the first half's cast weights in the first scratch. -/
theorem heldA (hc0 : cond0_0 i) : sout0_A_0 (F := Ideal) c i arg2 harg2 arg3 harg3 arg4 harg4 arg5 harg5 arg6 harg6 arg7 harg7 arg8 harg8 arg9 harg9 hc0 x0 x1 x2 x3 x4 = x2 := by
  funext y
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  exact held_store arg4 harg4 x2 c y

/-- The first point of a column block leaves the second half's cast weights in the second scratch. -/
theorem heldA' (hc0 : cond0_0 i) : sout0_A_1 (F := Ideal) c i arg2 harg2 arg3 harg3 arg4 harg4 arg5 harg5 arg6 harg6 arg7 harg7 arg8 harg8 arg9 harg9 hc0 x0 x1 x2 x3 x4 = x3 := by
  funext y
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  exact held_store' arg5 harg5 x3 c y

/-- The first point of a column block leaves the products of its block. -/
theorem pointA (hc0 : cond0_0 i) (r : Fin 1024) (n : Fin 512) :
    out0_A_5 (F := Ideal) c i arg2 harg2 arg3 harg3 arg4 harg4 arg5 harg5 arg6 harg6 arg7 harg7 arg8 harg8 arg9 harg9 hc0 x0 x1 x2 x3 x4 (ix2 r n)
      = x4 (ix2 r n) + (∑ k : Fin 2048, x0 (ix2 r k) * x2 (ix2 k n) + ∑ k : Fin 2048, x1 (ix2 r k) * x3 (ix2 k n)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  rw [View.canon_unit_zero (S := S1024x512) (by decide)]
  rw [Cert.Whole.whole_at arg2 harg2 x0 (by decide), Cert.Whole.whole_at arg3 harg3 x1 (by decide), Cert.Whole.whole_at arg6 harg6 x4 (by decide), held_read, held_read']
  exact dot_at _ _ _ _ _ _ _

/-- A later point leaves the products of its block with the weights the scratches hold. -/
theorem pointB (hc0 : ¬cond0_0 i) (r : Fin 1024) (n : Fin 512) :
    out0_B_5 (F := Ideal) c i arg2 harg2 arg3 harg3 arg4 harg4 arg5 harg5 arg6 harg6 arg7 harg7 arg8 harg8 arg9 harg9 hc0 x0 x1 x2 x3 x4 xs0 xs1 (ix2 r n)
      = x4 (ix2 r n) + (∑ k : Fin 2048, x0 (ix2 r k) * xs0 (ix2 k n) + ∑ k : Fin 2048, x1 (ix2 r k) * xs1 (ix2 k n)) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  rw [View.canon_unit_zero (S := S1024x512) (by decide)]
  rw [Cert.Whole.whole_at arg2 harg2 x0 (by decide), Cert.Whole.whole_at arg3 harg3 x1 (by decide), Cert.Whole.whole_at arg6 harg6 x4 (by decide), Cert.Whole.whole_at arg8 harg8 xs0 (by decide), Cert.Whole.whole_at arg9 harg9 xs1 (by decide)]
  exact dot_at _ _ _ _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![t.val % 8, 0]
    ∧ win0_2.index t = ![0, t.val / 8] ∧ win0_3.index t = ![1, t.val / 8]
    ∧ win0_4.index t = ![t.val % 8, t.val / 8] ∧ win0_5.index t = ![t.val % 8, t.val / 8] ∧ t.val / 8 < 8 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 4096 := ⟨512 * (t.val / 8) + n.val, by have := (idx t).2.2.2.2.2.2; omega⟩

/-- The first half's rows a grid point reads. -/
theorem a_at (t : Fin cfg0.N) (r : Fin 1024) (k : Fin 2048) :
    iblk m c 0 t (ix2 r k) = m ((c : Thread nD τ).loc main_arg0) (ix2 (row t r) k) := by
  have e1 : (row t r).val = 1024 * (t.val % 8) + r.val := rfl
  blk_ext [iblk, V, idx t]

/-- The second half's rows a grid point reads. -/
theorem b_at (t : Fin cfg0.N) (r : Fin 1024) (k : Fin 2048) :
    iblk m c 1 t (ix2 r k) = m ((c : Thread nD τ).loc main_arg1) (ix2 (row t r) k) := by
  have e1 : (row t r).val = 1024 * (t.val % 8) + r.val := rfl
  blk_ext [iblk, V, idx t]

/-- The columns of the first half's weights a grid point reads. -/
theorem w_at (t : Fin cfg0.N) (k : Fin 2048) (n : Fin 512) :
    iblk m c 2 t (ix2 k n) = m ((c : Thread nD τ).loc main_arg2) (ix2 (lo k) (col t n)) := by
  have e1 : (col t n).val = 512 * (t.val / 8) + n.val := rfl
  have e2 : (lo k).val = k.val := rfl
  blk_ext [iblk, V, idx t]

/-- The columns of the second half's weights a grid point reads. -/
theorem v_at (t : Fin cfg0.N) (k : Fin 2048) (n : Fin 512) :
    iblk m c 3 t (ix2 k n) = m ((c : Thread nD τ).loc main_arg2) (ix2 (hi k) (col t n)) := by
  have e1 : (col t n).val = 512 * (t.val / 8) + n.val := rfl
  have e2 : (hi k).val = 2048 + k.val := rfl
  blk_ext [iblk, V, idx t]

/-- The residual a grid point reads. -/
theorem h_at (t : Fin cfg0.N) (r : Fin 1024) (n : Fin 512) :
    iblk m c 4 t (ix2 r n) = m ((c : Thread nD τ).loc main_arg3) (ix2 (row t r) (col t n)) := by
  have e1 : (row t r).val = 1024 * (t.val % 8) + r.val := rfl
  have e2 : (col t n).val = 512 * (t.val / 8) + n.val := rfl
  blk_ext [iblk, V, idx t]

/-- After every grid point the scratches hold its column block of the weights' two halves. -/
theorem held : ∀ (n : ℕ) (hn : n < cfg0.N) (k : Fin 2048) (x : Fin 512),
    (outsAt0 m c n hn).2.1 (ix2 k x) = m ((c : Thread nD τ).loc main_arg2) (ix2 (lo k) (col ⟨n, hn⟩ x))
      ∧ (outsAt0 m c n hn).2.2 (ix2 k x) = m ((c : Thread nD τ).loc main_arg2) (ix2 (hi k) (col ⟨n, hn⟩ x))
  | n, hn, k, x => by
    by_cases h0 : n % 8 = 0
    · constructor
      · refine (congrArg (fun o => o.2.1 (ix2 k x)) (outsAt0_A m c ⟨n, hn⟩ h0)).trans ?_
        have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) ((hcond0_0 ⟨n, hn⟩).mpr h0)
        refine Eq.trans ?_ ((congrFun P (ix2 k x)).trans (w_at m c ⟨n, hn⟩ k x))
        dsimp only
      · refine (congrArg (fun o => o.2.2 (ix2 k x)) (outsAt0_A m c ⟨n, hn⟩ h0)).trans ?_
        have P := heldA' c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) ((hcond0_0 ⟨n, hn⟩).mpr h0)
        refine Eq.trans ?_ ((congrFun P (ix2 k x)).trans (v_at m c ⟨n, hn⟩ k x))
        dsimp only
    · have ih := held (n - 1) (by omega) k x
      have e : col ⟨n - 1, by omega⟩ x = col ⟨n, hn⟩ x := Fin.ext (by show 512 * ((n - 1) / 8) + x.val = 512 * (n / 8) + x.val; omega)
      rw [e] at ih
      constructor
      · refine (congrArg (fun o => o.2.1 (ix2 k x)) (outsAt0_B m c ⟨n, hn⟩ h0)).trans (Eq.trans ?_ ih.1)
        unfold sout0_B_0
        dsimp only
      · refine (congrArg (fun o => o.2.2 (ix2 k x)) (outsAt0_B m c ⟨n, hn⟩ h0)).trans (Eq.trans ?_ ih.2)
        unfold sout0_B_1
        dsimp only

/-- What a grid point writes back. -/
theorem point (t : Fin cfg0.N) (r : Fin 1024) (n : Fin 512) :
    (outsAt0 m c t.val t.isLt).1 (ix2 r n) = prod (m ((c : Thread nD τ).loc main_arg0)) (m ((c : Thread nD τ).loc main_arg1)) (m ((c : Thread nD τ).loc main_arg2)) (m ((c : Thread nD τ).loc main_arg3)) (row t r) (col t n) := by
  unfold prod
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) r n
    refine Eq.trans ?_ (P.trans (congrArg₂ (· + ·) (h_at m c t r n) (congrArg₂ (· + ·)
      (Finset.sum_congr rfl fun k _ => by rw [a_at, w_at]) (Finset.sum_congr rfl fun k _ => by rw [b_at, v_at]))))
    dsimp only
  · refine (congrArg (fun o => o.1 (ix2 r n)) (outsAt0_B m c t h0)).trans ?_
    have hp : t.val - 1 < cfg0.N := Nat.lt_of_le_of_lt (Nat.sub_le _ _) t.isLt
    have P := pointB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) hp).2.1 (outsAt0 m c (t.val - 1) hp).2.2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (congrArg₂ (· + ·) (h_at m c t r n) (congrArg₂ (· + ·)
      (Finset.sum_congr rfl fun k _ => by rw [a_at, (held m c (t.val - 1) hp k n).1, e])
      (Finset.sum_congr rfl fun k _ => by rw [b_at, (held m c (t.val - 1) hp k n).2, e]))))
    dsimp only

/-- The result: every row against every column. -/
def res : FVec Ideal S8192x4096 .f32 := fun y =>
  prod (m ((c : Thread nD τ).loc main_arg0)) (m ((c : Thread nD τ).loc main_arg1)) (m ((c : Thread nD τ).loc main_arg2)) (m ((c : Thread nD τ).loc main_arg3)) (y 0) (y 1)

/-- The output array after the run. -/
theorem final : (dats m 0 c).arrAt 5 cfg0.N = res m c := by
  refine (dats m 0 c).arrAt_eq_of_covers 5 _ (by decide +kernel) fun t _ y => ?_
  blk_simp
  rw [after0_5]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

open Cert.ReferenceOutABIdeal.Read in
/-- The joined rows at an index of the first half. -/
theorem joined_lo (a b : FVec Ideal S8192x2048 .bf16) (r : Fin 8192) (k : Fin 2048) : val_main_v1 (F := Ideal) a b (ix2 r (lo k)) = a (ix2 r k) := by
  show concatenate S8192x4096 1 [⟨S8192x2048, a⟩, ⟨S8192x2048, b⟩] Cert.ReferenceOutABIdeal.Gen.concatenates_S8192x2048_S8192x2048_S8192x4096_d1 (ix2 r (lo k)) = _
  exact concatenate_pair_apply_left (t := S8192x4096) 1 a b _ (ix2 r (lo k)) rfl (ix2 r k) (fun x => by fin_cases x <;> rfl)

open Cert.ReferenceOutABIdeal.Read in
/-- The joined rows at an index of the second half. -/
theorem joined_hi (a b : FVec Ideal S8192x2048 .bf16) (r : Fin 8192) (k : Fin 2048) : val_main_v1 (F := Ideal) a b (ix2 r (hi k)) = b (ix2 r k) := by
  show concatenate S8192x4096 1 [⟨S8192x2048, a⟩, ⟨S8192x2048, b⟩] Cert.ReferenceOutABIdeal.Gen.concatenates_S8192x2048_S8192x2048_S8192x4096_d1 (ix2 r (hi k)) = _
  exact concatenate_pair_apply_right (t := S8192x4096) 1 a b _ (ix2 r (hi k)) rfl rfl (ix2 r k) (fun x hx => by fin_cases x <;> first | rfl | exact absurd rfl hx) (Nat.add_comm k.val 2048)

open Cert.ReferenceOutABIdeal.Read in
/-- The reference at an index. -/
theorem ref_at (a b : FVec Ideal S8192x2048 .bf16) (w : FVec Ideal S4096x4096 .f32) (h : FVec Ideal S8192x4096 .f32) (r : Fin 8192) (n : Fin 4096) :
    val_main_v3 (F := Ideal) a b w h (ix2 r n) = prod a b w h r n := by
  rw [val_main_v3_apply, val_main_v2_apply]
  refine congrArg (h (ix2 r n) + ·) ?_
  have e : ∀ k : Fin 4096, val_main_v1 (F := Ideal) a b (lidx_main_v2 (ix2 r n) k) * w (ridx_main_v2 (ix2 r n) k)
      = val_main_v1 (F := Ideal) a b (ix2 r k) * w (ix2 k n) := fun k =>
    congrArg₂ (· * ·) (congrArg (val_main_v1 (F := Ideal) a b) (by funext x; fin_cases x <;> rfl)) (congrArg w (by funext x; fin_cases x <;> rfl))
  refine (Finset.sum_congr rfl fun k _ => e k).trans ?_
  refine (Fin.sum_univ_add (a := 2048) (b := 2048) fun k : Fin 4096 => val_main_v1 (F := Ideal) a b (ix2 r k) * w (ix2 k n)).trans ?_
  exact congrArg₂ (· + ·)
    (Finset.sum_congr rfl fun k _ => congrArg (· * w (ix2 (lo k) n)) (joined_lo a b r k))
    (Finset.sum_congr rfl fun k _ => congrArg (· * w (ix2 (hi k) n)) (joined_hi a b r k))

attribute [local instance] Cert.KernelOutAB.Gen.facts Cert.KernelOutABIdeal.Gen.facts Cert.ReferenceOutABIdeal.Gen.facts

/-- The idealized kernel and the idealized reference end at the same array. -/
theorem algebraic : Cert.algebraic_KernelOutABIdeal_ReferenceOutABIdeal := by
  intro m ρ m' ρ' _ hag
  refine ⟨fun c => res m c, ?_, ?_⟩
  · exact (θ_run _ _ _).mono (fun _ h c => ⟨(h c).1.trans (final m c), (h c).2⟩) (Cert.KernelOutABIdeal.Value.run_blocks m ρ)
  · refine (θ_run _ _ _).mono (fun _ h c => ⟨(h c).1.trans ?_, (h c).2⟩) (Cert.ReferenceOutABIdeal.Value.run m' ρ')
    rw [Cert.ReferenceOutABIdeal.Read.val_main_v3_eq]
    obtain ⟨e0, e1, e2, e3⟩ := hag c
    rw [e0, e1, e2, e3]
    funext y
    have hy : y = ix2 (y 0) (y 1) := by
      funext a
      fin_cases a <;> rfl
    rw [hy]
    exact ref_at _ _ _ _ _ _

/-- The idealized reference runs, keeps its arguments, and leaves every counter at zero: it declares none. -/
theorem frame_r : Cert.quiescent_ReferenceOutABIdeal := fun m ρ _ =>
  (θ_run _ _ _).mono (fun r h => ⟨fun c => (h c).2, sem_eq_zero_of_no_sems (by decide) r.2⟩) (Cert.ReferenceOutABIdeal.Value.run m ρ)

end Cert.OutAB

end
-- ==== Proof.Ple.lean ====
/- The per-layer embedding: what its grid points leave, and that the output is the residual plus the gated projection. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelPle.Frame
public import proofs.«01_k».proof.Proof.Gen.KernelPleIdeal.Value
public import proofs.«01_k».proof.Proof.Gen.ReferencePleIdeal.Read

@[expose] public section

set_option maxRecDepth 16384

noncomputable section

namespace Cert.Ple

open Idealize.ShloMosaic Idealize.ShloMosaic.TcCoe Idealize.SL.Sem Cert.KernelPleIdeal Cert.KernelPleIdeal.Gen

/-- The logistic function as the kernel writes it. -/
def gate (s : EReal) : EReal := Ideal.div 1 (1 + Ideal.exp (0 - s))

/-- The embedding at an element: the residual plus the gate times the projection. -/
def embed (a : FVec Ideal S8192x4096 .bf16) (w : FVec Ideal S2x4096x4096 .f32) (p : FVec Ideal S8192x256 .bf16)
    (q : FVec Ideal S2x256x4096 .f32) (h : FVec Ideal S8192x4096 .f32) (r : Fin 8192) (n : Fin 4096) : EReal :=
  h (ix2 r n) + gate (∑ k : Fin 4096, a (ix2 r k) * w (ix3 0 k n)) * ∑ k : Fin 256, p (ix2 r k) * q (ix3 0 k n)

/-- A block of weights without its leading axis. -/
def flat (w : Vec Ideal S1x4096x512 .f32) : Vec Ideal S4096x512 .bf16 := fun y => w (ix3 0 (y 0) (y 1))

/-- The cast of the weights keeps them. -/
theorem cast_at (w : Vec Ideal S1x4096x512 .f32) : k0_pay1 (F := Ideal) w = flat w := by
  funext y
  have hy : y = ix2 (y 0) (y 1) := by
    funext a
    fin_cases a <;> rfl
  rw [hy]
  show _ = w (ix3 0 (y 0) (y 1))
  generalize y 0 = k
  generalize y 1 = n
  pointwise [k0_pay1]

/-- One block's embedding at an index. -/
theorem dot_at (a : Vec Ideal S1024x4096 .bf16) (w : Vec Ideal S4096x512 .bf16) (p : Vec Ideal S1024x256 .bf16) (q : Vec Ideal S1x256x512 .f32)
    (h : Vec Ideal S1024x512 .f32) (r : Fin 1024) (n : Fin 512) :
    k0_pay2 (F := Ideal) a w p q h (ix2 r n)
      = h (ix2 r n) + gate (∑ k : Fin 4096, a (ix2 r k) * w (ix2 k n)) * ∑ k : Fin 256, p (ix2 r k) * q (ix3 0 k n) := by
  unfold gate
  pointwise [k0_pay2]

section

variable (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x256 .bf16) (harg4 : arg4.IsWhole) (arg5 : Memref sig .tc .vmem S1x256x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S4096x512 .bf16) (harg8 : arg8.IsWhole)
  (x0 : Vec Ideal S1024x4096 .bf16) (x1 : Vec Ideal S1x4096x512 .f32) (x2 : Vec Ideal S1024x256 .bf16) (x3 : Vec Ideal S1x256x512 .f32) (x4 : Vec Ideal S1024x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = flat x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg8 x1 = flat x1 := by
  unfold kernelRun0_A.sl.v4
  rw [View.readCov_eq_canon']
  funext y
  refine (held_store arg3 harg3 x1 c _).trans (congrArg (flat x1) ?_)
  funext a
  apply Fin.ext
  fin_cases a <;> simp [Rect.unit]

/-- The first point of a column block leaves the cast weights in the scratch. -/
theorem heldA (hc0 : cond0_0 i) : sout0_A_0 (F := Ideal) c i arg2 harg2 arg3 harg3 arg4 harg4 arg5 harg5 arg6 harg6 arg7 harg7 arg8 harg8 hc0 x0 x1 x2 x3 x4 = flat x1 := by
  funext y
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  exact held_store arg3 harg3 x1 c y

/-- The first point of a column block leaves the embedding of its block. -/
theorem pointA (hc0 : cond0_0 i) (r : Fin 1024) (n : Fin 512) :
    out0_A_5 (F := Ideal) c i arg2 harg2 arg3 harg3 arg4 harg4 arg5 harg5 arg6 harg6 arg7 harg7 arg8 harg8 hc0 x0 x1 x2 x3 x4 (ix2 r n)
      = x4 (ix2 r n) + gate (∑ k : Fin 4096, x0 (ix2 r k) * x1 (ix3 0 k n)) * ∑ k : Fin 256, x2 (ix2 r k) * x3 (ix3 0 k n) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  rw [View.canon_unit_zero (S := S1024x512) (by decide)]
  rw [Cert.Whole.whole_at arg2 harg2 x0 (by decide), Cert.Whole.whole_at arg4 harg4 x2 (by decide), Cert.Whole.whole_at arg5 harg5 x3 (by decide), Cert.Whole.whole_at arg6 harg6 x4 (by decide), held_read]
  exact dot_at _ _ _ _ _ _ _

/-- A later point leaves the embedding of its block with the weights the scratch holds. -/
theorem pointB (hc0 : ¬cond0_0 i) (r : Fin 1024) (n : Fin 512) :
    out0_B_5 (F := Ideal) c i arg2 harg2 arg3 harg3 arg4 harg4 arg5 harg5 arg6 harg6 arg7 harg7 arg8 harg8 hc0 x0 x1 x2 x3 x4 xs0 (ix2 r n)
      = x4 (ix2 r n) + gate (∑ k : Fin 4096, x0 (ix2 r k) * xs0 (ix2 k n)) * ∑ k : Fin 256, x2 (ix2 r k) * x3 (ix3 0 k n) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero (S := S1024x512) (by decide)]
  rw [Cert.Whole.whole_at arg2 harg2 x0 (by decide), Cert.Whole.whole_at arg4 harg4 x2 (by decide), Cert.Whole.whole_at arg5 harg5 x3 (by decide), Cert.Whole.whole_at arg6 harg6 x4 (by decide), Cert.Whole.whole_at arg8 harg8 xs0 (by decide)]
  exact dot_at _ _ _ _ _ _ _

end

variable (m : (ℓ : Loc nD τ sig) → Buf (Elt Ideal) ℓ) (c : Dev nD)

/-- The block of each window a grid point uses: row block `t % 8`, column block `t / 8`. -/
theorem idx : ∀ t : Fin cfg0.N, win0_0.index t = ![t.val % 8, 0] ∧ win0_1.index t = ![0, 0, t.val / 8]
    ∧ win0_2.index t = ![t.val % 8, 0] ∧ win0_3.index t = ![0, 0, t.val / 8]
    ∧ win0_4.index t = ![t.val % 8, t.val / 8] ∧ win0_5.index t = ![t.val % 8, t.val / 8] ∧ t.val / 8 < 8 :=
  (by decide +kernel : ∀ t : Fin grid0.N, _)

/-- Row `r` of a grid point's block, in the arrays. -/
def row (t : Fin cfg0.N) (r : Fin 1024) : Fin 8192 := ⟨1024 * (t.val % 8) + r.val, by omega⟩

/-- Column `n` of a grid point's block, in the result. -/
def col (t : Fin cfg0.N) (n : Fin 512) : Fin 4096 := ⟨512 * (t.val / 8) + n.val, by have := (idx t).2.2.2.2.2.2; omega⟩

/-- The normalised rows a grid point reads. -/
theorem a_at (t : Fin cfg0.N) (r : Fin 1024) (k : Fin 4096) :
    iblk m c 0 t (ix2 r k) = m ((c : Thread nD τ).loc main_arg0) (ix2 (row t r) k) := by
  have e1 : (row t r).val = 1024 * (t.val % 8) + r.val := rfl
  blk_ext [iblk, V, idx t]

/-- The gate's columns a grid point reads. -/
theorem w_at (t : Fin cfg0.N) (k : Fin 4096) (n : Fin 512) :
    iblk m c 1 t (ix3 0 k n) = m ((c : Thread nD τ).loc main_arg1) (ix3 0 k (col t n)) := by
  have e1 : (col t n).val = 512 * (t.val / 8) + n.val := rfl
  blk_ext [iblk, V, idx t]

/-- The embedding's rows a grid point reads. -/
theorem p_at (t : Fin cfg0.N) (r : Fin 1024) (k : Fin 256) :
    iblk m c 2 t (ix2 r k) = m ((c : Thread nD τ).loc main_arg2) (ix2 (row t r) k) := by
  have e1 : (row t r).val = 1024 * (t.val % 8) + r.val := rfl
  blk_ext [iblk, V, idx t]

/-- The projection's columns a grid point reads. -/
theorem q_at (t : Fin cfg0.N) (k : Fin 256) (n : Fin 512) :
    iblk m c 3 t (ix3 0 k n) = m ((c : Thread nD τ).loc main_arg3) (ix3 0 k (col t n)) := by
  have e1 : (col t n).val = 512 * (t.val / 8) + n.val := rfl
  blk_ext [iblk, V, idx t]

/-- The residual a grid point reads. -/
theorem h_at (t : Fin cfg0.N) (r : Fin 1024) (n : Fin 512) :
    iblk m c 4 t (ix2 r n) = m ((c : Thread nD τ).loc main_arg4) (ix2 (row t r) (col t n)) := by
  have e1 : (row t r).val = 1024 * (t.val % 8) + r.val := rfl
  have e2 : (col t n).val = 512 * (t.val / 8) + n.val := rfl
  blk_ext [iblk, V, idx t]

/-- After every grid point the scratch holds its column block of the gate's weights. -/
theorem held : ∀ (n : ℕ) (hn : n < cfg0.N) (k : Fin 4096) (x : Fin 512),
    (outsAt0 m c n hn).2 (ix2 k x) = m ((c : Thread nD τ).loc main_arg1) (ix3 0 k (col ⟨n, hn⟩ x))
  | n, hn, k, x => by
    by_cases h0 : n % 8 = 0
    · refine (congrArg (fun o => o.2 (ix2 k x)) (outsAt0_A m c ⟨n, hn⟩ h0)).trans ?_
      have P := heldA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩) ((hcond0_0 ⟨n, hn⟩).mpr h0)
      refine Eq.trans ?_ ((congrFun P (ix2 k x)).trans (w_at m c ⟨n, hn⟩ k x))
      dsimp only
    · refine (congrArg (fun o => o.2 (ix2 k x)) (outsAt0_B m c ⟨n, hn⟩ h0)).trans ?_
      have ih := held (n - 1) (by omega) k x
      have e : col ⟨n - 1, by omega⟩ x = col ⟨n, hn⟩ x := Fin.ext (by show 512 * ((n - 1) / 8) + x.val = 512 * (n / 8) + x.val; omega)
      rw [e] at ih
      refine Eq.trans ?_ ih
      unfold sout0_B_0
      dsimp only

/-- What a grid point writes back. -/
theorem point (t : Fin cfg0.N) (r : Fin 1024) (n : Fin 512) :
    (outsAt0 m c t.val t.isLt).1 (ix2 r n) = embed (m ((c : Thread nD τ).loc main_arg0)) (m ((c : Thread nD τ).loc main_arg1)) (m ((c : Thread nD τ).loc main_arg2)) (m ((c : Thread nD τ).loc main_arg3)) (m ((c : Thread nD τ).loc main_arg4)) (row t r) (col t n) := by
  unfold embed
  by_cases h0 : t.val % 8 = 0
  · refine (congrArg (fun o => o.1 (ix2 r n)) (outsAt0_A m c t h0)).trans ?_
    have P := pointA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) r n
    refine Eq.trans ?_ (P.trans (congrArg₂ (· + ·) (h_at m c t r n) (congrArg₂ (fun a b => gate a * b)
      (Finset.sum_congr rfl fun k _ => by rw [a_at, w_at]) (Finset.sum_congr rfl fun k _ => by rw [p_at, q_at]))))
    dsimp only
  · refine (congrArg (fun o => o.1 (ix2 r n)) (outsAt0_B m c t h0)).trans ?_
    have P := pointB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)) r n
    have e : col ⟨t.val - 1, by omega⟩ n = col t n := Fin.ext (by show 512 * ((t.val - 1) / 8) + n.val = 512 * (t.val / 8) + n.val; omega)
    refine Eq.trans ?_ (P.trans (congrArg₂ (· + ·) (h_at m c t r n) (congrArg₂ (fun a b => gate a * b)
      (Finset.sum_congr rfl fun k _ => by rw [a_at, held, e]) (Finset.sum_congr rfl fun k _ => by rw [p_at, q_at]))))
    dsimp only

/-- The result: the embedding at every element. -/
def res : FVec Ideal S8192x4096 .f32 := fun y =>
  embed (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)

/-- The output array after the run. -/
theorem final : (dats m 0 c).arrAt 5 cfg0.N = res m c := by
  refine (dats m 0 c).arrAt_eq_of_covers 5 _ (by decide +kernel) fun t _ y => ?_
  blk_simp
  rw [after0_5]
  have hy : y = ix2 (y 0) (y 1) := by
    blk_ext []
  rw [hy]
  refine (point m c t (y 0) (y 1)).trans ((rfl : _ = res m c (ix2 (row t (y 0)) (col t (y 1)))).trans ?_)
  have e1 : (row t (y 0)).val = 1024 * (t.val % 8) + (y 0).val := rfl
  have e2 : (col t (y 1)).val = 512 * (t.val / 8) + (y 1).val := rfl
  blk_ext [idx t]

open Cert.ReferencePleIdeal.Read in
/-- The reference's gate weights at an index: the first layer's. -/
theorem wg_at (w : FVec Ideal S2x4096x4096 .f32) (k n : Fin 4096) : val_main_v2 (F := Ideal) w (ix2 k n) = w (ix3 0 k n) := by
  rw [val_main_v2_apply, val_main_v1_apply]
  refine congrArg w ?_
  funext x
  have hk := k.isLt
  have hn := n.isLt
  fin_cases x
  · rfl
  · exact Fin.ext (show (k.val * 4096 + n.val) / 4096 % 4096 = k.val by omega)
  · exact Fin.ext (show (k.val * 4096 + n.val) % 4096 = n.val by omega)

open Cert.ReferencePleIdeal.Read in
/-- The reference's projection weights at an index: the first layer's. -/
theorem wp_at (q : FVec Ideal S2x256x4096 .f32) (k : Fin 256) (n : Fin 4096) : val_main_v12 (F := Ideal) q (ix2 k n) = q (ix3 0 k n) := by
  rw [val_main_v12_apply, val_main_v11_apply]
  refine congrArg q ?_
  funext x
  have hk := k.isLt
  have hn := n.isLt
  fin_cases x
  · rfl
  · exact Fin.ext (show (k.val * 4096 + n.val) / 4096 % 256 = k.val by omega)
  · exact Fin.ext (show (k.val * 4096 + n.val) % 4096 = n.val by omega)

open Cert.ReferencePleIdeal.Read in
/-- The reference's gate product at an index. -/
theorem v3_at (a : FVec Ideal S8192x4096 .bf16) (w : FVec Ideal S2x4096x4096 .f32) (r : Fin 8192) (n : Fin 4096) :
    val_main_v3 (F := Ideal) a w (ix2 r n) = ∑ k : Fin 4096, a (ix2 r k) * w (ix3 0 k n) := by
  rw [val_main_v3_apply]
  refine Finset.sum_congr rfl fun k _ => congrArg₂ (· * ·) ?_ ((congrArg (val_main_v2 (F := Ideal) w) (?_ : ridx_main_v3 (ix2 r n) k = ix2 k n)).trans (wg_at w k n))
  · rw [val_main_v0_apply]
    exact congrArg a (by funext x; fin_cases x <;> rfl)
  · funext x
    fin_cases x <;> rfl

open Cert.ReferencePleIdeal.Read in
/-- The reference's projection at an index. -/
theorem v13_at (p : FVec Ideal S8192x256 .bf16) (q : FVec Ideal S2x256x4096 .f32) (r : Fin 8192) (n : Fin 4096) :
    val_main_v13 (F := Ideal) p q (ix2 r n) = ∑ k : Fin 256, p (ix2 r k) * q (ix3 0 k n) := by
  rw [val_main_v13_apply]
  refine Finset.sum_congr rfl fun k _ => congrArg₂ (· * ·) ?_ ((congrArg (val_main_v12 (F := Ideal) q) (?_ : ridx_main_v13 (ix2 r n) k = ix2 k n)).trans (wp_at q k n))
  · rw [val_main_v10_apply]
    exact congrArg p (by funext x; fin_cases x <;> rfl)
  · funext x
    fin_cases x <;> rfl

open Cert.ReferencePleIdeal.Read in
/-- The reference at an index. -/
theorem ref_at (a : FVec Ideal S8192x4096 .bf16) (w : FVec Ideal S2x4096x4096 .f32) (p : FVec Ideal S8192x256 .bf16)
    (q : FVec Ideal S2x256x4096 .f32) (h : FVec Ideal S8192x4096 .f32) (r : Fin 8192) (n : Fin 4096) :
    val_main_v15 (F := Ideal) a w p q h (ix2 r n) = embed a w p q h r n := by
  rw [val_main_v15_apply, val_main_v14_apply, val_main_v9_apply, val_main_v7_apply, val_main_v5_apply, val_main_v4_apply, v3_at, v13_at,
    val_main_v8_apply, val_main_v6_apply, val_main_cst_apply, val_main_cst_0_apply]
  unfold embed gate
  rw [sub_eq_add_neg, zero_add]
  pointwise []

attribute [local instance] Cert.KernelPle.Gen.facts Cert.KernelPleIdeal.Gen.facts Cert.ReferencePleIdeal.Gen.facts

/-- The idealized kernel and the idealized reference end at the same array. -/
theorem algebraic : Cert.algebraic_KernelPleIdeal_ReferencePleIdeal := by
  intro m ρ m' ρ' _ hag
  refine ⟨fun c => res m c, ?_, ?_⟩
  · exact (θ_run _ _ _).mono (fun _ h c => ⟨(h c).1.trans (final m c), (h c).2⟩) (Cert.KernelPleIdeal.Value.run_blocks m ρ)
  · refine (θ_run _ _ _).mono (fun _ h c => ⟨(h c).1.trans ?_, (h c).2⟩) (Cert.ReferencePleIdeal.Value.run m' ρ')
    rw [Cert.ReferencePleIdeal.Read.val_main_v15_eq]
    obtain ⟨e0, e1, e2, e3, e4⟩ := hag c
    rw [e0, e1, e2, e3, e4]
    funext y
    have hy : y = ix2 (y 0) (y 1) := by
      funext a
      fin_cases a <;> rfl
    rw [hy]
    exact ref_at _ _ _ _ _ _ _

/-- The idealized reference runs, keeps its arguments, and leaves every counter at zero: it declares none. -/
theorem frame_r : Cert.quiescent_ReferencePleIdeal := fun m ρ _ =>
  (θ_run _ _ _).mono (fun r h => ⟨fun c => (h c).2, sem_eq_zero_of_no_sems (by decide) r.2⟩) (Cert.ReferencePleIdeal.Value.run m ρ)

end Cert.Ple

end
-- ==== Proof.Norm.lean ====
/- The final norm over the prompt: what its grid points leave, and that the output is the norm of every row. -/
module

public import Idealize.ShloMosaic.Lib.Pointwise
public import Idealize.ShloMosaic.Lib.Pipeline.ValueKit
public import proofs.«01_k».proof.Defs
public import proofs.«01_k».proof.Proof.Gen.KernelNorm.Frame
public import proofs.«01_k».proof.Proof.Gen.KernelNormIdeal.Value
public import proofs.«01_k».proof.Proof.Gen.ReferenceNormIdeal.Read

@[expose] public section

set_option maxRecDepth 16384

noncomputable section

namespace Cert.Norm

open Idealize.ShloMosaic Idealize.ShloMosaic.TcCoe Idealize.SL.Sem Cert.KernelNormIdeal Cert.KernelNormIdeal.Gen

/-- The norm of row `r` of `x`, scaled by `g`, at column `n`. -/
def norm (x : FVec Ideal S8192x4096 .f32) (g : FVec Ideal S4096 .f32) (r : Fin 8192) (n : Fin 4096) : EReal :=
  x (ix2 r n) * Ideal.rsqrt (Ideal.div (∑ k : Fin 4096, x (ix2 r k) * x (ix2 r k)) (Ideal.ofBits FTy.f32 1166016512#32) + Ideal.ofBits FTy.f32 897988541#32)
    * g (ix1 n)

/-- One block's norm at an index. -/
theorem norm_at (x : Vec Ideal S256x4096 .f32) (g : Vec Ideal S1x4096 .f32) (r : Fin 256) (n : Fin 4096) :
    k0_pay1 (F := Ideal) x g (ix2 r n)
      = x (ix2 r n) * Ideal.rsqrt (Ideal.div (∑ k : Fin 4096, x (ix2 r k) * x (ix2 r k)) (Ideal.ofBits FTy.f32 1166016512#32) + Ideal.ofBits FTy.f32 897988541#32)
        * g (ix2 0 n) := by
  pointwise [k0_pay1]

/-- What a point leaves is the norm of its block. -/
theorem out_eq (x0 : Vec Ideal S256x4096 .f32) (x1 : Vec Ideal S1x4096 .f32) : out0_2 (F := Ideal) x0 x1 = k0_pay1 x0 x1 := by
  unfold out0_2
  rw [View.canon_unit_zero (S := S256x4096) (by decide), View.ld_unit_zero (by decide), View.ld_unit_zero (by decide)]

variable (m : (ℓ : Loc nD τ sig) → Buf (Elt Ideal) ℓ) (c : Dev nD)

/-- The block of each window a grid point uses: row block `t`, and the scale whole. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- Row `r` of a grid point's block, in the arrays. -/
def row (t : Fin cfg0.N) (r : Fin 256) : Fin 8192 := ⟨256 * t.val + r.val, by have := (idx t).2.2.2; omega⟩

/-- The rows a grid point reads. -/
theorem x_at (t : Fin cfg0.N) (r : Fin 256) (k : Fin 4096) :
    iblk m c 0 t (ix2 r k) = m ((c : Thread nD τ).loc main_arg0) (ix2 (row t r) k) := by
  have e1 : (row t r).val = 256 * t.val + r.val := rfl
  blk_ext [iblk, V, idx t]

/-- The scale a grid point reads. -/
theorem g_at (t : Fin cfg0.N) (k : Fin 4096) :
    iblk m c 1 t (ix2 0 k) = m ((c : Thread nD τ).loc main_arg1) (ix1 k) := by
  have e : ((View.whole main_v0).slice (win0_1.rect t)).emb (ix2 0 k) = (ix2 0 k : S1x4096.Idx) := by
    blk_ext [idx t]
  blk_simp [iblk]
  entry_read
  rw [e]
  exact shapeCast_apply (t := S1x4096) _ shapeCasts_S4096_S1x4096 (ix2 0 k) (ix1 k)
    (by rewrite [Shape.rowMajor_val_one, Shape.rowMajor_val_two]; show k.val = 0 * 4096 + k.val; omega)

/-- The result: the norm at every element. -/
def res : FVec Ideal S8192x4096 .f32 := fun y =>
  norm (m ((c : Thread nD τ).loc main_arg0)) (m ((c : Thread nD τ).loc main_arg1)) (y 0) (y 1)

/-- What a grid point writes back. -/
theorem point (t : Fin cfg0.N) (r : Fin 256) (n : Fin 4096) :
    out0_2 (iblk m c 0 t) (iblk m c 1 t) (ix2 r n) = norm (m ((c : Thread nD τ).loc main_arg0)) (m ((c : Thread nD τ).loc main_arg1)) (row t r) n := by
  rw [out_eq, norm_at, g_at]
  simp only [x_at]
  rfl

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (y 1))).trans ?_)
  have e1 : (row t (y 0)).val = 256 * t.val + (y 0).val := rfl
  blk_ext [idx t]

open Cert.ReferenceNormIdeal.Read in
/-- The reference at an index. -/
theorem ref_at (x : FVec Ideal S8192x4096 .f32) (g : FVec Ideal S4096 .f32) (r : Fin 8192) (n : Fin 4096) :
    val_main_v12 (F := Ideal) x g (ix2 r n) = norm x g r n := by
  unfold norm
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

attribute [local instance] Cert.KernelNorm.Gen.facts Cert.KernelNormIdeal.Gen.facts Cert.ReferenceNormIdeal.Gen.facts

/-- The idealized kernel and the idealized reference end at the same array. -/
theorem algebraic : Cert.algebraic_KernelNormIdeal_ReferenceNormIdeal := by
  intro m ρ m' ρ' _ hag
  refine ⟨fun c => res m c, ?_, ?_⟩
  · exact (θ_run _ _ _).mono (fun _ h c => ⟨(h c).1.trans (final m c), (h c).2⟩) (Cert.KernelNormIdeal.Value.run_blocks m ρ)
  · refine (θ_run _ _ _).mono (fun _ h c => ⟨(h c).1.trans ?_, (h c).2⟩) (Cert.ReferenceNormIdeal.Value.run m' ρ')
    rw [Cert.ReferenceNormIdeal.Read.val_main_v12_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNormIdeal := fun m ρ _ =>
  (θ_run _ _ _).mono (fun r h => ⟨fun c => (h c).2, sem_eq_zero_of_no_sems (by decide) r.2⟩) (Cert.ReferenceNormIdeal.Value.run m ρ)

end Cert.Norm

end
-- ==== Proof.DiffKvS.lean ====
/- For the sampled batch's 64 rows, the keys and values of the differential attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelDiffKvS.Frame
public import proofs.«01_k».proof.Proof.Gen.KernelDiffKvSIdeal.Value
public import proofs.«01_k».proof.Proof.Gen.ReferenceDiffKvSIdeal.Read

@[expose] public section

set_option maxRecDepth 16384

noncomputable section

namespace Cert.DiffKvS

open Idealize.ShloMosaic Idealize.ShloMosaic.TcCoe Idealize.SL.Sem Cert.KernelDiffKvSIdeal Cert.KernelDiffKvSIdeal.Gen

/-- Column `n` of the result is this column of the weights. -/
def wcol (n : Fin 8192) : Fin 16384 := ⟨4096 + n.val, by omega⟩

/-- The product: row `r` of `a` against the weights' column for column `n` of the result. -/
def prod (a : FVec Ideal S64x4096 .bf16) (w : FVec Ideal S4096x16384 .f32) (r : Fin 64) (n : Fin 8192) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S64x4096 .bf16) (w : Vec Ideal S4096x512 .bf16) (r : Fin 64) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S64x4096 .bf16) (harg2 : arg2.IsWhole) (arg3 : Memref sig .tc .vmem S4096x512 .f32) (harg3 : arg3.IsWhole) (arg4 : Memref sig .tc .vmem S64x512 .f32) (harg4 : arg4.IsWhole) (arg5 : Memref sig .tc .vmem S4096x512 .bf16) (harg5 : arg5.IsWhole)
  (x0 : Vec Ideal S64x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- A grid point leaves the product of its block. -/
theorem pointA (hc0 : cond0_0 i) (r : Fin 64) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S64x512) (by decide)]
  rw [Cert.Whole.whole_at arg2 harg2 x0 (by decide), held_read]
  exact dot_at _ _ _ _

end

variable (m : (ℓ : Loc nD τ sig) → Buf (Elt Ideal) ℓ) (c : Dev nD)

/-- The block of each window a grid point uses: the rows whole, column block `t`. -/
theorem idx : ∀ t : Fin cfg0.N, win0_0.index t = ![0, 0] ∧ win0_1.index t = ![0, 8 + t.val]
    ∧ win0_2.index t = ![0, t.val] ∧ t.val < 16 :=
  (by decide +kernel : ∀ t : Fin grid0.N, _)

/-- Column `n` of a grid point's block, in the result. -/
def col (t : Fin cfg0.N) (n : Fin 512) : Fin 8192 := ⟨512 * (t.val) + n.val, by have := (idx t).2.2.2; omega⟩

/-- The rows a grid point reads. -/
theorem a_at (t : Fin cfg0.N) (r : Fin 64) (k : Fin 4096) :
    iblk m c 0 t (ix2 r k) = m ((c : Thread nD τ).loc main_arg0) (ix2 (r) k) := by
  blk_ext [iblk, V, idx t]

/-- The columns a grid point reads. -/
theorem w_at (t : Fin cfg0.N) (k : Fin 4096) (n : Fin 512) :
    iblk m c 1 t (ix2 k n) = m ((c : Thread nD τ).loc main_arg1) (ix2 k (wcol (col t n))) := by
  have e1 : (wcol (col t n)).val = 4096 + (512 * (t.val) + n.val) := rfl
  blk_ext [iblk, V, idx t]

/-- What a grid point writes back. -/
theorem point (t : Fin cfg0.N) (r : Fin 64) (n : Fin 512) :
    outsAt0 m c t (ix2 r n) = prod (m ((c : Thread nD τ).loc main_arg0)) (m ((c : Thread nD τ).loc main_arg1)) r (col t n) := by
  unfold prod outsAt0
  refine (pointA c (grid0.coords t) (ms0_0 t) (hs0_0 t) (ms0_1 t) (hs0_1 t) (ms0_2 t) (hs0_2 t) scM0_0 (Memref.isWhole_whole _) (iblk m c 0 t) (iblk m c 1 t) (hcond0_0 t) r n).trans ?_
  exact Finset.sum_congr rfl fun k _ => by rw [a_at, w_at]

/-- The result: every row against every column. -/
def res : FVec Ideal S64x8192 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (y 0) (col t (y 1)))).trans ?_)
  have e2 : (col t (y 1)).val = 512 * (t.val) + (y 1).val := rfl
  blk_ext [idx t]

/-- The reference at an index. -/
theorem ref_at (a : FVec Ideal S64x4096 .bf16) (w : FVec Ideal S4096x16384 .f32) (r : Fin 64) (n : Fin 8192) :
    Cert.ReferenceDiffKvSIdeal.Read.val_main_v2 (F := Ideal) a w (ix2 r n) = prod a w r n := by
  rw [Cert.ReferenceDiffKvSIdeal.Read.val_main_v2_apply, Cert.ReferenceDiffKvSIdeal.Read.val_main_v1_apply]
  refine Finset.sum_congr rfl fun k _ => ?_
  rw [Cert.ReferenceDiffKvSIdeal.Read.val_main_v0_apply]
  refine congrArg₂ (· * ·) (congrArg a ?_) (congrArg w ?_) <;> funext x <;> fin_cases x <;> first | rfl | exact Fin.ext (by simp [wcol, ix2])

attribute [local instance] Cert.KernelDiffKvS.Gen.facts Cert.KernelDiffKvSIdeal.Gen.facts Cert.ReferenceDiffKvSIdeal.Gen.facts

/-- The idealized kernel and the idealized reference end at the same array. -/
theorem algebraic : Cert.algebraic_KernelDiffKvSIdeal_ReferenceDiffKvSIdeal := by
  intro m ρ m' ρ' _ hag
  refine ⟨fun c => res m c, ?_, ?_⟩
  · exact (θ_run _ _ _).mono (fun _ h c => ⟨(h c).1.trans (final m c), (h c).2⟩) (Cert.KernelDiffKvSIdeal.Value.run_blocks m ρ)
  · refine (θ_run _ _ _).mono (fun _ h c => ⟨(h c).1.trans ?_, (h c).2⟩) (Cert.ReferenceDiffKvSIdeal.Value.run m' ρ')
    rw [Cert.ReferenceDiffKvSIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceDiffKvSIdeal := fun m ρ _ =>
  (θ_run _ _ _).mono (fun r h => ⟨fun c => (h c).2, sem_eq_zero_of_no_sems (by decide) r.2⟩) (Cert.ReferenceDiffKvSIdeal.Value.run m ρ)

end Cert.DiffKvS

end
-- ==== Proof.SbKvS.lean ====
/- For the sampled batch's 64 rows, the keys and values of the stick-breaking attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelSbKvS.Frame
public import proofs.«01_k».proof.Proof.Gen.KernelSbKvSIdeal.Value
public import proofs.«01_k».proof.Proof.Gen.ReferenceSbKvSIdeal.Read

@[expose] public section

set_option maxRecDepth 16384

noncomputable section

namespace Cert.SbKvS

open Idealize.ShloMosaic Idealize.ShloMosaic.TcCoe Idealize.SL.Sem Cert.KernelSbKvSIdeal Cert.KernelSbKvSIdeal.Gen

/-- Column `n` of the result is this column of the weights. -/
def wcol (n : Fin 4096) : Fin 15408 := ⟨2048 + n.val, by omega⟩

/-- The product: row `r` of `a` against the weights' column for column `n` of the result. -/
def prod (a : FVec Ideal S64x4096 .bf16) (w : FVec Ideal S4096x15408 .f32) (r : Fin 64) (n : Fin 4096) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S64x4096 .bf16) (w : Vec Ideal S4096x512 .bf16) (r : Fin 64) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S64x4096 .bf16) (harg2 : arg2.IsWhole) (arg3 : Memref sig .tc .vmem S4096x512 .f32) (harg3 : arg3.IsWhole) (arg4 : Memref sig .tc .vmem S64x512 .f32) (harg4 : arg4.IsWhole) (arg5 : Memref sig .tc .vmem S4096x512 .bf16) (harg5 : arg5.IsWhole)
  (x0 : Vec Ideal S64x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- A grid point leaves the product of its block. -/
theorem pointA (hc0 : cond0_0 i) (r : Fin 64) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S64x512) (by decide)]
  rw [Cert.Whole.whole_at arg2 harg2 x0 (by decide), held_read]
  exact dot_at _ _ _ _

end

variable (m : (ℓ : Loc nD τ sig) → Buf (Elt Ideal) ℓ) (c : Dev nD)

/-- The block of each window a grid point uses: the rows whole, column block `t`. -/
theorem idx : ∀ t : Fin cfg0.N, win0_0.index t = ![0, 0] ∧ win0_1.index t = ![0, 4 + t.val]
    ∧ win0_2.index t = ![0, t.val] ∧ t.val < 8 :=
  (by decide +kernel : ∀ t : Fin grid0.N, _)

/-- Column `n` of a grid point's block, in the result. -/
def col (t : Fin cfg0.N) (n : Fin 512) : Fin 4096 := ⟨512 * (t.val) + n.val, by have := (idx t).2.2.2; omega⟩

/-- The rows a grid point reads. -/
theorem a_at (t : Fin cfg0.N) (r : Fin 64) (k : Fin 4096) :
    iblk m c 0 t (ix2 r k) = m ((c : Thread nD τ).loc main_arg0) (ix2 (r) k) := by
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 2048 + (512 * (t.val) + n.val) := rfl
  unfold X0_1 Pipeline.Window.fill
  rw [dif_pos (moved0_1 t _)]
  blk_ext [iblk, V, idx t]

/-- What a grid point writes back. -/
theorem point (t : Fin cfg0.N) (r : Fin 64) (n : Fin 512) :
    outsAt0 m c t (ix2 r n) = prod (m ((c : Thread nD τ).loc main_arg0)) (m ((c : Thread nD τ).loc main_arg1)) r (col t n) := by
  unfold prod outsAt0
  refine (pointA c (grid0.coords t) (ms0_0 t) (hs0_0 t) (ms0_1 t) (hs0_1 t) (ms0_2 t) (hs0_2 t) scM0_0 (Memref.isWhole_whole _) (iblk m c 0 t) (X0_1 m c t) (hcond0_0 t) r n).trans ?_
  exact Finset.sum_congr rfl fun k _ => by rw [a_at, w_at]

/-- The result: every row against every column. -/
def res : FVec Ideal S64x4096 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (y 0) (col t (y 1)))).trans ?_)
  have e2 : (col t (y 1)).val = 512 * (t.val) + (y 1).val := rfl
  blk_ext [idx t]

/-- The reference at an index. -/
theorem ref_at (a : FVec Ideal S64x4096 .bf16) (w : FVec Ideal S4096x15408 .f32) (r : Fin 64) (n : Fin 4096) :
    Cert.ReferenceSbKvSIdeal.Read.val_main_v2 (F := Ideal) a w (ix2 r n) = prod a w r n := by
  rw [Cert.ReferenceSbKvSIdeal.Read.val_main_v2_apply, Cert.ReferenceSbKvSIdeal.Read.val_main_v1_apply]
  refine Finset.sum_congr rfl fun k _ => ?_
  rw [Cert.ReferenceSbKvSIdeal.Read.val_main_v0_apply]
  refine congrArg₂ (· * ·) (congrArg a ?_) (congrArg w ?_) <;> funext x <;> fin_cases x <;> first | rfl | exact Fin.ext (by simp [wcol, ix2])

attribute [local instance] Cert.KernelSbKvS.Gen.facts Cert.KernelSbKvSIdeal.Gen.facts Cert.ReferenceSbKvSIdeal.Gen.facts

/-- The idealized kernel and the idealized reference end at the same array. -/
theorem algebraic : Cert.algebraic_KernelSbKvSIdeal_ReferenceSbKvSIdeal := by
  intro m ρ m' ρ' _ hag
  refine ⟨fun c => res m c, ?_, ?_⟩
  · exact (θ_run _ _ _).mono (fun _ h c => ⟨(h c).1.trans (final m c), (h c).2⟩) (Cert.KernelSbKvSIdeal.Value.run_blocks m ρ)
  · refine (θ_run _ _ _).mono (fun _ h c => ⟨(h c).1.trans ?_, (h c).2⟩) (Cert.ReferenceSbKvSIdeal.Value.run m' ρ')
    rw [Cert.ReferenceSbKvSIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceSbKvSIdeal := fun m ρ _ =>
  (θ_run _ _ _).mono (fun r h => ⟨fun c => (h c).2, sem_eq_zero_of_no_sems (by decide) r.2⟩) (Cert.ReferenceSbKvSIdeal.Value.run m ρ)

end Cert.SbKvS

end
-- ==== Proof.NsaKvS.lean ====
/- For the sampled batch's 64 rows, the compressed and selected keys and values of the sparse attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelNsaKvS.Frame
public import proofs.«01_k».proof.Proof.Gen.KernelNsaKvSIdeal.Value
public import proofs.«01_k».proof.Proof.Gen.ReferenceNsaKvSIdeal.Read

@[expose] public section

set_option maxRecDepth 16384

noncomputable section

namespace Cert.NsaKvS

open Idealize.ShloMosaic Idealize.ShloMosaic.TcCoe Idealize.SL.Sem Cert.KernelNsaKvSIdeal Cert.KernelNsaKvSIdeal.Gen

/-- Column `n` of the result is this column of the weights. -/
def wcol (n : Fin 2048) : Fin 15408 := ⟨10240 + n.val, by omega⟩

/-- The product: row `r` of `a` against the weights' column for column `n` of the result. -/
def prod (a : FVec Ideal S64x4096 .bf16) (w : FVec Ideal S4096x15408 .f32) (r : Fin 64) (n : Fin 2048) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S64x4096 .bf16) (w : Vec Ideal S4096x512 .bf16) (r : Fin 64) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S64x4096 .bf16) (harg2 : arg2.IsWhole) (arg3 : Memref sig .tc .vmem S4096x512 .f32) (harg3 : arg3.IsWhole) (arg4 : Memref sig .tc .vmem S64x512 .f32) (harg4 : arg4.IsWhole) (arg5 : Memref sig .tc .vmem S4096x512 .bf16) (harg5 : arg5.IsWhole)
  (x0 : Vec Ideal S64x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- A grid point leaves the product of its block. -/
theorem pointA (hc0 : cond0_0 i) (r : Fin 64) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S64x512) (by decide)]
  rw [Cert.Whole.whole_at arg2 harg2 x0 (by decide), held_read]
  exact dot_at _ _ _ _

end

variable (m : (ℓ : Loc nD τ sig) → Buf (Elt Ideal) ℓ) (c : Dev nD)

/-- The block of each window a grid point uses: the rows whole, column block `t`. -/
theorem idx : ∀ t : Fin cfg0.N, win0_0.index t = ![0, 0] ∧ win0_1.index t = ![0, 20 + t.val]
    ∧ win0_2.index t = ![0, t.val] ∧ t.val < 4 :=
  (by decide +kernel : ∀ t : Fin grid0.N, _)

/-- Column `n` of a grid point's block, in the result. -/
def col (t : Fin cfg0.N) (n : Fin 512) : Fin 2048 := ⟨512 * (t.val) + n.val, by have := (idx t).2.2.2; omega⟩

/-- The rows a grid point reads. -/
theorem a_at (t : Fin cfg0.N) (r : Fin 64) (k : Fin 4096) :
    iblk m c 0 t (ix2 r k) = m ((c : Thread nD τ).loc main_arg0) (ix2 (r) k) := by
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 10240 + (512 * (t.val) + n.val) := rfl
  unfold X0_1 Pipeline.Window.fill
  rw [dif_pos (moved0_1 t _)]
  blk_ext [iblk, V, idx t]

/-- What a grid point writes back. -/
theorem point (t : Fin cfg0.N) (r : Fin 64) (n : Fin 512) :
    outsAt0 m c t (ix2 r n) = prod (m ((c : Thread nD τ).loc main_arg0)) (m ((c : Thread nD τ).loc main_arg1)) r (col t n) := by
  unfold prod outsAt0
  refine (pointA c (grid0.coords t) (ms0_0 t) (hs0_0 t) (ms0_1 t) (hs0_1 t) (ms0_2 t) (hs0_2 t) scM0_0 (Memref.isWhole_whole _) (iblk m c 0 t) (X0_1 m c t) (hcond0_0 t) r n).trans ?_
  exact Finset.sum_congr rfl fun k _ => by rw [a_at, w_at]

/-- The result: every row against every column. -/
def res : FVec Ideal S64x2048 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (y 0) (col t (y 1)))).trans ?_)
  have e2 : (col t (y 1)).val = 512 * (t.val) + (y 1).val := rfl
  blk_ext [idx t]

/-- The reference at an index. -/
theorem ref_at (a : FVec Ideal S64x4096 .bf16) (w : FVec Ideal S4096x15408 .f32) (r : Fin 64) (n : Fin 2048) :
    Cert.ReferenceNsaKvSIdeal.Read.val_main_v2 (F := Ideal) a w (ix2 r n) = prod a w r n := by
  rw [Cert.ReferenceNsaKvSIdeal.Read.val_main_v2_apply, Cert.ReferenceNsaKvSIdeal.Read.val_main_v1_apply]
  refine Finset.sum_congr rfl fun k _ => ?_
  rw [Cert.ReferenceNsaKvSIdeal.Read.val_main_v0_apply]
  refine congrArg₂ (· * ·) (congrArg a ?_) (congrArg w ?_) <;> funext x <;> fin_cases x <;> first | rfl | exact Fin.ext (by simp [wcol, ix2])

attribute [local instance] Cert.KernelNsaKvS.Gen.facts Cert.KernelNsaKvSIdeal.Gen.facts Cert.ReferenceNsaKvSIdeal.Gen.facts

/-- The idealized kernel and the idealized reference end at the same array. -/
theorem algebraic : Cert.algebraic_KernelNsaKvSIdeal_ReferenceNsaKvSIdeal := by
  intro m ρ m' ρ' _ hag
  refine ⟨fun c => res m c, ?_, ?_⟩
  · exact (θ_run _ _ _).mono (fun _ h c => ⟨(h c).1.trans (final m c), (h c).2⟩) (Cert.KernelNsaKvSIdeal.Value.run_blocks m ρ)
  · refine (θ_run _ _ _).mono (fun _ h c => ⟨(h c).1.trans ?_, (h c).2⟩) (Cert.ReferenceNsaKvSIdeal.Value.run m' ρ')
    rw [Cert.ReferenceNsaKvSIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNsaKvSIdeal := fun m ρ _ =>
  (θ_run _ _ _).mono (fun r h => ⟨fun c => (h c).2, sem_eq_zero_of_no_sems (by decide) r.2⟩) (Cert.ReferenceNsaKvSIdeal.Value.run m ρ)

end Cert.NsaKvS

end
-- ==== Proof.NsaWinS.lean ====
/- For the sampled batch's 64 rows, the window's keys and values of the sparse attention, projected from the normalised input: what its grid points leave, and that the output is the product of the rows and the columns. -/
module

public import Idealize.ShloMosaic.Lib.Pointwise
public import Idealize.ShloMosaic.Lib.Pipeline.ValueKit
public import proofs.«01_k».proof.Defs
public import proofs.«01_k».proof.Proof.Whole
public import proofs.«01_k».proof.Proof.Gen.KernelNsaWinS.Frame
public import proofs.«01_k».proof.Proof.Gen.KernelNsaWinSIdeal.Value
public import proofs.«01_k».proof.Proof.Gen.ReferenceNsaWinSIdeal.Read

@[expose] public section

set_option maxRecDepth 16384

noncomputable section

namespace Cert.NsaWinS

open Idealize.ShloMosaic Idealize.ShloMosaic.TcCoe Idealize.SL.Sem Cert.KernelNsaWinSIdeal Cert.KernelNsaWinSIdeal.Gen

/-- Column `n` of the result is this column of the weights. -/
def wcol (n : Fin 1024) : Fin 15408 := ⟨12288 + n.val, by omega⟩

/-- The product: row `r` of `a` against the weights' column for column `n` of the result. -/
def prod (a : FVec Ideal S64x4096 .bf16) (w : FVec Ideal S4096x15408 .f32) (r : Fin 64) (n : Fin 1024) : EReal :=
  ∑ k : Fin 4096, a (ix2 r k) * w (ix2 k (wcol n))

/-- The cast of the weights keeps them. -/
theorem cast_at (w : Vec Ideal S4096x512 .f32) : k0_pay1 (F := Ideal) w = w := by
  funext y
  pointwise [k0_pay1]

/-- One block's product at an index. -/
theorem dot_at (a : Vec Ideal S64x4096 .bf16) (w : Vec Ideal S4096x512 .bf16) (r : Fin 64) (n : Fin 512) :
    k0_pay2 (F := Ideal) a w (ix2 r n) = ∑ k : Fin 4096, a (ix2 r k) * w (ix2 k n) := by
  pointwise [k0_pay2]

section

variable (c : Dev nD) (i : grid0.Coords) (arg2 : Memref sig .tc .vmem S64x4096 .bf16) (harg2 : arg2.IsWhole) (arg3 : Memref sig .tc .vmem S4096x512 .f32) (harg3 : arg3.IsWhole) (arg4 : Memref sig .tc .vmem S64x512 .f32) (harg4 : arg4.IsWhole) (arg5 : Memref sig .tc .vmem S4096x512 .bf16) (harg5 : arg5.IsWhole)
  (x0 : Vec Ideal S64x4096 .bf16) (x1 : Vec Ideal S4096x512 .f32) (xs0 : Vec Ideal S4096x512 .bf16)

/-- The store of the cast weights fills the scratch with them. -/
theorem held_store (c : Dev nD) (y : S4096x512.Idx) : View.canon (kernelRun0_A.sl.HS0_1 (F := Ideal) c arg3 harg3 x1) y = x1 y := by
  unfold kernelRun0_A.sl.HS0_1
  rw [View.canon_unit_zero (S := S4096x512) (by decide), cast_at, Cert.Whole.whole_at arg3 harg3 x1 (by decide)]

/-- Read back, the scratch holds the cast weights. -/
theorem held_read (c : Dev nD) : kernelRun0_A.sl.v4 (F := Ideal) c arg3 harg3 arg5 x1 = x1 := by
  unfold kernelRun0_A.sl.v4
  rw [View.readCov_eq_canon']
  funext y
  refine (held_store arg3 harg3 x1 c _).trans (congrArg x1 ?_)
  funext a
  apply Fin.ext
  fin_cases a <;> simp [Rect.unit]

/-- A grid point leaves the product of its block. -/
theorem pointA (hc0 : cond0_0 i) (r : Fin 64) (n : Fin 512) :
    out0_A_2 (F := Ideal) c i arg2 harg2 arg3 harg3 arg4 harg4 arg5 harg5 hc0 x0 x1 (ix2 r n) = ∑ k : Fin 4096, x0 (ix2 r k) * x1 (ix2 k n) := by
  unfold out0_A_2
  rw [View.read_writes_eq_canon _ _ _ (cover0_A_2 c i arg2 harg2 arg3 harg3 arg4 harg4 arg5 harg5 hc0 x0 x1)]
  unfold kernelRun0_A
  dsimp only
  rw [View.canon_unit_zero (S := S64x512) (by decide)]
  rw [Cert.Whole.whole_at arg2 harg2 x0 (by decide), held_read]
  exact dot_at _ _ _ _

end

variable (m : (ℓ : Loc nD τ sig) → Buf (Elt Ideal) ℓ) (c : Dev nD)

/-- The block of each window a grid point uses: the rows whole, column block `t`. -/
theorem idx : ∀ t : Fin cfg0.N, win0_0.index t = ![0, 0] ∧ win0_1.index t = ![0, 24 + t.val]
    ∧ win0_2.index t = ![0, t.val] ∧ t.val < 2 :=
  (by decide +kernel : ∀ t : Fin grid0.N, _)

/-- Column `n` of a grid point's block, in the result. -/
def col (t : Fin cfg0.N) (n : Fin 512) : Fin 1024 := ⟨512 * (t.val) + n.val, by have := (idx t).2.2.2; omega⟩

/-- The rows a grid point reads. -/
theorem a_at (t : Fin cfg0.N) (r : Fin 64) (k : Fin 4096) :
    iblk m c 0 t (ix2 r k) = m ((c : Thread nD τ).loc main_arg0) (ix2 (r) k) := by
  blk_ext [iblk, V, idx t]

/-- The columns a grid point reads. -/
theorem w_at (t : Fin cfg0.N) (k : Fin 4096) (n : Fin 512) :
    X0_1 m c t (ix2 k n) = m ((c : Thread nD τ).loc main_arg1) (ix2 k (wcol (col t n))) := by
  have e1 : (wcol (col t n)).val = 12288 + (512 * (t.val) + n.val) := rfl
  unfold X0_1 Pipeline.Window.fill
  rw [dif_pos (moved0_1 t _)]
  blk_ext [iblk, V, idx t]

/-- What a grid point writes back. -/
theorem point (t : Fin cfg0.N) (r : Fin 64) (n : Fin 512) :
    outsAt0 m c t (ix2 r n) = prod (m ((c : Thread nD τ).loc main_arg0)) (m ((c : Thread nD τ).loc main_arg1)) r (col t n) := by
  unfold prod outsAt0
  refine (pointA c (grid0.coords t) (ms0_0 t) (hs0_0 t) (ms0_1 t) (hs0_1 t) (ms0_2 t) (hs0_2 t) scM0_0 (Memref.isWhole_whole _) (iblk m c 0 t) (X0_1 m c t) (hcond0_0 t) r n).trans ?_
  exact Finset.sum_congr rfl fun k _ => by rw [a_at, w_at]

/-- The result: every row against every column. -/
def res : FVec Ideal S64x1024 .f32 := fun y =>
  prod (m ((c : Thread nD τ).loc main_arg0)) (m ((c : Thread nD τ).loc main_arg1)) (y 0) (y 1)

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (y 0) (col t (y 1)))).trans ?_)
  have e2 : (col t (y 1)).val = 512 * (t.val) + (y 1).val := rfl
  blk_ext [idx t]

/-- The reference at an index. -/
theorem ref_at (a : FVec Ideal S64x4096 .bf16) (w : FVec Ideal S4096x15408 .f32) (r : Fin 64) (n : Fin 1024) :
    Cert.ReferenceNsaWinSIdeal.Read.val_main_v2 (F := Ideal) a w (ix2 r n) = prod a w r n := by
  rw [Cert.ReferenceNsaWinSIdeal.Read.val_main_v2_apply, Cert.ReferenceNsaWinSIdeal.Read.val_main_v1_apply]
  refine Finset.sum_congr rfl fun k _ => ?_
  rw [Cert.ReferenceNsaWinSIdeal.Read.val_main_v0_apply]
  refine congrArg₂ (· * ·) (congrArg a ?_) (congrArg w ?_) <;> funext x <;> fin_cases x <;> first | rfl | exact Fin.ext (by simp [wcol, ix2])

attribute [local instance] Cert.KernelNsaWinS.Gen.facts Cert.KernelNsaWinSIdeal.Gen.facts Cert.ReferenceNsaWinSIdeal.Gen.facts

/-- The idealized kernel and the idealized reference end at the same array. -/
theorem algebraic : Cert.algebraic_KernelNsaWinSIdeal_ReferenceNsaWinSIdeal := by
  intro m ρ m' ρ' _ hag
  refine ⟨fun c => res m c, ?_, ?_⟩
  · exact (θ_run _ _ _).mono (fun _ h c => ⟨(h c).1.trans (final m c), (h c).2⟩) (Cert.KernelNsaWinSIdeal.Value.run_blocks m ρ)
  · refine (θ_run _ _ _).mono (fun _ h c => ⟨(h c).1.trans ?_, (h c).2⟩) (Cert.ReferenceNsaWinSIdeal.Value.run m' ρ')
    rw [Cert.ReferenceNsaWinSIdeal.Read.val_main_v2_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNsaWinSIdeal := fun m ρ _ =>
  (θ_run _ _ _).mono (fun r h => ⟨fun c => (h c).2, sem_eq_zero_of_no_sems (by decide) r.2⟩) (Cert.ReferenceNsaWinSIdeal.Value.run m ρ)

end Cert.NsaWinS

end
-- ==== Proof.NormS.lean ====
/- The final norm over the sampled batch's 64 rows: what its grid points leave, and that the output is the norm of every row. -/
module

public import Idealize.ShloMosaic.Lib.Pointwise
public import Idealize.ShloMosaic.Lib.Pipeline.ValueKit
public import proofs.«01_k».proof.Defs
public import proofs.«01_k».proof.Proof.Gen.KernelNormS.Frame
public import proofs.«01_k».proof.Proof.Gen.KernelNormSIdeal.Value
public import proofs.«01_k».proof.Proof.Gen.ReferenceNormSIdeal.Read

@[expose] public section

set_option maxRecDepth 16384

noncomputable section

namespace Cert.NormS

open Idealize.ShloMosaic Idealize.ShloMosaic.TcCoe Idealize.SL.Sem Cert.KernelNormSIdeal Cert.KernelNormSIdeal.Gen

/-- The norm of row `r` of `x`, scaled by `g`, at column `n`. -/
def norm (x : FVec Ideal S64x4096 .f32) (g : FVec Ideal S4096 .f32) (r : Fin 64) (n : Fin 4096) : EReal :=
  x (ix2 r n) * Ideal.rsqrt (Ideal.div (∑ k : Fin 4096, x (ix2 r k) * x (ix2 r k)) (Ideal.ofBits FTy.f32 1166016512#32) + Ideal.ofBits FTy.f32 897988541#32)
    * g (ix1 n)

/-- One block's norm at an index. -/
theorem norm_at (x : Vec Ideal S64x4096 .f32) (g : Vec Ideal S1x4096 .f32) (r : Fin 64) (n : Fin 4096) :
    k0_pay1 (F := Ideal) x g (ix2 r n)
      = x (ix2 r n) * Ideal.rsqrt (Ideal.div (∑ k : Fin 4096, x (ix2 r k) * x (ix2 r k)) (Ideal.ofBits FTy.f32 1166016512#32) + Ideal.ofBits FTy.f32 897988541#32)
        * g (ix2 0 n) := by
  pointwise [k0_pay1]

/-- What a point leaves is the norm of its block. -/
theorem out_eq (x0 : Vec Ideal S64x4096 .f32) (x1 : Vec Ideal S1x4096 .f32) : out0_2 (F := Ideal) x0 x1 = k0_pay1 x0 x1 := by
  unfold out0_2
  rw [View.canon_unit_zero (S := S64x4096) (by decide), View.ld_unit_zero (by decide), View.ld_unit_zero (by decide)]

variable (m : (ℓ : Loc nD τ sig) → Buf (Elt Ideal) ℓ) (c : Dev nD)

/-- The block of each window a grid point uses: the rows whole, and the scale whole. -/
theorem idx : ∀ t : Fin cfg0.N, win0_0.index t = ![0, 0] ∧ win0_1.index t = ![0, 0] ∧ win0_2.index t = ![0, 0] ∧ t.val < 1 :=
  (by decide +kernel : ∀ t : Fin grid0.N, _)

/-- The rows a grid point reads. -/
theorem x_at (t : Fin cfg0.N) (r : Fin 64) (k : Fin 4096) :
    iblk m c 0 t (ix2 r k) = m ((c : Thread nD τ).loc main_arg0) (ix2 (r) k) := by
  blk_ext [iblk, V, idx t]

/-- The scale a grid point reads. -/
theorem g_at (t : Fin cfg0.N) (k : Fin 4096) :
    iblk m c 1 t (ix2 0 k) = m ((c : Thread nD τ).loc main_arg1) (ix1 k) := by
  have e : ((View.whole main_v0).slice (win0_1.rect t)).emb (ix2 0 k) = (ix2 0 k : S1x4096.Idx) := by
    blk_ext [idx t]
  blk_simp [iblk]
  entry_read
  rw [e]
  exact shapeCast_apply (t := S1x4096) _ shapeCasts_S4096_S1x4096 (ix2 0 k) (ix1 k)
    (by rewrite [Shape.rowMajor_val_one, Shape.rowMajor_val_two]; show k.val = 0 * 4096 + k.val; omega)

/-- The result: the norm at every element. -/
def res : FVec Ideal S64x4096 .f32 := fun y =>
  norm (m ((c : Thread nD τ).loc main_arg0)) (m ((c : Thread nD τ).loc main_arg1)) (y 0) (y 1)

/-- What a grid point writes back. -/
theorem point (t : Fin cfg0.N) (r : Fin 64) (n : Fin 4096) :
    out0_2 (iblk m c 0 t) (iblk m c 1 t) (ix2 r n) = norm (m ((c : Thread nD τ).loc main_arg0)) (m ((c : Thread nD τ).loc main_arg1)) (r) n := by
  rw [out_eq, norm_at, g_at]
  simp only [x_at]
  rfl

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (y 0) (y 1))).trans ?_)
  blk_ext [idx t]

open Cert.ReferenceNormSIdeal.Read in
/-- The reference at an index. -/
theorem ref_at (x : FVec Ideal S64x4096 .f32) (g : FVec Ideal S4096 .f32) (r : Fin 64) (n : Fin 4096) :
    val_main_v12 (F := Ideal) x g (ix2 r n) = norm x g r n := by
  unfold norm
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

attribute [local instance] Cert.KernelNormS.Gen.facts Cert.KernelNormSIdeal.Gen.facts Cert.ReferenceNormSIdeal.Gen.facts

/-- The idealized kernel and the idealized reference end at the same array. -/
theorem algebraic : Cert.algebraic_KernelNormSIdeal_ReferenceNormSIdeal := by
  intro m ρ m' ρ' _ hag
  refine ⟨fun c => res m c, ?_, ?_⟩
  · exact (θ_run _ _ _).mono (fun _ h c => ⟨(h c).1.trans (final m c), (h c).2⟩) (Cert.KernelNormSIdeal.Value.run_blocks m ρ)
  · refine (θ_run _ _ _).mono (fun _ h c => ⟨(h c).1.trans ?_, (h c).2⟩) (Cert.ReferenceNormSIdeal.Value.run m' ρ')
    rw [Cert.ReferenceNormSIdeal.Read.val_main_v12_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceNormSIdeal := fun m ρ _ =>
  (θ_run _ _ _).mono (fun r h => ⟨fun c => (h c).2, sem_eq_zero_of_no_sems (by decide) r.2⟩) (Cert.ReferenceNormSIdeal.Value.run m ρ)

end Cert.NormS

end
-- ==== Proof.LayerNorm.lean ====
/- The norm before a layer over the prompt: what its grid points leave, and that the output is the norm of every row. -/
module

public import Idealize.ShloMosaic.Lib.Pointwise
public import Idealize.ShloMosaic.Lib.Pipeline.ValueKit
public import proofs.«01_k».proof.Defs
public import proofs.«01_k».proof.Proof.Gen.KernelLayerNorm.Frame
public import proofs.«01_k».proof.Proof.Gen.KernelLayerNormIdeal.Value
public import proofs.«01_k».proof.Proof.Gen.ReferenceLayerNormIdeal.Read

@[expose] public section

set_option maxRecDepth 16384

noncomputable section

namespace Cert.LayerNorm

open Idealize.ShloMosaic Idealize.ShloMosaic.TcCoe Idealize.SL.Sem Cert.KernelLayerNormIdeal Cert.KernelLayerNormIdeal.Gen

/-- The norm of row `r` of `x`, scaled by `g`, at column `n`. -/
def norm (x : FVec Ideal S8192x4096 .f32) (g : FVec Ideal S4096 .f32) (r : Fin 8192) (n : Fin 4096) : EReal :=
  x (ix2 r n) * Ideal.rsqrt (Ideal.div (∑ k : Fin 4096, x (ix2 r k) * x (ix2 r k)) (Ideal.ofBits FTy.f32 1166016512#32) + Ideal.ofBits FTy.f32 897988541#32)
    * g (ix1 n)

/-- One block's norm at an index. -/
theorem norm_at (x : Vec Ideal S256x4096 .f32) (g : Vec Ideal S1x4096 .f32) (r : Fin 256) (n : Fin 4096) :
    k0_pay1 (F := Ideal) x g (ix2 r n)
      = x (ix2 r n) * Ideal.rsqrt (Ideal.div (∑ k : Fin 4096, x (ix2 r k) * x (ix2 r k)) (Ideal.ofBits FTy.f32 1166016512#32) + Ideal.ofBits FTy.f32 897988541#32)
        * g (ix2 0 n) := by
  pointwise [k0_pay1]

/-- What a point leaves is the norm of its block. -/
theorem out_eq (x0 : Vec Ideal S256x4096 .f32) (x1 : Vec Ideal S1x4096 .f32) : out0_2 (F := Ideal) x0 x1 = k0_pay1 x0 x1 := by
  unfold out0_2
  rw [View.canon_unit_zero (S := S256x4096) (by decide), View.ld_unit_zero (by decide), View.ld_unit_zero (by decide)]

variable (m : (ℓ : Loc nD τ sig) → Buf (Elt Ideal) ℓ) (c : Dev nD)

/-- The block of each window a grid point uses: row block `t`, and the scale whole. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- Row `r` of a grid point's block, in the arrays. -/
def row (t : Fin cfg0.N) (r : Fin 256) : Fin 8192 := ⟨256 * t.val + r.val, by have := (idx t).2.2.2; omega⟩

/-- The rows a grid point reads. -/
theorem x_at (t : Fin cfg0.N) (r : Fin 256) (k : Fin 4096) :
    iblk m c 0 t (ix2 r k) = m ((c : Thread nD τ).loc main_arg0) (ix2 (row t r) k) := by
  have e1 : (row t r).val = 256 * t.val + r.val := rfl
  blk_ext [iblk, V, idx t]

/-- The scale a grid point reads. -/
theorem g_at (t : Fin cfg0.N) (k : Fin 4096) :
    iblk m c 1 t (ix2 0 k) = m ((c : Thread nD τ).loc main_arg1) (ix1 k) := by
  have e : ((View.whole main_v0).slice (win0_1.rect t)).emb (ix2 0 k) = (ix2 0 k : S1x4096.Idx) := by
    blk_ext [idx t]
  blk_simp [iblk]
  entry_read
  rw [e]
  exact shapeCast_apply (t := S1x4096) _ shapeCasts_S4096_S1x4096 (ix2 0 k) (ix1 k)
    (by rewrite [Shape.rowMajor_val_one, Shape.rowMajor_val_two]; show k.val = 0 * 4096 + k.val; omega)

/-- The result: the norm at every element. -/
def res : FVec Ideal S8192x4096 .bf16 := fun y =>
  norm (m ((c : Thread nD τ).loc main_arg0)) (m ((c : Thread nD τ).loc main_arg1)) (y 0) (y 1)

/-- What a grid point writes back. -/
theorem point (t : Fin cfg0.N) (r : Fin 256) (n : Fin 4096) :
    out0_2 (iblk m c 0 t) (iblk m c 1 t) (ix2 r n) = norm (m ((c : Thread nD τ).loc main_arg0)) (m ((c : Thread nD τ).loc main_arg1)) (row t r) n := by
  rw [out_eq, norm_at, g_at]
  simp only [x_at]
  rfl

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (row t (y 0)) (y 1))).trans ?_)
  have e1 : (row t (y 0)).val = 256 * t.val + (y 0).val := rfl
  blk_ext [idx t]

open Cert.ReferenceLayerNormIdeal.Read in
/-- The reference at an index. -/
theorem ref_at (x : FVec Ideal S8192x4096 .f32) (g : FVec Ideal S4096 .f32) (r : Fin 8192) (n : Fin 4096) :
    val_main_v13 (F := Ideal) x g (ix2 r n) = norm x g r n := by
  unfold norm
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]

attribute [local instance] Cert.KernelLayerNorm.Gen.facts Cert.KernelLayerNormIdeal.Gen.facts Cert.ReferenceLayerNormIdeal.Gen.facts

/-- The idealized kernel and the idealized reference end at the same array. -/
theorem algebraic : Cert.algebraic_KernelLayerNormIdeal_ReferenceLayerNormIdeal := by
  intro m ρ m' ρ' _ hag
  refine ⟨fun c => res m c, ?_, ?_⟩
  · exact (θ_run _ _ _).mono (fun _ h c => ⟨(h c).1.trans (final m c), (h c).2⟩) (Cert.KernelLayerNormIdeal.Value.run_blocks m ρ)
  · refine (θ_run _ _ _).mono (fun _ h c => ⟨(h c).1.trans ?_, (h c).2⟩) (Cert.ReferenceLayerNormIdeal.Value.run m' ρ')
    rw [Cert.ReferenceLayerNormIdeal.Read.val_main_v13_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceLayerNormIdeal := fun m ρ _ =>
  (θ_run _ _ _).mono (fun r h => ⟨fun c => (h c).2, sem_eq_zero_of_no_sems (by decide) r.2⟩) (Cert.ReferenceLayerNormIdeal.Value.run m ρ)

end Cert.LayerNorm

end
-- ==== Proof.LayerNormS.lean ====
/- The norm before a layer over the sampled batch's 64 rows: what its grid points leave, and that the output is the norm of every row. -/
module

public import Idealize.ShloMosaic.Lib.Pointwise
public import Idealize.ShloMosaic.Lib.Pipeline.ValueKit
public import proofs.«01_k».proof.Defs
public import proofs.«01_k».proof.Proof.Gen.KernelLayerNormS.Frame
public import proofs.«01_k».proof.Proof.Gen.KernelLayerNormSIdeal.Value
public import proofs.«01_k».proof.Proof.Gen.ReferenceLayerNormSIdeal.Read

@[expose] public section

set_option maxRecDepth 16384

noncomputable section

namespace Cert.LayerNormS

open Idealize.ShloMosaic Idealize.ShloMosaic.TcCoe Idealize.SL.Sem Cert.KernelLayerNormSIdeal Cert.KernelLayerNormSIdeal.Gen

/-- The norm of row `r` of `x`, scaled by `g`, at column `n`. -/
def norm (x : FVec Ideal S64x4096 .f32) (g : FVec Ideal S4096 .f32) (r : Fin 64) (n : Fin 4096) : EReal :=
  x (ix2 r n) * Ideal.rsqrt (Ideal.div (∑ k : Fin 4096, x (ix2 r k) * x (ix2 r k)) (Ideal.ofBits FTy.f32 1166016512#32) + Ideal.ofBits FTy.f32 897988541#32)
    * g (ix1 n)

/-- One block's norm at an index. -/
theorem norm_at (x : Vec Ideal S64x4096 .f32) (g : Vec Ideal S1x4096 .f32) (r : Fin 64) (n : Fin 4096) :
    k0_pay1 (F := Ideal) x g (ix2 r n)
      = x (ix2 r n) * Ideal.rsqrt (Ideal.div (∑ k : Fin 4096, x (ix2 r k) * x (ix2 r k)) (Ideal.ofBits FTy.f32 1166016512#32) + Ideal.ofBits FTy.f32 897988541#32)
        * g (ix2 0 n) := by
  pointwise [k0_pay1]

/-- What a point leaves is the norm of its block. -/
theorem out_eq (x0 : Vec Ideal S64x4096 .f32) (x1 : Vec Ideal S1x4096 .f32) : out0_2 (F := Ideal) x0 x1 = k0_pay1 x0 x1 := by
  unfold out0_2
  rw [View.canon_unit_zero (S := S64x4096) (by decide), View.ld_unit_zero (by decide), View.ld_unit_zero (by decide)]

variable (m : (ℓ : Loc nD τ sig) → Buf (Elt Ideal) ℓ) (c : Dev nD)

/-- The block of each window a grid point uses: the rows whole, and the scale whole. -/
theorem idx : ∀ t : Fin cfg0.N, win0_0.index t = ![0, 0] ∧ win0_1.index t = ![0, 0] ∧ win0_2.index t = ![0, 0] ∧ t.val < 1 :=
  (by decide +kernel : ∀ t : Fin grid0.N, _)

/-- The rows a grid point reads. -/
theorem x_at (t : Fin cfg0.N) (r : Fin 64) (k : Fin 4096) :
    iblk m c 0 t (ix2 r k) = m ((c : Thread nD τ).loc main_arg0) (ix2 (r) k) := by
  blk_ext [iblk, V, idx t]

/-- The scale a grid point reads. -/
theorem g_at (t : Fin cfg0.N) (k : Fin 4096) :
    iblk m c 1 t (ix2 0 k) = m ((c : Thread nD τ).loc main_arg1) (ix1 k) := by
  have e : ((View.whole main_v0).slice (win0_1.rect t)).emb (ix2 0 k) = (ix2 0 k : S1x4096.Idx) := by
    blk_ext [idx t]
  blk_simp [iblk]
  entry_read
  rw [e]
  exact shapeCast_apply (t := S1x4096) _ shapeCasts_S4096_S1x4096 (ix2 0 k) (ix1 k)
    (by rewrite [Shape.rowMajor_val_one, Shape.rowMajor_val_two]; show k.val = 0 * 4096 + k.val; omega)

/-- The result: the norm at every element. -/
def res : FVec Ideal S64x4096 .bf16 := fun y =>
  norm (m ((c : Thread nD τ).loc main_arg0)) (m ((c : Thread nD τ).loc main_arg1)) (y 0) (y 1)

/-- What a grid point writes back. -/
theorem point (t : Fin cfg0.N) (r : Fin 64) (n : Fin 4096) :
    out0_2 (iblk m c 0 t) (iblk m c 1 t) (ix2 r n) = norm (m ((c : Thread nD τ).loc main_arg0)) (m ((c : Thread nD τ).loc main_arg1)) (r) n := by
  rw [out_eq, norm_at, g_at]
  simp only [x_at]
  rfl

/-- The output array after the run. -/
theorem final : (dats m 0 c).arrAt 2 cfg0.N = res m c := by
  refine (dats m 0 c).arrAt_eq_of_covers 2 _ (by decide +kernel) fun t _ y => ?_
  blk_simp
  rw [after0_2]
  have hy : y = ix2 (y 0) (y 1) := by
    blk_ext []
  rw [hy]
  refine (point m c t (y 0) (y 1)).trans ((rfl : _ = res m c (ix2 (y 0) (y 1))).trans ?_)
  blk_ext [idx t]

open Cert.ReferenceLayerNormSIdeal.Read in
/-- The reference at an index. -/
theorem ref_at (x : FVec Ideal S64x4096 .f32) (g : FVec Ideal S4096 .f32) (r : Fin 64) (n : Fin 4096) :
    val_main_v13 (F := Ideal) x g (ix2 r n) = norm x g r n := by
  unfold norm
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]

attribute [local instance] Cert.KernelLayerNormS.Gen.facts Cert.KernelLayerNormSIdeal.Gen.facts Cert.ReferenceLayerNormSIdeal.Gen.facts

/-- The idealized kernel and the idealized reference end at the same array. -/
theorem algebraic : Cert.algebraic_KernelLayerNormSIdeal_ReferenceLayerNormSIdeal := by
  intro m ρ m' ρ' _ hag
  refine ⟨fun c => res m c, ?_, ?_⟩
  · exact (θ_run _ _ _).mono (fun _ h c => ⟨(h c).1.trans (final m c), (h c).2⟩) (Cert.KernelLayerNormSIdeal.Value.run_blocks m ρ)
  · refine (θ_run _ _ _).mono (fun _ h c => ⟨(h c).1.trans ?_, (h c).2⟩) (Cert.ReferenceLayerNormSIdeal.Value.run m' ρ')
    rw [Cert.ReferenceLayerNormSIdeal.Read.val_main_v13_eq]
    obtain ⟨e0, e1⟩ := hag c
    rw [e0, e1]
    funext y
    have hy : y = ix2 (y 0) (y 1) := by
      funext a
      fin_cases a <;> rfl
    rw [hy]
    exact ref_at _ _ _ _

/-- The idealized reference runs, keeps its arguments, and leaves every counter at zero: it declares none. -/
theorem frame_r : Cert.quiescent_ReferenceLayerNormSIdeal := fun m ρ _ =>
  (θ_run _ _ _).mono (fun r h => ⟨fun c => (h c).2, sem_eq_zero_of_no_sems (by decide) r.2⟩) (Cert.ReferenceLayerNormSIdeal.Value.run m ρ)

end Cert.LayerNormS

end
-- ==== Proof.SbMath.lean ====
/- The mathematics of stick-breaking attention over one row of scores: the sum of log survivals after a key, the weights,
   the weighted sum, and how each grows by a chunk of 256 keys when the keys are taken from the last to the first. -/
module

public import proofs.«01_k».proof.Proof.Softmax

@[expose] public section

noncomputable section

namespace Cert.Sb

open Idealize.ShloMosaic Cert.Soft

/-- Column `e` of the keys, the first half of the keys and values. -/
def kcol (e : Fin 2048) : Fin 4096 := ⟨e.val, by omega⟩

/-- The logarithm of the logistic function. -/
def lsig (z : ℝ) : ℝ := min z 0 - Real.log (1 + Real.exp (-|z|))

/-- The logarithm of one minus the logistic function. -/
def lneg (z : ℝ) : ℝ := lsig z - z

/-- The log survival of key `j` in row `R`: zero for a key at or after the row. -/
def surv (s : ℕ → ℝ) (R j : ℕ) : ℝ := if j < R then lneg (s j) else 0

/-- The log survivals of the keys from `c` on, added. -/
def after (s : ℕ → ℝ) (R c : ℕ) : ℝ := ∑ j ∈ Finset.Ico c 2048, surv s R j

/-- The weight of key `j` in row `R`. -/
def wt (s : ℕ → ℝ) (R j : ℕ) : ℝ := if j < R then Real.exp (lsig (s j) + after s R (j + 1)) else 0

/-- The values of the keys from `c` on, weighted and added. -/
def att (s : ℕ → ℝ) (v : ℕ → EReal) (R c : ℕ) : EReal := ∑ j ∈ Finset.Ico c 2048, ((wt s R j : ℝ) : EReal) * v j

/-- A sum over the last keys, split after a chunk. -/
theorem sum_chunk {M : Type} [AddCommMonoid M] (f : ℕ → M) (c : ℕ) (h : c + 256 ≤ 2048) :
    ∑ j ∈ Finset.Ico c 2048, f j = ∑ j ∈ Finset.Ico (c + 256) 2048, f j + ∑ k : Fin 256, f (c + k) := by
  have e : ∑ j ∈ Finset.Ico c (c + 256), f j = ∑ k : Fin 256, f (c + k) := by
    rw [Finset.sum_Ico_eq_sum_range, show c + 256 - c = 256 by omega, Finset.sum_range]
  rw [← Finset.sum_Ico_consecutive f (show c ≤ c + 256 by omega) h, add_comm, e]

/-- The log survivals, one chunk further. -/
theorem after_step (s : ℕ → ℝ) (R c : ℕ) (h : c + 256 ≤ 2048) :
    after s R c = after s R (c + 256) + ∑ k : Fin 256, surv s R (c + k) := sum_chunk _ c h

/-- The weighted values, one chunk further. -/
theorem att_step (s : ℕ → ℝ) (v : ℕ → EReal) (R c : ℕ) (h : c + 256 ≤ 2048) :
    att s v R c = att s v R (c + 256) + ∑ k : Fin 256, ((wt s R (c + k) : ℝ) : EReal) * v (c + k) := sum_chunk _ c h

/-- The log survivals after a key inside a chunk: the chunk's suffix without the key, and all after the chunk. -/
theorem after_in (s : ℕ → ℝ) (R c : ℕ) (h : c + 256 ≤ 2048) (n : Fin 256) :
    after s R (c + n + 1) = (∑ k : Fin 256, if n ≤ k then surv s R (c + k) else 0) - surv s R (c + n) + after s R (c + 256) := by
  unfold after
  have e : ∑ k : Fin 256, (if n ≤ k then surv s R (c + k) else 0) = ∑ j ∈ Finset.Ico (c + n) (c + 256), surv s R j := by
    rw [Finset.sum_Ico_eq_sum_range]
    have e1 : ∑ k : Fin 256, (if n ≤ k then surv s R (c + k) else 0) = ∑ k ∈ Finset.range 256, if (n : ℕ) ≤ k then surv s R (c + k) else 0 := by
      rw [Finset.sum_range]
      exact Finset.sum_congr rfl fun k _ => by simp only [Fin.le_def]
    rw [e1]
    rw [← Finset.sum_filter]
    symm
    refine Finset.sum_bij (fun (k : ℕ) _ => (n : ℕ) + k) ?_ ?_ ?_ ?_
    · intro k hk; simp only [Finset.mem_range] at hk; simp only [Finset.mem_filter, Finset.mem_range]; omega
    · intro a _ b _ hab; omega
    · intro k hk; simp only [Finset.mem_filter, Finset.mem_range] at hk
      exact ⟨k - n, by simp only [Finset.mem_range]; omega, by omega⟩
    · intro k _; rw [add_assoc]
  rw [e, ← Finset.sum_Ico_consecutive (surv s R) (show c + n + 1 ≤ c + 256 by omega) h,
    Finset.sum_eq_sum_Ico_succ_bot (show c + (n : ℕ) < c + 256 by omega)]
  ring

/-- No key at or after the row counts, for the log survivals … -/
theorem after_top (s : ℕ → ℝ) (R c : ℕ) (h : R ≤ c) : after s R c = 0 :=
  Finset.sum_eq_zero fun j hj => by
    have := (Finset.mem_Ico.1 hj).1
    exact if_neg (by omega)

/-- … nor for the weighted values. -/
theorem att_top (s : ℕ → ℝ) (v : ℕ → EReal) (R c : ℕ) (h : R ≤ c) : att s v R c = 0 :=
  Finset.sum_eq_zero fun j hj => by
    have := (Finset.mem_Ico.1 hj).1
    unfold wt
    rw [if_neg (by omega), EReal.coe_zero, zero_mul]

/-- The logarithm of a number above one. -/
theorem log_pos_coe (x : ℝ) : Ideal.log (1 + Ideal.exp (x : EReal)) = ((Real.log (1 + Real.exp x) : ℝ) : EReal) := by
  have : ¬ (1 + Real.exp x ≤ 0) := by have := Real.exp_pos x; linarith
  rw [Ideal.exp_coe, ← EReal.coe_one, ← EReal.coe_add, Ideal.log_coe, if_neg this]

/-- The logarithm of the logistic function, as the kernel writes it. -/
theorem lsig_eq (z : ℝ) : min (z : EReal) 0 - Ideal.log (1 + Ideal.exp (0 - ((|z| : ℝ) : EReal))) = ((lsig z : ℝ) : EReal) := by
  rw [← EReal.coe_zero, ← EReal.coe_sub, zero_sub, log_pos_coe, ← EReal.coe_strictMono.monotone.map_min, ← EReal.coe_sub]
  rfl

/-- The absolute value of a real. -/
theorem abs_coe (z : ℝ) : max (z : EReal) (-(z : EReal)) = ((|z| : ℝ) : EReal) := by
  rw [← EReal.coe_neg, ← EReal.coe_strictMono.monotone.map_max]; rfl

/-- The logarithm of the logistic function, as the reference writes it. -/
theorem lsig_ref (z : ℝ) : -(max (-z) 0 + Real.log (1 + Real.exp (-|z|))) = lsig z := by
  unfold lsig
  have : max (-z) 0 = - min z 0 := by rw [← neg_zero, max_neg_neg, neg_zero]
  rw [this]; ring

/-- The logarithm of one minus the logistic function, as the reference writes it. -/
theorem lneg_ref (z : ℝ) : -(max z 0 + Real.log (1 + Real.exp (-|z|))) = lneg z := by
  unfold lneg lsig
  rcases le_total z 0 with h | h
  · rw [max_eq_right h, min_eq_left h]; ring
  · rw [max_eq_left h, min_eq_right h]; ring

end Cert.Sb

end
-- ==== Proof.SbRunI.lean ====
/- The run of the stick-breaking kernel's body at one grid point, its data-dependent loop included. -/
module

public import proofs.«01_k».proof.Proof.Gen.KernelSbIdeal.Launch
public import proofs.«01_k».proof.Proof.Gen.KernelSbIdeal.Skeleton
public import proofs.«01_k».proof.Proof.Gen.KernelSbIdeal.Points
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelSbIdeal.Hand

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources the run is stated over. -/
abbrev MM (F : FTy → Type) := MT nD τ sig Unit (Elt F) ℕ (UR sig nD τ) ℕ

/-! ## The loop's words -/

/-- The loop's test: the chunk's number is not negative and the flag is positive. -/
abbrev test (j f : BitVec 32) : BitVec 1 := Scalar.andi (Scalar.cmpi .sge j 0#32) (Scalar.cmpi .sgt f 0#32)

/-- A chunk whose test passes is not negative. -/
theorem nonneg_of_test {j f : BitVec 32} (h : test j f = 1#1) : 0 ≤ j.toInt := by
  unfold test Scalar.andi Scalar.cmpi at h
  rw [WordCmp.cmpi_sge_eq, WordCmp.cmpi_sgt_eq, WordCmp.andi_ofBool, WordCmp.ofBool_eq_one_iff, Bool.and_eq_true, decide_eq_true_eq] at h
  exact h.1

/-- A chunk number from 0 to 7 is inside the arrays. -/
theorem chk_of (j : BitVec 32) (h0 : 0 ≤ j.toInt) (h8 : j.toInt < 8) : k0_chk1 j := by
  obtain ⟨k, rfl⟩ : ∃ k : Fin 8, j = BitVec.ofNat 32 k.val := by
    refine ⟨⟨j.toInt.toNat, by omega⟩, ?_⟩
    apply BitVec.eq_of_toInt_eq
    rw [WordCmp.toInt_ofNat_of_lt (by show j.toInt.toNat < 2 ^ (32 - 1); omega)]
    simp only
    omega
  revert k
  decide

/-- The word before a chunk's number, as an integer. -/
theorem pred_toInt (j : BitVec 32) (h0 : 0 ≤ j.toInt) : (Scalar.subi j 1#32).toInt = j.toInt - 1 := by
  have h1 := j.toInt_lt
  show (j - 1#32).toInt = _
  rw [BitVec.toInt_sub]
  have : (1#32).toInt = 1 := by decide
  rw [this, Int.bmod_eq_of_le] <;> omega

/-- The test's second word, after a chunk. -/
abbrev flag (C : Vec F S512x1 .f32) : BitVec 32 := Scalar.extui (Scalar.cmpf .ogt (k0_pay4 C) (Named.named κ "underflow" 0xC2DC0000#32 : F .f32))

/-- One chunk of keys and values. -/
abbrev chunk (x : Vec F S1x2048x128 .f32) (j : BitVec 32) (h : k0_chk1 j) : Vec F S1x256x128 .f32 :=
  View.ld x (Rect.unit (s := S1x2048x128) (k0_off2 j) S1x256x128.size (k0_off2_inb j h))

/-- What the loop leaves in the accumulator, from chunk `j` down, with the carry `C` and the accumulator `A`. -/
def loop (v4 : FVec F S512x128 .bf16) (v10 : FVec F S256x256 .bf16) (x1 x2 : Vec F S1x2048x128 .f32) :
    ℕ → BitVec 32 → BitVec 32 → Vec F S512x1 .f32 → Vec F S512x128 .f32 → Vec F S512x128 .f32
  | 0, _, _, _, A => A
  | n + 1, j, f, C, A =>
    if test j f = 1#1 then
      if h : k0_chk1 j then
        loop v4 v10 x1 x2 n (Scalar.subi j 1#32) (flag (k0_pay3 (k0_pay35 v4 v10 (chunk x1 j h)) C))
          (k0_pay3 (k0_pay35 v4 v10 (chunk x1 j h)) C)
          (k0_pay2 (k0_pay36 v4 v10 (chunk x1 j h) (chunk x2 j h) C A))
      else A
    else A

section While

variable (c : Dev nD) (i : grid0.Coords) (arg4 : Memref sig .tc .vmem S1x2048x128 .f32) (harg4 : arg4.IsWhole) (arg5 : Memref sig .tc .vmem S1x2048x128 .f32) (harg5 : arg5.IsWhole)
  (v4 : FVec F S512x128 .bf16) (v10 : FVec F S256x256 .bf16) (arg8 : Memref sig .tc .vmem S512x1 .f32) (harg8 : arg8.IsWhole) (arg9 : Memref sig .tc .vmem S512x128 .f32) (harg9 : arg9.IsWhole)
  (x1 x2 : Vec F S1x2048x128 .f32)

/-- The buffers the loop is entered with. -/
def held (C : Vec F S512x1 .f32) (A : Vec F S512x128 .f32) : sProp (MM F) :=
  iprop(owns (c : Thread nD τ) arg4 fullShare x1 ∗ owns (c : Thread nD τ) arg5 fullShare x2 ∗ owns (c : Thread nD τ) arg8 fullShare C ∗ owns (c : Thread nD τ) arg9 fullShare A)

/-- The buffers the loop leaves. -/
def left (R : Vec F S512x128 .f32) : sProp (MM F) :=
  iprop(owns (c : Thread nD τ) arg4 fullShare x1 ∗ owns (c : Thread nD τ) arg5 fullShare x2 ∗ (∃ d, owns (c : Thread nD τ) arg8 fullShare d) ∗ owns (c : Thread nD τ) arg9 fullShare R)

/-- The loop's specification. -/
def spec (C : Vec F S512x1 .f32) (A R : Vec F S512x128 .f32) : sWPT (MM F) (BitVec 32 × BitVec 32) := do
  sWPT.consume (held c arg4 arg5 arg8 arg9 x1 x2 C A)
  let r ← sWPT.arbitrary
  sWPT.produce (left c arg4 arg5 arg8 arg9 x1 x2 R)
  pure r

/-- The loop's specification, spelled out. -/
theorem spec_apply (C : Vec F S512x1 .f32) (A R : Vec F S512x128 .f32) (K : BitVec 32 × BitVec 32 → sProp (MM F)) :
    spec c arg4 arg5 arg8 arg9 x1 x2 C A R K
      = iprop(held c arg4 arg5 arg8 arg9 x1 x2 C A ∗ ∀ r : BitVec 32 × BitVec 32, (left c arg4 arg5 arg8 arg9 x1 x2 R -∗ K r)) := rfl

/-- A read through a rectangle of a buffer held at `x` is `x` at the rectangle. -/
theorem readAt_unread {sp : Space} {S : Shape} {e : EltTy} (arg : Memref sig .tc sp S e) (h : arg.IsWhole) (x : S.Idx → Elt F e) (r : Rect S) :
    arg.view.readAt (Elt F) r.toLoadRect (h.unread x) = View.ld x r := by
  funext y
  rw [View.readAt_apply, h.read_unread]

/-- A read of the whole of a buffer held at `x` is `x`. -/
theorem readAt_whole {sp : Space} {S : Shape} {e : EltTy} (arg : Memref sig .tc sp S e) (h : arg.IsWhole) (x : S.Idx → Elt F e) {off : Fin S.rank → ℕ}
    (inb : ∀ a, off a + S.size a ≤ S.size a) : arg.view.readAt (Elt F) (Rect.unit (s := S) off S.size inb).toLoadRect (h.unread x) = x := by
  rw [View.readAt_full, h.read_unread]

set_option maxHeartbeats 1000000 in
/-- The loop's body meets its specification, by induction on a bound of the chunk's number. -/
theorem spec_le (E : Set ℕ) : ∀ n : ℕ, n ≤ 8 → ∀ (j f : BitVec 32) (C : Vec F S512x1 .f32) (A : Vec F S512x128 .f32), j.toInt < (n : ℤ) → ∀ K,
    spec c arg4 arg5 arg8 arg9 x1 x2 C A (loop v4 v10 x1 x2 n j f C A) K
      ⊢ wp frame (wpE (defs₀ (F := F)) Variants.nat (c : Thread nD τ) (some n)) E
          (defs₀ (F := F) .tc 1 ⟨i, arg4, harg4, arg5, harg5, v4, v10, arg8, harg8, arg9, harg9, j, f⟩) K := by
  intro n
  induction n with
  | zero =>
    intro _ j f C A hj K
    rw [spec_apply]
    show _ ⊢ wp frame (wpE (defs₀ (F := F)) Variants.nat (c : Thread nD τ) (some 0)) E
      (cc0_while1 i arg4 harg4 arg5 harg5 v4 v10 arg8 harg8 arg9 harg9 j f) K
    simp only [cc0_while1_eq_skeleton]; unfold cc0_while1_skel
    have ht : ¬ test j f = 1#1 := fun h => by have := nonneg_of_test h; simp only [Nat.cast_zero] at hj; omega
    have ht' : ¬ Scalar.andi (Scalar.cmpi .sge j 0#32) (Scalar.cmpi .sgt f 0#32) = 1#1 := ht
    simp only [ht', ↓reduceIte, Prog.pure_eq_ret]
    unfold held left loop
    iintro ⟨⟨H4, H5, H8, H9⟩, Hk⟩
    rw [wp_ret]; imodintro
    iapply Hk
    isplitl [H4]; · iexact H4
    isplitl [H5]; · iexact H5
    isplitl [H8]; · iexists _; iexact H8
    iexact H9
  | succ n ih =>
    intro hn j f C A hj K
    rw [spec_apply]
    show _ ⊢ wp frame (wpE (defs₀ (F := F)) Variants.nat (c : Thread nD τ) (some (n + 1))) E
      (cc0_while1 i arg4 harg4 arg5 harg5 v4 v10 arg8 harg8 arg9 harg9 j f) K
    simp only [cc0_while1_eq_skeleton]; unfold cc0_while1_skel
    by_cases ht : test j f = 1#1
    · have h0 := nonneg_of_test ht
      have hc : k0_chk1 j := chk_of j h0 (by push_cast at hj; omega)
      have hp := pred_toInt j h0
      have ht' : Scalar.andi (Scalar.cmpi .sge j 0#32) (Scalar.cmpi .sgt f 0#32) = 1#1 := ht
      simp only [ht', ↓reduceIte, k0_part5_eq_skeleton]
      unfold held left
      rw [loop, if_pos ht, dif_pos hc]
      unfold owns
      iintro ⟨⟨⟨%f4, %hf4, H4⟩, ⟨%f5, %hf5, H5⟩, ⟨%f8, %hf8, H8⟩, ⟨%f9, %hf9, H9⟩⟩, Hk⟩
      obtain rfl := harg4.eq_unread hf4; obtain rfl := harg5.eq_unread hf5; obtain rfl := harg8.eq_unread hf8; obtain rfl := harg9.eq_unread hf9
      sl_exec
      have hC : k0_pay3 (spec_le.sl.r c arg4 harg4 v4 v10 x1 j hc) (spec_le.sl.r_1 c arg8 harg8 C) = k0_pay3 (k0_pay35 v4 v10 (chunk x1 j hc)) C := by
        unfold spec_le.sl.r spec_le.sl.r_1
        rw [readAt_unread, readAt_whole]
      have hv : spec_le.sl.v208 c arg4 harg4 v4 v10 arg8 harg8 x1 j C hc = k0_pay3 (k0_pay35 v4 v10 (chunk x1 j hc)) C := by
        unfold spec_le.sl.v208 spec_le.sl.H8_1
        exact (View.readCov_full arg8.view _ _ _ _).trans hC
      have hA : spec_le.sl.r_2 c arg4 harg4 arg5 harg5 v4 v10 arg8 harg8 arg9 harg9 x1 x2 j C A hc = k0_pay36 v4 v10 (chunk x1 j hc) (chunk x2 j hc) C A := by
        unfold spec_le.sl.r_2
        rw [readAt_unread, readAt_unread, readAt_whole, readAt_whole]
      rw [hv, hA]
      unfold spec_le.sl.H8_1
      rw [hC]
      iapply (wp_call_spec Variants.nat (c : Thread nD τ) (some (n + 1)) E
        (spec c arg4 arg5 arg8 arg9 x1 x2 (k0_pay3 (k0_pay35 v4 v10 (chunk x1 j hc)) C) (k0_pay2 (k0_pay36 v4 v10 (chunk x1 j hc) (chunk x2 j hc) C A))
          (loop v4 v10 x1 x2 n (Scalar.subi j 1#32) (flag (k0_pay3 (k0_pay35 v4 v10 (chunk x1 j hc)) C))
            (k0_pay3 (k0_pay35 v4 v10 (chunk x1 j hc)) C) (k0_pay2 (k0_pay36 v4 v10 (chunk x1 j hc) (chunk x2 j hc) C A)))) n
        (fun u hu => by cases hu; exact Nat.lt_succ_self n)
        (ih (by omega) (Scalar.subi j 1#32) (flag (k0_pay3 (k0_pay35 v4 v10 (chunk x1 j hc)) C)) _ _ (by rw [hp]; push_cast at hj; omega)))
      rw [spec_apply]; unfold held left owns
      isplitl [H4 H5 H8 H9]
      · isplitl [H4]
        · iexists _; isplitr; · ipureintro; exact harg4.read_unread _
          iexact H4
        isplitl [H5]
        · iexists _; isplitr; · ipureintro; exact harg5.read_unread _
          iexact H5
        isplitl [H8]
        · iexists _; isplitr; swap; · iexact H8
          ipureintro; exact View.read_writes_full arg8.view _ _ _ _
        iexists _; isplitr; swap; · iexact H9
        ipureintro; exact View.read_writes_full arg9.view _ _ _ _
      iintro %r H
      rw [wp_ret]; imodintro
      iapply Hk
      iexact H
    · have ht' : ¬ Scalar.andi (Scalar.cmpi .sge j 0#32) (Scalar.cmpi .sgt f 0#32) = 1#1 := ht
      simp only [ht', ↓reduceIte, Prog.pure_eq_ret]
      rw [loop, if_neg ht]
      unfold held left
      iintro ⟨⟨H4, H5, H8, H9⟩, Hk⟩
      rw [wp_ret]; imodintro
      iapply Hk
      isplitl [H4]; · iexact H4
      isplitl [H5]; · iexact H5
      isplitl [H8]; · iexists _; iexact H8
      iexact H9

end While

/-! ## The body -/

/-- One chunk of keys and values on the diagonal. -/
abbrev dchunk (x : Vec F S1x2048x128 .f32) (i : grid0.Coords) (k : Fin 2) : Vec F S1x256x128 .f32 :=
  View.ld x (Rect.unit (s := S1x2048x128) (k0_off1 i (BitVec.ofNat 32 k.val)) S1x256x128.size (k0_off1_inb i k))

/-- The point's row tile as a word. -/
abbrev wq (i : grid0.Coords) : BitVec 32 := BitVec.ofNat 32 (i 2).val
/-- The first chunk's number. -/
abbrev w24 (i : grid0.Coords) : BitVec 32 := Scalar.subi (Scalar.muli (Scalar.addi (wq i) 1#32) 2#32) 1#32
/-- The same, less zero. -/
abbrev w25 (i : grid0.Coords) : BitVec 32 := Scalar.subi (w24 i) 0#32

section Body

variable (i : grid0.Coords) (x0 : Vec F S1x512x128 .f32) (x1 x2 : Vec F S1x2048x128 .f32) (x3 : Vec F S1x512x128 .f32)

/-- The carry after the first chunk. -/
abbrev carry1 : Vec F S512x1 .f32 :=
  k0_pay19 (k0_pay16 (wq i) (k0_pay5 x0) (k0_pay6 (F := F)) k0_pay7 (w25 i) (k0_pay10 (dchunk x1 i 0))) (k0_pay8 (F := F))
/-- The accumulator after the first chunk. -/
abbrev acc1 : Vec F S512x128 .f32 :=
  k0_pay18 (k0_pay17 (wq i) (k0_pay5 x0) (k0_pay6 (F := F)) k0_pay7 (w25 i) (k0_pay10 (dchunk x1 i 0)) (k0_pay11 (dchunk x2 i 0)) (k0_pay8 (F := F)) (k0_pay9 (F := F)))
/-- The carry after the second chunk. -/
abbrev carry2 : Vec F S512x1 .f32 :=
  k0_pay30 (k0_pay6 (F := F)) (k0_pay26 (wq i) (k0_pay5 x0) k0_pay7 (w24 i) (dchunk x1 i 1)) (k0_pay27 (wq i) (k0_pay5 x0) k0_pay7 (w24 i) (dchunk x1 i 1)) (carry1 i x0 x1)
/-- The accumulator after the second chunk. -/
abbrev acc2 : Vec F S512x128 .f32 :=
  k0_pay29 (k0_pay6 (F := F)) (k0_pay20 (dchunk x2 i 1)) (k0_pay23 (wq i) k0_pay7 (w24 i)) (k0_pay24 (wq i) (k0_pay5 x0) k0_pay7 (w24 i) (dchunk x1 i 1))
    (k0_pay25 (wq i) (k0_pay5 x0) k0_pay7 (w24 i) (dchunk x1 i 1)) (k0_pay26 (wq i) (k0_pay5 x0) k0_pay7 (w24 i) (dchunk x1 i 1))
    (k0_pay27 (wq i) (k0_pay5 x0) k0_pay7 (w24 i) (dchunk x1 i 1)) (carry1 i x0 x1) (acc1 i x0 x1 x2)
/-- What the loop leaves. -/
abbrev accL : Vec F S512x128 .f32 :=
  loop (k0_pay5 x0) (k0_pay6 (F := F)) x1 x2 8 (Scalar.subi (w24 i) 2#32) 1#32 (carry2 i x0 x1) (acc2 i x0 x1 x2)
/-- What the body leaves in the result's block. -/
abbrev outVal : Vec F S1x512x128 .bf16 := k0_pay1 (accL i x0 x1 x2) (k0_pay31 x3)

/-- The loop starts below chunk 8. -/
theorem start_lt (i : grid0.Coords) : (Scalar.subi (w24 i) 2#32).toInt < ((8 : ℕ) : ℤ) := by
  unfold w24 wq
  generalize i 2 = k
  revert k
  decide

variable (c : Dev nD) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x128 .f32) (harg9 : arg9.IsWhole)

set_option maxHeartbeats 2000000 in
/-- The body, on whole staging buffers: the inputs stay, the result's block ends at `outVal`. -/
theorem bodyRun (E : Set ℕ) (K : PUnit → sProp (MM F)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outVal i x0 x1 x2 x3) ∗ (∃ d, owns (c : Thread nD τ) arg8 fullShare d) ∗ (∃ d, owns (c : Thread nD τ) arg9 fullShare d)) -∗ K ⟨⟩))
      ⊢ wp frame (wpE (defs₀ (F := F)) Variants.nat c none) E (cc0_sb_prompt i arg3 harg3 arg4 harg4 arg5 harg5 arg6 harg6 arg7 harg7 arg8 harg8 arg9 harg9) K := by
  simp only [cc0_sb_prompt_eq_skeleton]; unfold cc0_sb_prompt_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3
  sl_exec
  have hr : bodyRun.sl.r x0 c arg3 harg3 = k0_pay5 x0 := by
    unfold bodyRun.sl.r; rw [readAt_whole]
  have h9 : bodyRun.sl.r_9 i x0 x1 c arg3 harg3 arg4 harg4 = k0_pay26 (wq i) (k0_pay5 x0) k0_pay7 (w24 i) (dchunk x1 i 1) := by
    unfold bodyRun.sl.r_9; rw [readAt_unread, hr]; rfl
  have h10 : bodyRun.sl.r_10 i x0 x1 c arg3 harg3 arg4 harg4 = k0_pay27 (wq i) (k0_pay5 x0) k0_pay7 (w24 i) (dchunk x1 i 1) := by
    unfold bodyRun.sl.r_10; rw [readAt_unread, hr]; rfl
  have h8 : bodyRun.sl.r_8 i x0 x1 c arg3 harg3 arg4 harg4 = k0_pay25 (wq i) (k0_pay5 x0) k0_pay7 (w24 i) (dchunk x1 i 1) := by
    unfold bodyRun.sl.r_8; rw [readAt_unread, hr]; rfl
  have h7 : bodyRun.sl.r_7 i x0 x1 c arg3 harg3 arg4 harg4 = k0_pay24 (wq i) (k0_pay5 x0) k0_pay7 (w24 i) (dchunk x1 i 1) := by
    unfold bodyRun.sl.r_7; rw [readAt_unread, hr]; rfl
  have h6 : bodyRun.sl.r_6 i = k0_pay23 (wq i) k0_pay7 (w24 i) := by
    unfold bodyRun.sl.r_6; rfl
  have h5 : bodyRun.sl.r_5 i x2 c arg5 harg5 = k0_pay20 (dchunk x2 i 1) := by
    unfold bodyRun.sl.r_5; rw [readAt_unread]; rfl
  have h64 : bodyRun.sl.v64 (F := F) c arg8 = k0_pay8 := by
    unfold bodyRun.sl.v64
    first
      | exact View.readCov_full arg8.view _ _ _ _
      | (unfold bodyRun.sl.HS0_1; exact View.readCov_full arg8.view _ _ _ _)
  have h72 : bodyRun.sl.v72 (F := F) c arg9 = k0_pay9 := by
    unfold bodyRun.sl.v72
    first
      | exact View.readCov_full arg9.view _ _ _ _
      | (unfold bodyRun.sl.HS1_1; exact View.readCov_full arg9.view _ _ _ _)
  have hr1 : bodyRun.sl.r_1 i x1 c arg4 harg4 = k0_pay10 (dchunk x1 i 0) := by
    unfold bodyRun.sl.r_1; rw [readAt_unread]; rfl
  have hr2 : bodyRun.sl.r_2 i x2 c arg5 harg5 = k0_pay11 (dchunk x2 i 0) := by
    unfold bodyRun.sl.r_2; rw [readAt_unread]; rfl
  have h3 : bodyRun.sl.r_3 i x0 x1 c arg3 harg3 arg4 harg4 = k0_pay16 (wq i) (k0_pay5 x0) (k0_pay6 (F := F)) k0_pay7 (w25 i) (k0_pay10 (dchunk x1 i 0)) := by
    unfold bodyRun.sl.r_3
    rw [hr, hr1]
    rfl
  have h4 : bodyRun.sl.r_4 i x0 x1 x2 c arg3 harg3 arg4 harg4 arg5 harg5 arg8 arg9 = k0_pay17 (wq i) (k0_pay5 x0) (k0_pay6 (F := F)) k0_pay7 (w25 i) (k0_pay10 (dchunk x1 i 0)) (k0_pay11 (dchunk x2 i 0)) (k0_pay8 (F := F)) (k0_pay9 (F := F)) := by
    unfold bodyRun.sl.r_4
    rw [hr, h64, hr1, hr2, h72]
    rfl
  have h123 : bodyRun.sl.v123 i x0 x1 c arg3 harg3 arg4 harg4 arg8 = carry1 i x0 x1 := by
    unfold bodyRun.sl.v123 bodyRun.sl.HS0_2
    refine (View.readCov_full arg8.view _ _ _ _).trans ?_
    rw [h3, h64]
  have h131 : bodyRun.sl.v131 i x0 x1 x2 c arg3 harg3 arg4 harg4 arg5 harg5 arg8 arg9 = acc1 i x0 x1 x2 := by
    unfold bodyRun.sl.v131 bodyRun.sl.HS1_2
    refine (View.readCov_full arg9.view _ _ _ _).trans ?_
    rw [h4]
  have hj : bodyRun.sl.v143 i = Scalar.subi (w24 i) 2#32 := rfl
  rw [h9, h10, h5, h6, h7, h8, h123, h131, hr, hj]
  iapply (wp_call_spec Variants.nat (c : Thread nD τ) none E
    (spec c arg4 arg5 arg8 arg9 x1 x2 (carry2 i x0 x1) (acc2 i x0 x1 x2) (accL i x0 x1 x2)) (8 : ℕ)
    (fun u hu => nomatch hu)
    (spec_le c i arg4 harg4 arg5 harg5 (k0_pay5 x0) k0_pay6 arg8 harg8 arg9 harg9 x1 x2 E 8 le_rfl (Scalar.subi (w24 i) 2#32) 1#32 _ _ (start_lt i)))
  rw [spec_apply]; unfold held left owns
  isplitl [H1 H2 HS0 HS1]
  · isplitl [H1]
    · iexists _; isplitr; · ipureintro; exact harg4.read_unread _
      iexact H1
    isplitl [H2]
    · iexists _; isplitr; · ipureintro; exact harg5.read_unread _
      iexact H2
    isplitl [HS0]
    · iexists _; isplitr; swap; · iexact HS0
      ipureintro; exact View.read_writes_full arg8.view _ _ _ _
    iexists _; isplitr; swap; · iexact HS1
    ipureintro; exact View.read_writes_full arg9.view _ _ _ _
  iintro %r ⟨⟨%g1, %hg1, H1⟩, ⟨%g2, %hg2, H2⟩, ⟨%ds0', %gs0, -, HS0⟩, ⟨%gs1, %hgs1, HS1⟩⟩
  obtain rfl := harg4.eq_unread hg1; obtain rfl := harg5.eq_unread hg2; obtain rfl := harg9.eq_unread hgs1
  obtain ⟨r0, r1⟩ := r
  sl_exec
  sl_step
  have h11 : bodyRun.sl.r_11 i x0 x1 x2 c arg9 harg9 = accL i x0 x1 x2 := by
    unfold bodyRun.sl.r_11; rw [readAt_whole]
  have h12 : bodyRun.sl.r_12 x3 c arg6 harg6 = k0_pay31 x3 := by
    unfold bodyRun.sl.r_12; rw [readAt_whole]
  rw [h11, h12]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; exact View.read_writes_full arg7.view _ _ _ _
  isplitl [HS0]
  · iexists _, _; isplitr; swap; · iexact HS0
    ipureintro; rfl
  iexists _, _; isplitr; swap; · iexact HS1
  ipureintro; rfl

end Body

end Cert.KernelSbIdeal.Hand

end
-- ==== Proof.SbPay.lean ====
/- The stick-breaking kernel's arithmetic at an index: scores, log survivals, suffix sums and weighted sums of a chunk. -/
module

public import Idealize.ShloMosaic.Lib.Pointwise
public import Idealize.ShloMosaic.Lib.WordArith
public import proofs.«01_k».proof.Proof.SbMath
public import proofs.«01_k».proof.Proof.SbRunI

@[expose] public section

set_option maxRecDepth 16384

noncomputable section

namespace Cert.Sb

open Idealize.ShloMosaic Idealize.ShloMosaic.TcCoe Cert.KernelSbIdeal Cert.KernelSbIdeal.Gen Cert.KernelSbIdeal.Hand Cert.Soft

/-- The suffix matrix: one where the row is at or after the column. -/
theorem tri_at (k n : Fin 256) : k0_pay6 (F := Ideal) (ix2 k n) = if n ≤ k then (1 : EReal) else 0 := by
  pointwise [k0_pay6]
  rw [WordCmp.cmpi_sge_ofNat (by omega) (by omega)]
  by_cases h : n ≤ k
  · rw [if_pos h, decide_eq_true (show (n : ℕ) ≤ k from h)]
    show (((BitVec.setWidth 32 (BitVec.ofBool true)).toInt : ℝ) : EReal) = 1
    simp
  · rw [if_neg h, decide_eq_false (show ¬ (n : ℕ) ≤ k from h)]
    show (((BitVec.setWidth 32 (BitVec.ofBool false)).toInt : ℝ) : EReal) = 0
    simp

/-- A chunk's log survivals, added from each key to the chunk's end. -/
def incl (lk : FVec Ideal S512x256 .f32) : FVec Ideal S512x256 .f32 :=
  addf (matmul dot_S512x256_S256x256_S512x256_1_0_0_1_n_n none (truncf .bf16 lk bitsLt_bf16_f32) (k0_pay6 (F := Ideal)) (constant S512x256 .f32 0x00000000#32))
    (matmul dot_S512x256_S256x256_S512x256_1_0_0_1_n_n none (truncf .bf16 (subf lk (extf .f32 (truncf .bf16 lk bitsLt_bf16_f32) bitsLt_bf16_f32)) bitsLt_bf16_f32) (k0_pay6 (F := Ideal)) (constant S512x256 .f32 0x00000000#32))

/-- The chunk's suffix sums of real numbers are real sums. -/
theorem incl_at (lk : FVec Ideal S512x256 .f32) (r : Fin 512) (l : Fin 256 → ℝ) (h : ∀ k, lk (ix2 r k) = ((l k : ℝ) : EReal)) (n : Fin 256) :
    incl lk (ix2 r n) = (((∑ k : Fin 256, if n ≤ k then l k else 0) : ℝ) : EReal) := by
  pointwise [incl]
  have e1 (x : Fin 256) : lk (ix2 r x) * k0_pay6 (F := Ideal) (ix2 x n) = (((if n ≤ x then l x else 0) : ℝ) : EReal) := by
    rw [h, tri_at]
    by_cases hn : n ≤ x
    · rw [if_pos hn, if_pos hn, mul_one]
    · rw [if_neg hn, if_neg hn, mul_zero, EReal.coe_zero]
  have e2 (x : Fin 256) : (lk (ix2 r x) - lk (ix2 r x)) * k0_pay6 (F := Ideal) (ix2 x n) = 0 := by
    rw [h, ← EReal.coe_sub, sub_self, EReal.coe_zero, zero_mul]
  simp only [e1, e2, Finset.sum_const_zero, add_zero]
  exact (coe_sum _ _).symm

/-- The scores of a chunk: a query row times a key. -/
theorem score_at (v4 : FVec Ideal S512x128 .bf16) (x : Vec Ideal S1x256x128 .f32) (r : Fin 512) (k : Fin 256) :
    k0_pay32 v4 x (ix2 r k) = ∑ d : Fin 128, v4 (ix2 r d) * x (ix3 0 k d) := by
  pointwise [k0_pay32]

/-- The logarithm of the logistic function of a score. -/
theorem lb_at (v4 : FVec Ideal S512x128 .bf16) (x : Vec Ideal S1x256x128 .f32) (r : Fin 512) (k : Fin 256) (z : ℝ) (h : k0_pay32 v4 x (ix2 r k) = (z : EReal)) :
    k0_pay33 v4 x (ix2 r k) = ((lsig z : ℝ) : EReal) := by
  pointwise [k0_pay33]
  rw [h]
  exact (congrArg (fun a => min (z : EReal) 0 - Ideal.log (1 + Ideal.exp (0 - a))) (abs_coe z)).trans (lsig_eq z)

/-- A chunk's log survivals. -/
theorem lk_at (v4 : FVec Ideal S512x128 .bf16) (x : Vec Ideal S1x256x128 .f32) (r : Fin 512) (k : Fin 256) (z : ℝ) (h : k0_pay32 v4 x (ix2 r k) = (z : EReal)) :
    k0_pay34 v4 x (ix2 r k) = ((lneg z : ℝ) : EReal) := by
  pointwise [k0_pay34]
  rw [lb_at v4 x r k z h, h, ← EReal.coe_sub]
  rfl

/-- The accumulator with a chunk's values, weighted by `a`, added. -/
def upd (a : FVec Ideal S512x256 .f32) (x : Vec Ideal S1x256x128 .f32) (A : FVec Ideal S512x128 .f32) : FVec Ideal S512x128 .f32 :=
  addf A (matmul dot_S512x256_S256x128_S512x128_1_0_0_1_n_n none (truncf .bf16 a bitsLt_bf16_f32) (k0_pay10 (F := Ideal) x) (constant S512x128 .f32 0x00000000#32))

/-- The same at an index. -/
theorem upd_at (a : FVec Ideal S512x256 .f32) (x : Vec Ideal S1x256x128 .f32) (A : FVec Ideal S512x128 .f32) (r : Fin 512) (d : Fin 128) :
    upd a x A (ix2 r d) = A (ix2 r d) + ∑ k : Fin 256, a (ix2 r k) * x (ix3 0 k d) := by
  pointwise [upd, k0_pay10]

/-- The carry with a chunk's first suffix sum added. -/
theorem carry_at (u : FVec Ideal S512x256 .f32) (C : Vec Ideal S512x1 .f32) (r : Fin 512) :
    k0_pay3 u C (ix2 r 0) = C (ix2 r 0) + u (ix2 r 0) := by
  pointwise [k0_pay3]

/-- The mask of a chunk on the diagonal: the keys before the row. -/
theorem mask_at (i : Fin 4) (c : ℕ) (hc : c < 8) (r : Fin 512) (k : Fin 256) :
    k0_pay14 (BitVec.ofNat 32 i) k0_pay7 (BitVec.ofNat 32 c) (ix2 r k) = if 256 * c + k.val < 512 * i.val + r.val then 1#1 else 0#1 := by
  pointwise [k0_pay14, k0_pay7]
  have hi := i.isLt
  have hr := r.isLt
  have hk := k.isLt
  have e1 : (IntOp.subi (BitVec.ofNat 32 (r : ℕ)) (BitVec.ofNat 32 (k : ℕ))).toInt = (r : ℤ) - k := by
    have a1 : (BitVec.ofNat 32 (r : ℕ)).toInt = (r : ℤ) := by rw [BitVec.toInt_eq_toNat_of_lt (by rw [BitVec.toNat_ofNat]; omega), BitVec.toNat_ofNat]; omega
    have a2 : (BitVec.ofNat 32 (k : ℕ)).toInt = (k : ℤ) := by rw [BitVec.toInt_eq_toNat_of_lt (by rw [BitVec.toNat_ofNat]; omega), BitVec.toNat_ofNat]; omega
    refine Eq.trans (WordArith.toInt_subi_of_nonneg _ _ (by omega) (by omega)) ?_
    rw [a1, a2]
  have e2 : ∀ (c : Fin 8) (i : Fin 4), (Scalar.subi (Scalar.muli (BitVec.ofNat 32 c) 256#32) (Scalar.muli (BitVec.ofNat 32 i) 512#32)).toInt = 256 * (c : ℤ) - 512 * (i : ℤ) := by decide
  rw [WordCmp.cmpi_sgt_eq, e1, e2 ⟨c, hc⟩ i]
  by_cases h : 256 * c + k.val < 512 * i.val + r.val
  · rw [if_pos h, decide_eq_true (by push_cast; omega)]; rfl
  · rw [if_neg h, decide_eq_false (by push_cast; omega)]; rfl

/-- With a real carry the loop's flag is set: the maximum is above −∞. -/
theorem flag_at (C : Vec Ideal S512x1 .f32) (h : ∃ x : ℝ, C (ix2 0 0) = (x : EReal)) : flag (F := Ideal) C = 1#32 := by
  have hm : (⊥ : EReal) < k0_pay4 C := by
    pointwise [k0_pay4]
    obtain ⟨x, hx⟩ := h
    refine lt_of_lt_of_le (EReal.bot_lt_coe x) ?_
    rw [← hx]
    exact (Finset.le_fold_max _).2 (Or.inr ⟨(0, 0), Finset.mem_univ _, le_rfl⟩)
  have hn : Named.named (F := Ideal) κ "underflow" (φ := .f32) 0xC2DC0000#32 = (⊥ : EReal) := rfl
  unfold flag
  rw [hn]
  have : Scalar.cmpf (F := Ideal) (φ := .f32) .ogt (k0_pay4 C) (⊥ : EReal) = 1#1 := by
    show Ideal.cmp .ogt (k0_pay4 C) ⊥ = 1#1
    simp only [Ideal.cmp]
    rw [decide_eq_true hm]
    rfl
  rw [this]
  rfl

/-- The weight of a key before the row, from the chunk's suffix sums and the carry. -/
theorem wt_eq (s : ℕ → ℝ) (R c : ℕ) (h : c + 256 ≤ 2048) (n : Fin 256) (hn : c + n < R) :
    Ideal.exp (((lsig (s (c + n)) : ℝ) : EReal) + ((((∑ k : Fin 256, if n ≤ k then surv s R (c + k) else 0) : ℝ) : EReal) - ((surv s R (c + n) : ℝ) : EReal) + ((after s R (c + 256) : ℝ) : EReal)))
      = ((wt s R (c + n) : ℝ) : EReal) := by
  rw [← EReal.coe_sub, ← EReal.coe_add, ← after_in s R c h n, ← EReal.coe_add, Ideal.exp_coe]
  unfold wt
  rw [if_pos hn]

section Step

variable (v4 : FVec Ideal S512x128 .bf16) (x y : Vec Ideal S1x256x128 .f32) (C : Vec Ideal S512x1 .f32) (A : FVec Ideal S512x128 .f32)
  (r : Fin 512) (d : Fin 128) (s : ℕ → ℝ) (v : ℕ → EReal) (R c : ℕ) (hc : c + 256 ≤ 2048)
  (hs : ∀ k : Fin 256, k0_pay32 v4 x (ix2 r k) = ((s (c + k) : ℝ) : EReal))
  (hC : C (ix2 r 0) = ((after s R (c + 256) : ℝ) : EReal))
  (hy : ∀ k : Fin 256, y (ix3 0 k d) = v (c + k))
  (hA : A (ix2 r d) = att s v R (c + 256))

include hc in
/-- The carry, one chunk further. -/
theorem carry_eq (lk : FVec Ideal S512x256 .f32) (hl : ∀ k : Fin 256, lk (ix2 r k) = ((surv s R (c + k) : ℝ) : EReal)) (hC : C (ix2 r 0) = ((after s R (c + 256) : ℝ) : EReal)) :
    k0_pay3 (incl lk) C (ix2 r 0) = ((after s R c : ℝ) : EReal) := by
  rw [carry_at, incl_at lk r _ hl, hC, ← EReal.coe_add, after_step s R c hc]
  congr 2

include hc hy hA in
/-- The accumulator, one chunk further. -/
theorem acc_eq (a : FVec Ideal S512x256 .f32) (ha : ∀ k : Fin 256, a (ix2 r k) = ((wt s R (c + k) : ℝ) : EReal)) :
    upd a y A (ix2 r d) = att s v R c := by
  rw [upd_at, hA, att_step s v R c hc]
  congr 1
  exact Finset.sum_congr rfl fun k _ => by rw [ha, hy]

include hs in
/-- Every key of a chunk the loop visits comes before the row. -/
theorem surv_un (hR : c + 256 ≤ R) (k : Fin 256) : k0_pay34 v4 x (ix2 r k) = ((surv s R (c + k) : ℝ) : EReal) := by
  rw [lk_at v4 x r k _ (hs k)]
  unfold surv
  rw [if_pos (by omega)]

include hc hs hC in
/-- The carry after a chunk the loop visits. -/
theorem un_carry (hR : c + 256 ≤ R) : k0_pay3 (k0_pay35 v4 k0_pay6 x) C (ix2 r 0) = ((after s R c : ℝ) : EReal) :=
  carry_eq C r s R c hc (k0_pay34 v4 x) (surv_un v4 x r s R c hs hR) hC

/-- The weights of a chunk the loop visits. -/
def wU : FVec Ideal S512x256 .f32 :=
  exp (addf (k0_pay33 v4 x) (addf (subf (incl (k0_pay34 v4 x)) (k0_pay34 v4 x)) (broadcastTo S512x256 C broadcasts_S512x1_S512x256)))

include hc hs hC in
/-- The weights of a chunk the loop visits, at an index. -/
theorem wU_at (hR : c + 256 ≤ R) (k : Fin 256) : wU v4 x C (ix2 r k) = ((wt s R (c + k) : ℝ) : EReal) := by
  pointwise [wU]
  rw [lb_at v4 x r k _ (hs k), incl_at _ r _ (surv_un v4 x r s R c hs hR), surv_un v4 x r s R c hs hR, hC]
  exact wt_eq s R c hc k (by omega)

include hc hs hC hy hA in
/-- The accumulator after a chunk the loop visits. -/
theorem un_acc (hR : c + 256 ≤ R) : k0_pay2 (k0_pay36 v4 k0_pay6 x y C A) (ix2 r d) = att s v R c := by
  have e : k0_pay36 v4 k0_pay6 x y C A = upd (wU v4 x C) y A := rfl
  have e2 : ∀ B : FVec Ideal S512x128 .f32, k0_pay2 B (ix2 r d) = B (ix2 r d) := fun B => by pointwise [k0_pay2]
  rw [e2, e]
  exact acc_eq y A r d s v R c hc hy hA _ (wU_at v4 x C r s R c hc hs hC hR)

variable (M : IVec S512x256 1) (hM : ∀ k : Fin 256, M (ix2 r k) = if c + k.val < R then 1#1 else 0#1)

/-- Zero everywhere. -/
def zeros : FVec Ideal S512x256 .f32 := broadcast S512x256 (Scalar.ofBits (F := Ideal) .f32 0x00000000#32)

/-- The log survivals of a chunk on the diagonal. -/
def lkM : FVec Ideal S512x256 .f32 := select M (k0_pay34 v4 x) zeros

include hs hM in
/-- The log survivals of a chunk on the diagonal, at an index. -/
theorem surv_m (k : Fin 256) : lkM v4 x M (ix2 r k) = ((surv s R (c + k) : ℝ) : EReal) := by
  pointwise [lkM, zeros]
  rw [hM, lk_at v4 x r k _ (hs k)]
  unfold surv
  by_cases h : c + k.val < R
  · rw [if_pos h, if_pos h]; rfl
  · rw [if_neg h, if_neg h]; rfl

/-- The weights of a chunk on the diagonal. -/
def wM : FVec Ideal S512x256 .f32 :=
  select M (exp (addf (select M (k0_pay33 v4 x) zeros) (addf (subf (incl (lkM v4 x M)) (lkM v4 x M)) (broadcastTo S512x256 C broadcasts_S512x1_S512x256)))) zeros

include hc hs hC hM in
/-- The weights of a chunk on the diagonal, at an index. -/
theorem wM_at (k : Fin 256) : wM v4 x C M (ix2 r k) = ((wt s R (c + k) : ℝ) : EReal) := by
  pointwise [wM, zeros]
  rw [lb_at v4 x r k _ (hs k), incl_at _ r _ (surv_m v4 x r s R c hs M hM), surv_m v4 x r s R c hs M hM, hC, hM]
  by_cases h : c + k.val < R
  · rw [if_pos h]
    exact wt_eq s R c hc k h
  · rw [if_neg h]
    unfold wt
    rw [if_neg h]
    rfl

end Step

/-- The block written: the accumulator times the gate. -/
theorem out_at (A : Vec Ideal S512x128 .f32) (z : Vec Ideal S1x512x128 .f32) (r : Fin 512) (d : Fin 128) :
    k0_pay1 A (k0_pay31 z) (ix3 0 r d) = A (ix2 r d) * (z (ix3 0 r d) * Ideal.div 1 (1 + Ideal.exp (0 - z (ix3 0 r d)))) := by
  pointwise [k0_pay1, k0_pay31]

/-- The scaled queries. -/
theorem q_at (x : Vec Ideal S1x512x128 .f32) (r : Fin 512) (d : Fin 128) :
    k0_pay5 x (ix2 r d) = x (ix3 0 r d) * Ideal.ofBits .f32 0x3DB504F3#32 := by
  pointwise [k0_pay5]

end Cert.Sb

end
-- ==== Proof.SbVal.lean ====
/- The stick-breaking kernel's tile: the diagonal's two chunks, the loop over the earlier ones, and what a point leaves. -/
module

public import proofs.«01_k».proof.Proof.SbPay
public import Idealize.ShloMosaic.Lib.Pipeline.ValueKit

@[expose] public section

set_option maxRecDepth 16384

noncomputable section

namespace Cert.Sb

open Idealize.ShloMosaic Idealize.ShloMosaic.TcCoe Cert.KernelSbIdeal Cert.KernelSbIdeal.Gen Cert.KernelSbIdeal.Hand Cert.Soft

/-- A chunk of an array's rows, at an index. -/
theorem ld_at (x : Vec Ideal S1x2048x128 .f32) (off : Fin 3 → ℕ) (inb) (c : ℕ) (ho : off = ![0, 256 * c, 0]) (k : Fin 256) (d : Fin 128) (e : Fin 2048) (he : e.val = 256 * c + k.val) :
    View.ld (Val := Elt Ideal) (e' := .f32) x (Rect.unit (s := S1x2048x128) off S1x256x128.size inb) (ix3 (0 : Fin 1) k d) = x (ix3 0 e d) := by
  subst ho
  refine View.ld_unit_apply_of (S := S1x2048x128) x _ _ _ _ (ix3 0 e d) fun a => ?_
  match a with
  | ⟨0, _⟩ => rfl
  | ⟨1, _⟩ => exact he
  | ⟨2, _⟩ => exact (Nat.zero_add _).symm

/-- The rows of the chunks on the diagonal. -/
theorem off1 : ∀ (i : grid0.Coords), k0_off1 i 0#32 = ![0, 256 * (2 * (i 2).val + 1), 0] ∧ k0_off1 i 1#32 = ![0, 256 * (2 * (i 2).val), 0] := by
  intro i
  have h : ∀ n : Fin 4, (Scalar.indexCast (Scalar.muli (Scalar.subi (Scalar.subi (Scalar.muli (Scalar.addi (BitVec.ofNat 32 n.val) 1#32) 2#32) 1#32) 0#32) 256#32)).toNat = 256 * (2 * n.val + 1)
    ∧ (Scalar.indexCast (Scalar.muli (Scalar.subi (Scalar.subi (Scalar.muli (Scalar.addi (BitVec.ofNat 32 n.val) 1#32) 2#32) 1#32) 1#32) 256#32)).toNat = 256 * (2 * n.val) := by decide
  obtain ⟨h0, h1⟩ := h (i 2)
  unfold k0_off1
  dsimp only
  constructor
  · rw [← h0]
  · rw [← h1]

/-- The rows of a chunk the loop visits. -/
theorem off2 : ∀ n : Fin 8, k0_off2 (BitVec.ofNat 32 n.val) = ![0, 256 * n.val, 0] := by
  intro n
  have h : ∀ n : Fin 8, (Scalar.indexCast (Scalar.muli (BitVec.ofNat 32 n.val) 256#32)).toNat = 256 * n.val := by decide
  unfold k0_off2
  dsimp only
  rw [← h n]

/-- The words of the diagonal's chunks and of the loop's first. -/
theorem words : ∀ n : Fin 4, Scalar.subi (Scalar.subi (Scalar.muli (Scalar.addi (BitVec.ofNat 32 n.val) 1#32) 2#32) 1#32) 0#32 = BitVec.ofNat 32 (2 * n.val + 1)
    ∧ Scalar.subi (Scalar.subi (Scalar.muli (Scalar.addi (BitVec.ofNat 32 n.val) 1#32) 2#32) 1#32) 1#32 = BitVec.ofNat 32 (2 * n.val)
    ∧ Scalar.subi (Scalar.subi (Scalar.muli (Scalar.addi (BitVec.ofNat 32 n.val) 1#32) 2#32) 1#32) 2#32 = Scalar.subi (BitVec.ofNat 32 (2 * n.val)) 1#32 := by decide

/-- The word before a chunk's number. -/
theorem pred_word : ∀ n : Fin 8, Scalar.subi (BitVec.ofNat 32 (n.val + 1)) 1#32 = BitVec.ofNat 32 n.val := by decide

/-- The loop's test passes at every chunk. -/
theorem test_word : ∀ n : Fin 8, test (BitVec.ofNat 32 n.val) 1#32 = 1#1 := by decide

/-- The loop's test fails below chunk 0. -/
theorem test_end : ¬ test (Scalar.subi (BitVec.ofNat 32 0) 1#32) 1#32 = 1#1 := by decide

/-- A chunk the loop visits is inside the arrays. -/
theorem chk_word : ∀ n : Fin 8, k0_chk1 (BitVec.ofNat 32 n.val) := by decide

section Tile

variable (v4 : FVec Ideal S512x128 .bf16) (x1 x2 : Vec Ideal S1x2048x128 .f32) (d : Fin 128) (s : Fin 512 → ℕ → ℝ) (v : ℕ → EReal) (i : Fin 4)
  (hs : ∀ (r : Fin 512) (k : Fin 2048), (∑ e : Fin 128, v4 (ix2 r e) * x1 (ix3 0 k e)) = ((s r k : ℝ) : EReal))
  (hv : ∀ k : Fin 2048, x2 (ix3 0 k d) = v k)

include hs in
/-- The scores of a chunk. -/
theorem scores_of (x : Vec Ideal S1x256x128 .f32) (c : ℕ) (hc : c < 8) (hx : ∀ (k : Fin 256) (e : Fin 128), x (ix3 0 k e) = x1 (ix3 0 ⟨256 * c + k.val, by omega⟩ e)) (r : Fin 512) (k : Fin 256) :
    k0_pay32 v4 x (ix2 r k) = ((s r (256 * c + k.val) : ℝ) : EReal) := by
  rw [score_at, ← hs r ⟨256 * c + k.val, by omega⟩]
  exact Finset.sum_congr rfl fun e _ => by rw [hx]

include hs hv in
/-- The loop from chunk `c` down leaves the whole of the row's weighted sum. -/
theorem loop_at : ∀ (n c : ℕ), c ≤ n → c ≤ 2 * i.val → ∀ (C : Vec Ideal S512x1 .f32) (A : Vec Ideal S512x128 .f32),
    (∀ r : Fin 512, C (ix2 r 0) = ((after (s r) (512 * i.val + r.val) (256 * c) : ℝ) : EReal)) →
    (∀ r : Fin 512, A (ix2 r d) = att (s r) v (512 * i.val + r.val) (256 * c)) →
    ∀ r : Fin 512, loop v4 (k0_pay6 (F := Ideal)) x1 x2 n (Scalar.subi (BitVec.ofNat 32 c) 1#32) 1#32 C A (ix2 r d)
      = att (s r) v (512 * i.val + r.val) 0 := by
  intro n
  induction n with
  | zero =>
    intro c hc _ C A _ hA r
    obtain rfl : c = 0 := by omega
    exact hA r
  | succ n ih =>
    intro c hc hi C A hC hA r
    rw [loop]
    rcases c with _ | c
    · rw [if_neg test_end]
      exact hA r
    · have h8 : c < 8 := by omega
      rw [pred_word ⟨c, h8⟩, if_pos (test_word ⟨c, h8⟩), dif_pos (chk_word ⟨c, h8⟩)]
      dsimp only
      have hx (x : Vec Ideal S1x2048x128 .f32) (k : Fin 256) (e : Fin 128) : chunk x (BitVec.ofNat 32 c) (chk_word ⟨c, h8⟩) (ix3 0 k e) = x (ix3 0 ⟨256 * c + k.val, by omega⟩ e) :=
        ld_at x _ _ c (off2 ⟨c, h8⟩) k e _ rfl
      have hS (r : Fin 512) (k : Fin 256) := scores_of v4 x1 s hs (chunk x1 (BitVec.ofNat 32 c) (chk_word ⟨c, h8⟩)) c h8 (hx x1) r k
      have e256 : 256 * (c + 1) = 256 * c + 256 := by omega
      rw [e256] at hC hA
      have C' (r : Fin 512) := un_carry v4 (chunk x1 (BitVec.ofNat 32 c) (chk_word ⟨c, h8⟩)) C r (s r) (512 * i.val + r.val) (256 * c) (by omega) (hS r) (hC r) (by omega)
      have A' (r : Fin 512) := un_acc v4 (chunk x1 (BitVec.ofNat 32 c) (chk_word ⟨c, h8⟩)) (chunk x2 (BitVec.ofNat 32 c) (chk_word ⟨c, h8⟩)) C A r d (s r) v (512 * i.val + r.val) (256 * c) (by omega) (hS r) (hC r)
        (fun k => (hx x2 k d).trans (hv _)) (hA r) (by omega)
      rw [flag_at _ ⟨_, C' 0⟩]
      exact ih c (by omega) (by omega) _ _ C' A' r

end Tile

section Point

variable (i : grid0.Coords) (x0 : Vec Ideal S1x512x128 .f32) (x1 x2 : Vec Ideal S1x2048x128 .f32) (x3 : Vec Ideal S1x512x128 .f32) (d : Fin 128) (s : Fin 512 → ℕ → ℝ) (v : ℕ → EReal)
  (hs : ∀ (r : Fin 512) (k : Fin 2048), (∑ e : Fin 128, k0_pay5 x0 (ix2 r e) * x1 (ix3 0 k e)) = ((s r k : ℝ) : EReal))
  (hv : ∀ k : Fin 2048, x2 (ix3 0 k d) = v k)

/-- The first chunk of the diagonal, at an index. -/
theorem d0_at (x : Vec Ideal S1x2048x128 .f32) (k : Fin 256) (e : Fin 128) : dchunk x i 0 (ix3 0 k e) = x (ix3 0 ⟨256 * (2 * (i 2).val + 1) + k.val, by have : (i 2).val < 4 := (i 2).isLt; omega⟩ e) :=
  ld_at x _ _ _ (off1 i).1 k e _ rfl

/-- The second chunk of the diagonal, at an index. -/
theorem d1_at (x : Vec Ideal S1x2048x128 .f32) (k : Fin 256) (e : Fin 128) : dchunk x i 1 (ix3 0 k e) = x (ix3 0 ⟨256 * (2 * (i 2).val) + k.val, by have : (i 2).val < 4 := (i 2).isLt; omega⟩ e) :=
  ld_at x _ _ _ (off1 i).2 k e _ rfl

/-- The mask of the diagonal's first chunk. -/
def M0 : IVec S512x256 1 := k0_pay14 (wq i) k0_pay7 (w25 i)
/-- The mask of the diagonal's second chunk. -/
def M1 : IVec S512x256 1 := k0_pay23 (wq i) k0_pay7 (w24 i)

/-- The first mask: the keys before the row. -/
theorem M0_at (r : Fin 512) (k : Fin 256) : M0 i (ix2 r k) = if 256 * (2 * (i 2).val + 1) + k.val < 512 * (i 2).val + r.val then 1#1 else 0#1 := by
  have hi : (i 2).val < 4 := (i 2).isLt
  have e : M0 i = k0_pay14 (wq i) k0_pay7 (BitVec.ofNat 32 (2 * (i 2).val + 1)) := congrArg (k0_pay14 (wq i) k0_pay7) (words (i 2)).1
  rw [e]
  exact mask_at (i 2) _ (by omega) r k

/-- The second mask: the keys before the row. -/
theorem M1_at (r : Fin 512) (k : Fin 256) : M1 i (ix2 r k) = if 256 * (2 * (i 2).val) + k.val < 512 * (i 2).val + r.val then 1#1 else 0#1 := by
  have hi : (i 2).val < 4 := (i 2).isLt
  have e : M1 i = k0_pay14 (wq i) k0_pay7 (BitVec.ofNat 32 (2 * (i 2).val)) := congrArg (k0_pay14 (wq i) k0_pay7) (words (i 2)).2.1
  rw [e]
  exact mask_at (i 2) _ (by omega) r k

/-- The carry after the first chunk, in the shared form. -/
theorem carry1_eq : carry1 i x0 x1 = k0_pay3 (incl (lkM (k0_pay5 x0) (dchunk x1 i 0) (M0 i))) (k0_pay8 (F := Ideal)) := rfl

/-- The carry after the second chunk, in the shared form. -/
theorem carry2_eq : carry2 i x0 x1 = k0_pay3 (incl (lkM (k0_pay5 x0) (dchunk x1 i 1) (M1 i))) (carry1 i x0 x1) := rfl

/-- The accumulator after the first chunk, in the shared form. -/
theorem acc1_eq : acc1 i x0 x1 x2 = k0_pay2 (upd (wM (k0_pay5 x0) (dchunk x1 i 0) (k0_pay8 (F := Ideal)) (M0 i)) (dchunk x2 i 0) (k0_pay9 (F := Ideal))) := rfl

/-- The accumulator after the second chunk, in the shared form. -/
theorem acc2_eq : acc2 i x0 x1 x2 = k0_pay2 (upd (wM (k0_pay5 x0) (dchunk x1 i 1) (carry1 i x0 x1) (M1 i)) (dchunk x2 i 1) (acc1 i x0 x1 x2)) := rfl

/-- A reshape to the same shape changes nothing. -/
theorem cast_at (B : FVec Ideal S512x128 .f32) (r : Fin 512) (d : Fin 128) : k0_pay2 B (ix2 r d) = B (ix2 r d) := by
  pointwise [k0_pay2]

include hs in
/-- The carry after the first chunk: the survivals from that chunk on. -/
theorem c1_at (r : Fin 512) : carry1 i x0 x1 (ix2 r 0) = ((after (s r) (512 * (i 2).val + r.val) (256 * (2 * (i 2).val + 1)) : ℝ) : EReal) := by
  have hi : (i 2).val < 4 := (i 2).isLt
  rw [carry1_eq]
  refine carry_eq _ r (s r) _ _ (by omega) _ (surv_m _ _ r (s r) _ _ (scores_of _ x1 s hs _ _ (by omega) (d0_at i x1) r) _ (M0_at i r)) ?_
  rw [after_top _ _ _ (by omega)]
  pointwise [k0_pay8]
  rfl

include hs in
/-- The carry after the second chunk. -/
theorem c2_at (r : Fin 512) : carry2 i x0 x1 (ix2 r 0) = ((after (s r) (512 * (i 2).val + r.val) (256 * (2 * (i 2).val)) : ℝ) : EReal) := by
  have hi : (i 2).val < 4 := (i 2).isLt
  rw [carry2_eq]
  exact carry_eq _ r (s r) _ _ (by omega) _ (surv_m _ _ r (s r) _ _ (scores_of _ x1 s hs _ _ (by omega) (d1_at i x1) r) _ (M1_at i r)) (c1_at i x0 x1 s hs r)

include hs hv in
/-- The accumulator after the first chunk: the weighted sum from that chunk on. -/
theorem a1_at (r : Fin 512) : acc1 i x0 x1 x2 (ix2 r d) = att (s r) v (512 * (i 2).val + r.val) (256 * (2 * (i 2).val + 1)) := by
  have hi : (i 2).val < 4 := (i 2).isLt
  rw [acc1_eq, cast_at]
  refine acc_eq _ _ r d (s r) v _ _ (by omega) (fun k => (d0_at i x2 k d).trans (hv _)) ?_ _
    (wM_at _ _ _ r (s r) _ _ (by omega) (scores_of _ x1 s hs _ _ (by omega) (d0_at i x1) r) ?_ _ (M0_at i r))
  · rw [att_top _ _ _ _ (by omega)]
    pointwise [k0_pay9]
  · rw [after_top _ _ _ (by omega)]
    pointwise [k0_pay8]
    rfl

include hs hv in
/-- The accumulator after the second chunk. -/
theorem a2_at (r : Fin 512) : acc2 i x0 x1 x2 (ix2 r d) = att (s r) v (512 * (i 2).val + r.val) (256 * (2 * (i 2).val)) := by
  have hi : (i 2).val < 4 := (i 2).isLt
  rw [acc2_eq, cast_at]
  exact acc_eq _ _ r d (s r) v _ _ (by omega) (fun k => (d1_at i x2 k d).trans (hv _)) (a1_at i x0 x1 x2 d s v hs hv r) _
    (wM_at _ _ _ r (s r) _ _ (by omega) (scores_of _ x1 s hs _ _ (by omega) (d1_at i x1) r) (c1_at i x0 x1 s hs r) _ (M1_at i r))

include hs hv in
/-- What a grid point leaves, at an index of its block. -/
theorem outVal_at (r : Fin 512) : outVal i x0 x1 x2 x3 (ix3 0 r d)
    = att (s r) v (512 * (i 2).val + r.val) 0 * (x3 (ix3 0 r d) * Ideal.div 1 (1 + Ideal.exp (0 - x3 (ix3 0 r d)))) := by
  have hi : (i 2).val < 4 := (i 2).isLt
  refine (out_at _ x3 r d).trans ?_
  congr 1
  have e : Scalar.subi (w24 i) 2#32 = Scalar.subi (BitVec.ofNat 32 (2 * (i 2).val)) 1#32 := (words (i 2)).2.2
  show loop (k0_pay5 x0) (k0_pay6 (F := Ideal)) x1 x2 8 (Scalar.subi (w24 i) 2#32) 1#32 (carry2 i x0 x1) (acc2 i x0 x1 x2) (ix2 r d) = _
  rw [e]
  exact loop_at (k0_pay5 x0) x1 x2 d s v (i 2) hs hv 8 (2 * (i 2).val) (by omega) le_rfl _ _ (c2_at i x0 x1 s hs) (a2_at i x0 x1 x2 d s v hs hv) r

end Point

end Cert.Sb

end
-- ==== Proof.SbRef.lean ====
/- The stick-breaking reference read at an index: its output is the weighted sum of SbMath.lean times the gate. -/
module

public import proofs.«01_k».proof.Proof.SbMath
public import proofs.«01_k».proof.Proof.Gen.ReferenceSbIdeal.Read
public import Idealize.ShloMosaic.Lib.Pointwise
public import Idealize.ShloMosaic.Lib.WordCmp

@[expose] public section

set_option maxRecDepth 16384

noncomputable section

namespace Cert.Sb

open Cert.ReferenceSbIdeal Cert.ReferenceSbIdeal.Gen Cert.ReferenceSbIdeal.Read Idealize.ShloMosaic Idealize.ShloMosaic.TcCoe Cert.Soft

/-- The scale of the scores. -/
def scale : ℝ := (Ideal.ofBits .f32 0x3DB504F3#32).toReal

/-- The scale is a real number. -/
theorem scale_eq : Ideal.ofBits .f32 0x3DB504F3#32 = ((scale : ℝ) : EReal) := by
  obtain ⟨z, hz⟩ : ∃ r : ℝ, Ideal.ofBits .f32 0x3DB504F3#32 = (r : EReal) :=
    ⟨_, by simp [Ideal.ofBits, Ideal.ieee, -EReal.coe_mul]; rfl⟩
  unfold scale
  rw [hz, EReal.toReal_coe]

/-- Column `d` of a head's 128. -/
def hcol (h : Fin 16) (d : Fin 128) : Fin 2048 := ⟨h.val * 128 + d.val, by omega⟩

/-- The score of key `j` for the query at time `t`. -/
def score (x0 : FVec Ideal S4x2048x2048 .f32) (x1 : FVec Ideal S4x2048x4096 .f32) (b : Fin 4) (h : Fin 16) (t : Fin 2048) (j : ℕ) : ℝ :=
  (∑ d : Fin 128, (x0 (ix3 b t (hcol h d))).toReal * (x1 (ix3 b (Fin.ofNat 2048 j) ⟨(hcol h d).val, by omega⟩)).toReal) * scale

/-- The value of key `j`. -/
def value (x1 : FVec Ideal S4x2048x4096 .f32) (b : Fin 4) (h : Fin 16) (d : Fin 128) (j : ℕ) : EReal :=
  x1 (ix3 b (Fin.ofNat 2048 j) ⟨2048 + (hcol h d).val, by omega⟩)

/-- The gate. -/
def silu (z : EReal) : EReal := z * Ideal.div 1 (1 + Ideal.exp (0 - z))

/-- The layer's output at an index. -/
def out (x0 : FVec Ideal S4x2048x2048 .f32) (x1 : FVec Ideal S4x2048x4096 .f32) (x2 : FVec Ideal S4x2048x2048 .f32) (b : Fin 4) (t : Fin 2048) (h : Fin 16) (d : Fin 128) : EReal :=
  att (score x0 x1 b h t) (value x1 b h d) t 0 * silu (x2 (ix3 b t (hcol h d)))

/-- A left fold of additions. -/
theorem foldl_add {α : Type} (F : EReal → α → EReal) (g : α → EReal) (hF : ∀ r n, F r n = r + g n) (l : List α) (v : EReal) :
    l.foldl F v = v + (l.map g).sum := by
  induction l generalizing v with
  | nil => simp
  | cons a l ih => rw [List.foldl_cons, ih, hF, List.map_cons, List.sum_cons, add_assoc]

/-- The window's size. -/
theorem numel_win (N : ℕ) : (⟨4, ![1, 1, 1, N]⟩ : Shape).numel = N := by
  simp [Shape.numel, Fin.prod_univ_succ]

/-- The window of a row: its positions, one after another. -/
theorem window_last {N : ℕ} (n : Fin (⟨4, ![1, 1, 1, N]⟩ : Shape).numel) :
    ((⟨4, ![1, 1, 1, N]⟩ : Shape).rowMajor.symm n 3).val = n.val := by
  have e := Shape.rowMajor_val_four ((⟨4, ![1, 1, 1, N]⟩ : Shape).rowMajor.symm n)
  rw [Equiv.apply_symm_apply] at e
  have h0 : ((⟨4, ![1, 1, 1, N]⟩ : Shape).rowMajor.symm n 0).val = 0 := Nat.lt_one_iff.1 ((⟨4, ![1, 1, 1, N]⟩ : Shape).rowMajor.symm n 0).isLt
  have h1 : ((⟨4, ![1, 1, 1, N]⟩ : Shape).rowMajor.symm n 1).val = 0 := Nat.lt_one_iff.1 ((⟨4, ![1, 1, 1, N]⟩ : Shape).rowMajor.symm n 1).isLt
  have h2 : ((⟨4, ![1, 1, 1, N]⟩ : Shape).rowMajor.symm n 2).val = 0 := Nat.lt_one_iff.1 ((⟨4, ![1, 1, 1, N]⟩ : Shape).rowMajor.symm n 2).isLt
  rw [h0, h1, h2] at e
  simpa using e.symm

/-- A row's sums from each position to the end. -/
theorem suffix_gen {A B T N Nm1 : ℕ} (x : FVec Ideal ⟨4, ![A, B, T, N]⟩ .f32) (init : FVec Ideal S_ .f32) (hi : ∀ i, init i = (0 : EReal)) (b : Fin A) (h : Fin B) (t : Fin T) (f : ℕ → ℝ)
    (hx : ∀ k : Fin N, x (ix4 b h t k) = ((f k : ℝ) : EReal)) (hw) (hu) (j : Fin N) :
    Host.reduceWindowAdd (F := Ideal) (s := ⟨4, ![A, B, T, N]⟩) (t := ⟨4, ![A, B, T, N]⟩) (u := S_) ![1, 1, 1, N] ![1, 1, 1, 1] ![0, 0, 0, 0] ![0, 0, 0, Nm1] x init hw hu (ix4 b h t j)
      = ((∑ k ∈ Finset.Ico (j : ℕ) N, f k : ℝ) : EReal) := by
  unfold Host.reduceWindowAdd
  rw [hi]
  rw [Ideal.hostReduceWindowAdd_def]
  unfold Ideal.hostReduceWindowAdd Host.reduceWindow
  refine (foldl_add _ (fun n => (((if j.val + n.val < N then f (j.val + n.val) else 0) : ℝ) : EReal)) (fun r n => ?_) _ _).trans ?_
  · refine congrArg (fun a => r + a) ?_
    have hb : n.val < N := lt_of_lt_of_eq n.isLt (numel_win N)
    have w3 := window_last n
    have w0 : ((⟨4, ![1, 1, 1, N]⟩ : Shape).rowMajor.symm n 0).val = 0 := Nat.lt_one_iff.1 ((⟨4, ![1, 1, 1, N]⟩ : Shape).rowMajor.symm n 0).isLt
    have w1 : ((⟨4, ![1, 1, 1, N]⟩ : Shape).rowMajor.symm n 1).val = 0 := Nat.lt_one_iff.1 ((⟨4, ![1, 1, 1, N]⟩ : Shape).rowMajor.symm n 1).isLt
    have w2 : ((⟨4, ![1, 1, 1, N]⟩ : Shape).rowMajor.symm n 2).val = 0 := Nat.lt_one_iff.1 ((⟨4, ![1, 1, 1, N]⟩ : Shape).rowMajor.symm n 2).isLt
    dsimp only
    split
    · next hin =>
      have h3 := (hin 3).2
      change j.val * 1 + ((⟨4, ![1, 1, 1, N]⟩ : Shape).rowMajor.symm n 3).val - 0 < N at h3
      rw [w3] at h3
      rw [if_pos (by omega)]
      refine (congrArg x (funext fun a => Fin.ext ?_)).trans (hx ⟨j.val + n.val, by omega⟩)
      match a with
      | ⟨0, _⟩ =>
        show b.val * 1 + ((⟨4, ![1, 1, 1, N]⟩ : Shape).rowMajor.symm n 0).val - 0 = b.val
        rw [w0]; omega
      | ⟨1, _⟩ =>
        show h.val * 1 + ((⟨4, ![1, 1, 1, N]⟩ : Shape).rowMajor.symm n 1).val - 0 = h.val
        rw [w1]; omega
      | ⟨2, _⟩ =>
        show t.val * 1 + ((⟨4, ![1, 1, 1, N]⟩ : Shape).rowMajor.symm n 2).val - 0 = t.val
        rw [w2]; omega
      | ⟨3, _⟩ =>
        show j.val * 1 + ((⟨4, ![1, 1, 1, N]⟩ : Shape).rowMajor.symm n 3).val - 0 = j.val + n.val
        rw [w3]; omega
    · next hin =>
      rw [if_neg fun hle => hin fun a => by
        match a with
        | ⟨0, _⟩ =>
          show 0 ≤ _ ∧ b.val * 1 + ((⟨4, ![1, 1, 1, N]⟩ : Shape).rowMajor.symm n 0).val - 0 < A
          rw [w0]; omega
        | ⟨1, _⟩ =>
          show 0 ≤ _ ∧ h.val * 1 + ((⟨4, ![1, 1, 1, N]⟩ : Shape).rowMajor.symm n 1).val - 0 < B
          rw [w1]; omega
        | ⟨2, _⟩ =>
          show 0 ≤ _ ∧ t.val * 1 + ((⟨4, ![1, 1, 1, N]⟩ : Shape).rowMajor.symm n 2).val - 0 < T
          rw [w2]; omega
        | ⟨3, _⟩ =>
          show 0 ≤ _ ∧ j.val * 1 + ((⟨4, ![1, 1, 1, N]⟩ : Shape).rowMajor.symm n 3).val - 0 < N
          rw [w3]; omega]
      rfl
  · rw [zero_add, ← Fin.sum_univ_def, ← coe_sum]
    congr 1
    rw [Fin.sum_univ_eq_sum_range (fun n => if j.val + n < N then f (j.val + n) else 0),
      show (⟨4, ![1, 1, 1, N]⟩ : Shape).numel = N from numel_win N, Finset.sum_Ico_eq_sum_range, ← Finset.sum_filter]
    refine Finset.sum_congr (Finset.ext fun n => ?_) fun _ _ => rfl
    rw [Finset.mem_range, Finset.mem_filter, Finset.mem_range]
    omega

/-- A row's sums from each position to the end, at this program's shapes. -/
theorem suffix_at (x : FVec Ideal S4x16x2048x2048 .f32) (init : FVec Ideal S_ .f32) (hi : ∀ i, init i = (0 : EReal)) (b : Fin 4) (h : Fin 16) (t : Fin 2048) (f : ℕ → ℝ)
    (hx : ∀ k : Fin 2048, x (ix4 b h t k) = ((f k : ℝ) : EReal)) (hw) (hu) (j : Fin 2048) :
    Host.reduceWindowAdd (F := Ideal) (s := S4x16x2048x2048) (t := S4x16x2048x2048) (u := S_) ![1, 1, 1, 2048] ![1, 1, 1, 1] ![0, 0, 0, 0] ![0, 0, 0, 2047] x init hw hu (ix4 b h t j)
      = ((∑ k ∈ Finset.Ico (j : ℕ) 2048, f k : ℝ) : EReal) :=
  suffix_gen x init hi b h t f hx hw hu j

section Read

variable (x0 : FVec Ideal S4x2048x2048 .f32) (x1 : FVec Ideal S4x2048x4096 .f32) (x2 : FVec Ideal S4x2048x2048 .f32)
  (f0 : ∀ i, x0 i = (((x0 i).toReal : ℝ) : EReal)) (f1 : ∀ (b : Fin 4) (k e : Fin 2048), x1 (ix3 b k (kcol e)) = (((x1 (ix3 b k (kcol e))).toReal : ℝ) : EReal))

/-- A dot product of reals. -/
theorem coe_dot' {n : ℕ} (a b : Fin n → ℝ) : ∑ k : Fin n, (a k : EReal) * (b k : EReal) = ((∑ k : Fin n, a k * b k : ℝ) : EReal) := by
  rw [coe_sum]
  rfl

include f0 f1 in
/-- The reference's scores. -/
theorem v7_at (b : Fin 4) (h : Fin 16) (t j : Fin 2048) : val_main_v7 (F := Ideal) x0 x1 (ix4 b h t j) = ((score x0 x1 b h t j : ℝ) : EReal) := by
  pointwise [val_main_v7, val_main_v6, val_main_cst, val_main_v5, val_main_v2, val_main_v1, val_main_v0]
  have hj : Fin.ofNat 2048 (j : ℕ) = j := by simp only [Fin.ofNat_eq_cast, Fin.cast_val_eq_self]
  unfold score
  rw [scale_eq, EReal.coe_mul, ← coe_dot', hj]
  congr 1
  refine Finset.sum_congr rfl fun d _ => ?_
  exact Ideal.mul_congr (f0 _) (f1 b j (hcol h d))

/-- Whether key `j` comes before time `t`. -/
theorem v13_at (t j : Fin 2048) : val_main_v13 (F := Ideal) (ix2 t j) = if j.val < t.val then 1#1 else 0#1 := by
  pointwise [val_main_v13, val_main_v12, val_main_v11, val_main_v10, val_main_v9, val_main_v8]
  rw [WordCmp.cmpi_slt_ofNat (by omega) (by omega)]
  by_cases h : j.val < t.val
  · rw [if_pos h, decide_eq_true h]; rfl
  · rw [if_neg h, decide_eq_false h]; rfl

/-- The constant zero. -/
theorem zero_c (i : S_.Idx) : id (constant (F := Ideal) S_ .f32 0#32) i = ((0 : ℝ) : EReal) := by
  rw [EReal.coe_zero]
  exact Ideal.ofBits_zero_f32

/-- The softplus the reference computes, of a real. -/
theorem softplus (z : ℝ) : (-if (z : EReal) ≠ (z : EReal) then (z : EReal) else max (z : EReal) 0 + Ideal.log1p (Ideal.exp (-(FloatOps.absf (F := Ideal) (φ := .f32) (z : EReal)))))
    = ((-(max z 0 + Real.log (1 + Real.exp (-|z|))) : ℝ) : EReal) := by
  rw [if_neg (fun h => h rfl)]
  have ha : FloatOps.absf (F := Ideal) (φ := .f32) (z : EReal) = ((|z| : ℝ) : EReal) := abs_coe z
  rw [ha, ← EReal.coe_neg]
  have hl : Ideal.log1p (Ideal.exp ((-|z| : ℝ) : EReal)) = ((Real.log (1 + Real.exp (-|z|)) : ℝ) : EReal) := log_pos_coe _
  rw [hl, ← EReal.coe_zero, ← EReal.coe_strictMono.monotone.map_max, ← EReal.coe_add, ← EReal.coe_neg]

/-- A choice between reals by whether one number is below another. -/
theorem sel {a b : ℕ} (x y : ℝ) : Scalar.select (if a < b then 1#1 else 0#1) (x : EReal) (y : EReal) = (((if a < b then x else y) : ℝ) : EReal) := by
  by_cases h : a < b
  · rw [if_pos h, if_pos h]; rfl
  · rw [if_neg h, if_neg h]; rfl

include f0 f1 in
/-- The reference's masked log weights. -/
theorem v15_at (b : Fin 4) (h : Fin 16) (t j : Fin 2048) : val_main_v15 (F := Ideal) x0 x1 (ix4 b h t j)
    = (((if j.val < t.val then lsig (score x0 x1 b h t j) else 0) : ℝ) : EReal) := by
  pointwise [val_main_v15, val_main_call1_v2, val_main_call1_v1, val_main_call1_v0, val_main_cst_0, val_main_v14, val_main_call0_v1, val_main_call0_v0,
    val_main_call0_call0_v11, val_main_call0_call0_v10, val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0, val_main_call0_call0_cst]
  rw [v7_at x0 x1 f0 f1, ← EReal.coe_neg, softplus, zero_c, v13_at, sel, abs_neg, lsig_ref]

include f0 f1 in
/-- The reference's masked log survivals. -/
theorem v18_at (b : Fin 4) (h : Fin 16) (t j : Fin 2048) : val_main_v18 (F := Ideal) x0 x1 (ix4 b h t j)
    = ((surv (score x0 x1 b h t) t j : ℝ) : EReal) := by
  pointwise [val_main_v18, val_main_call3_v2, val_main_call3_v1, val_main_call3_v0, val_main_cst_1, val_main_v17, val_main_v16, val_main_call2_v1, val_main_call2_v0,
    val_main_call2_call0_v11, val_main_call2_call0_v10, val_main_call2_call0_v9, val_main_call2_call0_v8, val_main_call2_call0_v7, val_main_call2_call0_v6, val_main_call2_call0_v5,
    val_main_call2_call0_v4, val_main_call2_call0_v3, val_main_call2_call0_v2, val_main_call2_call0_v1, val_main_call2_call0_v0, val_main_call2_call0_cst]
  rw [v7_at x0 x1 f0 f1, ← EReal.coe_neg, ← EReal.coe_neg, neg_neg, softplus, zero_c, v13_at, sel, lneg_ref]
  rfl

include f0 f1 in
/-- The reference's weights. -/
theorem v23_at (b : Fin 4) (h' : Fin 16) (t j : Fin 2048) : val_main_v23 (F := Ideal) x0 x1 (ix4 b h' t j)
    = ((wt (score x0 x1 b h' t) t j : ℝ) : EReal) := by
  have e19 : val_main_v19 (F := Ideal) x0 x1 (ix4 b h' t j) = ((after (score x0 x1 b h' t) t j : ℝ) : EReal) := by
    unfold val_main_v19
    exact suffix_at _ _ (fun i => by pointwise [val_main_call4_v0, val_main_call4_cst]) b h' t _ (v18_at x0 x1 f0 f1 b h' t) _ _ j
  pointwise [val_main_v23, val_main_call5_v2, val_main_call5_v1, val_main_call5_v0, val_main_cst_2, val_main_v22, val_main_v21, val_main_v20]
  rw [v13_at, v15_at x0 x1 f0 f1, v18_at x0 x1 f0 f1, e19, ← EReal.coe_sub, ← EReal.coe_add, Ideal.exp_coe, zero_c, sel]
  unfold wt
  by_cases h : j.val < t.val
  · rw [if_pos h, if_pos h, if_pos h]
    have e : after (score x0 x1 b h' t) t j = after (score x0 x1 b h' t) t (j + 1) + surv (score x0 x1 b h' t) t j := by
      unfold after
      rw [Finset.sum_eq_sum_Ico_succ_bot j.isLt, add_comm]
    rw [e, add_sub_cancel_right]
  · rw [if_neg h, if_neg h]

include f0 f1 in
/-- The reference's result at an index. -/
theorem ref_at (b : Fin 4) (t : Fin 2048) (c : Fin 2048) : val_main_v29 (F := Ideal) x0 x1 x2 (ix3 b t c)
    = out x0 x1 x2 b t ⟨(c : ℕ) / 128, by omega⟩ ⟨(c : ℕ) % 128, by omega⟩ := by
  pointwise [val_main_v29, val_main_v28, val_main_v27, val_main_v26, val_main_v25, val_main_v24, val_main_v4, val_main_v3,
    val_main_call6_v0, val_main_call6_v1, val_main_call6_v2, val_main_call6_v3, val_main_call6_v4, val_main_call6_v5, val_main_call6_cst, val_main_call6_cst_0]
  have hc : hcol ⟨(c : ℕ) / 128, by omega⟩ ⟨(c : ℕ) % 128, by omega⟩ = c := Fin.ext (by show (c : ℕ) / 128 * 128 + (c : ℕ) % 128 = c; omega)
  unfold out silu
  rw [hc]
  refine congrArg₂ (· * ·) ?_ ?_
  · unfold att
    rw [Nat.Ico_zero_eq_range, Finset.sum_range]
    refine Finset.sum_congr rfl fun k _ => ?_
    rw [v23_at x0 x1 f0 f1, mul_comm]
    congr 1
    unfold value
    have hk : Fin.ofNat 2048 (k : ℕ) = k := by simp only [Fin.ofNat_eq_cast, Fin.cast_val_eq_self]
    have hv : (⟨2048 + (hcol ⟨(c : ℕ) / 128, by omega⟩ ⟨(c : ℕ) % 128, by omega⟩).val, by omega⟩ : Fin 4096) = ⟨2048 + c.val, by omega⟩ :=
      Fin.ext (congrArg (fun a : Fin 2048 => 2048 + a.val) hc)
    rw [hk, hv]
  · rw [zero_sub]

end Read

end Cert.Sb

end
-- ==== Proof.SbPre.lean ====
/- What the stick-breaking kernel's precondition gives: queries and keys are real numbers. -/
module

public import proofs.«01_k».proof.Proof.Pre
public import proofs.«01_k».proof.Proof.SbMath
public import proofs.«01_k».proof.Pre_sb_finite

@[expose] public section

set_option maxRecDepth 16384

noncomputable section

namespace Cert.Sb

open Idealize.ShloMosaic Cert.Pre_sb_finite

/-- The shape relations of the predicate's operations. -/
theorem facts_pre : Cert.Pre_sb_finite.Facts where
  bcast_S_S4x2048x2048 := by decide
  reducesTo_S4x2048x2048_S_d0_1_2 := by decide
  h_S_ := by decide
  slices_S4x2048x4096_S4x2048x2048_0_0_0 := by decide

/-- The precondition, unpacked. -/
theorem finite [Cert.Pre_sb_finite.Facts] (x0 : FVec Ideal S4x2048x2048 .f32) (x1 : FVec Ideal S4x2048x4096 .f32) (x2 : FVec Ideal S4x2048x2048 .f32)
    (h : fn (F := Ideal) x0 x1 x2 = fun _ => 1#1) : (∀ i, x0 i = (((x0 i).toReal : ℝ) : EReal)) ∧ ∀ (b : Fin 4) (k e : Fin 2048), x1 (ix3 b k (kcol e)) = (((x1 (ix3 b k (kcol e))).toReal : ℝ) : EReal) := by
  have j : S_.Idx := Shape.Idx.first Facts.h_S_
  have e := congrFun h j
  unfold fn at e
  dsimp only at e
  haveI : Subsingleton S_.Idx := ⟨fun a b => funext fun i => i.elim0⟩
  obtain ⟨e0, e1⟩ := IntOp.andi_eq_one.1 e
  refine ⟨fun i => Cert.Pre.real_of_cmp (Host.reduce_andi_all _ _ _ _ j e0 i), fun b k e => ?_⟩
  have p := Cert.Pre.real_of_cmp (Host.reduce_andi_all _ _ _ _ j e1 (ix3 b k e))
  have q : extractStridedSlice S4x2048x2048 ![0, 0, 0] x1 Facts.slices_S4x2048x4096_S4x2048x2048_0_0_0 (ix3 b k e) = x1 (ix3 b k (kcol e)) := by
    pointwise [kcol]
  rw [q] at p
  exact p

end Cert.Sb

end
-- ==== Proof.SbFrameI.lean ====
/- The stick-breaking kernel over its whole grid: what a run leaves in the result, and in the arguments. -/
module

public import proofs.«01_k».proof.Proof.SbRunI
public import Idealize.ShloMosaic.Lib.Pipeline.Value

@[expose] public section

set_option maxRecDepth 16384

noncomputable section

namespace Cert.KernelSbIdeal.Hand

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The core's buffers as launched. -/
abbrev V (c : Dev nD) (b : Ref sig .tc) : Buf (Elt F) ((c : Thread nD τ).loc b) := m ((c : Thread nD τ).loc b)

set_option maxHeartbeats 800000 in
/-- The program is the one pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The first argument as launched. -/
theorem V_main_arg0 (c : Dev nD) : V m c main_arg0 = m ((c : Thread nD τ).loc main_arg0) := rfl
/-- The second argument as launched. -/
theorem V_main_arg1 (c : Dev nD) : V m c main_arg1 = m ((c : Thread nD τ).loc main_arg1) := rfl
/-- The third argument as launched. -/
theorem V_main_arg2 (c : Dev nD) : V m c main_arg2 = m ((c : Thread nD τ).loc main_arg2) := rfl

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window holds its block before a point: window 0. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window holds its block before a point: window 1. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window holds its block before a point: window 2. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window holds its block before a point: window 3. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments are kept by any run to the proof data's end. -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c)))⟩) h

/-- The buffer of window 0 at a point. -/
abbrev ms0_0 (t : Fin (cfg0 (F := F)).N) : Memref sig .tc .vmem S1x512x128 .f32 := win0_0.stage ((cfg0 (F := F)).slots t 0)
/-- It is a whole buffer. -/
abbrev hs0_0 (t : Fin (cfg0 (F := F)).N) : (ms0_0 t).IsWhole := hstage0_0 (((cfg0 (F := F)).slots t 0).cast nbuf0_0)
/-- The buffer of window 1 at a point. -/
abbrev ms0_1 (t : Fin (cfg0 (F := F)).N) : Memref sig .tc .vmem S1x2048x128 .f32 := win0_1.stage ((cfg0 (F := F)).slots t 1)
/-- It is a whole buffer. -/
abbrev hs0_1 (t : Fin (cfg0 (F := F)).N) : (ms0_1 t).IsWhole := hstage0_1 (((cfg0 (F := F)).slots t 1).cast nbuf0_1)
/-- The buffer of window 2 at a point. -/
abbrev ms0_2 (t : Fin (cfg0 (F := F)).N) : Memref sig .tc .vmem S1x2048x128 .f32 := win0_2.stage ((cfg0 (F := F)).slots t 2)
/-- It is a whole buffer. -/
abbrev hs0_2 (t : Fin (cfg0 (F := F)).N) : (ms0_2 t).IsWhole := hstage0_2 (((cfg0 (F := F)).slots t 2).cast nbuf0_2)
/-- The buffer of window 3 at a point. -/
abbrev ms0_3 (t : Fin (cfg0 (F := F)).N) : Memref sig .tc .vmem S1x512x128 .f32 := win0_3.stage ((cfg0 (F := F)).slots t 3)
/-- It is a whole buffer. -/
abbrev hs0_3 (t : Fin (cfg0 (F := F)).N) : (ms0_3 t).IsWhole := hstage0_3 (((cfg0 (F := F)).slots t 3).cast nbuf0_3)
/-- The buffer of window 4 at a point. -/
abbrev ms0_4 (t : Fin (cfg0 (F := F)).N) : Memref sig .tc .vmem S1x512x128 .bf16 := win0_4.stage ((cfg0 (F := F)).slots t 4)
/-- It is a whole buffer. -/
abbrev hs0_4 (t : Fin (cfg0 (F := F)).N) : (ms0_4 t).IsWhole := hstage0_4 (((cfg0 (F := F)).slots t 4).cast nbuf0_4)
/-- The carry's scratch. -/
abbrev scM0_0 : Memref sig .tc .vmem S512x1 .f32 := Memref.whole cc0_scratch0
/-- The accumulator's scratch. -/
abbrev scM0_1 : Memref sig .tc .vmem S512x128 .f32 := Memref.whole cc0_scratch1

/-- The scratch resources, spelled out. -/
theorem PhiA0_eq (c : Dev nD) :
    (Pipeline.ΦA spec0 c : sProp (MM F))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the result's block holds after a point. -/
def outsAt0 (c : Dev nD) (t : Fin (cfg0 (F := F)).N) : Vec F S1x512x128 .bf16 :=
  outVal (grid0.coords t) (iblk m c 0 t) (iblk m c 1 t) (iblk m c 2 t) (iblk m c 3 t)

/-- The proof data of the one pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

/-- The arrays of the windows are the buffers as launched. -/
theorem A_eq (c : Dev nD) (w : Fin (cfg0 (F := F)).W) : (dats m 0 c).A w = V m c (Pipeline.arrRef spec0 w) := by
  dsimp only [dats]

/-- After a point, what window 0 holds. -/
theorem after0_0 (c : Dev nD) (t : Fin (cfg0 (F := F)).N) : (dats m 0 c).after 0 t = iblk m c 0 t := by dsimp only [dats]; rfl
/-- After a point, what window 1 holds. -/
theorem after0_1 (c : Dev nD) (t : Fin (cfg0 (F := F)).N) : (dats m 0 c).after 1 t = iblk m c 1 t := by dsimp only [dats]; rfl
/-- After a point, what window 2 holds. -/
theorem after0_2 (c : Dev nD) (t : Fin (cfg0 (F := F)).N) : (dats m 0 c).after 2 t = iblk m c 2 t := by dsimp only [dats]; rfl
/-- After a point, what window 3 holds. -/
theorem after0_3 (c : Dev nD) (t : Fin (cfg0 (F := F)).N) : (dats m 0 c).after 3 t = iblk m c 3 t := by dsimp only [dats]; rfl
/-- After a point, what window 4 holds. -/
theorem after0_4 (c : Dev nD) (t : Fin (cfg0 (F := F)).N) : (dats m 0 c).after 4 t = (outsAt0 m c t) := by dsimp only [dats]; rfl

/-- Before a point, window 0 holds its block. -/
theorem before0_0 (c : Dev nD) (t : Fin (cfg0 (F := F)).N) (d) : (dats m 0 c).before 0 t d = iblk m c 0 t :=
  before0_0_of m (dats m 0 c) (A_eq m c 0) (after0_0 m c) t d
/-- Before a point, window 1 holds its block. -/
theorem before0_1 (c : Dev nD) (t : Fin (cfg0 (F := F)).N) (d) : (dats m 0 c).before 1 t d = iblk m c 1 t :=
  before0_1_of m (dats m 0 c) (A_eq m c 1) (after0_1 m c) t d
/-- Before a point, window 2 holds its block. -/
theorem before0_2 (c : Dev nD) (t : Fin (cfg0 (F := F)).N) (d) : (dats m 0 c).before 2 t d = iblk m c 2 t :=
  before0_2_of m (dats m 0 c) (A_eq m c 2) (after0_2 m c) t d
/-- Before a point, window 3 holds its block. -/
theorem before0_3 (c : Dev nD) (t : Fin (cfg0 (F := F)).N) (d) : (dats m 0 c).before 3 t d = iblk m c 3 t :=
  before0_3_of m (dats m 0 c) (A_eq m c 3) (after0_3 m c) t d

/-- What a point's body starts from. -/
def bodyPre (c : Dev nD) (t : Fin (cfg0 (F := F)).N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What a point's body leaves. -/
def bodyPost (c : Dev nD) (t : Fin (cfg0 (F := F)).N) : sProp (MM F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A point's body takes the one to the other. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩⟩
  iapply (bodyRun (grid0.coords t) (iblk m c 0 t) (iblk m c 1 t) (iblk m c 2 t) (iblk m c 3 t) c (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The pipeline's body is the point's body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation to the pipeline. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The run, to what the proof data says, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The run, to what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run terminates, the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What a point writes back of the result. -/
theorem flushed4 (c : Dev nD) (t : Fin (cfg0 (F := F)).N) :
    (dats m 0 c).flushed 4 t = ((cfg0 (F := F)).win 4).cut (grid0.coords t) (outsAt0 m c t) := by
  show ((cfg0 (F := F)).win 4).cut (grid0.coords t) ((dats m 0 c).after 4 t) = _
  rw [after0_4]

/-- An element no point writes is as launched. -/
theorem entry4 (c : Dev nD) (i : S4x2048x2048.Idx) (h : ∀ t : Fin (cfg0 (F := F)).N, ((cfg0 (F := F)).win 4).flush t = true → i ∉ (((cfg0 (F := F)).win 4).blk t).view.set) :
    (dats m 0 c).arrAt 4 (cfg0 (F := F)).N i = V m c (Pipeline.arrRef spec0 4) i := by
  rw [(dats m 0 c).arrAt_apply_of_forall_not_mem 4 (cfg0 (F := F)).N i (fun t _ hf => h t hf), A_eq]; rfl

/-- The result after the run. -/
theorem post4 (r : PUnit × MemSt nD τ sig (Elt F)) (h : Pipeline.FramePost cfgs (dats m) 0 (V m) r) (c : Dev nD) :
    r.2.mem ((c : Thread nD τ).loc main_v0) = (dats m 0 c).arrAt 4 (cfg0 (F := F)).N :=
  (h c).1 4

/-- The first argument ends unchanged. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The second argument ends unchanged. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- The third argument ends unchanged. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- The run with the result named. -/
theorem run_blocks : θ_run defs (onTc (τ := τ) (main (F := F))) ⟨m, fun _ => 0, ρ⟩ fun r => ∀ c : Dev nD,
      r.2.mem ((c : Thread nD τ).loc main_v0) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post4 m r h c,
      kept_main_arg0 m r h c,
      kept_main_arg1 m r h c,
      kept_main_arg2 m r h c⟩)
    (run_main m ρ)

end Cert.KernelSbIdeal.Hand

end
-- ==== Proof.Sb.lean ====
/- The stick-breaking attention over the prompt: the kernel and the reference end at the same array. -/
module

public import proofs.«01_k».proof.Defs
public import proofs.«01_k».proof.Proof.SbVal
public import proofs.«01_k».proof.Proof.SbRef
public import proofs.«01_k».proof.Proof.SbPre
public import proofs.«01_k».proof.Proof.SbFrame
public import proofs.«01_k».proof.Proof.SbFrameI
public import proofs.«01_k».proof.Proof.Gen.KernelSb
public import proofs.«01_k».proof.Proof.Gen.ReferenceSbIdeal
public import proofs.«01_k».proof.Proof.Gen.ReferenceSbIdeal.Run
public import Idealize.ShloMosaic.PureOps.IdealRules
public import Idealize.ShloMosaic.Adequacy
public import Idealize.ShloMosaic.Init

@[expose] public section

set_option maxRecDepth 16384

noncomputable section

namespace Cert.Sb

open Idealize.ShloMosaic Idealize.ShloMosaic.TcCoe Idealize.SL.Sem Cert.KernelSbIdeal Cert.KernelSbIdeal.Gen Cert.KernelSbIdeal.Hand Cert.Soft

variable (m : (ℓ : Loc nD τ sig) → Buf (Elt Ideal) ℓ) (c : Dev nD)

/-- The row tile of a grid point is `t % 4`, its batch `t / 64`. -/
theorem coords : ∀ t : Fin (cfg0 (F := Ideal)).N, (grid0.coords t 2).val = t.val % 4 ∧ t.val / 64 < 4 :=
  (by decide +kernel : ∀ t : Fin grid0.N, _)

/-- The block of each window a grid point uses. -/
theorem idx : ∀ t : Fin (cfg0 (F := Ideal)).N, win0_0.index t = ![t.val / 64, t.val % 4, t.val / 4 % 16] ∧ win0_1.index t = ![t.val / 64, 0, t.val / 4 % 16]
    ∧ win0_2.index t = ![t.val / 64, 0, 16 + t.val / 4 % 16] ∧ win0_3.index t = ![t.val / 64, t.val % 4, t.val / 4 % 16]
    ∧ win0_4.index t = ![t.val / 64, t.val % 4, t.val / 4 % 16] :=
  (by decide +kernel : ∀ t : Fin grid0.N, _)

/-- The batch of a grid point. -/
def bat (t : Fin (cfg0 (F := Ideal)).N) : Fin 4 := ⟨t.val / 64, (coords t).2⟩

/-- The head of a grid point. -/
def head (t : Fin (cfg0 (F := Ideal)).N) : Fin 16 := ⟨t.val / 4 % 16, by omega⟩

/-- The time of row `r` of a grid point's tile. -/
def time (t : Fin (cfg0 (F := Ideal)).N) (r : Fin 512) : Fin 2048 := ⟨512 * (t.val % 4) + r.val, by omega⟩

/-- The kernel's query array. -/
abbrev X0 : FVec Ideal S4x2048x2048 .f32 := m ((c : Thread nD τ).loc main_arg0)
/-- The kernel's key and value array. -/
abbrev X1 : FVec Ideal S4x2048x4096 .f32 := m ((c : Thread nD τ).loc main_arg1)
/-- The kernel's gate array. -/
abbrev X2 : FVec Ideal S4x2048x2048 .f32 := m ((c : Thread nD τ).loc main_arg2)

/-- The queries of a grid point's tile. -/
theorem bq_at (t : Fin (cfg0 (F := Ideal)).N) (r : Fin 512) (d : Fin 128) :
    iblk m c 0 t (ix3 (0 : Fin 1) r d) = X0 m c (ix3 (bat t) (time t r) (hcol (head t) d)) := by
  have e1 : (bat t).val = t.val / 64 := rfl
  have e2 : (time t r).val = 512 * (t.val % 4) + r.val := rfl
  have e3 : (hcol (head t) d).val = (t.val / 4 % 16) * 128 + d.val := rfl
  blk_ext [iblk, V, idx t]

/-- The gate of a grid point's tile. -/
theorem bz_at (t : Fin (cfg0 (F := Ideal)).N) (r : Fin 512) (d : Fin 128) :
    iblk m c 3 t (ix3 (0 : Fin 1) r d) = X2 m c (ix3 (bat t) (time t r) (hcol (head t) d)) := by
  have e1 : (bat t).val = t.val / 64 := rfl
  have e2 : (time t r).val = 512 * (t.val % 4) + r.val := rfl
  have e3 : (hcol (head t) d).val = (t.val / 4 % 16) * 128 + d.val := rfl
  blk_ext [iblk, V, idx t]

/-- The keys of a grid point's head. -/
theorem bk_at (t : Fin (cfg0 (F := Ideal)).N) (k : Fin 2048) (d : Fin 128) :
    iblk m c 1 t (ix3 (0 : Fin 1) k d) = X1 m c (ix3 (bat t) k ⟨(hcol (head t) d).val, by omega⟩) := by
  have e1 : (bat t).val = t.val / 64 := rfl
  have e3 : (hcol (head t) d).val = (t.val / 4 % 16) * 128 + d.val := rfl
  blk_ext [iblk, V, idx t]

/-- The values of a grid point's head. -/
theorem bv_at (t : Fin (cfg0 (F := Ideal)).N) (k : Fin 2048) (d : Fin 128) :
    iblk m c 2 t (ix3 (0 : Fin 1) k d) = X1 m c (ix3 (bat t) k ⟨2048 + (hcol (head t) d).val, by omega⟩) := by
  have e1 : (bat t).val = t.val / 64 := rfl
  have e3 : (hcol (head t) d).val = (t.val / 4 % 16) * 128 + d.val := rfl
  blk_ext [iblk, V, idx t]

section Values

variable (f0 : ∀ i, X0 m c i = (((X0 m c i).toReal : ℝ) : EReal)) (f1 : ∀ (b : Fin 4) (k e : Fin 2048), X1 m c (ix3 b k (kcol e)) = (((X1 m c (ix3 b k (kcol e))).toReal : ℝ) : EReal))

/-- A key's number is itself. -/
theorem ofNat_val (k : Fin 2048) : Fin.ofNat 2048 (k : ℕ) = k := by
  simp only [Fin.ofNat_eq_cast, Fin.cast_val_eq_self]

include f0 f1 in
/-- The scores of a grid point's tile: the scale taken out of the sum. -/
theorem bs_at (t : Fin (cfg0 (F := Ideal)).N) (r : Fin 512) (k : Fin 2048) :
    (∑ e : Fin 128, k0_pay5 (iblk m c 0 t) (ix2 r e) * iblk m c 1 t (ix3 (0 : Fin 1) k e)) = ((score (X0 m c) (X1 m c) (bat t) (head t) (time t r) k : ℝ) : EReal) := by
  have e (d : Fin 128) : k0_pay5 (iblk m c 0 t) (ix2 r d) * iblk m c 1 t (ix3 (0 : Fin 1) k d)
      = (((X0 m c (ix3 (bat t) (time t r) (hcol (head t) d))).toReal * scale * (X1 m c (ix3 (bat t) k ⟨(hcol (head t) d).val, by omega⟩)).toReal : ℝ) : EReal) := by
    have hk : X1 m c (ix3 (bat t) k ⟨(hcol (head t) d).val, by omega⟩) = _ := f1 (bat t) k (hcol (head t) d)
    rw [q_at, bq_at, bk_at, scale_eq, f0, hk, ← EReal.coe_mul, ← EReal.coe_mul, EReal.toReal_coe, EReal.toReal_coe]
  refine (Finset.sum_congr rfl fun d _ => e d).trans ((coe_sum _ _).symm.trans ?_)
  congr 1
  unfold score
  rw [Finset.sum_mul, ofNat_val]
  exact Finset.sum_congr rfl fun d _ => mul_right_comm _ _ _

/-- The values of a grid point's head, numbered. -/
theorem bval_at (t : Fin (cfg0 (F := Ideal)).N) (k : Fin 2048) (d : Fin 128) :
    iblk m c 2 t (ix3 (0 : Fin 1) k d) = value (X1 m c) (bat t) (head t) d k := by
  rw [bv_at]
  unfold value
  rw [ofNat_val]

/-- The output array, of the kernel's argument arrays. -/
def res : FVec Ideal S4x2048x2048 .bf16 := fun y => out (X0 m c) (X1 m c) (X2 m c) (y 0) (y 1) ⟨(y 2 : Fin 2048).val / 128, by have : (y 2 : Fin 2048).val < 2048 := (y 2 : Fin 2048).isLt; omega⟩ ⟨(y 2 : Fin 2048).val % 128, by omega⟩

include f0 f1 in
/-- What a grid point writes back. -/
theorem point (t : Fin (cfg0 (F := Ideal)).N) (r : Fin 512) (d : Fin 128) :
    outsAt0 m c t (ix3 (0 : Fin 1) r d) = res m c (ix3 (bat t) (time t r) (hcol (head t) d)) := by
  have ht : 512 * (grid0.coords t 2).val + r.val = (time t r).val := by
    rw [(coords t).1]; rfl
  have h1 : (hcol (head t) d).val = (head t).val * 128 + d.val := rfl
  have a1 : (⟨(hcol (head t) d).val / 128, by omega⟩ : Fin 16) = head t := Fin.ext (by show (hcol (head t) d).val / 128 = (head t).val; rw [h1]; omega)
  have a2 : (⟨(hcol (head t) d).val % 128, by omega⟩ : Fin 128) = d := Fin.ext (by show (hcol (head t) d).val % 128 = d.val; rw [h1]; omega)
  have e : res m c (ix3 (bat t) (time t r) (hcol (head t) d)) = out (X0 m c) (X1 m c) (X2 m c) (bat t) (time t r) (head t) d :=
    congrArg₂ (fun a b => out (X0 m c) (X1 m c) (X2 m c) (bat t) (time t r) a b) a1 a2
  rw [e]
  refine (outVal_at (grid0.coords t) (iblk m c 0 t) (iblk m c 1 t) (iblk m c 2 t) (iblk m c 3 t) d (fun r => score (X0 m c) (X1 m c) (bat t) (head t) (time t r))
    (value (X1 m c) (bat t) (head t) d) (bs_at m c f0 f1 t) (fun k => bval_at m c t k d) r).trans ?_
  rw [ht, bz_at]
  rfl

include f0 f1 in
/-- The output array after the run. -/
theorem final : (dats m 0 c).arrAt 4 (cfg0 (F := Ideal)).N = res m c := by
  refine (dats m 0 c).arrAt_eq_of_covers 4 _ (by decide +kernel) fun t _ y => ?_
  blk_simp
  rw [after0_4]
  have hy : y = ix3 (0 : Fin 1) (y 1) (y 2) := by
    blk_ext []
  rw [hy]
  refine (point m c f0 f1 t (y 1) (y 2)).trans ?_
  congr 1
  have e1 : (bat t).val = t.val / 64 := rfl
  have e2 : (time t (y 1)).val = 512 * (t.val % 4) + (y 1).val := rfl
  have e3 : (hcol (head t) (y 2)).val = (t.val / 4 % 16) * 128 + (y 2).val := rfl
  blk_ext [idx t]

end Values

attribute [local instance] Cert.KernelSb.Gen.facts Cert.KernelSbIdeal.Gen.facts Cert.ReferenceSbIdeal.Gen.facts Cert.Sb.facts_pre

/-- The kernel's named constant: the loop's bound of −110 read as −∞. -/
theorem preserves : Cert.preserves_KernelSb_KernelSbIdeal :=
  IdealRules.named_const.statement Cert.KernelSbIdeal.κ "underflow" .f32 0xC2DC0000#32 ⊥ rfl

/-- The idealized kernel and the idealized reference end at the same array. -/
theorem algebraic : Cert.algebraic_KernelSbIdeal_ReferenceSbIdeal_pre_sb_finite := by
  intro m ρ m' ρ' hpre hag
  have hf := fun c => finite _ _ _ (hpre c)
  refine ⟨fun c => res m c, ?_, ?_⟩
  · exact (θ_run _ _ _).mono (fun _ h c => ⟨(h c).1.trans (final m c (hf c).1 (hf c).2), (h c).2⟩) (Cert.KernelSbIdeal.Hand.run_blocks m ρ)
  · refine (θ_run _ _ _).mono (fun _ h c => ⟨(h c).1.trans ?_, (h c).2⟩) (Cert.ReferenceSbIdeal.Value.run m' ρ')
    rw [Cert.ReferenceSbIdeal.Read.val_main_v29_eq]
    obtain ⟨e0, e1, e2⟩ := hag c
    rw [e0, e1, e2]
    funext y
    have hy : y = ix3 (y 0) (y 1) (y 2) := by
      funext a
      fin_cases a <;> rfl
    rw [hy]
    exact ref_at _ _ _ (hf c).1 (hf c).2 _ _ _

/-- The idealized reference runs, keeps its arguments, and leaves every counter at zero: it declares none. -/
theorem frame_r : Cert.quiescent_ReferenceSbIdeal := fun m ρ _ =>
  (θ_run _ _ _).mono (fun r h => ⟨fun c => (h c).2, sem_eq_zero_of_no_sems (by decide) r.2⟩) (Cert.ReferenceSbIdeal.Value.run m ρ)

end Cert.Sb

end
-- ==== Proof.lean ====
/- The proof of the certificate's claims: the frames and the named constant from the generated modules, and the algebraic
   claim — the idealized kernel and the idealized reference end at the same array, the differential attention over the prompt. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import Idealize.ShloMosaic.Adequacy
public import Idealize.ShloMosaic.Init
public import proofs.«01_k».proof.Proof.Final
public import proofs.«01_k».proof.Proof.Ref
public import proofs.«01_k».proof.Proof.Pre
public import proofs.«01_k».proof.Proof.DiffQ
public import proofs.«01_k».proof.Proof.DiffKv
public import proofs.«01_k».proof.Proof.DiffZ
public import proofs.«01_k».proof.Proof.SbQ
public import proofs.«01_k».proof.Proof.SbKv
public import proofs.«01_k».proof.Proof.SbZ
public import proofs.«01_k».proof.Proof.NsaQ
public import proofs.«01_k».proof.Proof.NsaKv
public import proofs.«01_k».proof.Proof.NsaWin
public import proofs.«01_k».proof.Proof.NsaZ
public import proofs.«01_k».proof.Proof.OutC
public import proofs.«01_k».proof.Proof.OutAB
public import proofs.«01_k».proof.Proof.Ple
public import proofs.«01_k».proof.Proof.Norm
public import proofs.«01_k».proof.Proof.DiffKvS
public import proofs.«01_k».proof.Proof.SbKvS
public import proofs.«01_k».proof.Proof.NsaKvS
public import proofs.«01_k».proof.Proof.NsaWinS
public import proofs.«01_k».proof.Proof.NormS
public import proofs.«01_k».proof.Proof.LayerNorm
public import proofs.«01_k».proof.Proof.LayerNormS
public import proofs.«01_k».proof.Proof.Sb
public import Idealize.ShloMosaic.PureOps.IdealRules

@[expose] public section

noncomputable section

namespace Cert.Proof

open Idealize.ShloMosaic Idealize.SL.Sem Cert.Spec

attribute [local instance] Cert.Kernel.Gen.facts Cert.KernelIdeal.Gen.facts Cert.ReferenceIdeal.Gen.facts Cert.Pre.facts

/-- The kernel's named constant: the mask's −10³⁰ read as −∞. -/
theorem preserves : Cert.preserves_Kernel_KernelIdeal :=
  IdealRules.named_const.statement Cert.KernelIdeal.κ "mask" .f32 0xF149F2CA#32 ⊥ rfl

/-- The idealized kernel and the idealized reference end at the same array. -/
theorem algebraic : Cert.algebraic_KernelIdeal_ReferenceIdeal_pre_finite_values := by
  intro m ρ m' ρ' hpre hag
  have hf : ∀ c, Cert.Final.Fin' m c := fun c => Cert.Pre.finite _ _ _ _ _ _ _ _ _ (hpre c)
  refine ⟨fun c => Cert.Final.res m c, ?_, ?_⟩
  · exact (θ_run _ _ _).mono (fun _ h c => ⟨(h c).1.trans (Cert.Final.final m c (hf c)), (h c).2⟩) (Cert.KernelIdeal.Value.run_blocks m ρ)
  · refine (θ_run _ _ _).mono (fun _ h c => ⟨(h c).1.trans ?_, (h c).2⟩) (Cert.ReferenceIdeal.Value.run m' ρ')
    rw [Cert.ReferenceIdeal.Read.val_main_v94_eq]
    obtain ⟨e0, e1, e2, e3, e4, e5, e6, e7, e8⟩ := hag c
    rw [e0, e1, e2, e3, e4, e5, e6, e7, e8]
    funext y
    have hy : y = ix3 (y 0) (y 1) (y 2) := by
      funext a
      fin_cases a <;> rfl
    rw [hy]
    exact Cert.Ref.v94_at _ _ _ _ _ _ _ _ _ (hf c) _ _ _

/-- The idealized reference runs, keeps its arguments, and leaves every counter at zero: it declares none. -/
theorem frame_r : Cert.quiescent_ReferenceIdeal := fun m ρ _ =>
  (θ_run _ _ _).mono (fun r h => ⟨fun c => (h c).2, sem_eq_zero_of_no_sems (by decide) r.2⟩) (Cert.ReferenceIdeal.Value.run m ρ)

/-- Every claim of the certificate. -/
theorem claim : Cert.Claim :=
  ⟨Cert.Kernel.Gen.facts, Cert.KernelIdeal.Gen.facts, Cert.ReferenceIdeal.Gen.facts,
    Cert.KernelDiffQ.Gen.facts, Cert.KernelDiffQIdeal.Gen.facts, Cert.ReferenceDiffQIdeal.Gen.facts,
    Cert.KernelDiffKv.Gen.facts, Cert.KernelDiffKvIdeal.Gen.facts, Cert.ReferenceDiffKvIdeal.Gen.facts,
    Cert.KernelDiffZ.Gen.facts, Cert.KernelDiffZIdeal.Gen.facts, Cert.ReferenceDiffZIdeal.Gen.facts,
    Cert.KernelSbQ.Gen.facts, Cert.KernelSbQIdeal.Gen.facts, Cert.ReferenceSbQIdeal.Gen.facts,
    Cert.KernelSbKv.Gen.facts, Cert.KernelSbKvIdeal.Gen.facts, Cert.ReferenceSbKvIdeal.Gen.facts,
    Cert.KernelSbZ.Gen.facts, Cert.KernelSbZIdeal.Gen.facts, Cert.ReferenceSbZIdeal.Gen.facts,
    Cert.KernelNsaQ.Gen.facts, Cert.KernelNsaQIdeal.Gen.facts, Cert.ReferenceNsaQIdeal.Gen.facts,
    Cert.KernelNsaKv.Gen.facts, Cert.KernelNsaKvIdeal.Gen.facts, Cert.ReferenceNsaKvIdeal.Gen.facts,
    Cert.KernelNsaWin.Gen.facts, Cert.KernelNsaWinIdeal.Gen.facts, Cert.ReferenceNsaWinIdeal.Gen.facts,
    Cert.KernelNsaZ.Gen.facts, Cert.KernelNsaZIdeal.Gen.facts, Cert.ReferenceNsaZIdeal.Gen.facts,
    Cert.KernelOutC.Gen.facts, Cert.KernelOutCIdeal.Gen.facts, Cert.ReferenceOutCIdeal.Gen.facts,
    Cert.KernelOutAB.Gen.facts, Cert.KernelOutABIdeal.Gen.facts, Cert.ReferenceOutABIdeal.Gen.facts,
    Cert.KernelPle.Gen.facts, Cert.KernelPleIdeal.Gen.facts, Cert.ReferencePleIdeal.Gen.facts,
    Cert.KernelNorm.Gen.facts, Cert.KernelNormIdeal.Gen.facts, Cert.ReferenceNormIdeal.Gen.facts,
    Cert.KernelDiffKvS.Gen.facts, Cert.KernelDiffKvSIdeal.Gen.facts, Cert.ReferenceDiffKvSIdeal.Gen.facts,
    Cert.KernelSbKvS.Gen.facts, Cert.KernelSbKvSIdeal.Gen.facts, Cert.ReferenceSbKvSIdeal.Gen.facts,
    Cert.KernelNsaKvS.Gen.facts, Cert.KernelNsaKvSIdeal.Gen.facts, Cert.ReferenceNsaKvSIdeal.Gen.facts,
    Cert.KernelNsaWinS.Gen.facts, Cert.KernelNsaWinSIdeal.Gen.facts, Cert.ReferenceNsaWinSIdeal.Gen.facts,
    Cert.KernelNormS.Gen.facts, Cert.KernelNormSIdeal.Gen.facts, Cert.ReferenceNormSIdeal.Gen.facts,
    Cert.KernelSb.Gen.facts, Cert.KernelSbIdeal.Gen.facts, Cert.ReferenceSbIdeal.Gen.facts,
    Cert.KernelLayerNorm.Gen.facts, Cert.KernelLayerNormIdeal.Gen.facts, Cert.ReferenceLayerNormIdeal.Gen.facts,
    Cert.KernelLayerNormS.Gen.facts, Cert.KernelLayerNormSIdeal.Gen.facts, Cert.ReferenceLayerNormSIdeal.Gen.facts,
    Cert.Pre.facts, Cert.Sb.facts_pre,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.KernelDiffQ.Gen.frame m ρ, fun m ρ _ => Cert.KernelDiffQIdeal.Gen.frame m ρ, Cert.DiffQ.frame_r,
    fun m ρ _ => Cert.KernelDiffKv.Gen.frame m ρ, fun m ρ _ => Cert.KernelDiffKvIdeal.Gen.frame m ρ, Cert.DiffKv.frame_r,
    fun m ρ _ => Cert.KernelDiffZ.Gen.frame m ρ, fun m ρ _ => Cert.KernelDiffZIdeal.Gen.frame m ρ, Cert.DiffZ.frame_r,
    fun m ρ _ => Cert.KernelSbQ.Gen.frame m ρ, fun m ρ _ => Cert.KernelSbQIdeal.Gen.frame m ρ, Cert.SbQ.frame_r,
    fun m ρ _ => Cert.KernelSbKv.Gen.frame m ρ, fun m ρ _ => Cert.KernelSbKvIdeal.Gen.frame m ρ, Cert.SbKv.frame_r,
    fun m ρ _ => Cert.KernelSbZ.Gen.frame m ρ, fun m ρ _ => Cert.KernelSbZIdeal.Gen.frame m ρ, Cert.SbZ.frame_r,
    fun m ρ _ => Cert.KernelNsaQ.Gen.frame m ρ, fun m ρ _ => Cert.KernelNsaQIdeal.Gen.frame m ρ, Cert.NsaQ.frame_r,
    fun m ρ _ => Cert.KernelNsaKv.Gen.frame m ρ, fun m ρ _ => Cert.KernelNsaKvIdeal.Gen.frame m ρ, Cert.NsaKv.frame_r,
    fun m ρ _ => Cert.KernelNsaWin.Gen.frame m ρ, fun m ρ _ => Cert.KernelNsaWinIdeal.Gen.frame m ρ, Cert.NsaWin.frame_r,
    fun m ρ _ => Cert.KernelNsaZ.Gen.frame m ρ, fun m ρ _ => Cert.KernelNsaZIdeal.Gen.frame m ρ, Cert.NsaZ.frame_r,
    fun m ρ _ => Cert.KernelOutC.Gen.frame m ρ, fun m ρ _ => Cert.KernelOutCIdeal.Gen.frame m ρ, Cert.OutC.frame_r,
    fun m ρ _ => Cert.KernelOutAB.Gen.frame m ρ, fun m ρ _ => Cert.KernelOutABIdeal.Gen.frame m ρ, Cert.OutAB.frame_r,
    fun m ρ _ => Cert.KernelPle.Gen.frame m ρ, fun m ρ _ => Cert.KernelPleIdeal.Gen.frame m ρ, Cert.Ple.frame_r,
    fun m ρ _ => Cert.KernelNorm.Gen.frame m ρ, fun m ρ _ => Cert.KernelNormIdeal.Gen.frame m ρ, Cert.Norm.frame_r,
    fun m ρ _ => Cert.KernelDiffKvS.Gen.frame m ρ, fun m ρ _ => Cert.KernelDiffKvSIdeal.Gen.frame m ρ, Cert.DiffKvS.frame_r,
    fun m ρ _ => Cert.KernelSbKvS.Gen.frame m ρ, fun m ρ _ => Cert.KernelSbKvSIdeal.Gen.frame m ρ, Cert.SbKvS.frame_r,
    fun m ρ _ => Cert.KernelNsaKvS.Gen.frame m ρ, fun m ρ _ => Cert.KernelNsaKvSIdeal.Gen.frame m ρ, Cert.NsaKvS.frame_r,
    fun m ρ _ => Cert.KernelNsaWinS.Gen.frame m ρ, fun m ρ _ => Cert.KernelNsaWinSIdeal.Gen.frame m ρ, Cert.NsaWinS.frame_r,
    fun m ρ _ => Cert.KernelNormS.Gen.frame m ρ, fun m ρ _ => Cert.KernelNormSIdeal.Gen.frame m ρ, Cert.NormS.frame_r,
    fun m ρ _ => Cert.KernelSb.Hand.frame m ρ, fun m ρ _ => Cert.KernelSbIdeal.Hand.frame m ρ, fun m ρ _ => Cert.KernelSbIdeal.Hand.frame m ρ,
    Cert.Sb.frame_r, fun m ρ _ => Cert.Sb.frame_r m ρ trivial,
    fun m ρ _ => Cert.KernelLayerNorm.Gen.frame m ρ, fun m ρ _ => Cert.KernelLayerNormIdeal.Gen.frame m ρ, Cert.LayerNorm.frame_r,
    fun m ρ _ => Cert.KernelLayerNormS.Gen.frame m ρ, fun m ρ _ => Cert.KernelLayerNormSIdeal.Gen.frame m ρ, Cert.LayerNormS.frame_r,
    preserves, algebraic,
    trivial, Cert.DiffQ.algebraic,
    trivial, Cert.DiffKv.algebraic,
    trivial, Cert.DiffZ.algebraic,
    trivial, Cert.SbQ.algebraic,
    trivial, Cert.SbKv.algebraic,
    trivial, Cert.SbZ.algebraic,
    trivial, Cert.NsaQ.algebraic,
    trivial, Cert.NsaKv.algebraic,
    trivial, Cert.NsaWin.algebraic,
    trivial, Cert.NsaZ.algebraic,
    trivial, Cert.OutC.algebraic,
    trivial, Cert.OutAB.algebraic,
    trivial, Cert.Ple.algebraic,
    trivial, Cert.Norm.algebraic,
    trivial, Cert.DiffKvS.algebraic,
    trivial, Cert.SbKvS.algebraic,
    trivial, Cert.NsaKvS.algebraic,
    trivial, Cert.NsaWinS.algebraic,
    trivial, Cert.NormS.algebraic,
    Cert.Sb.preserves, Cert.Sb.algebraic,
    trivial, Cert.LayerNorm.algebraic,
    trivial, Cert.LayerNormS.algebraic⟩

end Cert.Proof

end
